-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v4_0)) (v1 : (c : Dev Cert.Kernel2Ideal.nD) → Buf (Elt Ideal) ((c.tc : Thread Cert.Kernel2Ideal.nD Cert.Kernel2Ideal.τ).loc Cert.Kernel2Ideal.main_v4_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4_0) = v0 c
          ∧ r.2.mem ((c.tc : Thread Cert.Kernel2Ideal.nD Cert.Kernel2Ideal.τ).loc Cert.Kernel2Ideal.main_v4_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v20) = v0 c
          ∧ r.2.mem ((c.tc : Thread Cert.Reference2Ideal.nD Cert.Reference2Ideal.τ).loc Cert.Reference2Ideal.main_v21) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)) →
    ∃ (v0 : (c : Dev Cert.Kernel3Ideal.nD) → Buf (Elt Ideal) ((c.tc : Thread Cert.Kernel3Ideal.nD Cert.Kernel3Ideal.τ).loc Cert.Kernel3Ideal.main_v7)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v7) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v59) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)) →
    ∃ (v0 : (c : Dev Cert.Kernel4Ideal.nD) → Buf (Elt Ideal) ((c.tc : Thread Cert.Kernel4Ideal.nD Cert.Kernel4Ideal.τ).loc Cert.Kernel4Ideal.main_v2_0)) (v1 : (c : Dev Cert.Kernel4Ideal.nD) → Buf (Elt Ideal) ((c.tc : Thread Cert.Kernel4Ideal.nD Cert.Kernel4Ideal.τ).loc Cert.Kernel4Ideal.main_v2_1)) (v2 : (c : Dev Cert.Kernel4Ideal.nD) → Buf (Elt Ideal) ((c.tc : Thread Cert.Kernel4Ideal.nD Cert.Kernel4Ideal.τ).loc Cert.Kernel4Ideal.main_v2_2)) (v3 : (c : Dev Cert.Kernel4Ideal.nD) → Buf (Elt Ideal) ((c.tc : Thread Cert.Kernel4Ideal.nD Cert.Kernel4Ideal.τ).loc Cert.Kernel4Ideal.main_v2_3)) (v4 : (c : Dev Cert.Kernel4Ideal.nD) → Buf (Elt Ideal) ((c.tc : Thread Cert.Kernel4Ideal.nD Cert.Kernel4Ideal.τ).loc Cert.Kernel4Ideal.main_v2_4)) (v5 : (c : Dev Cert.Kernel4Ideal.nD) → Buf (Elt Ideal) ((c.tc : Thread Cert.Kernel4Ideal.nD Cert.Kernel4Ideal.τ).loc Cert.Kernel4Ideal.main_v2_5)) (v6 : (c : Dev Cert.Kernel4Ideal.nD) → Buf (Elt Ideal) ((c.tc : Thread Cert.Kernel4Ideal.nD Cert.Kernel4Ideal.τ).loc Cert.Kernel4Ideal.main_v2_6)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2_0) = v0 c
          ∧ r.2.mem ((c.tc : Thread Cert.Kernel4Ideal.nD Cert.Kernel4Ideal.τ).loc Cert.Kernel4Ideal.main_v2_1) = v1 c
          ∧ r.2.mem ((c.tc : Thread Cert.Kernel4Ideal.nD Cert.Kernel4Ideal.τ).loc Cert.Kernel4Ideal.main_v2_2) = v2 c
          ∧ r.2.mem ((c.tc : Thread Cert.Kernel4Ideal.nD Cert.Kernel4Ideal.τ).loc Cert.Kernel4Ideal.main_v2_3) = v3 c
          ∧ r.2.mem ((c.tc : Thread Cert.Kernel4Ideal.nD Cert.Kernel4Ideal.τ).loc Cert.Kernel4Ideal.main_v2_4) = v4 c
          ∧ r.2.mem ((c.tc : Thread Cert.Kernel4Ideal.nD Cert.Kernel4Ideal.τ).loc Cert.Kernel4Ideal.main_v2_5) = v5 c
          ∧ r.2.mem ((c.tc : Thread Cert.Kernel4Ideal.nD Cert.Kernel4Ideal.τ).loc Cert.Kernel4Ideal.main_v2_6) = v6 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v15) = v0 c
          ∧ r.2.mem ((c.tc : Thread Cert.Reference4Ideal.nD Cert.Reference4Ideal.τ).loc Cert.Reference4Ideal.main_v16) = v1 c
          ∧ r.2.mem ((c.tc : Thread Cert.Reference4Ideal.nD Cert.Reference4Ideal.τ).loc Cert.Reference4Ideal.main_v17) = v2 c
          ∧ r.2.mem ((c.tc : Thread Cert.Reference4Ideal.nD Cert.Reference4Ideal.τ).loc Cert.Reference4Ideal.main_v18) = v3 c
          ∧ r.2.mem ((c.tc : Thread Cert.Reference4Ideal.nD Cert.Reference4Ideal.τ).loc Cert.Reference4Ideal.main_v19) = v4 c
          ∧ r.2.mem ((c.tc : Thread Cert.Reference4Ideal.nD Cert.Reference4Ideal.τ).loc Cert.Reference4Ideal.main_v20) = v5 c
          ∧ r.2.mem ((c.tc : Thread Cert.Reference4Ideal.nD Cert.Reference4Ideal.τ).loc Cert.Reference4Ideal.main_v21) = v6 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Kernel.lean ====
abbrev S16384x2048 : Shape := ⟨2, ![16384, 2048]⟩
abbrev S2048 : Shape := ⟨1, ![2048]⟩
abbrev S2048x5504 : Shape := ⟨2, ![2048, 5504]⟩
abbrev S5504x2048 : Shape := ⟨2, ![5504, 2048]⟩
abbrev S1x2048 : Shape := ⟨2, ![1, 2048]⟩
abbrev S2048x512 : Shape := ⟨2, ![2048, 512]⟩
abbrev S512x2048 : Shape := ⟨2, ![512, 2048]⟩
abbrev S2x1024x2048 : Shape := ⟨3, ![2, 1024, 2048]⟩
abbrev S1024x2048 : Shape := ⟨2, ![1024, 2048]⟩
abbrev S2 : Shape := ⟨1, ![2]⟩
abbrev S1 : Shape := ⟨1, ![1]⟩
abbrev S_ : Shape := ⟨0, ![]⟩
abbrev S1x1024x2048 : Shape := ⟨3, ![1, 1024, 2048]⟩
abbrev S1024 : Shape := ⟨1, ![1024]⟩
abbrev S1024x1 : Shape := ⟨2, ![1024, 1]⟩
abbrev S1024x512 : Shape := ⟨2, ![1024, 512]⟩
abbrev S1x1024x512 : Shape := ⟨3, ![1, 1024, 512]⟩
abbrev S512x512 : Shape := ⟨2, ![512, 512]⟩

abbrev nBuf : Space → Nat
  | .hbm => 12
  | .vmem => 16
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x5504, .f32⟩
  | .hbm, ⟨3, _⟩ => ⟨S2048x5504, .f32⟩
  | .hbm, ⟨4, _⟩ => ⟨S5504x2048, .f32⟩
  | .hbm, ⟨5, _⟩ => ⟨S2048, .f32⟩
  | .hbm, ⟨6, _⟩ => ⟨S2048x5504, .bf16⟩
  | .hbm, ⟨7, _⟩ => ⟨S2048x5504, .bf16⟩
  | .hbm, ⟨8, _⟩ => ⟨S5504x2048, .bf16⟩
  | .hbm, ⟨9, _⟩ => ⟨S1x2048, .f32⟩
  | .hbm, ⟨10, _⟩ => ⟨S1x2048, .f32⟩
  | .hbm, ⟨11, _⟩ => ⟨S16384x2048, .f32⟩
  | .local _ .vmem, ⟨0, _⟩ => ⟨S1x2048, .f32⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S512x2048, .bf16⟩
  | .local _ .vmem, ⟨6, _⟩ => ⟨S512x2048, .bf16⟩
  | .local _ .vmem, ⟨7, _⟩ => ⟨S2048x512, .bf16⟩
  | .local _ .vmem, ⟨8, _⟩ => ⟨S2048x512, .bf16⟩
  | .local _ .vmem, ⟨9, _⟩ => ⟨S2048x512, .bf16⟩
  | .local _ .vmem, ⟨10, _⟩ => ⟨S2048x512, .bf16⟩
  | .local _ .vmem, ⟨11, _⟩ => ⟨S512x2048, .bf16⟩
  | .local _ .vmem, ⟨12, _⟩ => ⟨S512x2048, .bf16⟩
  | .local _ .vmem, ⟨13, _⟩ => ⟨S1x2048, .f32⟩
  | .local _ .vmem, ⟨14, _⟩ => ⟨S2x1024x2048, .f32⟩
  | .local _ .vmem, ⟨15, _⟩ => ⟨S1024x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨2, ![16, 6], ![false, false]⟩

def k0_mult1 (i : grid0.Coords) : BitVec 32 :=
  let c2_i32 : BitVec 32 := 2#32
  let arg1 : BitVec 32 := BitVec.ofNat 32 (i 1).val
  let v0 : BitVec 32 := Scalar.muli c2_i32 arg1
  let c0_i32 : BitVec 32 := 0#32
  let v1 : BitVec 32 := Scalar.addi v0 c0_i32
  let c10_i32 : BitVec 32 := 10#32
  let v2 : BitVec 32 := Scalar.minsi v1 c10_i32
  let c512_i32 : BitVec 32 := 512#32
  let v3 : BitVec 32 := Scalar.muli v2 c512_i32
  let c4992_i32 : BitVec 32 := 4992#32
  let v4 : BitVec 32 := Scalar.minsi v3 c4992_i32
  v4
def k0_mult2 (i : grid0.Coords) : BitVec 32 :=
  let c2_i32 : BitVec 32 := 2#32
  let arg1 : BitVec 32 := BitVec.ofNat 32 (i 1).val
  let v0 : BitVec 32 := Scalar.muli c2_i32 arg1
  let c0_i32 : BitVec 32 := 0#32
  let v1 : BitVec 32 := Scalar.addi v0 c0_i32
  let c10_i32 : BitVec 32 := 10#32
  let v2 : BitVec 32 := Scalar.minsi v1 c10_i32
  let c512_i32 : BitVec 32 := 512#32
  let v3 : BitVec 32 := Scalar.muli v2 c512_i32
  let c4992_i32 : BitVec 32 := 4992#32
  let v4 : BitVec 32 := Scalar.minsi v3 c4992_i32
  v4
def k0_mult3 (i : grid0.Coords) : BitVec 32 :=
  let c2_i32 : BitVec 32 := 2#32
  let arg1 : BitVec 32 := BitVec.ofNat 32 (i 1).val
  let v0 : BitVec 32 := Scalar.muli c2_i32 arg1
  let c0_i32 : BitVec 32 := 0#32
  let v1 : BitVec 32 := Scalar.addi v0 c0_i32
  let c10_i32 : BitVec 32 := 10#32
  let v2 : BitVec 32 := Scalar.minsi v1 c10_i32
  let c512_i32 : BitVec 32 := 512#32
  let v3 : BitVec 32 := Scalar.muli v2 c512_i32
  let c4992_i32 : BitVec 32 := 4992#32
  let v4 : BitVec 32 := Scalar.minsi v3 c4992_i32
  v4
def k0_mult4 (i : grid0.Coords) : BitVec 32 :=
  let c2_i32 : BitVec 32 := 2#32
  let arg1 : BitVec 32 := BitVec.ofNat 32 (i 1).val
  let v0 : BitVec 32 := Scalar.muli c2_i32 arg1
  let c1_i32 : BitVec 32 := 1#32
  let v1 : BitVec 32 := Scalar.addi v0 c1_i32
  let c9_i32 : BitVec 32 := 9#32
  let v2 : BitVec 32 := Scalar.minsi v1 c9_i32
  let c512_i32 : BitVec 32 := 512#32
  let v3 : BitVec 32 := Scalar.muli v2 c512_i32
  let c4992_i32 : BitVec 32 := 4992#32
  let v4 : BitVec 32 := Scalar.minsi v3 c4992_i32
  v4
def k0_mult5 (i : grid0.Coords) : BitVec 32 :=
  let c2_i32 : BitVec 32 := 2#32
  let arg1 : BitVec 32 := BitVec.ofNat 32 (i 1).val
  let v0 : BitVec 32 := Scalar.muli c2_i32 arg1
  let c1_i32 : BitVec 32 := 1#32
  let v1 : BitVec 32 := Scalar.addi v0 c1_i32
  let c9_i32 : BitVec 32 := 9#32
  let v2 : BitVec 32 := Scalar.minsi v1 c9_i32
  let c512_i32 : BitVec 32 := 512#32
  let v3 : BitVec 32 := Scalar.muli v2 c512_i32
  let c4992_i32 : BitVec 32 := 4992#32
  let v4 : BitVec 32 := Scalar.minsi v3 c4992_i32
  v4
def k0_mult6 (i : grid0.Coords) : BitVec 32 :=
  let c2_i32 : BitVec 32 := 2#32
  let arg1 : BitVec 32 := BitVec.ofNat 32 (i 1).val
  let v0 : BitVec 32 := Scalar.muli c2_i32 arg1
  let c1_i32 : BitVec 32 := 1#32
  let v1 : BitVec 32 := Scalar.addi v0 c1_i32
  let c9_i32 : BitVec 32 := 9#32
  let v2 : BitVec 32 := Scalar.minsi v1 c9_i32
  let c512_i32 : BitVec 32 := 512#32
  let v3 : BitVec 32 := Scalar.muli v2 c512_i32
  let c4992_i32 : BitVec 32 := 4992#32
  let v4 : BitVec 32 := Scalar.minsi v3 c4992_i32
  v4
def k0_cond1 (i : grid0.Coords) : BitVec 1 :=
  let arg1 : BitVec 32 := BitVec.ofNat 32 (i 1).val
  let c1_i32_3 : BitVec 32 := 1#32
  let v10 : BitVec 1 := Scalar.cmpi .eq arg1 c1_i32_3
  let v11 : BitVec 32 := Scalar.extui v10
  let c0_i32_4 : BitVec 32 := 0#32
  let v12 : BitVec 1 := Scalar.cmpi .ne v11 c0_i32_4
  v12

def k0_cond2 (i : grid0.Coords) : BitVec 1 :=
  let arg0 : BitVec 32 := BitVec.ofNat 32 (i 0).val
  let c1_i32_11 : BitVec 32 := 1#32
  let v24 : BitVec 1 := Scalar.cmpi .sge arg0 c1_i32_11
  let v25 : BitVec 32 := Scalar.extui v24
  let c0_i32_12 : BitVec 32 := 0#32
  let v26 : BitVec 1 := Scalar.cmpi .ne v25 c0_i32_12
  v26

def k0_off1 (i : grid0.Coords) : Fin 1 → Nat :=
  let c1_i32_16 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v32 : BitVec 32 := Scalar.subi c1_i32_16 v9
  ![v32.toNat]
def k0_off2 (i : grid0.Coords) : Fin 2 → Nat :=
  let arg0 : BitVec 32 := BitVec.ofNat 32 (i 0).val
  let c1_i32_15 : BitVec 32 := 1#32
  let v31 : BitVec 32 := Scalar.subi arg0 c1_i32_15
  let c1024_i32 : BitVec 32 := 1024#32
  let v33 : BitVec 32 := Scalar.muli v31 c1024_i32
  let c0_i32_17 : BitVec 32 := 0#32
  ![v33.toNat, 0]
def k0_off3 (i : grid0.Coords) : Fin 3 → Nat :=
  let c1_i32_16 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v32 : BitVec 32 := Scalar.subi c1_i32_16 v9
  let c0_i32_18 : BitVec 32 := 0#32
  let c0_i32_19 : BitVec 32 := 0#32
  ![v32.toNat, 0, 0]
def k0_cond3 (i : grid0.Coords) : BitVec 1 :=
  let arg0 : BitVec 32 := BitVec.ofNat 32 (i 0).val
  let c1_i32_13 : BitVec 32 := 1#32
  let v27 : BitVec 32 := Scalar.addi arg0 c1_i32_13
  let c16_i32 : BitVec 32 := 16#32
  let v28 : BitVec 1 := Scalar.cmpi .slt v27 c16_i32
  let v29 : BitVec 32 := Scalar.extui v28
  let c0_i32_14 : BitVec 32 := 0#32
  let v30 : BitVec 1 := Scalar.cmpi .ne v29 c0_i32_14
  v30

def k0_off4 (i : grid0.Coords) : Fin 1 → Nat :=
  let c1_i32_16 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v32 : BitVec 32 := Scalar.subi c1_i32_16 v9
  ![v32.toNat]
def k0_off5 (i : grid0.Coords) : Fin 3 → Nat :=
  let c1_i32_16 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v32 : BitVec 32 := Scalar.subi c1_i32_16 v9
  let c0_i32_17 : BitVec 32 := 0#32
  let c0_i32_18 : BitVec 32 := 0#32
  ![v32.toNat, 0, 0]
def k0_off6 (i : grid0.Coords) : Fin 2 → Nat :=
  let arg0 : BitVec 32 := BitVec.ofNat 32 (i 0).val
  let c1_i32_15 : BitVec 32 := 1#32
  let v31 : BitVec 32 := Scalar.addi arg0 c1_i32_15
  let c1024_i32 : BitVec 32 := 1024#32
  let v33 : BitVec 32 := Scalar.muli v31 c1024_i32
  let c0_i32_19 : BitVec 32 := 0#32
  ![v33.toNat, 0]
def k0_cond4 (i : grid0.Coords) : BitVec 1 :=
  let arg1 : BitVec 32 := BitVec.ofNat 32 (i 1).val
  let c0_i32_5 : BitVec 32 := 0#32
  let v13 : BitVec 1 := Scalar.cmpi .eq arg1 c0_i32_5
  let v14 : BitVec 32 := Scalar.extui v13
  let c0_i32_6 : BitVec 32 := 0#32
  let v15 : BitVec 1 := Scalar.cmpi .ne v14 c0_i32_6
  v15

def k0_off7 (i : grid0.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k0_off8 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_13 : BitVec 32 := 0#32
  let c0_i32_14 : BitVec 32 := 0#32
  ![v9.toNat, 0, 0]
def k0_off9 (i : grid0.Coords) : Fin 2 → Nat :=
  let arg0 : BitVec 32 := BitVec.ofNat 32 (i 0).val
  let c1024_i32 : BitVec 32 := 1024#32
  let v27 : BitVec 32 := Scalar.muli arg0 c1024_i32
  let c0_i32_15 : BitVec 32 := 0#32
  ![v27.toNat, 0]
def k0_off10 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v33 : Index := Scalar.indexCast v9
  let c0 : Index := 0#32
  let c0_16 : Index := 0#32
  ![v33.toNat, 0, 0]
def k0_off11 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v66 : Index := Scalar.indexCast v9
  let c0_30 : Index := 0#32
  let c0_31 : Index := 0#32
  ![v66.toNat, 0, 0]
def k0_off12 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v77 : Index := Scalar.indexCast v9
  let c0_37 : Index := 0#32
  let c512 : Index := 512#32
  ![v77.toNat, 0, 512]
def k0_off13 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v88 : Index := Scalar.indexCast v9
  let c0_43 : Index := 0#32
  let c1024 : Index := 1024#32
  ![v88.toNat, 0, 1024]
def k0_off14 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v99 : Index := Scalar.indexCast v9
  let c0_49 : Index := 0#32
  let c1536 : Index := 1536#32
  ![v99.toNat, 0, 1536]
def k0_cond6 (i : grid0.Coords) : BitVec 1 :=
  let arg1 : BitVec 32 := BitVec.ofNat 32 (i 1).val
  let c0_i32_7 : BitVec 32 := 0#32
  let v16 : BitVec 1 := Scalar.cmpi .sgt arg1 c0_i32_7
  let c5_i32 : BitVec 32 := 5#32
  let v17 : BitVec 1 := Scalar.cmpi .slt arg1 c5_i32
  let v18 : BitVec 1 := Scalar.andi v16 v17
  let v19 : BitVec 32 := Scalar.extui v18
  let c0_i32_8 : BitVec 32 := 0#32
  let v20 : BitVec 1 := Scalar.cmpi .ne v19 c0_i32_8
  v20

def k0_off15 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v37 : Index := Scalar.indexCast v9
  let c0_18 : Index := 0#32
  let c0_19 : Index := 0#32
  ![v37.toNat, 0, 0]
def k0_off16 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v48 : Index := Scalar.indexCast v9
  let c0_25 : Index := 0#32
  let c512 : Index := 512#32
  ![v48.toNat, 0, 512]
def k0_off17 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v59 : Index := Scalar.indexCast v9
  let c0_31 : Index := 0#32
  let c1024 : Index := 1024#32
  ![v59.toNat, 0, 1024]
def k0_off18 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v70 : Index := Scalar.indexCast v9
  let c0_37 : Index := 0#32
  let c1536 : Index := 1536#32
  ![v70.toNat, 0, 1536]
def k0_cond7 (i : grid0.Coords) : BitVec 1 :=
  let arg1 : BitVec 32 := BitVec.ofNat 32 (i 1).val
  let c5_i32_9 : BitVec 32 := 5#32
  let v21 : BitVec 1 := Scalar.cmpi .eq arg1 c5_i32_9
  let v22 : BitVec 32 := Scalar.extui v21
  let c0_i32_10 : BitVec 32 := 0#32
  let v23 : BitVec 1 := Scalar.cmpi .ne v22 c0_i32_10
  v23

def k0_off19 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v42 : Index := Scalar.indexCast v9
  let c0_19 : Index := 0#32
  let c0_20 : Index := 0#32
  ![v42.toNat, 0, 0]
def k0_off20 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v53 : Index := Scalar.indexCast v9
  let c0_26 : Index := 0#32
  let c512 : Index := 512#32
  ![v53.toNat, 0, 512]
def k0_off21 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v64 : Index := Scalar.indexCast v9
  let c0_32 : Index := 0#32
  let c1024 : Index := 1024#32
  ![v64.toNat, 0, 1024]
def k0_off22 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v75 : Index := Scalar.indexCast v9
  let c0_38 : Index := 0#32
  let c1536 : Index := 1536#32
  ![v75.toNat, 0, 1536]
def k0_off23 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v86 : Index := Scalar.indexCast v9
  let c0_44 : Index := 0#32
  let c0_45 : Index := 0#32
  ![v86.toNat, 0, 0]
def k0_off24 (i : grid0.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k0_off25 (i : grid0.Coords) : Fin 2 → Nat :=
  let arg0 : BitVec 32 := BitVec.ofNat 32 (i 0).val
  let c1024_i32 : BitVec 32 := 1024#32
  let v107 : BitVec 32 := Scalar.muli arg0 c1024_i32
  let c0_i32_53 : BitVec 32 := 0#32
  ![v107.toNat, 0]
def k0_off26 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_54 : BitVec 32 := 0#32
  let c0_i32_55 : BitVec 32 := 0#32
  ![v9.toNat, 0, 0]
def k0_cond8 (i : grid0.Coords) : BitVec 1 :=
  let arg0 : BitVec 32 := BitVec.ofNat 32 (i 0).val
  let c15_i32 : BitVec 32 := 15#32
  let v113 : BitVec 1 := Scalar.cmpi .eq arg0 c15_i32
  let v114 : BitVec 32 := Scalar.extui v113
  let c0_i32_56 : BitVec 32 := 0#32
  let v115 : BitVec 1 := Scalar.cmpi .ne v114 c0_i32_56
  v115

def k0_off27 (i : grid0.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k0_off28 (i : grid0.Coords) : Fin 2 → Nat :=
  let arg0 : BitVec 32 := BitVec.ofNat 32 (i 0).val
  let c1024_i32_57 : BitVec 32 := 1024#32
  let v116 : BitVec 32 := Scalar.muli arg0 c1024_i32_57
  let c0_i32_58 : BitVec 32 := 0#32
  ![v116.toNat, 0]
def k0_off29 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_59 : BitVec 32 := 0#32
  let c0_i32_60 : BitVec 32 := 0#32
  ![v9.toNat, 0, 0]
def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c0_i32 : BitVec 32 := 0#32
  let v1 : BitVec 32 := Scalar.addi v0 c0_i32
  let c10_i32 : BitVec 32 := 10#32
  let v2 : BitVec 32 := Scalar.minsi v1 c10_i32
  let c512_i32 : BitVec 32 := 512#32
  let v3 : BitVec 32 := Scalar.muli v2 c512_i32
  let c4992_i32 : BitVec 32 := 4992#32
  let v4 : BitVec 32 := Scalar.minsi v3 c4992_i32
  let v5 : BitVec 32 := v4
  let c0_i32_0 : BitVec 32 := 0#32
  let c0_i32_1 : BitVec 32 := 0#32
  ![c0_i32_0.toNat, v5.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c0_i32 : BitVec 32 := 0#32
  let v1 : BitVec 32 := Scalar.addi v0 c0_i32
  let c10_i32 : BitVec 32 := 10#32
  let v2 : BitVec 32 := Scalar.minsi v1 c10_i32
  let c512_i32 : BitVec 32 := 512#32
  let v3 : BitVec 32 := Scalar.muli v2 c512_i32
  let c4992_i32 : BitVec 32 := 4992#32
  let v4 : BitVec 32 := Scalar.minsi v3 c4992_i32
  let v5 : BitVec 32 := v4
  let c0_i32_0 : BitVec 32 := 0#32
  let c0_i32_1 : BitVec 32 := 0#32
  ![c0_i32_0.toNat, v5.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c0_i32 : BitVec 32 := 0#32
  let v1 : BitVec 32 := Scalar.addi v0 c0_i32
  let c10_i32 : BitVec 32 := 10#32
  let v2 : BitVec 32 := Scalar.minsi v1 c10_i32
  let c512_i32 : BitVec 32 := 512#32
  let v3 : BitVec 32 := Scalar.muli v2 c512_i32
  let c4992_i32 : BitVec 32 := 4992#32
  let v4 : BitVec 32 := Scalar.minsi v3 c4992_i32
  let v5 : BitVec 32 := v4
  let c0_i32_0 : BitVec 32 := 0#32
  let c0_i32_1 : BitVec 32 := 0#32
  ![v5.toNat, c0_i32_0.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c1_i32 : BitVec 32 := 1#32
  let v1 : BitVec 32 := Scalar.addi v0 c1_i32
  let c9_i32 : BitVec 32 := 9#32
  let v2 : BitVec 32 := Scalar.minsi v1 c9_i32
  let c512_i32 : BitVec 32 := 512#32
  let v3 : BitVec 32 := Scalar.muli v2 c512_i32
  let c4992_i32 : BitVec 32 := 4992#32
  let v4 : BitVec 32 := Scalar.minsi v3 c4992_i32
  let v5 : BitVec 32 := v4
  let c0_i32 : BitVec 32 := 0#32
  let c0_i32_0 : BitVec 32 := 0#32
  ![c0_i32.toNat, v5.toNat]

def cc0_transform_6 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c1_i32 : BitVec 32 := 1#32
  let v1 : BitVec 32 := Scalar.addi v0 c1_i32
  let c9_i32 : BitVec 32 := 9#32
  let v2 : BitVec 32 := Scalar.minsi v1 c9_i32
  let c512_i32 : BitVec 32 := 512#32
  let v3 : BitVec 32 := Scalar.muli v2 c512_i32
  let c4992_i32 : BitVec 32 := 4992#32
  let v4 : BitVec 32 := Scalar.minsi v3 c4992_i32
  let v5 : BitVec 32 := v4
  let c0_i32 : BitVec 32 := 0#32
  let c0_i32_0 : BitVec 32 := 0#32
  ![c0_i32.toNat, v5.toNat]

def cc0_transform_7 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c1_i32 : BitVec 32 := 1#32
  let v1 : BitVec 32 := Scalar.addi v0 c1_i32
  let c9_i32 : BitVec 32 := 9#32
  let v2 : BitVec 32 := Scalar.minsi v1 c9_i32
  let c512_i32 : BitVec 32 := 512#32
  let v3 : BitVec 32 := Scalar.muli v2 c512_i32
  let c4992_i32 : BitVec 32 := 4992#32
  let v4 : BitVec 32 := Scalar.minsi v3 c4992_i32
  let v5 : BitVec 32 := v4
  let c0_i32 : BitVec 32 := 0#32
  let c0_i32_0 : BitVec 32 := 0#32
  ![v5.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]
-- ==== ReferenceIdeal.lean ====
abbrev S16384x2048 : Shape := ⟨2, ![16384, 2048]⟩
abbrev S2048 : Shape := ⟨1, ![2048]⟩
abbrev S2048x5504 : Shape := ⟨2, ![2048, 5504]⟩
abbrev S5504x2048 : Shape := ⟨2, ![5504, 2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S16384x5504 : Shape := ⟨2, ![16384, 5504]⟩

abbrev nBuf : Space → Nat
  | .hbm => 55
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x5504, .f32⟩
  | .hbm, ⟨3, _⟩ => ⟨S2048x5504, .f32⟩
  | .hbm, ⟨4, _⟩ => ⟨S5504x2048, .f32⟩
  | .hbm, ⟨5, _⟩ => ⟨S2048, .f32⟩
  | .hbm, ⟨6, _⟩ => ⟨S16384x2048, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x2048, .f32⟩
  | .hbm, ⟨18, _⟩ => ⟨S16384x2048, .f32⟩
  | .hbm, ⟨19, _⟩ => ⟨S1x2048, .f32⟩
  | .hbm, ⟨20, _⟩ => ⟨S16384x2048, .f32⟩
  | .hbm, ⟨21, _⟩ => ⟨S16384x2048, .f32⟩
  | .hbm, ⟨22, _⟩ => ⟨S16384x5504, .f32⟩
  | .hbm, ⟨23, _⟩ => ⟨S16384x5504, .f32⟩
  | .hbm, ⟨24, _⟩ => ⟨S16384x5504, .f32⟩
  | .hbm, ⟨25, _⟩ => ⟨S_, .f32⟩
  | .hbm, ⟨26, _⟩ => ⟨S16384x5504, .f32⟩
  | .hbm, ⟨27, _⟩ => ⟨S16384x5504, .f32⟩
  | .hbm, ⟨28, _⟩ => ⟨S_, .f32⟩
  | .hbm, ⟨29, _⟩ => ⟨S16384x5504, .f32⟩
  | .hbm, ⟨30, _⟩ => ⟨S16384x5504, .f32⟩
  | .hbm, ⟨31, _⟩ => ⟨S16384x5504, .f32⟩
  | .hbm, ⟨32, _⟩ => ⟨S16384x5504, .f32⟩
  | .hbm, ⟨33, _⟩ => ⟨S16384x5504, .f32⟩
  | .hbm, ⟨34, _⟩ => ⟨S16384x2048, .f32⟩
  | .hbm, ⟨35, _⟩ => ⟨S_, .f32⟩
  | .hbm, ⟨36, _⟩ => ⟨S16384x2048, .f32⟩
  | .hbm, ⟨37, _⟩ => ⟨S16384x2048, .f32⟩
  | .hbm, ⟨38, _⟩ => ⟨S16384x2048, .f32⟩
  | .hbm, ⟨39, _⟩ => ⟨S16384x2048, .f32⟩
  | .hbm, ⟨40, _⟩ => ⟨S_, .f32⟩
  | .hbm, ⟨41, _⟩ => ⟨S16384, .f32⟩
  | .hbm, ⟨42, _⟩ => ⟨S16384x1, .f32⟩
  | .hbm, ⟨43, _⟩ => ⟨S_, .f32⟩
  | .hbm, ⟨44, _⟩ => ⟨S16384x1, .f32⟩
  | .hbm, ⟨45, _⟩ => ⟨S16384x1, .f32⟩
  | .hbm, ⟨46, _⟩ => ⟨S_, .f32⟩
  | .hbm, ⟨47, _⟩ => ⟨S16384x1, .f32⟩
  | .hbm, ⟨48, _⟩ => ⟨S16384x1, .f32⟩
  | .hbm, ⟨49, _⟩ => ⟨S16384x1, .f32⟩
  | .hbm, ⟨50, _⟩ => ⟨S16384x2048, .f32⟩
  | .hbm, ⟨51, _⟩ => ⟨S16384x2048, .f32⟩
  | .hbm, ⟨52, _⟩ => ⟨S1x2048, .f32⟩
  | .hbm, ⟨53, _⟩ => ⟨S16384x2048, .f32⟩
  | .hbm, ⟨54, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_2 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_3 : Ref sig .tc := ⟨.hbm, 40, rfl⟩
abbrev main_v22 : Ref sig .tc := ⟨.hbm, 41, rfl⟩
abbrev main_v23 : Ref sig .tc := ⟨.hbm, 42, rfl⟩
abbrev main_cst_4 : Ref sig .tc := ⟨.hbm, 43, rfl⟩
abbrev main_v24 : Ref sig .tc := ⟨.hbm, 44, rfl⟩
abbrev main_v25 : Ref sig .tc := ⟨.hbm, 45, rfl⟩
abbrev main_cst_5 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩

abbrev nD : Nat := 1
abbrev τ : Topo := Topo.v7x

variable {F : FTy → Type} [FloatOps F]
-- ==== Kernel2.lean ====
abbrev S16384x2048 : Shape := ⟨2, ![16384, 2048]⟩
abbrev S2048 : Shape := ⟨1, ![2048]⟩
abbrev S2048x5504 : Shape := ⟨2, ![2048, 5504]⟩
abbrev S5504x2048 : Shape := ⟨2, ![5504, 2048]⟩
abbrev S2048x4096 : Shape := ⟨2, ![2048, 4096]⟩
abbrev S1x2048 : Shape := ⟨2, ![1, 2048]⟩
abbrev S2048x512 : Shape := ⟨2, ![2048, 512]⟩
abbrev S512x2048 : Shape := ⟨2, ![512, 2048]⟩
abbrev S32x4096 : Shape := ⟨2, ![32, 4096]⟩
abbrev S2x1024x2048 : Shape := ⟨3, ![2, 1024, 2048]⟩
abbrev S1024x2048 : Shape := ⟨2, ![1024, 2048]⟩
abbrev S2 : Shape := ⟨1, ![2]⟩
abbrev S1 : Shape := ⟨1, ![1]⟩
abbrev S_ : Shape := ⟨0, ![]⟩
abbrev S1x1024x2048 : Shape := ⟨3, ![1, 1024, 2048]⟩
abbrev S1024 : Shape := ⟨1, ![1024]⟩
abbrev S1024x1 : Shape := ⟨2, ![1024, 1]⟩
abbrev S1024x512 : Shape := ⟨2, ![1024, 512]⟩
abbrev S1x1024x512 : Shape := ⟨3, ![1, 1024, 512]⟩
abbrev S512x512 : Shape := ⟨2, ![512, 512]⟩

abbrev nBuf : Space → Nat
  | .hbm => 12
  | .vmem => 19
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x5504, .f32⟩
  | .hbm, ⟨3, _⟩ => ⟨S2048x5504, .f32⟩
  | .hbm, ⟨4, _⟩ => ⟨S5504x2048, .f32⟩
  | .hbm, ⟨5, _⟩ => ⟨S2048x4096, .f32⟩
  | .hbm, ⟨6, _⟩ => ⟨S2048x5504, .bf16⟩
  | .hbm, ⟨7, _⟩ => ⟨S2048x5504, .bf16⟩
  | .hbm, ⟨8, _⟩ => ⟨S5504x2048, .bf16⟩
  | .hbm, ⟨9, _⟩ => ⟨S1x2048, .f32⟩
  | .hbm, ⟨10, _⟩ => ⟨S16384x2048, .f32⟩
  | .hbm, ⟨11, _⟩ => ⟨S2048x4096, .bf16⟩
  | .local _ .vmem, ⟨0, _⟩ => ⟨S1x2048, .f32⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S512x2048, .bf16⟩
  | .local _ .vmem, ⟨6, _⟩ => ⟨S512x2048, .bf16⟩
  | .local _ .vmem, ⟨7, _⟩ => ⟨S2048x512, .bf16⟩
  | .local _ .vmem, ⟨8, _⟩ => ⟨S2048x512, .bf16⟩
  | .local _ .vmem, ⟨9, _⟩ => ⟨S2048x512, .bf16⟩
  | .local _ .vmem, ⟨10, _⟩ => ⟨S2048x512, .bf16⟩
  | .local _ .vmem, ⟨11, _⟩ => ⟨S512x2048, .bf16⟩
  | .local _ .vmem, ⟨12, _⟩ => ⟨S512x2048, .bf16⟩
  | .local _ .vmem, ⟨13, _⟩ => ⟨S32x4096, .f32⟩
  | .local _ .vmem, ⟨14, _⟩ => ⟨S32x4096, .f32⟩
  | .local _ .vmem, ⟨15, _⟩ => ⟨S32x4096, .bf16⟩
  | .local _ .vmem, ⟨16, _⟩ => ⟨S32x4096, .bf16⟩
  | .local _ .vmem, ⟨17, _⟩ => ⟨S2x1024x2048, .f32⟩
  | .local _ .vmem, ⟨18, _⟩ => ⟨S1024x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_scratch1 : Ref sig .tc := ⟨.vmem, 18, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![16, 6], ![false, false]⟩

def k0_mult1 (i : grid0.Coords) : BitVec 32 :=
  let c2_i32 : BitVec 32 := 2#32
  let arg1 : BitVec 32 := BitVec.ofNat 32 (i 1).val
  let v0 : BitVec 32 := Scalar.muli c2_i32 arg1
  let c0_i32 : BitVec 32 := 0#32
  let v1 : BitVec 32 := Scalar.addi v0 c0_i32
  let c10_i32 : BitVec 32 := 10#32
  let v2 : BitVec 32 := Scalar.minsi v1 c10_i32
  let c512_i32 : BitVec 32 := 512#32
  let v3 : BitVec 32 := Scalar.muli v2 c512_i32
  let c4992_i32 : BitVec 32 := 4992#32
  let v4 : BitVec 32 := Scalar.minsi v3 c4992_i32
  v4
def k0_mult2 (i : grid0.Coords) : BitVec 32 :=
  let c2_i32 : BitVec 32 := 2#32
  let arg1 : BitVec 32 := BitVec.ofNat 32 (i 1).val
  let v0 : BitVec 32 := Scalar.muli c2_i32 arg1
  let c0_i32 : BitVec 32 := 0#32
  let v1 : BitVec 32 := Scalar.addi v0 c0_i32
  let c10_i32 : BitVec 32 := 10#32
  let v2 : BitVec 32 := Scalar.minsi v1 c10_i32
  let c512_i32 : BitVec 32 := 512#32
  let v3 : BitVec 32 := Scalar.muli v2 c512_i32
  let c4992_i32 : BitVec 32 := 4992#32
  let v4 : BitVec 32 := Scalar.minsi v3 c4992_i32
  v4
def k0_mult3 (i : grid0.Coords) : BitVec 32 :=
  let c2_i32 : BitVec 32 := 2#32
  let arg1 : BitVec 32 := BitVec.ofNat 32 (i 1).val
  let v0 : BitVec 32 := Scalar.muli c2_i32 arg1
  let c0_i32 : BitVec 32 := 0#32
  let v1 : BitVec 32 := Scalar.addi v0 c0_i32
  let c10_i32 : BitVec 32 := 10#32
  let v2 : BitVec 32 := Scalar.minsi v1 c10_i32
  let c512_i32 : BitVec 32 := 512#32
  let v3 : BitVec 32 := Scalar.muli v2 c512_i32
  let c4992_i32 : BitVec 32 := 4992#32
  let v4 : BitVec 32 := Scalar.minsi v3 c4992_i32
  v4
def k0_mult4 (i : grid0.Coords) : BitVec 32 :=
  let c2_i32 : BitVec 32 := 2#32
  let arg1 : BitVec 32 := BitVec.ofNat 32 (i 1).val
  let v0 : BitVec 32 := Scalar.muli c2_i32 arg1
  let c1_i32 : BitVec 32 := 1#32
  let v1 : BitVec 32 := Scalar.addi v0 c1_i32
  let c9_i32 : BitVec 32 := 9#32
  let v2 : BitVec 32 := Scalar.minsi v1 c9_i32
  let c512_i32 : BitVec 32 := 512#32
  let v3 : BitVec 32 := Scalar.muli v2 c512_i32
  let c4992_i32 : BitVec 32 := 4992#32
  let v4 : BitVec 32 := Scalar.minsi v3 c4992_i32
  v4
def k0_mult5 (i : grid0.Coords) : BitVec 32 :=
  let c2_i32 : BitVec 32 := 2#32
  let arg1 : BitVec 32 := BitVec.ofNat 32 (i 1).val
  let v0 : BitVec 32 := Scalar.muli c2_i32 arg1
  let c1_i32 : BitVec 32 := 1#32
  let v1 : BitVec 32 := Scalar.addi v0 c1_i32
  let c9_i32 : BitVec 32 := 9#32
  let v2 : BitVec 32 := Scalar.minsi v1 c9_i32
  let c512_i32 : BitVec 32 := 512#32
  let v3 : BitVec 32 := Scalar.muli v2 c512_i32
  let c4992_i32 : BitVec 32 := 4992#32
  let v4 : BitVec 32 := Scalar.minsi v3 c4992_i32
  v4
def k0_mult6 (i : grid0.Coords) : BitVec 32 :=
  let c2_i32 : BitVec 32 := 2#32
  let arg1 : BitVec 32 := BitVec.ofNat 32 (i 1).val
  let v0 : BitVec 32 := Scalar.muli c2_i32 arg1
  let c1_i32 : BitVec 32 := 1#32
  let v1 : BitVec 32 := Scalar.addi v0 c1_i32
  let c9_i32 : BitVec 32 := 9#32
  let v2 : BitVec 32 := Scalar.minsi v1 c9_i32
  let c512_i32 : BitVec 32 := 512#32
  let v3 : BitVec 32 := Scalar.muli v2 c512_i32
  let c4992_i32 : BitVec 32 := 4992#32
  let v4 : BitVec 32 := Scalar.minsi v3 c4992_i32
  v4
def k0_cond1 (i : grid0.Coords) : BitVec 1 :=
  let arg1 : BitVec 32 := BitVec.ofNat 32 (i 1).val
  let c1_i32_3 : BitVec 32 := 1#32
  let v10 : BitVec 1 := Scalar.cmpi .eq arg1 c1_i32_3
  let v11 : BitVec 32 := Scalar.extui v10
  let c0_i32_4 : BitVec 32 := 0#32
  let v12 : BitVec 1 := Scalar.cmpi .ne v11 c0_i32_4
  v12

def k0_cond2 (i : grid0.Coords) : BitVec 1 :=
  let arg0 : BitVec 32 := BitVec.ofNat 32 (i 0).val
  let c1_i32_11 : BitVec 32 := 1#32
  let v24 : BitVec 1 := Scalar.cmpi .sge arg0 c1_i32_11
  let v25 : BitVec 32 := Scalar.extui v24
  let c0_i32_12 : BitVec 32 := 0#32
  let v26 : BitVec 1 := Scalar.cmpi .ne v25 c0_i32_12
  v26

def k0_off1 (i : grid0.Coords) : Fin 1 → Nat :=
  let c1_i32_16 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v32 : BitVec 32 := Scalar.subi c1_i32_16 v9
  ![v32.toNat]
def k0_off2 (i : grid0.Coords) : Fin 2 → Nat :=
  let arg0 : BitVec 32 := BitVec.ofNat 32 (i 0).val
  let c1_i32_15 : BitVec 32 := 1#32
  let v31 : BitVec 32 := Scalar.subi arg0 c1_i32_15
  let c1024_i32 : BitVec 32 := 1024#32
  let v33 : BitVec 32 := Scalar.muli v31 c1024_i32
  let c0_i32_17 : BitVec 32 := 0#32
  ![v33.toNat, 0]
def k0_off3 (i : grid0.Coords) : Fin 3 → Nat :=
  let c1_i32_16 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v32 : BitVec 32 := Scalar.subi c1_i32_16 v9
  let c0_i32_18 : BitVec 32 := 0#32
  let c0_i32_19 : BitVec 32 := 0#32
  ![v32.toNat, 0, 0]
def k0_cond3 (i : grid0.Coords) : BitVec 1 :=
  let arg0 : BitVec 32 := BitVec.ofNat 32 (i 0).val
  let c1_i32_13 : BitVec 32 := 1#32
  let v27 : BitVec 32 := Scalar.addi arg0 c1_i32_13
  let c16_i32 : BitVec 32 := 16#32
  let v28 : BitVec 1 := Scalar.cmpi .slt v27 c16_i32
  let v29 : BitVec 32 := Scalar.extui v28
  let c0_i32_14 : BitVec 32 := 0#32
  let v30 : BitVec 1 := Scalar.cmpi .ne v29 c0_i32_14
  v30

def k0_off4 (i : grid0.Coords) : Fin 1 → Nat :=
  let c1_i32_16 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v32 : BitVec 32 := Scalar.subi c1_i32_16 v9
  ![v32.toNat]
def k0_off5 (i : grid0.Coords) : Fin 3 → Nat :=
  let c1_i32_16 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v32 : BitVec 32 := Scalar.subi c1_i32_16 v9
  let c0_i32_17 : BitVec 32 := 0#32
  let c0_i32_18 : BitVec 32 := 0#32
  ![v32.toNat, 0, 0]
def k0_off6 (i : grid0.Coords) : Fin 2 → Nat :=
  let arg0 : BitVec 32 := BitVec.ofNat 32 (i 0).val
  let c1_i32_15 : BitVec 32 := 1#32
  let v31 : BitVec 32 := Scalar.addi arg0 c1_i32_15
  let c1024_i32 : BitVec 32 := 1024#32
  let v33 : BitVec 32 := Scalar.muli v31 c1024_i32
  let c0_i32_19 : BitVec 32 := 0#32
  ![v33.toNat, 0]
def k0_cond4 (i : grid0.Coords) : BitVec 1 :=
  let arg1 : BitVec 32 := BitVec.ofNat 32 (i 1).val
  let c0_i32_5 : BitVec 32 := 0#32
  let v13 : BitVec 1 := Scalar.cmpi .eq arg1 c0_i32_5
  let v14 : BitVec 32 := Scalar.extui v13
  let c0_i32_6 : BitVec 32 := 0#32
  let v15 : BitVec 1 := Scalar.cmpi .ne v14 c0_i32_6
  v15

def k0_off7 (i : grid0.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k0_off8 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_13 : BitVec 32 := 0#32
  let c0_i32_14 : BitVec 32 := 0#32
  ![v9.toNat, 0, 0]
def k0_off9 (i : grid0.Coords) : Fin 2 → Nat :=
  let arg0 : BitVec 32 := BitVec.ofNat 32 (i 0).val
  let c1024_i32 : BitVec 32 := 1024#32
  let v27 : BitVec 32 := Scalar.muli arg0 c1024_i32
  let c0_i32_15 : BitVec 32 := 0#32
  ![v27.toNat, 0]
def k0_off10 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v33 : Index := Scalar.indexCast v9
  let c0 : Index := 0#32
  let c0_16 : Index := 0#32
  ![v33.toNat, 0, 0]
def k0_off11 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v66 : Index := Scalar.indexCast v9
  let c0_30 : Index := 0#32
  let c0_31 : Index := 0#32
  ![v66.toNat, 0, 0]
def k0_off12 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v77 : Index := Scalar.indexCast v9
  let c0_37 : Index := 0#32
  let c512 : Index := 512#32
  ![v77.toNat, 0, 512]
def k0_off13 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v88 : Index := Scalar.indexCast v9
  let c0_43 : Index := 0#32
  let c1024 : Index := 1024#32
  ![v88.toNat, 0, 1024]
def k0_off14 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v99 : Index := Scalar.indexCast v9
  let c0_49 : Index := 0#32
  let c1536 : Index := 1536#32
  ![v99.toNat, 0, 1536]
def k0_cond6 (i : grid0.Coords) : BitVec 1 :=
  let arg1 : BitVec 32 := BitVec.ofNat 32 (i 1).val
  let c0_i32_7 : BitVec 32 := 0#32
  let v16 : BitVec 1 := Scalar.cmpi .sgt arg1 c0_i32_7
  let c5_i32 : BitVec 32 := 5#32
  let v17 : BitVec 1 := Scalar.cmpi .slt arg1 c5_i32
  let v18 : BitVec 1 := Scalar.andi v16 v17
  let v19 : BitVec 32 := Scalar.extui v18
  let c0_i32_8 : BitVec 32 := 0#32
  let v20 : BitVec 1 := Scalar.cmpi .ne v19 c0_i32_8
  v20

def k0_off15 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v37 : Index := Scalar.indexCast v9
  let c0_18 : Index := 0#32
  let c0_19 : Index := 0#32
  ![v37.toNat, 0, 0]
def k0_off16 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v48 : Index := Scalar.indexCast v9
  let c0_25 : Index := 0#32
  let c512 : Index := 512#32
  ![v48.toNat, 0, 512]
def k0_off17 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v59 : Index := Scalar.indexCast v9
  let c0_31 : Index := 0#32
  let c1024 : Index := 1024#32
  ![v59.toNat, 0, 1024]
def k0_off18 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v70 : Index := Scalar.indexCast v9
  let c0_37 : Index := 0#32
  let c1536 : Index := 1536#32
  ![v70.toNat, 0, 1536]
def k0_cond7 (i : grid0.Coords) : BitVec 1 :=
  let arg1 : BitVec 32 := BitVec.ofNat 32 (i 1).val
  let c5_i32_9 : BitVec 32 := 5#32
  let v21 : BitVec 1 := Scalar.cmpi .eq arg1 c5_i32_9
  let v22 : BitVec 32 := Scalar.extui v21
  let c0_i32_10 : BitVec 32 := 0#32
  let v23 : BitVec 1 := Scalar.cmpi .ne v22 c0_i32_10
  v23

def k0_off19 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v42 : Index := Scalar.indexCast v9
  let c0_19 : Index := 0#32
  let c0_20 : Index := 0#32
  ![v42.toNat, 0, 0]
def k0_off20 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v53 : Index := Scalar.indexCast v9
  let c0_26 : Index := 0#32
  let c512 : Index := 512#32
  ![v53.toNat, 0, 512]
def k0_off21 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v64 : Index := Scalar.indexCast v9
  let c0_32 : Index := 0#32
  let c1024 : Index := 1024#32
  ![v64.toNat, 0, 1024]
def k0_off22 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v75 : Index := Scalar.indexCast v9
  let c0_38 : Index := 0#32
  let c1536 : Index := 1536#32
  ![v75.toNat, 0, 1536]
def k0_off23 (i : grid0.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k0_off24 (i : grid0.Coords) : Fin 2 → Nat :=
  let arg0 : BitVec 32 := BitVec.ofNat 32 (i 0).val
  let c1024_i32 : BitVec 32 := 1024#32
  let v89 : BitVec 32 := Scalar.muli arg0 c1024_i32
  let c0_i32_48 : BitVec 32 := 0#32
  ![v89.toNat, 0]
def k0_off25 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_49 : BitVec 32 := 0#32
  let c0_i32_50 : BitVec 32 := 0#32
  ![v9.toNat, 0, 0]
def k0_cond8 (i : grid0.Coords) : BitVec 1 :=
  let arg0 : BitVec 32 := BitVec.ofNat 32 (i 0).val
  let c15_i32 : BitVec 32 := 15#32
  let v95 : BitVec 1 := Scalar.cmpi .eq arg0 c15_i32
  let v96 : BitVec 32 := Scalar.extui v95
  let c0_i32_51 : BitVec 32 := 0#32
  let v97 : BitVec 1 := Scalar.cmpi .ne v96 c0_i32_51
  v97

def k0_off26 (i : grid0.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k0_off27 (i : grid0.Coords) : Fin 2 → Nat :=
  let arg0 : BitVec 32 := BitVec.ofNat 32 (i 0).val
  let c1024_i32_52 : BitVec 32 := 1024#32
  let v98 : BitVec 32 := Scalar.muli arg0 c1024_i32_52
  let c0_i32_53 : BitVec 32 := 0#32
  ![v98.toNat, 0]
def k0_off28 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_54 : BitVec 32 := 0#32
  let c0_i32_55 : BitVec 32 := 0#32
  ![v9.toNat, 0, 0]
def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c0_i32 : BitVec 32 := 0#32
  let v1 : BitVec 32 := Scalar.addi v0 c0_i32
  let c10_i32 : BitVec 32 := 10#32
  let v2 : BitVec 32 := Scalar.minsi v1 c10_i32
  let c512_i32 : BitVec 32 := 512#32
  let v3 : BitVec 32 := Scalar.muli v2 c512_i32
  let c4992_i32 : BitVec 32 := 4992#32
  let v4 : BitVec 32 := Scalar.minsi v3 c4992_i32
  let v5 : BitVec 32 := v4
  let c0_i32_0 : BitVec 32 := 0#32
  let c0_i32_1 : BitVec 32 := 0#32
  ![c0_i32_0.toNat, v5.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c0_i32 : BitVec 32 := 0#32
  let v1 : BitVec 32 := Scalar.addi v0 c0_i32
  let c10_i32 : BitVec 32 := 10#32
  let v2 : BitVec 32 := Scalar.minsi v1 c10_i32
  let c512_i32 : BitVec 32 := 512#32
  let v3 : BitVec 32 := Scalar.muli v2 c512_i32
  let c4992_i32 : BitVec 32 := 4992#32
  let v4 : BitVec 32 := Scalar.minsi v3 c4992_i32
  let v5 : BitVec 32 := v4
  let c0_i32_0 : BitVec 32 := 0#32
  let c0_i32_1 : BitVec 32 := 0#32
  ![c0_i32_0.toNat, v5.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c0_i32 : BitVec 32 := 0#32
  let v1 : BitVec 32 := Scalar.addi v0 c0_i32
  let c10_i32 : BitVec 32 := 10#32
  let v2 : BitVec 32 := Scalar.minsi v1 c10_i32
  let c512_i32 : BitVec 32 := 512#32
  let v3 : BitVec 32 := Scalar.muli v2 c512_i32
  let c4992_i32 : BitVec 32 := 4992#32
  let v4 : BitVec 32 := Scalar.minsi v3 c4992_i32
  let v5 : BitVec 32 := v4
  let c0_i32_0 : BitVec 32 := 0#32
  let c0_i32_1 : BitVec 32 := 0#32
  ![v5.toNat, c0_i32_0.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c1_i32 : BitVec 32 := 1#32
  let v1 : BitVec 32 := Scalar.addi v0 c1_i32
  let c9_i32 : BitVec 32 := 9#32
  let v2 : BitVec 32 := Scalar.minsi v1 c9_i32
  let c512_i32 : BitVec 32 := 512#32
  let v3 : BitVec 32 := Scalar.muli v2 c512_i32
  let c4992_i32 : BitVec 32 := 4992#32
  let v4 : BitVec 32 := Scalar.minsi v3 c4992_i32
  let v5 : BitVec 32 := v4
  let c0_i32 : BitVec 32 := 0#32
  let c0_i32_0 : BitVec 32 := 0#32
  ![c0_i32.toNat, v5.toNat]

def cc0_transform_6 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c1_i32 : BitVec 32 := 1#32
  let v1 : BitVec 32 := Scalar.addi v0 c1_i32
  let c9_i32 : BitVec 32 := 9#32
  let v2 : BitVec 32 := Scalar.minsi v1 c9_i32
  let c512_i32 : BitVec 32 := 512#32
  let v3 : BitVec 32 := Scalar.muli v2 c512_i32
  let c4992_i32 : BitVec 32 := 4992#32
  let v4 : BitVec 32 := Scalar.minsi v3 c4992_i32
  let v5 : BitVec 32 := v4
  let c0_i32 : BitVec 32 := 0#32
  let c0_i32_0 : BitVec 32 := 0#32
  ![c0_i32.toNat, v5.toNat]

def cc0_transform_7 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c1_i32 : BitVec 32 := 1#32
  let v1 : BitVec 32 := Scalar.addi v0 c1_i32
  let c9_i32 : BitVec 32 := 9#32
  let v2 : BitVec 32 := Scalar.minsi v1 c9_i32
  let c512_i32 : BitVec 32 := 512#32
  let v3 : BitVec 32 := Scalar.muli v2 c512_i32
  let c4992_i32 : BitVec 32 := 4992#32
  let v4 : BitVec 32 := Scalar.minsi v3 c4992_i32
  let v5 : BitVec 32 := v4
  let c0_i32 : BitVec 32 := 0#32
  let c0_i32_0 : BitVec 32 := 0#32
  ![v5.toNat, c0_i32.toNat]

def cc0_transform_8 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.muli arg0 c6_i32
  let v1 : BitVec 32 := Scalar.addi v0 arg1
  let c63_i32 : BitVec 32 := 63#32
  let v2 : BitVec 32 := Scalar.minsi v1 c63_i32
  let c0_i32 : BitVec 32 := 0#32
  let c0_i32_0 : BitVec 32 := 0#32
  ![v2.toNat, c0_i32.toNat]

def cc0_transform_10 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.muli arg0 c6_i32
  let v1 : BitVec 32 := Scalar.addi v0 arg1
  let c63_i32 : BitVec 32 := 63#32
  let v2 : BitVec 32 := Scalar.minsi v1 c63_i32
  let c0_i32 : BitVec 32 := 0#32
  let c0_i32_0 : BitVec 32 := 0#32
  ![v2.toNat, c0_i32.toNat]

abbrev stage0_0 : Fin 1 → Memref sig .tc .vmem S1x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S32x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S32x4096 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference2Ideal.lean ====
abbrev S16384x2048 : Shape := ⟨2, ![16384, 2048]⟩
abbrev S2048 : Shape := ⟨1, ![2048]⟩
abbrev S2048x5504 : Shape := ⟨2, ![2048, 5504]⟩
abbrev S5504x2048 : Shape := ⟨2, ![5504, 2048]⟩
abbrev S2048x4096 : Shape := ⟨2, ![2048, 4096]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S16384x5504 : Shape := ⟨2, ![16384, 5504]⟩

abbrev nBuf : Space → Nat
  | .hbm => 40
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x5504, .f32⟩
  | .hbm, ⟨3, _⟩ => ⟨S2048x5504, .f32⟩
  | .hbm, ⟨4, _⟩ => ⟨S5504x2048, .f32⟩
  | .hbm, ⟨5, _⟩ => ⟨S2048x4096, .f32⟩
  | .hbm, ⟨6, _⟩ => ⟨S16384x2048, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x2048, .f32⟩
  | .hbm, ⟨18, _⟩ => ⟨S16384x2048, .f32⟩
  | .hbm, ⟨19, _⟩ => ⟨S1x2048, .f32⟩
  | .hbm, ⟨20, _⟩ => ⟨S16384x2048, .f32⟩
  | .hbm, ⟨21, _⟩ => ⟨S16384x2048, .f32⟩
  | .hbm, ⟨22, _⟩ => ⟨S16384x5504, .f32⟩
  | .hbm, ⟨23, _⟩ => ⟨S16384x5504, .f32⟩
  | .hbm, ⟨24, _⟩ => ⟨S16384x5504, .f32⟩
  | .hbm, ⟨25, _⟩ => ⟨S_, .f32⟩
  | .hbm, ⟨26, _⟩ => ⟨S16384x5504, .f32⟩
  | .hbm, ⟨27, _⟩ => ⟨S16384x5504, .f32⟩
  | .hbm, ⟨28, _⟩ => ⟨S_, .f32⟩
  | .hbm, ⟨29, _⟩ => ⟨S16384x5504, .f32⟩
  | .hbm, ⟨30, _⟩ => ⟨S16384x5504, .f32⟩
  | .hbm, ⟨31, _⟩ => ⟨S16384x5504, .f32⟩
  | .hbm, ⟨32, _⟩ => ⟨S16384x5504, .f32⟩
  | .hbm, ⟨33, _⟩ => ⟨S16384x5504, .f32⟩
  | .hbm, ⟨34, _⟩ => ⟨S16384x2048, .f32⟩
  | .hbm, ⟨35, _⟩ => ⟨S_, .f32⟩
  | .hbm, ⟨36, _⟩ => ⟨S16384x2048, .f32⟩
  | .hbm, ⟨37, _⟩ => ⟨S16384x2048, .f32⟩
  | .hbm, ⟨38, _⟩ => ⟨S16384x2048, .f32⟩
  | .hbm, ⟨39, _⟩ => ⟨S2048x4096, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_2 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩

abbrev nD : Nat := 1
abbrev τ : Topo := Topo.v7x

variable {F : FTy → Type} [FloatOps F]
-- ==== Kernel3.lean ====
abbrev S16384x1024 : Shape := ⟨2, ![16384, 1024]⟩
abbrev S16384x2048 : Shape := ⟨2, ![16384, 2048]⟩
abbrev S64x16 : Shape := ⟨2, ![64, 16]⟩
abbrev S1024x1024 : Shape := ⟨2, ![1024, 1024]⟩
abbrev S1024 : Shape := ⟨1, ![1024]⟩
abbrev S2048x2048 : Shape := ⟨2, ![2048, 2048]⟩
abbrev S1x1024 : Shape := ⟨2, ![1, 1024]⟩
abbrev S512x1024 : Shape := ⟨2, ![512, 1024]⟩
abbrev S512x2048 : Shape := ⟨2, ![512, 2048]⟩
abbrev S512 : Shape := ⟨1, ![512]⟩
abbrev S512x1 : Shape := ⟨2, ![512, 1]⟩
abbrev S1024x2048 : Shape := ⟨2, ![1024, 2048]⟩

abbrev nBuf : Space → Nat
  | .hbm => 18
  | .vmem => 16
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S16384x2048, .f32⟩
  | .hbm, ⟨4, _⟩ => ⟨S64x16, .f32⟩
  | .hbm, ⟨5, _⟩ => ⟨S1024x1024, .f32⟩
  | .hbm, ⟨6, _⟩ => ⟨S1024, .f32⟩
  | .hbm, ⟨7, _⟩ => ⟨S1024, .f32⟩
  | .hbm, ⟨8, _⟩ => ⟨S1024, .f32⟩
  | .hbm, ⟨9, _⟩ => ⟨S2048x2048, .f32⟩
  | .hbm, ⟨10, _⟩ => ⟨S16384x1024, .bf16⟩
  | .hbm, ⟨11, _⟩ => ⟨S1024x1024, .bf16⟩
  | .hbm, ⟨12, _⟩ => ⟨S2048x2048, .bf16⟩
  | .hbm, ⟨13, _⟩ => ⟨S1x1024, .f32⟩
  | .hbm, ⟨14, _⟩ => ⟨S1x1024, .f32⟩
  | .hbm, ⟨15, _⟩ => ⟨S1x1024, .f32⟩
  | .hbm, ⟨16, _⟩ => ⟨S1x1024, .f32⟩
  | .hbm, ⟨17, _⟩ => ⟨S16384x2048, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .bf16⟩
  | .local _ .vmem, ⟨5, _⟩ => ⟨S512x1024, .bf16⟩
  | .local _ .vmem, ⟨6, _⟩ => ⟨S512x2048, .f32⟩
  | .local _ .vmem, ⟨7, _⟩ => ⟨S512x2048, .f32⟩
  | .local _ .vmem, ⟨8, _⟩ => ⟨S1x1024, .f32⟩
  | .local _ .vmem, ⟨9, _⟩ => ⟨S1024x1024, .bf16⟩
  | .local _ .vmem, ⟨10, _⟩ => ⟨S1x1024, .f32⟩
  | .local _ .vmem, ⟨11, _⟩ => ⟨S1x1024, .f32⟩
  | .local _ .vmem, ⟨12, _⟩ => ⟨S1x1024, .f32⟩
  | .local _ .vmem, ⟨13, _⟩ => ⟨S2048x2048, .bf16⟩
  | .local _ .vmem, ⟨14, _⟩ => ⟨S512x2048, .f32⟩
  | .local _ .vmem, ⟨15, _⟩ => ⟨S512x2048, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2048x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference3Ideal.lean ====
abbrev S16384x1024 : Shape := ⟨2, ![16384, 1024]⟩
abbrev S16384x2048 : Shape := ⟨2, ![16384, 2048]⟩
abbrev S64x16 : Shape := ⟨2, ![64, 16]⟩
abbrev S1024x1024 : Shape := ⟨2, ![1024, 1024]⟩
abbrev S1024 : Shape := ⟨1, ![1024]⟩
abbrev S2048x2048 : Shape := ⟨2, ![2048, 2048]⟩
abbrev S16384x64x16 : Shape := ⟨3, ![16384, 64, 16]⟩
abbrev S1x64x16 : Shape := ⟨3, ![1, 64, 16]⟩
abbrev S_ : Shape := ⟨0, ![]⟩
abbrev S1x1024 : Shape := ⟨2, ![1, 1024]⟩
abbrev S16384 : Shape := ⟨1, ![16384]⟩
abbrev S16384x1 : Shape := ⟨2, ![16384, 1]⟩

abbrev nBuf : Space → Nat
  | .hbm => 82
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S16384x2048, .f32⟩
  | .hbm, ⟨4, _⟩ => ⟨S64x16, .f32⟩
  | .hbm, ⟨5, _⟩ => ⟨S1024x1024, .f32⟩
  | .hbm, ⟨6, _⟩ => ⟨S1024, .f32⟩
  | .hbm, ⟨7, _⟩ => ⟨S1024, .f32⟩
  | .hbm, ⟨8, _⟩ => ⟨S1024, .f32⟩
  | .hbm, ⟨9, _⟩ => ⟨S2048x2048, .f32⟩
  | .hbm, ⟨10, _⟩ => ⟨S16384x64x16, .f32⟩
  | .hbm, ⟨11, _⟩ => ⟨S16384x64x16, .f32⟩
  | .hbm, ⟨12, _⟩ => ⟨S1x64x16, .f32⟩
  | .hbm, ⟨13, _⟩ => ⟨S16384x64x16, .f32⟩
  | .hbm, ⟨14, _⟩ => ⟨S16384x64x16, .f32⟩
  | .hbm, ⟨15, _⟩ => ⟨S16384x64x16, .f32⟩
  | .hbm, ⟨16, _⟩ => ⟨S16384x64x16, .f32⟩
  | .hbm, ⟨17, _⟩ => ⟨S16384x64x16, .f32⟩
  | .hbm, ⟨18, _⟩ => ⟨S_, .f32⟩
  | .hbm, ⟨19, _⟩ => ⟨S16384x64x16, .f32⟩
  | .hbm, ⟨20, _⟩ => ⟨S16384x64x16, .f32⟩
  | .hbm, ⟨21, _⟩ => ⟨S16384x64x16, .f32⟩
  | .hbm, ⟨22, _⟩ => ⟨S_, .f32⟩
  | .hbm, ⟨23, _⟩ => ⟨S16384x64x16, .f32⟩
  | .hbm, ⟨24, _⟩ => ⟨S16384x64x16, .f32⟩
  | .hbm, ⟨25, _⟩ => ⟨S16384x64x16, .f32⟩
  | .hbm, ⟨26, _⟩ => ⟨S_, .f32⟩
  | .hbm, ⟨27, _⟩ => ⟨S16384x64x16, .f32⟩
  | .hbm, ⟨28, _⟩ => ⟨S16384x64x16, .f32⟩
  | .hbm, ⟨29, _⟩ => ⟨S_, .f32⟩
  | .hbm, ⟨30, _⟩ => ⟨S16384x64x16, .f32⟩
  | .hbm, ⟨31, _⟩ => ⟨S16384x64x16, .f32⟩
  | .hbm, ⟨32, _⟩ => ⟨S16384x64x16, .f32⟩
  | .hbm, ⟨33, _⟩ => ⟨S16384x1024, .f32⟩
  | .hbm, ⟨34, _⟩ => ⟨S16384x1024, .f32⟩
  | .hbm, ⟨35, _⟩ => ⟨S1x1024, .f32⟩
  | .hbm, ⟨36, _⟩ => ⟨S16384x1024, .f32⟩
  | .hbm, ⟨37, _⟩ => ⟨S16384x1024, .f32⟩
  | .hbm, ⟨38, _⟩ => ⟨S16384x1024, .f32⟩
  | .hbm, ⟨39, _⟩ => ⟨S16384x1024, .f32⟩
  | .hbm, ⟨40, _⟩ => ⟨S_, .f32⟩
  | .hbm, ⟨41, _⟩ => ⟨S16384x1024, .f32⟩
  | .hbm, ⟨42, _⟩ => ⟨S16384x1024, .f32⟩
  | .hbm, ⟨43, _⟩ => ⟨S_, .f32⟩
  | .hbm, ⟨44, _⟩ => ⟨S16384x1024, .f32⟩
  | .hbm, ⟨45, _⟩ => ⟨S16384x1024, .f32⟩
  | .hbm, ⟨46, _⟩ => ⟨S16384x1024, .f32⟩
  | .hbm, ⟨47, _⟩ => ⟨S16384x1024, .f32⟩
  | .hbm, ⟨48, _⟩ => ⟨S_, .f32⟩
  | .hbm, ⟨49, _⟩ => ⟨S16384, .f32⟩
  | .hbm, ⟨50, _⟩ => ⟨S16384x1, .f32⟩
  | .hbm, ⟨51, _⟩ => ⟨S_, .f32⟩
  | .hbm, ⟨52, _⟩ => ⟨S16384x1, .f32⟩
  | .hbm, ⟨53, _⟩ => ⟨S16384x1, .f32⟩
  | .hbm, ⟨54, _⟩ => ⟨S_, .f32⟩
  | .hbm, ⟨55, _⟩ => ⟨S16384x1, .f32⟩
  | .hbm, ⟨56, _⟩ => ⟨S16384x1, .f32⟩
  | .hbm, ⟨57, _⟩ => ⟨S16384x1, .f32⟩
  | .hbm, ⟨58, _⟩ => ⟨S16384x1024, .f32⟩
  | .hbm, ⟨59, _⟩ => ⟨S16384x1024, .f32⟩
  | .hbm, ⟨60, _⟩ => ⟨S1x1024, .f32⟩
  | .hbm, ⟨61, _⟩ => ⟨S16384x1024, .f32⟩
  | .hbm, ⟨62, _⟩ => ⟨S16384x1024, .f32⟩
  | .hbm, ⟨63, _⟩ => ⟨S16384x1024, .f32⟩
  | .hbm, ⟨64, _⟩ => ⟨S_, .f32⟩
  | .hbm, ⟨65, _⟩ => ⟨S16384, .f32⟩
  | .hbm, ⟨66, _⟩ => ⟨S16384x1, .f32⟩
  | .hbm, ⟨67, _⟩ => ⟨S_, .f32⟩
  | .hbm, ⟨68, _⟩ => ⟨S16384x1, .f32⟩
  | .hbm, ⟨69, _⟩ => ⟨S16384x1, .f32⟩
  | .hbm, ⟨70, _⟩ => ⟨S_, .f32⟩
  | .hbm, ⟨71, _⟩ => ⟨S16384x1, .f32⟩
  | .hbm, ⟨72, _⟩ => ⟨S16384x1, .f32⟩
  | .hbm, ⟨73, _⟩ => ⟨S16384x1, .f32⟩
  | .hbm, ⟨74, _⟩ => ⟨S16384x1024, .f32⟩
  | .hbm, ⟨75, _⟩ => ⟨S16384x1024, .f32⟩
  | .hbm, ⟨76, _⟩ => ⟨S1x1024, .f32⟩
  | .hbm, ⟨77, _⟩ => ⟨S16384x1024, .f32⟩
  | .hbm, ⟨78, _⟩ => ⟨S16384x1024, .f32⟩
  | .hbm, ⟨79, _⟩ => ⟨S16384x2048, .f32⟩
  | .hbm, ⟨80, _⟩ => ⟨S16384x2048, .f32⟩
  | .hbm, ⟨81, _⟩ => ⟨S16384x2048, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_0 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_1 : Ref sig .tc := ⟨.hbm, 26, rfl⟩
abbrev main_v14 : Ref sig .tc := ⟨.hbm, 27, rfl⟩
abbrev main_v15 : Ref sig .tc := ⟨.hbm, 28, rfl⟩
abbrev main_cst_2 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_3 : Ref sig .tc := ⟨.hbm, 40, rfl⟩
abbrev main_v26 : Ref sig .tc := ⟨.hbm, 41, rfl⟩
abbrev main_v27 : Ref sig .tc := ⟨.hbm, 42, rfl⟩
abbrev main_cst_4 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_5 : Ref sig .tc := ⟨.hbm, 48, rfl⟩
abbrev main_v32 : Ref sig .tc := ⟨.hbm, 49, rfl⟩
abbrev main_v33 : Ref sig .tc := ⟨.hbm, 50, rfl⟩
abbrev main_cst_6 : Ref sig .tc := ⟨.hbm, 51, rfl⟩
abbrev main_v34 : Ref sig .tc := ⟨.hbm, 52, rfl⟩
abbrev main_v35 : Ref sig .tc := ⟨.hbm, 53, rfl⟩
abbrev main_cst_7 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_8 : Ref sig .tc := ⟨.hbm, 64, rfl⟩
abbrev main_v45 : Ref sig .tc := ⟨.hbm, 65, rfl⟩
abbrev main_v46 : Ref sig .tc := ⟨.hbm, 66, rfl⟩
abbrev main_cst_9 : Ref sig .tc := ⟨.hbm, 67, rfl⟩
abbrev main_v47 : Ref sig .tc := ⟨.hbm, 68, rfl⟩
abbrev main_v48 : Ref sig .tc := ⟨.hbm, 69, rfl⟩
abbrev main_cst_10 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩

abbrev nD : Nat := 1
abbrev τ : Topo := Topo.v7x

variable {F : FTy → Type} [FloatOps F]
-- ==== Kernel4.lean ====
abbrev S16384x2048 : Shape := ⟨2, ![16384, 2048]⟩
abbrev S2048 : Shape := ⟨1, ![2048]⟩
abbrev S2048x4096 : Shape := ⟨2, ![2048, 4096]⟩
abbrev S1024x1024 : Shape := ⟨2, ![1024, 1024]⟩
abbrev S2048x2048 : Shape := ⟨2, ![2048, 2048]⟩
abbrev S2048x5504 : Shape := ⟨2, ![2048, 5504]⟩
abbrev S5504x2048 : Shape := ⟨2, ![5504, 2048]⟩
abbrev S1x2048 : Shape := ⟨2, ![1, 2048]⟩
abbrev S16384x3072 : Shape := ⟨2, ![16384, 3072]⟩
abbrev S16384x1024 : Shape := ⟨2, ![16384, 1024]⟩
abbrev S1024x2048 : Shape := ⟨2, ![1024, 2048]⟩
abbrev S2048x1024 : Shape := ⟨2, ![2048, 1024]⟩
abbrev S16x1024 : Shape := ⟨2, ![16, 1024]⟩
abbrev S32x2048 : Shape := ⟨2, ![32, 2048]⟩
abbrev S32x5504 : Shape := ⟨2, ![32, 5504]⟩
abbrev S128x2048 : Shape := ⟨2, ![128, 2048]⟩
abbrev S1024 : Shape := ⟨1, ![1024]⟩
abbrev S1024x1 : Shape := ⟨2, ![1024, 1]⟩

abbrev nBuf : Space → Nat
  | .hbm => 17
  | .vmem => 30
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x4096, .f32⟩
  | .hbm, ⟨3, _⟩ => ⟨S1024x1024, .f32⟩
  | .hbm, ⟨4, _⟩ => ⟨S2048x2048, .f32⟩
  | .hbm, ⟨5, _⟩ => ⟨S2048x5504, .f32⟩
  | .hbm, ⟨6, _⟩ => ⟨S2048x5504, .f32⟩
  | .hbm, ⟨7, _⟩ => ⟨S5504x2048, .f32⟩
  | .hbm, ⟨8, _⟩ => ⟨S2048x4096, .bf16⟩
  | .hbm, ⟨9, _⟩ => ⟨S1x2048, .f32⟩
  | .hbm, ⟨10, _⟩ => ⟨S16384x3072, .bf16⟩
  | .hbm, ⟨11, _⟩ => ⟨S16384x1024, .f32⟩
  | .hbm, ⟨12, _⟩ => ⟨S1024x1024, .bf16⟩
  | .hbm, ⟨13, _⟩ => ⟨S2048x2048, .bf16⟩
  | .hbm, ⟨14, _⟩ => ⟨S2048x5504, .bf16⟩
  | .hbm, ⟨15, _⟩ => ⟨S2048x5504, .bf16⟩
  | .hbm, ⟨16, _⟩ => ⟨S5504x2048, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S16x1024, .f32⟩
  | .local _ .vmem, ⟨6, _⟩ => ⟨S16x1024, .f32⟩
  | .local _ .vmem, ⟨7, _⟩ => ⟨S32x2048, .f32⟩
  | .local _ .vmem, ⟨8, _⟩ => ⟨S32x2048, .f32⟩
  | .local _ .vmem, ⟨9, _⟩ => ⟨S32x5504, .f32⟩
  | .local _ .vmem, ⟨10, _⟩ => ⟨S32x5504, .f32⟩
  | .local _ .vmem, ⟨11, _⟩ => ⟨S32x5504, .f32⟩
  | .local _ .vmem, ⟨12, _⟩ => ⟨S32x5504, .f32⟩
  | .local _ .vmem, ⟨13, _⟩ => ⟨S128x2048, .f32⟩
  | .local _ .vmem, ⟨14, _⟩ => ⟨S128x2048, .f32⟩
  | .local _ .vmem, ⟨15, _⟩ => ⟨S1024x1024, .bf16⟩
  | .local _ .vmem, ⟨16, _⟩ => ⟨S1024x1024, .bf16⟩
  | .local _ .vmem, ⟨17, _⟩ => ⟨S1024x1024, .f32⟩
  | .local _ .vmem, ⟨18, _⟩ => ⟨S1024x1024, .f32⟩
  | .local _ .vmem, ⟨19, _⟩ => ⟨S16x1024, .bf16⟩
  | .local _ .vmem, ⟨20, _⟩ => ⟨S16x1024, .bf16⟩
  | .local _ .vmem, ⟨21, _⟩ => ⟨S32x2048, .bf16⟩
  | .local _ .vmem, ⟨22, _⟩ => ⟨S32x2048, .bf16⟩
  | .local _ .vmem, ⟨23, _⟩ => ⟨S32x5504, .bf16⟩
  | .local _ .vmem, ⟨24, _⟩ => ⟨S32x5504, .bf16⟩
  | .local _ .vmem, ⟨25, _⟩ => ⟨S32x5504, .bf16⟩
  | .local _ .vmem, ⟨26, _⟩ => ⟨S32x5504, .bf16⟩
  | .local _ .vmem, ⟨27, _⟩ => ⟨S128x2048, .bf16⟩
  | .local _ .vmem, ⟨28, _⟩ => ⟨S128x2048, .bf16⟩
  | .local _ .vmem, ⟨29, _⟩ => ⟨S1024x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2_0 : Ref sig .tc := ⟨.hbm, 10, rfl⟩
abbrev main_v2_1 : Ref sig .tc := ⟨.hbm, 11, rfl⟩
abbrev main_v2_2 : Ref sig .tc := ⟨.hbm, 12, rfl⟩
abbrev main_v2_3 : Ref sig .tc := ⟨.hbm, 13, rfl⟩
abbrev main_v2_4 : Ref sig .tc := ⟨.hbm, 14, rfl⟩
abbrev main_v2_5 : Ref sig .tc := ⟨.hbm, 15, rfl⟩
abbrev main_v2_6 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_stg14_0 : Ref sig .tc := ⟨.vmem, 27, rfl⟩
abbrev cc0_stg14_1 : Ref sig .tc := ⟨.vmem, 28, rfl⟩
abbrev cc0_scratch0 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27
abbrev cc0_sem14_1 : DmaSem sig := 28

abbrev nD : Nat := 1
abbrev τ : Topo := Topo.v7x

variable {F : FTy → Type} [FloatOps F]

abbrev grid0 : Pipeline.Grid := ⟨2, ![16, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let c3_i32 : BitVec 32 := 3#32
  let v4 : BitVec 1 := Scalar.cmpi .slt arg1 c3_i32
  let v5 : BitVec 1 := Scalar.andi v3 v4
  let v6 : BitVec 32 := Scalar.extui v5
  let c0_i32_2 : BitVec 32 := 0#32
  let v7 : BitVec 1 := Scalar.cmpi .ne v6 c0_i32_2
  v7

def k0_cond3 (i : grid0.Coords) : BitVec 1 :=
  let arg1 : BitVec 32 := BitVec.ofNat 32 (i 1).val
  let c3_i32_3 : BitVec 32 := 3#32
  let v8 : BitVec 1 := Scalar.cmpi .eq arg1 c3_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c63_i32 : BitVec 32 := 63#32
  let v2 : BitVec 32 := Scalar.minsi v1 c63_i32
  let c0_i32 : BitVec 32 := 0#32
  let c0_i32_0 : BitVec 32 := 0#32
  ![v2.toNat, c0_i32.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c63_i32 : BitVec 32 := 63#32
  let v2 : BitVec 32 := Scalar.minsi v1 c63_i32
  let c0_i32 : BitVec 32 := 0#32
  let c0_i32_0 : BitVec 32 := 0#32
  ![v2.toNat, c0_i32.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c63_i32 : BitVec 32 := 63#32
  let v2 : BitVec 32 := Scalar.minsi v1 c63_i32
  let c0_i32 : BitVec 32 := 0#32
  let c0_i32_0 : BitVec 32 := 0#32
  ![v2.toNat, c0_i32.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c63_i32 : BitVec 32 := 63#32
  let v2 : BitVec 32 := Scalar.minsi v1 c63_i32
  let c0_i32 : BitVec 32 := 0#32
  let c0_i32_0 : BitVec 32 := 0#32
  ![v2.toNat, c0_i32.toNat]

def cc0_transform_7 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c42_i32 : BitVec 32 := 42#32
  let v2 : BitVec 32 := Scalar.minsi v1 c42_i32
  let c0_i32 : BitVec 32 := 0#32
  let c0_i32_0 : BitVec 32 := 0#32
  ![v2.toNat, c0_i32.toNat]

def cc0_transform_8 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.minsi arg1 c2_i32
  let c0_i32 : BitVec 32 := 0#32
  ![arg0.toNat, v0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c63_i32 : BitVec 32 := 63#32
  let v2 : BitVec 32 := Scalar.minsi v1 c63_i32
  let c0_i32 : BitVec 32 := 0#32
  let c0_i32_0 : BitVec 32 := 0#32
  ![v2.toNat, c0_i32.toNat]

def cc0_transform_11 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c63_i32 : BitVec 32 := 63#32
  let v2 : BitVec 32 := Scalar.minsi v1 c63_i32
  let c0_i32 : BitVec 32 := 0#32
  let c0_i32_0 : BitVec 32 := 0#32
  ![v2.toNat, c0_i32.toNat]

def cc0_transform_12 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c63_i32 : BitVec 32 := 63#32
  let v2 : BitVec 32 := Scalar.minsi v1 c63_i32
  let c0_i32 : BitVec 32 := 0#32
  let c0_i32_0 : BitVec 32 := 0#32
  ![v2.toNat, c0_i32.toNat]

def cc0_transform_13 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c63_i32 : BitVec 32 := 63#32
  let v2 : BitVec 32 := Scalar.minsi v1 c63_i32
  let c0_i32 : BitVec 32 := 0#32
  let c0_i32_0 : BitVec 32 := 0#32
  ![v2.toNat, c0_i32.toNat]

def cc0_transform_14 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c42_i32 : BitVec 32 := 42#32
  let v2 : BitVec 32 := Scalar.minsi v1 c42_i32
  let c0_i32 : BitVec 32 := 0#32
  let c0_i32_0 : BitVec 32 := 0#32
  ![v2.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S16x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S32x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S32x5504 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S32x5504 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S16x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S32x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S32x5504 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S32x5504 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S128x2048 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== Reference4Ideal.lean ====
abbrev S16384x2048 : Shape := ⟨2, ![16384, 2048]⟩
abbrev S2048 : Shape := ⟨1, ![2048]⟩
abbrev S2048x4096 : Shape := ⟨2, ![2048, 4096]⟩
abbrev S1024x1024 : Shape := ⟨2, ![1024, 1024]⟩
abbrev S2048x2048 : Shape := ⟨2, ![2048, 2048]⟩
abbrev S2048x5504 : Shape := ⟨2, ![2048, 5504]⟩
abbrev S5504x2048 : Shape := ⟨2, ![5504, 2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S16384x4096 : Shape := ⟨2, ![16384, 4096]⟩
abbrev S16384x3072 : Shape := ⟨2, ![16384, 3072]⟩
abbrev S16384x1024 : Shape := ⟨2, ![16384, 1024]⟩

abbrev nBuf : Space → Nat
  | .hbm => 33
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x4096, .f32⟩
  | .hbm, ⟨3, _⟩ => ⟨S1024x1024, .f32⟩
  | .hbm, ⟨4, _⟩ => ⟨S2048x2048, .f32⟩
  | .hbm, ⟨5, _⟩ => ⟨S2048x5504, .f32⟩
  | .hbm, ⟨6, _⟩ => ⟨S2048x5504, .f32⟩
  | .hbm, ⟨7, _⟩ => ⟨S5504x2048, .f32⟩
  | .hbm, ⟨8, _⟩ => ⟨S16384x2048, .f32⟩
  | .hbm, ⟨9, _⟩ => ⟨S_, .f32⟩
  | .hbm, ⟨10, _⟩ => ⟨S16384, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S16384x1, .f32⟩
  | .hbm, ⟨19, _⟩ => ⟨S16384x2048, .f32⟩
  | .hbm, ⟨20, _⟩ => ⟨S16384x2048, .f32⟩
  | .hbm, ⟨21, _⟩ => ⟨S1x2048, .f32⟩
  | .hbm, ⟨22, _⟩ => ⟨S16384x2048, .f32⟩
  | .hbm, ⟨23, _⟩ => ⟨S16384x2048, .f32⟩
  | .hbm, ⟨24, _⟩ => ⟨S16384x4096, .f32⟩
  | .hbm, ⟨25, _⟩ => ⟨S16384x3072, .f32⟩
  | .hbm, ⟨26, _⟩ => ⟨S16384x3072, .bf16⟩
  | .hbm, ⟨27, _⟩ => ⟨S16384x1024, .f32⟩
  | .hbm, ⟨28, _⟩ => ⟨S1024x1024, .bf16⟩
  | .hbm, ⟨29, _⟩ => ⟨S2048x2048, .bf16⟩
  | .hbm, ⟨30, _⟩ => ⟨S2048x5504, .bf16⟩
  | .hbm, ⟨31, _⟩ => ⟨S2048x5504, .bf16⟩
  | .hbm, ⟨32, _⟩ => ⟨S5504x2048, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩

abbrev nD : Nat := 1
abbrev τ : Topo := Topo.v7x

variable {F : FTy → Type} [FloatOps F]
-- ==== Proof.Names.lean ====
/-
  The windows of the kernel's own transfers under one name each: row block `b` of `h` (`hB b`) and of the result
  (`oB b`), slot `s` of the accumulator (`accS s`), the two transfer semaphores (`inC s`, `outC s`); the equations
  that bring the printed slices to these names, and the offsets of the column chunks in closed form.
-/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import Idealize.ShloMosaic.Lib.Pipeline.KitQuiescent
public import Idealize.ShloMosaic.Lib.Ring
public import Idealize.ShloMosaic.Lib.Ring.WriteBehind
public import Idealize.ShloMosaic.Lib.Affine
public import Idealize.ShloMosaic.Lib.Tactic

@[expose] public section

noncomputable section

namespace Cert.Proof.Ffn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The names -/

abbrev hM : Memref sig .tc .hbm S16384x2048 .f32 := Memref.whole main_arg0
abbrev outM : Memref sig .tc .hbm S16384x2048 .f32 := Memref.whole main_v5
abbrev accM : Memref sig .tc .vmem S2x1024x2048 .f32 := Memref.whole cc0_scratch0
abbrev nM : Memref sig .tc .vmem S1024x2048 .bf16 := Memref.whole cc0_scratch1

abbrev rowOff (b : Fin 16) : Fin 2 → Nat := ![1024 * b.val, 0]
theorem rowOff_inb (b : Fin 16) : ∀ a, rowOff b a + S1024x2048.size a ≤ S16384x2048.size a := by
  have := b.isLt; intro a; fin_cases a
  · show 1024 * b.val + 1024 ≤ 16384; omega
  · show 0 + 2048 ≤ 2048; omega
abbrev slotOff (s : Fin 2) : Fin 3 → Nat := ![s.val, 0, 0]
theorem slotOff_inb (s : Fin 2) : ∀ a, slotOff s a + S1x1024x2048.size a ≤ S2x1024x2048.size a := by
  have := s.isLt; intro a; fin_cases a
  · show s.val + 1 ≤ 2; omega
  · show 0 + 1024 ≤ 1024; omega
  · show 0 + 2048 ≤ 2048; omega
abbrev semOff (s : Fin 2) : Fin 1 → Nat := ![s.val]
theorem semOff_inb (s : Fin 2) : ∀ a, semOff s a + S1.size a ≤ S2.size a := by
  have := s.isLt; intro a; fin_cases a; show s.val + 1 ≤ 2; omega

/-- Rows `1024 b …` of `h`. -/
def hB (b : Fin 16) : Memref sig .tc .hbm S1024x2048 .f32 :=
  hM.slice (Rect.unit (s := S16384x2048) (rowOff b) S1024x2048.size (rowOff_inb b)) (fun _ => rfl)
/-- Rows `1024 b …` of the result. -/
def oB (b : Fin 16) : Memref sig .tc .hbm S1024x2048 .f32 :=
  outM.slice (Rect.unit (s := S16384x2048) (rowOff b) S1024x2048.size (rowOff_inb b)) (fun _ => rfl)
/-- Slot `s` of the accumulator, as the body slices and squeezes it. -/
def accS (s : Fin 2) : Memref sig .tc .vmem S1024x2048 .f32 :=
  (accM.slice (Rect.unit (s := S2x1024x2048) (slotOff s) S1x1024x2048.size (slotOff_inb s)) (fun _ => rfl)).squeeze S1024x2048 squeezes_S1x1024x2048_S1024x2048
/-- The semaphore of the fetch into slot `s`. -/
def inC (s : Fin 2) : DmaSems sig S_ := (cc0_scratch2.slice (Rect.unit (s := S2) (semOff s) S1.size (semOff_inb s))).squeeze S_ squeezes_S1_S_
/-- The semaphore of the write-back out of slot `s`. -/
def outC (s : Fin 2) : DmaSems sig S_ := (cc0_scratch3.slice (Rect.unit (s := S2) (semOff s) S1.size (semOff_inb s))).squeeze S_ squeezes_S1_S_

instance (s : Fin 2) : ClosedOff (slotOff s) := ⟨slotOff s, rfl⟩
instance (b : Fin 16) : ClosedOff (rowOff b) := ⟨rowOff b, rfl⟩

/-- The slot of row block `k`. -/
abbrev sl (k : ℕ) : Fin 2 := Ring.sl 2 k
abbrev bk (k : ℕ) : Fin 16 := Ring.bk 16 k

/-! ## The offsets over the grid -/

theorem off1_eq : ∀ i : grid0.Coords, k0_cond1 i = 1#1 → k0_cond2 i = 1#1 → k0_off1 i = semOff (sl ((i 0).val + 1)) := by decide +kernel
theorem off2_eq : ∀ i : grid0.Coords, k0_cond1 i = 1#1 → k0_cond2 i = 1#1 → k0_off2 i = rowOff (bk ((i 0).val - 1)) := by decide +kernel
theorem off3_eq : ∀ i : grid0.Coords, k0_cond1 i = 1#1 → k0_cond2 i = 1#1 → k0_off3 i = slotOff (sl ((i 0).val + 1)) := by decide +kernel
theorem off4_eq : ∀ i : grid0.Coords, k0_cond1 i = 1#1 → k0_cond3 i = 1#1 → k0_off4 i = semOff (sl ((i 0).val + 1)) := by decide +kernel
theorem off5_eq : ∀ i : grid0.Coords, k0_cond1 i = 1#1 → k0_cond3 i = 1#1 → k0_off5 i = slotOff (sl ((i 0).val + 1)) := by decide +kernel
theorem off6_eq : ∀ i : grid0.Coords, k0_cond1 i = 1#1 → k0_cond3 i = 1#1 → k0_off6 i = rowOff (bk ((i 0).val + 1)) := by decide +kernel
theorem off7_eq : ∀ i : grid0.Coords, k0_off7 i = semOff (sl (i 0).val) := by decide +kernel
theorem off8_eq : ∀ i : grid0.Coords, k0_off8 i = slotOff (sl (i 0).val) := by decide +kernel
theorem off9_eq : ∀ i : grid0.Coords, k0_off9 i = rowOff (bk (i 0).val) := by decide +kernel
theorem off10_eq : ∀ i : grid0.Coords, k0_off10 i = ![(sl (i 0).val).val, 0, 0] := by decide +kernel
theorem off11_eq : ∀ i : grid0.Coords, k0_off11 i = ![(sl (i 0).val).val, 0, 0] := by decide +kernel
theorem off12_eq : ∀ i : grid0.Coords, k0_off12 i = ![(sl (i 0).val).val, 0, 512] := by decide +kernel
theorem off13_eq : ∀ i : grid0.Coords, k0_off13 i = ![(sl (i 0).val).val, 0, 1024] := by decide +kernel
theorem off14_eq : ∀ i : grid0.Coords, k0_off14 i = ![(sl (i 0).val).val, 0, 1536] := by decide +kernel
theorem off15_eq : ∀ i : grid0.Coords, k0_off15 i = ![(sl (i 0).val).val, 0, 0] := by decide +kernel
theorem off16_eq : ∀ i : grid0.Coords, k0_off16 i = ![(sl (i 0).val).val, 0, 512] := by decide +kernel
theorem off17_eq : ∀ i : grid0.Coords, k0_off17 i = ![(sl (i 0).val).val, 0, 1024] := by decide +kernel
theorem off18_eq : ∀ i : grid0.Coords, k0_off18 i = ![(sl (i 0).val).val, 0, 1536] := by decide +kernel
theorem off19_eq : ∀ i : grid0.Coords, k0_off19 i = ![(sl (i 0).val).val, 0, 0] := by decide +kernel
theorem off20_eq : ∀ i : grid0.Coords, k0_off20 i = ![(sl (i 0).val).val, 0, 512] := by decide +kernel
theorem off21_eq : ∀ i : grid0.Coords, k0_off21 i = ![(sl (i 0).val).val, 0, 1024] := by decide +kernel
theorem off22_eq : ∀ i : grid0.Coords, k0_off22 i = ![(sl (i 0).val).val, 0, 1536] := by decide +kernel
theorem off23_eq : ∀ i : grid0.Coords, k0_off23 i = ![(sl (i 0).val).val, 0, 0] := by decide +kernel
theorem off24_eq : ∀ i : grid0.Coords, k0_off24 i = semOff (sl (i 0).val) := by decide +kernel
theorem off25_eq : ∀ i : grid0.Coords, k0_off25 i = rowOff (bk (i 0).val) := by decide +kernel
theorem off26_eq : ∀ i : grid0.Coords, k0_off26 i = slotOff (sl (i 0).val) := by decide +kernel
theorem off27_eq : ∀ i : grid0.Coords, k0_off27 i = semOff (sl (i 0).val) := by decide +kernel
theorem off28_eq : ∀ i : grid0.Coords, k0_off28 i = rowOff (bk (i 0).val) := by decide +kernel
theorem off29_eq : ∀ i : grid0.Coords, k0_off29 i = slotOff (sl (i 0).val) := by decide +kernel

instance (i : grid0.Coords) : ClosedOff (k0_off10 i) := ⟨_, off10_eq i⟩
instance (i : grid0.Coords) : ClosedOff (k0_off11 i) := ⟨_, off11_eq i⟩
instance (i : grid0.Coords) : ClosedOff (k0_off12 i) := ⟨_, off12_eq i⟩
instance (i : grid0.Coords) : ClosedOff (k0_off13 i) := ⟨_, off13_eq i⟩
instance (i : grid0.Coords) : ClosedOff (k0_off14 i) := ⟨_, off14_eq i⟩
instance (i : grid0.Coords) : ClosedOff (k0_off15 i) := ⟨_, off15_eq i⟩
instance (i : grid0.Coords) : ClosedOff (k0_off16 i) := ⟨_, off16_eq i⟩
instance (i : grid0.Coords) : ClosedOff (k0_off17 i) := ⟨_, off17_eq i⟩
instance (i : grid0.Coords) : ClosedOff (k0_off18 i) := ⟨_, off18_eq i⟩
instance (i : grid0.Coords) : ClosedOff (k0_off19 i) := ⟨_, off19_eq i⟩
instance (i : grid0.Coords) : ClosedOff (k0_off20 i) := ⟨_, off20_eq i⟩
instance (i : grid0.Coords) : ClosedOff (k0_off21 i) := ⟨_, off21_eq i⟩
instance (i : grid0.Coords) : ClosedOff (k0_off22 i) := ⟨_, off22_eq i⟩
instance (i : grid0.Coords) : ClosedOff (k0_off23 i) := ⟨_, off23_eq i⟩

/-! ## The branches over the grid -/

theorem cond1_iff : ∀ i : grid0.Coords, k0_cond1 i = 1#1 ↔ (i 1).val = 1 := by decide +kernel
theorem cond2_iff : ∀ i : grid0.Coords, k0_cond2 i = 1#1 ↔ 1 ≤ (i 0).val := by decide +kernel
theorem cond3_iff : ∀ i : grid0.Coords, k0_cond3 i = 1#1 ↔ (i 0).val + 1 < 16 := by decide +kernel
theorem cond4_iff : ∀ i : grid0.Coords, k0_cond4 i = 1#1 ↔ (i 1).val = 0 := by decide +kernel
theorem cond6_iff : ∀ i : grid0.Coords, k0_cond6 i = 1#1 ↔ (0 < (i 1).val ∧ (i 1).val < 5) := by decide +kernel
theorem cond7_iff : ∀ i : grid0.Coords, k0_cond7 i = 1#1 ↔ (i 1).val = 5 := by decide +kernel
theorem cond8_iff : ∀ i : grid0.Coords, k0_cond8 i = 1#1 ↔ (i 0).val = 15 := by decide +kernel
theorem cond5_iff : ∀ i : grid0.Coords,
    Scalar.cmpi .ne (Scalar.extui (Scalar.cmpi .eq (BitVec.ofNat 32 (i 0).val) 0#32) : BitVec 32) 0#32 = 1#1 ↔ (i 0).val = 0 := by decide +kernel

/-! ## The canonical-name equations -/

theorem inC_congr {off : Fin 1 → Nat} {s : Fin 2} (e : off = semOff s) (hh) :
    (cc0_scratch2.slice (Rect.unit (s := S2) off S1.size hh)).squeeze S_ squeezes_S1_S_ = inC s :=
  congrArg (fun A : DmaSems sig S1 => A.squeeze S_ squeezes_S1_S_) (SemArray.slice_unit_congr _ e _ _)
theorem outC_congr {off : Fin 1 → Nat} {s : Fin 2} (e : off = semOff s) (hh) :
    (cc0_scratch3.slice (Rect.unit (s := S2) off S1.size hh)).squeeze S_ squeezes_S1_S_ = outC s :=
  congrArg (fun A : DmaSems sig S1 => A.squeeze S_ squeezes_S1_S_) (SemArray.slice_unit_congr _ e _ _)
theorem accS_congr {off : Fin 3 → Nat} {s : Fin 2} (e : off = slotOff s) (hh hs) :
    (accM.slice (Rect.unit (s := S2x1024x2048) off S1x1024x2048.size hh) hs).squeeze S1024x2048 squeezes_S1x1024x2048_S1024x2048 = accS s :=
  congrArg (fun M : Memref sig .tc .vmem S1x1024x2048 .f32 => M.squeeze S1024x2048 squeezes_S1x1024x2048_S1024x2048) (Memref.slice_unit_congr _ e _ _ _ _)
theorem hB_congr {off : Fin 2 → Nat} {b : Fin 16} (e : off = rowOff b) (hh hs) :
    hM.slice (Rect.unit (s := S16384x2048) off S1024x2048.size hh) hs = hB b := Memref.slice_unit_congr _ e _ _ _ (fun _ => rfl)
theorem oB_congr {off : Fin 2 → Nat} {b : Fin 16} (e : off = rowOff b) (hh hs) :
    outM.slice (Rect.unit (s := S16384x2048) off S1024x2048.size hh) hs = oB b := Memref.slice_unit_congr _ e _ _ _ (fun _ => rfl)

section Canon
variable (i : grid0.Coords)

@[sl_canon] theorem c_off1 (h1 : k0_cond1 i = 1#1) (h2 : k0_cond2 i = 1#1) (hh) :
    (cc0_scratch3.slice (Rect.unit (s := S2) (k0_off1 i) S1.size hh)).squeeze S_ squeezes_S1_S_ = outC (sl ((i 0).val + 1)) := outC_congr (off1_eq i h1 h2) _
@[sl_canon] theorem c_off2 (h1 : k0_cond1 i = 1#1) (h2 : k0_cond2 i = 1#1) (hh hs) :
    outM.slice (Rect.unit (s := S16384x2048) (k0_off2 i) S1024x2048.size hh) hs = oB (bk ((i 0).val - 1)) := oB_congr (off2_eq i h1 h2) _ _
@[sl_canon] theorem c_off3 (h1 : k0_cond1 i = 1#1) (h2 : k0_cond2 i = 1#1) (hh hs) :
    (accM.slice (Rect.unit (s := S2x1024x2048) (k0_off3 i) S1x1024x2048.size hh) hs).squeeze S1024x2048 squeezes_S1x1024x2048_S1024x2048 = accS (sl ((i 0).val + 1)) :=
  accS_congr (off3_eq i h1 h2) _ _
@[sl_canon] theorem c_off4 (h1 : k0_cond1 i = 1#1) (h3 : k0_cond3 i = 1#1) (hh) :
    (cc0_scratch2.slice (Rect.unit (s := S2) (k0_off4 i) S1.size hh)).squeeze S_ squeezes_S1_S_ = inC (sl ((i 0).val + 1)) := inC_congr (off4_eq i h1 h3) _
@[sl_canon] theorem c_off5 (h1 : k0_cond1 i = 1#1) (h3 : k0_cond3 i = 1#1) (hh hs) :
    (accM.slice (Rect.unit (s := S2x1024x2048) (k0_off5 i) S1x1024x2048.size hh) hs).squeeze S1024x2048 squeezes_S1x1024x2048_S1024x2048 = accS (sl ((i 0).val + 1)) :=
  accS_congr (off5_eq i h1 h3) _ _
@[sl_canon] theorem c_off6 (h1 : k0_cond1 i = 1#1) (h3 : k0_cond3 i = 1#1) (hh hs) :
    hM.slice (Rect.unit (s := S16384x2048) (k0_off6 i) S1024x2048.size hh) hs = hB (bk ((i 0).val + 1)) := hB_congr (off6_eq i h1 h3) _ _
@[sl_canon] theorem c_off7 (hh) :
    (cc0_scratch2.slice (Rect.unit (s := S2) (k0_off7 i) S1.size hh)).squeeze S_ squeezes_S1_S_ = inC (sl (i 0).val) := inC_congr (off7_eq i) _
@[sl_canon] theorem c_off8 (hh hs) :
    (accM.slice (Rect.unit (s := S2x1024x2048) (k0_off8 i) S1x1024x2048.size hh) hs).squeeze S1024x2048 squeezes_S1x1024x2048_S1024x2048 = accS (sl (i 0).val) :=
  accS_congr (off8_eq i) _ _
@[sl_canon] theorem c_off9 (hh hs) :
    hM.slice (Rect.unit (s := S16384x2048) (k0_off9 i) S1024x2048.size hh) hs = hB (bk (i 0).val) := hB_congr (off9_eq i) _ _
@[sl_canon] theorem c_off24 (hh) :
    (cc0_scratch3.slice (Rect.unit (s := S2) (k0_off24 i) S1.size hh)).squeeze S_ squeezes_S1_S_ = outC (sl (i 0).val) := outC_congr (off24_eq i) _
@[sl_canon] theorem c_off25 (hh hs) :
    outM.slice (Rect.unit (s := S16384x2048) (k0_off25 i) S1024x2048.size hh) hs = oB (bk (i 0).val) := oB_congr (off25_eq i) _ _
@[sl_canon] theorem c_off26 (hh hs) :
    (accM.slice (Rect.unit (s := S2x1024x2048) (k0_off26 i) S1x1024x2048.size hh) hs).squeeze S1024x2048 squeezes_S1x1024x2048_S1024x2048 = accS (sl (i 0).val) :=
  accS_congr (off26_eq i) _ _
@[sl_canon] theorem c_off27 (hh) :
    (cc0_scratch3.slice (Rect.unit (s := S2) (k0_off27 i) S1.size hh)).squeeze S_ squeezes_S1_S_ = outC (sl (i 0).val) := outC_congr (off27_eq i) _
@[sl_canon] theorem c_off28 (hh hs) :
    outM.slice (Rect.unit (s := S16384x2048) (k0_off28 i) S1024x2048.size hh) hs = oB (bk (i 0).val) := oB_congr (off28_eq i) _ _
@[sl_canon] theorem c_off29 (hh hs) :
    (accM.slice (Rect.unit (s := S2x1024x2048) (k0_off29 i) S1x1024x2048.size hh) hs).squeeze S1024x2048 squeezes_S1x1024x2048_S1024x2048 = accS (sl (i 0).val) :=
  accS_congr (off29_eq i) _ _

/-- The first point's own fetch: slot 0, its semaphore, rows 0. -/
@[sl_canon] theorem c_lit1 (h0 : (i 0).val = 0) (hh) :
    (cc0_scratch2.slice (Rect.unit (s := S2) ![0] S1.size hh)).squeeze S_ squeezes_S1_S_ = inC (sl (i 0).val) := inC_congr (by rw [h0]; decide) _
@[sl_canon] theorem c_lit2 (h0 : (i 0).val = 0) (hh hs) :
    (accM.slice (Rect.unit (s := S2x1024x2048) ![0, 0, 0] S1x1024x2048.size hh) hs).squeeze S1024x2048 squeezes_S1x1024x2048_S1024x2048 = accS (sl (i 0).val) :=
  accS_congr (by rw [h0]; decide) _ _
@[sl_canon] theorem c_lit3 (h0 : (i 0).val = 0) (hh hs) :
    hM.slice (Rect.unit (s := S16384x2048) ![0, 0] S1024x2048.size hh) hs = hB (bk (i 0).val) := hB_congr (by rw [h0]; decide) _ _

end Canon

/-! ## The sets of the windows -/

theorem set_hB (b : Fin 16) : (hB b).view.set = (Rect.unit (s := S16384x2048) (rowOff b) S1024x2048.size (rowOff_inb b)).set := View.set_slice_whole _ _
theorem set_oB (b : Fin 16) : (oB b).view.set = (Rect.unit (s := S16384x2048) (rowOff b) S1024x2048.size (rowOff_inb b)).set := View.set_slice_whole _ _
theorem set_accS (s : Fin 2) : (accS s).view.set = (Rect.unit (s := S2x1024x2048) (slotOff s) S1x1024x2048.size (slotOff_inb s)).set :=
  (View.set_reshape _ _).trans (View.set_slice_whole _ _)

theorem rows_disjoint (b b' : Fin 16) (h : b ≠ b') :
    Disjoint (Rect.unit (s := S16384x2048) (rowOff b) S1024x2048.size (rowOff_inb b)).set (Rect.unit (s := S16384x2048) (rowOff b') S1024x2048.size (rowOff_inb b')).set := by
  rw [Finset.disjoint_left]; intro x hx hx'
  rw [Rect.mem_set_unit] at hx hx'
  have h0 : 1024 * b.val ≤ (x 0).val ∧ (x 0).val < 1024 * b.val + 1024 := hx 0
  have h0' : 1024 * b'.val ≤ (x 0).val ∧ (x 0).val < 1024 * b'.val + 1024 := hx' 0
  exact h (Fin.ext (by omega))
theorem rows_cover : (Finset.univ : Finset (Fin 16)).biUnion (fun b => (Rect.unit (s := S16384x2048) (rowOff b) S1024x2048.size (rowOff_inb b)).set) = Finset.univ := by
  ext x; simp only [Finset.mem_biUnion, Finset.mem_univ, true_and, iff_true]
  have hx0 : (x 0).val < 16384 := (x 0).isLt
  have hx1 : (x 1).val < 2048 := (x 1).isLt
  refine ⟨⟨(x 0).val / 1024, by omega⟩, ?_⟩
  rw [Rect.mem_set_unit]; intro a; fin_cases a
  · show 1024 * ((x 0).val / 1024) ≤ (x 0).val ∧ (x 0).val < 1024 * ((x 0).val / 1024) + 1024; omega
  · show 0 ≤ (x 1).val ∧ (x 1).val < 0 + 2048; omega
theorem slots_disjoint (b b' : Fin 2) (h : b ≠ b') :
    Disjoint (Rect.unit (s := S2x1024x2048) (slotOff b) S1x1024x2048.size (slotOff_inb b)).set (Rect.unit (s := S2x1024x2048) (slotOff b') S1x1024x2048.size (slotOff_inb b')).set := by
  rw [Finset.disjoint_left]; intro x hx hx'
  rw [Rect.mem_set_unit] at hx hx'
  have h0 : b.val ≤ (x 0).val ∧ (x 0).val < b.val + 1 := hx 0
  have h0' : b'.val ≤ (x 0).val ∧ (x 0).val < b'.val + 1 := hx' 0
  exact h (Fin.ext (by omega))
theorem slots_cover : (Finset.univ : Finset (Fin 2)).biUnion (fun b => (Rect.unit (s := S2x1024x2048) (slotOff b) S1x1024x2048.size (slotOff_inb b)).set) = Finset.univ := by
  ext x; simp only [Finset.mem_biUnion, Finset.mem_univ, true_and, iff_true]
  have hx0 : (x 0).val < 2 := (x 0).isLt
  have hx1 : (x 1).val < 1024 := (x 1).isLt
  have hx2 : (x 2).val < 2048 := (x 2).isLt
  refine ⟨⟨(x 0).val, hx0⟩, ?_⟩
  rw [Rect.mem_set_unit]; intro a; fin_cases a
  · show (x 0).val ≤ (x 0).val ∧ (x 0).val < (x 0).val + 1; omega
  · show 0 ≤ (x 1).val ∧ (x 1).val < 0 + 1024; omega
  · show 0 ≤ (x 2).val ∧ (x 2).val < 0 + 2048; omega

end Cert.Proof.Ffn
-- ==== Proof.Pieces.lean ====
/-
  What the body holds at a grid point: the staged blocks, a slot of the accumulator, a row block of `h` and of the
  result, the two kinds of transfer in flight (a fetch into a slot, a write-back out of one).
-/
module

public import proofs.«01_k».proof.Proof.Names

@[expose] public section

noncomputable section

namespace Cert.Proof.Ffn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (Pipeline.UD sig nD τ) ℕ

variable (c : Dev nD)

/-- A buffer's window held whole at `f`. -/
abbrev at_ {sp : Space} {S : Shape} {e : EltTy} (M : Memref sig .tc sp S e) (f : Buf (Elt F) (M.view.loc (c : Thread nD τ))) : sProp 𝕄 :=
  M.view.loc (c : Thread nD τ) ↦[M.view.set]{fullShare} f
/-- The window held at contents that read as `x`. -/
abbrev rd {sp : Space} {S : Shape} {e : EltTy} (M : Memref sig .tc sp S e) (x : S.Idx → Elt F e) : sProp 𝕄 :=
  at_ c M (M.view.rep x)
abbrev cellI (s : Fin 2) : sProp 𝕄 := semVal ((c : Thread nD τ), SemLoc.dma (inC s).sem) 0
abbrev cellO (s : Fin 2) : sProp 𝕄 := semVal ((c : Thread nD τ), SemLoc.dma (outC s).sem) 0

/-- Slot `s` with the words `x` written over it. -/
abbrev landedI (s : Fin 2) (x : S1024x2048.Idx → Elt F .f32) (f : Buf (Elt F) ((accS s).view.loc (c : Thread nD τ))) : Buf (Elt F) ((accS s).view.loc (c : Thread nD τ)) :=
  (accS s).view.writes (Elt F) f [⟨Rect.whole S1024x2048, x⟩]
/-- Row block `b` of the result with the words `x` written over it. -/
abbrev landedO (b : Fin 16) (x : S1024x2048.Idx → Elt F .f32) (f : Buf (Elt F) ((oB b).view.loc (c : Thread nD τ))) : Buf (Elt F) ((oB b).view.loc (c : Thread nD τ)) :=
  (oB b).view.writes (Elt F) f [⟨Rect.whole S1024x2048, x⟩]
theorem read_landedI (s : Fin 2) (x : S1024x2048.Idx → Elt F .f32) (f) : (accS s).view.read (Elt F) (landedI c s (ReadAs.same.apply x) f) = x := by
  rw [View.read_writes_whole]
theorem read_landedO (b : Fin 16) (x : S1024x2048.Idx → Elt F .f32) (f) : (oB b).view.read (Elt F) (landedO c b (ReadAs.same.apply x) f) = x := by
  rw [View.read_writes_whole]

/-- Row block `b` of `h`. -/
abbrev hIs (XH : Buf (Elt F) (hM.view.loc (c : Thread nD τ))) (b : Fin 16) : sProp 𝕄 := at_ c (hB b) XH
/-- Row block `b` of `h` on its way into slot `s`. -/
abbrev fetchP (XH : Buf (Elt F) (hM.view.loc (c : Thread nD τ))) (s : Fin 2) (b : Fin 16) (f : Buf (Elt F) ((accS s).view.loc (c : Thread nD τ))) : sProp 𝕄 :=
  Transfers.Flight countersEmb (c : Thread nD τ) (SemLoc.dma (inC s).sem) () 262144
    iprop(at_ c (accS s) (landedI c s (ReadAs.same.apply ((hB b).view.read (Elt F) XH)) f) ∗ at_ c (hB b) XH)
/-- Slot `s`, at `g`, on its way out to row block `b` of the result. -/
abbrev backP (s : Fin 2) (b : Fin 16) (g : Buf (Elt F) ((accS s).view.loc (c : Thread nD τ)))
    (f : Buf (Elt F) ((oB b).view.loc (c : Thread nD τ))) : sProp 𝕄 :=
  Transfers.Flight countersEmb (c : Thread nD τ) (SemLoc.dma (outC s).sem) () 262144
    iprop(at_ c (oB b) (landedO c b (ReadAs.same.apply ((accS s).view.read (Elt F) g)) f) ∗ at_ c (accS s) g)

/-- Slot `s` holds the row block `x`. -/
abbrev slotIs (s : Fin 2) (x : S1024x2048.Idx → Elt F .f32) : sProp 𝕄 :=
  iprop(∃ f : Buf (Elt F) ((accS s).view.loc (c : Thread nD τ)), ⌜(accS s).view.read (Elt F) f = x⌝ ∗ at_ c (accS s) f)
/-- Slot `s` at some contents. -/
abbrev slotAny (s : Fin 2) : sProp 𝕄 := iprop(∃ f : Buf (Elt F) ((accS s).view.loc (c : Thread nD τ)), at_ c (accS s) f)
/-- Row block `b` of the result holds `x`. -/
abbrev outIs (b : Fin 16) (x : S1024x2048.Idx → Elt F .f32) : sProp 𝕄 :=
  iprop(∃ f : Buf (Elt F) ((oB b).view.loc (c : Thread nD τ)), ⌜(oB b).view.read (Elt F) f = x⌝ ∗ at_ c (oB b) f)
/-- Row block `b` of the result at some contents. -/
abbrev outAny (b : Fin 16) : sProp 𝕄 := iprop(∃ f : Buf (Elt F) ((oB b).view.loc (c : Thread nD τ)), at_ c (oB b) f)
/-- A fetch in flight, over some contents. -/
abbrev fetching (XH : Buf (Elt F) (hM.view.loc (c : Thread nD τ))) (s : Fin 2) (b : Fin 16) : sProp 𝕄 :=
  iprop(∃ f : Buf (Elt F) ((accS s).view.loc (c : Thread nD τ)), fetchP c XH s b f)
/-- A write-back of `x` in flight. -/
abbrev backing (s : Fin 2) (b : Fin 16) (x : S1024x2048.Idx → Elt F .f32) : sProp 𝕄 :=
  iprop(∃ g : Buf (Elt F) ((accS s).view.loc (c : Thread nD τ)), ∃ f : Buf (Elt F) ((oB b).view.loc (c : Thread nD τ)),
    ⌜(accS s).view.read (Elt F) g = x⌝ ∗ backP c s b g f)

end Cert.Proof.Ffn
-- ==== Proof.Values.lean ====
/-
  What a slot of the accumulator reads as after the column chunks of one hidden block are added to it, and after a
  whole-slot store.
-/
module

public import proofs.«01_k».proof.Proof.Pieces
public import Idealize.ShloMosaic.Lib.VecWindow
public import Idealize.ShloMosaic.Lib.ValueLayout

@[expose] public section

noncomputable section

namespace Cert.Proof.Ffn

open Cert.KernelIdeal Cert.KernelIdeal.Gen
open Idealize.ShloMosaic
open Idealize.ShloMosaic.ValueIdx

variable {F : FTy → Type} [FloatOps F]

/-- Slot `s` of the accumulator, read as a row block. -/
abbrev sv (s : Fin 2) (f : accM.view.ty.Contents (Elt F)) : S1024x2048.Idx → Elt F .f32 := (accS s).view.read (Elt F) f

theorem sv_apply (s : Fin 2) (f : accM.view.ty.Contents (Elt F)) (p : Fin 1024) (q : Fin 2048) :
    sv s f (ix2 p q) = f (ix3 s p q) := by
  show shapeCast S1024x2048 (accM.view.readAt (Elt F) (Rect.unit (s := S2x1024x2048) (slotOff s) S1x1024x2048.size (slotOff_inb s)).toLoadRect f)
    shapeCasts_S1x1024x2048_S1024x2048 (ix2 p q) = _
  rw [shapeCast_1ab_ab_apply]
  show f _ = f _
  refine congrArg f (funext fun a => ?_)
  fin_cases a <;> refine Fin.ext ?_
  · show s.val + 1 * 0 = s.val; omega
  · show 0 + 1 * p.val = p.val; omega
  · show 0 + 1 * q.val = q.val; omega

/-- The columns `512 k …` of a row block, as the chunk the body loads. -/
def chunkOf (k : Fin 4) (x : S1024x2048.Idx → Elt F .f32) : S1x1024x512.Idx → Elt F .f32 :=
  fun y => x (ix2 (y 1 : Fin 1024) (⟨512 * k.val + (y 2).val, by have := k.isLt; have h : (y 2).val < 512 := (y 2).isLt; omega⟩ : Fin 2048))

/-- The columns `512 k …` of a weight block. -/
def wdChunk (k : Fin 4) (d : S512x2048.Idx → Elt F .bf16) : S512x512.Idx → Elt F .bf16 :=
  fun y => d (ix2 (y 0 : Fin 512) (⟨512 * k.val + (y 1).val, by have := k.isLt; have h : (y 1).val < 512 := (y 1).isLt; omega⟩ : Fin 2048))

/-- A row block with its columns `512 k …` replaced by the chunk `v`. -/
def putChunk (k : Fin 4) (v : S1x1024x512.Idx → Elt F .f32) (x : S1024x2048.Idx → Elt F .f32) : S1024x2048.Idx → Elt F .f32 :=
  fun p => if (p 1).val / 512 = k.val
    then v (ix3 (0 : Fin 1) (p 0 : Fin 1024) (⟨(p 1).val % 512, Nat.mod_lt _ (by decide)⟩ : Fin 512)) else x p

theorem read_chunk (s : Fin 2) (k : Fin 4) (f : accM.view.ty.Contents (Elt F)) {off : Fin 3 → ℕ} (e : off = ![s.val, 0, 512 * k.val])
    (hh : ∀ a, off a + S1x1024x512.size a ≤ S2x1024x2048.size a) :
    accM.view.readAt (Elt F) (Rect.unit (s := S2x1024x2048) off S1x1024x512.size hh).toLoadRect f = chunkOf k (sv s f) := by
  subst e
  funext y
  refine Eq.trans ?_ (sv_apply s f _ _).symm
  show f _ = f _
  refine congrArg f (funext fun a => ?_)
  have h0 : (y 0).val < 1 := (y 0).isLt
  fin_cases a <;> refine Fin.ext ?_
  · show s.val + 1 * (y 0).val = s.val; omega
  · show 0 + 1 * (y 1).val = (y 1).val; omega
  · show 512 * k.val + 1 * (y 2).val = 512 * k.val + (y 2).val; omega

theorem write_chunk (s : Fin 2) (k : Fin 4) (f : accM.view.ty.Contents (Elt F)) {off : Fin 3 → ℕ} (e : off = ![s.val, 0, 512 * k.val])
    (hh : ∀ a, off a + S1x1024x512.size a ≤ S2x1024x2048.size a) (v : S1x1024x512.Idx → Elt F .f32) :
    sv s (View.write (Elt F) (accM.access (Rect.unit (s := S2x1024x2048) off S1x1024x512.size hh)) f v Finset.univ) = putChunk k v (sv s f) := by
  subst e
  funext j
  obtain ⟨p, q, rfl⟩ : ∃ (p : Fin 1024) (q : Fin 2048), j = ix2 p q := ⟨j 0, j 1, eq_ix2 j⟩
  unfold putChunk
  rw [sv_apply]
  have hq : q.val < 2048 := q.isLt
  by_cases hk : q.val / 512 = k.val
  · rw [if_pos hk]
    have hx : (ix3 s p q : S2x1024x2048.Idx) = (accM.access (Rect.unit (s := S2x1024x2048) ![s.val, 0, 512 * k.val] S1x1024x512.size hh)).emb
        (ix3 (0 : Fin 1) p (⟨q.val % 512, Nat.mod_lt _ (by decide)⟩ : Fin 512)) := by
      funext a
      fin_cases a <;> refine Fin.ext ?_
      · show s.val = s.val + 1 * 0; omega
      · show p.val = 0 + 1 * p.val; omega
      · show q.val = 512 * k.val + 1 * (q.val % 512); omega
    rw [hx]
    exact View.write_emb_of_mem _ _ (Finset.mem_univ _)
  · rw [if_neg hk, sv_apply]
    refine View.write_of_not_mem _ _ _ fun hm => hk ?_
    obtain ⟨x, -, hx⟩ := Finset.mem_map.mp hm
    have h2 : 512 * k.val + 1 * (x 2).val = q.val := congrArg (fun z : S2x1024x2048.Idx => (z 2).val) hx
    have hx2 : (x 2).val < 512 := (x 2).isLt
    show q.val / 512 = k.val
    omega

theorem read_wd (k : Fin 4) {M : Memref sig .tc .vmem S512x2048 .bf16} (d : S512x2048.Idx → Elt F .bf16) {off : Fin 2 → ℕ} (e : off = ![0, 512 * k.val])
    (hh : ∀ a, off a + S512x512.size a ≤ S512x2048.size a) :
    M.view.readAt (Elt F) (Rect.unit (s := S512x2048) off S512x512.size hh).toLoadRect (M.view.rep d) = wdChunk k d := by
  subst e
  rw [View.readAt_rep_unit M.view d hh rfl hh]
  funext y
  show d _ = d _
  refine congrArg d (funext fun a => ?_)
  fin_cases a <;> refine Fin.ext ?_
  · show 0 + 1 * (y 0).val = (y 0).val; omega
  · show 512 * k.val + 1 * (y 1).val = 512 * k.val + (y 1).val; omega

/-- A whole slot loaded. -/
def slotOf (x : S1024x2048.Idx → Elt F .f32) : S1x1024x2048.Idx → Elt F .f32 := fun y => x (ix2 (y 1 : Fin 1024) (y 2 : Fin 2048))

theorem read_slot (s : Fin 2) (f : accM.view.ty.Contents (Elt F)) {off : Fin 3 → ℕ} (e : off = ![s.val, 0, 0])
    (hh : ∀ a, off a + S1x1024x2048.size a ≤ S2x1024x2048.size a) :
    accM.view.readAt (Elt F) (Rect.unit (s := S2x1024x2048) off S1x1024x2048.size hh).toLoadRect f = slotOf (sv s f) := by
  subst e
  funext y
  refine Eq.trans ?_ (sv_apply s f _ _).symm
  show f _ = f _
  refine congrArg f (funext fun a => ?_)
  have h0 : (y 0).val < 1 := (y 0).isLt
  fin_cases a <;> refine Fin.ext ?_
  · show s.val + 1 * (y 0).val = s.val; omega
  · show 0 + 1 * (y 1).val = (y 1).val; omega
  · show 0 + 1 * (y 2).val = (y 2).val; omega

theorem write_slot (s : Fin 2) (f : accM.view.ty.Contents (Elt F)) {off : Fin 3 → ℕ} (e : off = ![s.val, 0, 0])
    (hh : ∀ a, off a + S1x1024x2048.size a ≤ S2x1024x2048.size a) (v : S1x1024x2048.Idx → Elt F .f32) :
    sv s (View.write (Elt F) (accM.access (Rect.unit (s := S2x1024x2048) off S1x1024x2048.size hh)) f v Finset.univ)
      = fun j => v (ix3 (0 : Fin 1) (j 0 : Fin 1024) (j 1 : Fin 2048)) := by
  subst e
  funext j
  obtain ⟨p, q, rfl⟩ : ∃ (p : Fin 1024) (q : Fin 2048), j = ix2 p q := ⟨j 0, j 1, eq_ix2 j⟩
  rw [sv_apply]
  have hx : (ix3 s p q : S2x1024x2048.Idx) = (accM.access (Rect.unit (s := S2x1024x2048) ![s.val, 0, 0] S1x1024x2048.size hh)).emb (ix3 (0 : Fin 1) p q) := by
    funext a
    fin_cases a <;> refine Fin.ext ?_
    · show s.val = s.val + 1 * 0; omega
    · show p.val = 0 + 1 * p.val; omega
    · show q.val = 0 + 1 * q.val; omega
  rw [hx]
  exact View.write_emb_of_mem _ _ (Finset.mem_univ _)

/-- Column chunk `k` of one hidden block added to a row block. -/
def addChunk (k : Fin 4) (act : S1024x512.Idx → Elt F .bf16) (d : S512x2048.Idx → Elt F .bf16) (x : S1024x2048.Idx → Elt F .f32) :
    S1024x2048.Idx → Elt F .f32 :=
  putChunk k (k0_pay1 act (chunkOf k x) (wdChunk k d)) x

/-- One hidden block's four column chunks added to a row block, in the body's order. -/
def accStep (act : S1024x512.Idx → Elt F .bf16) (d : S512x2048.Idx → Elt F .bf16) (x : S1024x2048.Idx → Elt F .f32) : S1024x2048.Idx → Elt F .f32 :=
  addChunk 3 act d (addChunk 2 act d (addChunk 1 act d (addChunk 0 act d x)))

/-- The normalised rows of a row block, rounded, as the body keeps them. -/
def normed (g : S1x2048.Idx → Elt F .f32) (x : S1024x2048.Idx → Elt F .f32) : S1024x2048.Idx → Elt F .bf16 := k0_pay3 (slotOf x) g

/-- A row block after its first step. -/
def firstStep (g : S1x2048.Idx → Elt F .f32) (a : S2048x512.Idx → Elt F .bf16) (b : S2048x512.Idx → Elt F .bf16) (d : S512x2048.Idx → Elt F .bf16)
    (a' : S2048x512.Idx → Elt F .bf16) (b' : S2048x512.Idx → Elt F .bf16) (d' : S512x2048.Idx → Elt F .bf16) (x : S1024x2048.Idx → Elt F .f32) :
    S1024x2048.Idx → Elt F .f32 :=
  accStep (k0_pay18 (normed g x) a' b') d' (accStep (k0_pay18 (normed g x) a b) d x)

/-- The normalised row block, as the body stores it over the slot. -/
def finish (g : S1x2048.Idx → Elt F .f32) (x : S1024x2048.Idx → Elt F .f32) : S1024x2048.Idx → Elt F .f32 :=
  fun j => k0_pay2 (k0_pay33 (slotOf x)) (k0_pay34 g) (k0_pay35 (slotOf x)) k0_pay36 (ix3 (0 : Fin 1) (j 0 : Fin 1024) (j 1 : Fin 2048))

theorem chunk_step (s : Fin 2) (k : Fin 4) (M : Memref sig .tc .vmem S512x2048 .bf16) (d : S512x2048.Idx → Elt F .bf16)
    (act : S1024x512.Idx → Elt F .bf16) (x : S1024x2048.Idx → Elt F .f32)
    {off : Fin 3 → ℕ} (e : off = ![s.val, 0, 512 * k.val]) (hh : ∀ a, off a + S1x1024x512.size a ≤ S2x1024x2048.size a)
    {off' : Fin 3 → ℕ} (e' : off' = ![s.val, 0, 512 * k.val]) (hh' : ∀ a, off' a + S1x1024x512.size a ≤ S2x1024x2048.size a)
    (hw : ∀ a, (![0, 512 * k.val] : Fin 2 → ℕ) a + S512x512.size a ≤ S512x2048.size a)
    (f : accM.view.ty.Contents (Elt F)) (hf : sv s f = x) :
    sv s (View.write (Elt F) (accM.access (Rect.unit (s := S2x1024x2048) off S1x1024x512.size hh)) f
      (k0_pay1 act (accM.view.readAt (Elt F) (Rect.unit (s := S2x1024x2048) off' S1x1024x512.size hh').toLoadRect f)
        (M.view.readAt (Elt F) (Rect.unit (s := S512x2048) ![0, 512 * k.val] S512x512.size hw).toLoadRect (M.view.rep d))) Finset.univ) = addChunk k act d x := by
  rw [write_chunk s k f e hh, read_chunk s k f e' hh', read_wd k d rfl hw, hf]
  rfl

theorem slot_step (s : Fin 2) (g : S1x2048.Idx → Elt F .f32) (x : S1024x2048.Idx → Elt F .f32)
    {off : Fin 3 → ℕ} (e : off = ![s.val, 0, 0]) (hh : ∀ a, off a + S1x1024x2048.size a ≤ S2x1024x2048.size a)
    {off' : Fin 3 → ℕ} (e' : off' = ![s.val, 0, 0]) (hh' : ∀ a, off' a + S1x1024x2048.size a ≤ S2x1024x2048.size a)
    (f : accM.view.ty.Contents (Elt F)) (hf : sv s f = x) :
    sv s (View.write (Elt F) (accM.access (Rect.unit (s := S2x1024x2048) off S1x1024x2048.size hh)) f
      (k0_pay2 (k0_pay33 (accM.view.readAt (Elt F) (Rect.unit (s := S2x1024x2048) off' S1x1024x2048.size hh').toLoadRect f)) (k0_pay34 g)
        (k0_pay35 (accM.view.readAt (Elt F) (Rect.unit (s := S2x1024x2048) off' S1x1024x2048.size hh').toLoadRect f)) k0_pay36) Finset.univ) = finish g x := by
  rw [write_slot s f e hh, read_slot s f e' hh', hf]
  rfl

end Cert.Proof.Ffn
-- ==== Proof.RunFirst.lean ====
/-
  The body at the first step of a row block: its fetch is waited for (and, at the first of all, started), the normalised
  rows are stored, and the step's own sums are added to the row block.
-/
module

public import proofs.«01_k».proof.Proof.Values
public import Idealize.ShloMosaic.Lib.Pipeline.Value

@[expose] public section

noncomputable section

namespace Cert.Proof.Ffn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (Pipeline.UD sig nD τ) ℕ

variable (c : Dev nD)
  (arg3 : Memref sig .tc .vmem S1x2048 .f32) (harg3 : arg3.IsWhole)
  (arg4 : Memref sig .tc .vmem S2048x512 .bf16) (harg4 : arg4.IsWhole)
  (arg5 : Memref sig .tc .vmem S2048x512 .bf16) (harg5 : arg5.IsWhole)
  (arg6 : Memref sig .tc .vmem S512x2048 .bf16) (harg6 : arg6.IsWhole)
  (arg7 : Memref sig .tc .vmem S2048x512 .bf16) (harg7 : arg7.IsWhole)
  (arg8 : Memref sig .tc .vmem S2048x512 .bf16) (harg8 : arg8.IsWhole)
  (arg9 : Memref sig .tc .vmem S512x2048 .bf16) (harg9 : arg9.IsWhole)
  (arg10 : Memref sig .tc .vmem S1x2048 .f32) (harg10 : arg10.IsWhole)

set_option backward.proofsInPublic true in
theorem firstRun (i : grid0.Coords) (hj : (i 1).val = 0) (hi0 : 1 ≤ (i 0).val)
    (a : S2048x512.Idx → Elt F .bf16) (b : S2048x512.Idx → Elt F .bf16) (d : S512x2048.Idx → Elt F .bf16)
    (a' : S2048x512.Idx → Elt F .bf16) (b' : S2048x512.Idx → Elt F .bf16) (d' : S512x2048.Idx → Elt F .bf16)
    (g : S1x2048.Idx → Elt F .f32) (XH : Buf (Elt F) (hM.view.loc (c : Thread nD τ))) (fn : Buf (Elt F) (nM.view.loc (c : Thread nD τ)))
    (W : Waits sig Unit) (Q : PUnit → sProp 𝕄) :
    iprop((rd c arg4 a ∗ rd c arg5 b ∗ rd c arg6 d ∗ rd c arg7 a' ∗ rd c arg8 b' ∗ rd c arg9 d' ∗ rd c arg3 g ∗ at_ c nM fn
        ∗ fetching c XH (sl (i 0).val) (bk (i 0).val) ∗ owes (c : Thread nD τ) 0 W)
      ∗ ((rd c arg4 a ∗ rd c arg5 b ∗ rd c arg6 d ∗ rd c arg7 a' ∗ rd c arg8 b' ∗ rd c arg9 d' ∗ rd c arg3 g
          ∗ owns c nM fullShare (normed g ((hB (bk (i 0).val)).view.read (Elt F) XH))
          ∗ slotIs c (sl (i 0).val) (firstStep g a b d a' b' d' ((hB (bk (i 0).val)).view.read (Elt F) XH))
          ∗ hIs c XH (bk (i 0).val) ∗ cellI c (sl (i 0).val) ∗ ∃ W', owes (c : Thread nD τ) 0 W') -∗ Q ⟨⟩))
      ⊢ wp frame (wpE (defs₀ (F := F)) Variants.none (c : Thread nD τ) none) Set.univ
        (cc0_ffn_final i hM (Memref.isWhole_whole _) arg3 harg3 arg4 harg4 arg5 harg5 arg6 harg6 arg7 harg7 arg8 harg8 arg9 harg9 arg10 harg10
          outM (Memref.isWhole_whole _) accM (Memref.isWhole_whole _) nM (Memref.isWhole_whole _) cc0_scratch2 cc0_scratch3) Q := by
  have k1 : ¬ k0_cond1 i = 1#1 := by rw [cond1_iff]; omega
  have k4 : k0_cond4 i = 1#1 := by rw [cond4_iff]; omega
  have k5 : ¬ (Scalar.cmpi .ne (Scalar.extui (Scalar.cmpi .eq (BitVec.ofNat 32 (i 0).val) 0#32) : BitVec 32) 0#32 = 1#1) := by rw [cond5_iff]; omega
  have k6 : ¬ k0_cond6 i = 1#1 := by rw [cond6_iff]; omega
  have k7 : ¬ k0_cond7 i = 1#1 := by rw [cond7_iff]; omega
  iintro ⟨⟨H4, H5, H6, H7, H8, H9, H3, Hn, ⟨%f, Hf⟩, HW⟩, Hk⟩
  sl_exec_parts
  sl_step
  iapply Hk
  have hf : sv (sl (i 0).val) (landedI c (sl (i 0).val) (ReadAs.same.apply ((hB (bk (i 0).val)).view.read (Elt F) XH)) (accS (sl (i 0).val)).view.junk) = (hB (bk (i 0).val)).view.read (Elt F) XH :=
    read_landedI c _ _ _
  have h34 : firstRun.sl.v34 c i XH k4 = slotOf ((hB (bk (i 0).val)).view.read (Elt F) XH) :=
    (read_slot _ _ (off10_eq i) _).trans (congrArg slotOf hf)
  have hg : View.readAt (Elt F) arg3.view (Rect.unit ![0, 0] S1x2048.size inb_S1x2048_S1x2048_0_0).toLoadRect (arg3.view.rep g) = g :=
    View.readAt_rep_full _ _ _
  have hn : k0_pay4 (firstRun.sl.v34 c i XH k4) (View.readAt (Elt F) arg3.view (Rect.unit ![0, 0] S1x2048.size inb_S1x2048_S1x2048_0_0).toLoadRect (arg3.view.rep g))
      = normed g ((hB (bk (i 0).val)).view.read (Elt F) XH) := by
    rw [h34, hg]
    exact shapeCast_self _ _
  have hr : firstRun.sl.r_3 c arg3 arg4 arg5 i a b g XH k4 = k0_pay18 (normed g ((hB (bk (i 0).val)).view.read (Elt F) XH)) a b := by
    unfold firstRun.sl.r_3 firstRun.sl.r_1 firstRun.sl.r_2
    rw [h34, hg, View.readAt_rep_full, View.readAt_rep_full]
    rfl
  have hr1 : firstRun.sl.r_5 c arg3 arg7 arg8 i a' b' g XH k4 = k0_pay18 (normed g ((hB (bk (i 0).val)).view.read (Elt F) XH)) a' b' := by
    unfold firstRun.sl.r_5 firstRun.sl.r
    rw [h34, hg, View.readAt_rep_full, View.readAt_rep_full]
    rfl
  have hv : sv (sl (i 0).val) (firstRun.sl.Hf_dst_w8 c arg3 arg4 arg5 arg6 arg7 arg8 arg9 i a b d a' b' d' g XH k4)
      = accStep (firstRun.sl.r_5 c arg3 arg7 arg8 i a' b' g XH k4) d' (accStep (firstRun.sl.r_3 c arg3 arg4 arg5 i a b g XH k4) d
          ((hB (bk (i 0).val)).view.read (Elt F) XH)) :=
    chunk_step _ 3 arg9 d' _ _ (off14_eq i) _ (off14_eq i) _ _ _ <| chunk_step _ 2 arg9 d' _ _ (off13_eq i) _ (off13_eq i) _ _ _ <|
    chunk_step _ 1 arg9 d' _ _ (off12_eq i) _ (off12_eq i) _ _ _ <| chunk_step _ 0 arg9 d' _ _ (off11_eq i) _ (off11_eq i) _ _ _ <|
    chunk_step _ 3 arg6 d _ _ (off14_eq i) _ (off14_eq i) _ _ _ <| chunk_step _ 2 arg6 d _ _ (off13_eq i) _ (off13_eq i) _ _ _ <|
    chunk_step _ 1 arg6 d _ _ (off12_eq i) _ (off12_eq i) _ _ _ <| chunk_step _ 0 arg6 d _ _ (off11_eq i) _ (off11_eq i) _ _ _ hf
  rw [hr, hr1] at hv
  isplitl [H4]
  · iexact H4
  isplitl [H5]
  · iexact H5
  isplitl [H6]
  · iexact H6
  isplitl [H7]
  · iexact H7
  isplitl [H8]
  · iexact H8
  isplitl [H9]
  · iexact H9
  isplitl [H3]
  · iexact H3
  isplitl [Hn]
  · unfold owns
    iexists (nM.view.writes (Elt F) fn (firstRun.sl.Hn_1 c arg3 i g XH k4))
    isplitr
    · ipureintro; exact (View.read_writes_full _ _ _ _ _).trans hn
    · iexact Hn
  isplitl [Hf_dst]
  · iexists (firstRun.sl.Hf_dst_w8 c arg3 arg4 arg5 arg6 arg7 arg8 arg9 i a b d a' b' d' g XH k4)
    isplitr
    · ipureintro; exact hv
    · iexact Hf_dst
  isplitl [Hf_src]
  · iexact Hf_src
  isplitl [Hf]
  · iexact Hf
  · iexists _
    iexact HW

set_option backward.proofsInPublic true in
theorem firstRun0 (i : grid0.Coords) (hj : (i 1).val = 0) (hi0 : (i 0).val = 0)
    (a : S2048x512.Idx → Elt F .bf16) (b : S2048x512.Idx → Elt F .bf16) (d : S512x2048.Idx → Elt F .bf16)
    (a' : S2048x512.Idx → Elt F .bf16) (b' : S2048x512.Idx → Elt F .bf16) (d' : S512x2048.Idx → Elt F .bf16)
    (g : S1x2048.Idx → Elt F .f32) (XH : Buf (Elt F) (hM.view.loc (c : Thread nD τ))) (fn : Buf (Elt F) (nM.view.loc (c : Thread nD τ)))
    (W : Waits sig Unit) (Q : PUnit → sProp 𝕄) :
    iprop((rd c arg4 a ∗ rd c arg5 b ∗ rd c arg6 d ∗ rd c arg7 a' ∗ rd c arg8 b' ∗ rd c arg9 d' ∗ rd c arg3 g ∗ at_ c nM fn
        ∗ slotAny c (sl (i 0).val) ∗ cellI c (sl (i 0).val) ∗ hIs c XH (bk (i 0).val) ∗ owes (c : Thread nD τ) 0 W)
      ∗ ((rd c arg4 a ∗ rd c arg5 b ∗ rd c arg6 d ∗ rd c arg7 a' ∗ rd c arg8 b' ∗ rd c arg9 d' ∗ rd c arg3 g
          ∗ owns c nM fullShare (normed g ((hB (bk (i 0).val)).view.read (Elt F) XH))
          ∗ slotIs c (sl (i 0).val) (firstStep g a b d a' b' d' ((hB (bk (i 0).val)).view.read (Elt F) XH))
          ∗ hIs c XH (bk (i 0).val) ∗ cellI c (sl (i 0).val) ∗ ∃ W', owes (c : Thread nD τ) 0 W') -∗ Q ⟨⟩))
      ⊢ wp frame (wpE (defs₀ (F := F)) Variants.none (c : Thread nD τ) none) Set.univ
        (cc0_ffn_final i hM (Memref.isWhole_whole _) arg3 harg3 arg4 harg4 arg5 harg5 arg6 harg6 arg7 harg7 arg8 harg8 arg9 harg9 arg10 harg10
          outM (Memref.isWhole_whole _) accM (Memref.isWhole_whole _) nM (Memref.isWhole_whole _) cc0_scratch2 cc0_scratch3) Q := by
  have k1 : ¬ k0_cond1 i = 1#1 := by rw [cond1_iff]; omega
  have k4 : k0_cond4 i = 1#1 := by rw [cond4_iff]; omega
  have k5 : (Scalar.cmpi .ne (Scalar.extui (Scalar.cmpi .eq (BitVec.ofNat 32 (i 0).val) 0#32) : BitVec 32) 0#32 = 1#1) := by rw [cond5_iff]; omega
  have k6 : ¬ k0_cond6 i = 1#1 := by rw [cond6_iff]; omega
  have k7 : ¬ k0_cond7 i = 1#1 := by rw [cond7_iff]; omega
  iintro ⟨⟨H4, H5, H6, H7, H8, H9, H3, Hn, ⟨%f, Ha⟩, Hf, Hh, HW⟩, Hk⟩
  sl_exec_parts
  sl_step
  iapply Hk
  have hf : sv (sl (i 0).val) (landedI c (sl (i 0).val) (ReadAs.same.apply ((hB (bk (i 0).val)).view.read (Elt F) XH)) (accS (sl (i 0).val)).view.junk) = (hB (bk (i 0).val)).view.read (Elt F) XH :=
    read_landedI c _ _ _
  have h34 : firstRun0.sl.v34 c i XH k4 = slotOf ((hB (bk (i 0).val)).view.read (Elt F) XH) :=
    (read_slot _ _ (off10_eq i) _).trans (congrArg slotOf hf)
  have hg : View.readAt (Elt F) arg3.view (Rect.unit ![0, 0] S1x2048.size inb_S1x2048_S1x2048_0_0).toLoadRect (arg3.view.rep g) = g :=
    View.readAt_rep_full _ _ _
  have hn : k0_pay4 (firstRun0.sl.v34 c i XH k4) (View.readAt (Elt F) arg3.view (Rect.unit ![0, 0] S1x2048.size inb_S1x2048_S1x2048_0_0).toLoadRect (arg3.view.rep g))
      = normed g ((hB (bk (i 0).val)).view.read (Elt F) XH) := by
    rw [h34, hg]
    exact shapeCast_self _ _
  have hr : firstRun0.sl.r_3 c arg3 arg4 arg5 i a b g XH k4 = k0_pay18 (normed g ((hB (bk (i 0).val)).view.read (Elt F) XH)) a b := by
    unfold firstRun0.sl.r_3 firstRun0.sl.r_1 firstRun0.sl.r_2
    rw [h34, hg, View.readAt_rep_full, View.readAt_rep_full]
    rfl
  have hr1 : firstRun0.sl.r_5 c arg3 arg7 arg8 i a' b' g XH k4 = k0_pay18 (normed g ((hB (bk (i 0).val)).view.read (Elt F) XH)) a' b' := by
    unfold firstRun0.sl.r_5 firstRun0.sl.r
    rw [h34, hg, View.readAt_rep_full, View.readAt_rep_full]
    rfl
  have hv : sv (sl (i 0).val) (firstRun0.sl.Ha_w8 c arg3 arg4 arg5 arg6 arg7 arg8 arg9 i a b d a' b' d' g XH k4)
      = accStep (firstRun0.sl.r_5 c arg3 arg7 arg8 i a' b' g XH k4) d' (accStep (firstRun0.sl.r_3 c arg3 arg4 arg5 i a b g XH k4) d
          ((hB (bk (i 0).val)).view.read (Elt F) XH)) :=
    chunk_step _ 3 arg9 d' _ _ (off14_eq i) _ (off14_eq i) _ _ _ <| chunk_step _ 2 arg9 d' _ _ (off13_eq i) _ (off13_eq i) _ _ _ <|
    chunk_step _ 1 arg9 d' _ _ (off12_eq i) _ (off12_eq i) _ _ _ <| chunk_step _ 0 arg9 d' _ _ (off11_eq i) _ (off11_eq i) _ _ _ <|
    chunk_step _ 3 arg6 d _ _ (off14_eq i) _ (off14_eq i) _ _ _ <| chunk_step _ 2 arg6 d _ _ (off13_eq i) _ (off13_eq i) _ _ _ <|
    chunk_step _ 1 arg6 d _ _ (off12_eq i) _ (off12_eq i) _ _ _ <| chunk_step _ 0 arg6 d _ _ (off11_eq i) _ (off11_eq i) _ _ _ hf
  rw [hr, hr1] at hv
  isplitl [H4]
  · iexact H4
  isplitl [H5]
  · iexact H5
  isplitl [H6]
  · iexact H6
  isplitl [H7]
  · iexact H7
  isplitl [H8]
  · iexact H8
  isplitl [H9]
  · iexact H9
  isplitl [H3]
  · iexact H3
  isplitl [Hn]
  · unfold owns
    iexists (nM.view.writes (Elt F) fn (firstRun0.sl.Hn_1 c arg3 i g XH k4))
    isplitr
    · ipureintro; exact (View.read_writes_full _ _ _ _ _).trans hn
    · iexact Hn
  isplitl [Ha]
  · iexists (firstRun0.sl.Ha_w8 c arg3 arg4 arg5 arg6 arg7 arg8 arg9 i a b d a' b' d' g XH k4)
    isplitr
    · ipureintro; exact hv
    · iexact Ha
  isplitl [Hh]
  · iexact Hh
  isplitl [Hf]
  · iexact Hf
  · iexists _
    iexact HW

end Cert.Proof.Ffn
-- ==== Proof.RunSecond.lean ====
/-
  The body at the second step of a row block: the write-back of the block before is waited for, the fetch of the block
  after is started, and the step's own sums follow.
-/
module

public import proofs.«01_k».proof.Proof.Values

@[expose] public section

noncomputable section

namespace Cert.Proof.Ffn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (Pipeline.UD sig nD τ) ℕ

variable (c : Dev nD)
  (arg3 : Memref sig .tc .vmem S1x2048 .f32) (harg3 : arg3.IsWhole)
  (arg4 : Memref sig .tc .vmem S2048x512 .bf16) (harg4 : arg4.IsWhole)
  (arg5 : Memref sig .tc .vmem S2048x512 .bf16) (harg5 : arg5.IsWhole)
  (arg6 : Memref sig .tc .vmem S512x2048 .bf16) (harg6 : arg6.IsWhole)
  (arg7 : Memref sig .tc .vmem S2048x512 .bf16) (harg7 : arg7.IsWhole)
  (arg8 : Memref sig .tc .vmem S2048x512 .bf16) (harg8 : arg8.IsWhole)
  (arg9 : Memref sig .tc .vmem S512x2048 .bf16) (harg9 : arg9.IsWhole)
  (arg10 : Memref sig .tc .vmem S1x2048 .f32) (harg10 : arg10.IsWhole)

set_option backward.proofsInPublic true in
theorem secondRun (i : grid0.Coords) (hj : (i 1).val = 1) (hi0 : 1 ≤ (i 0).val) (hi1 : (i 0).val + 1 < 16)
    (n : S1024x2048.Idx → Elt F .bf16) (a : S2048x512.Idx → Elt F .bf16) (b : S2048x512.Idx → Elt F .bf16) (d : S512x2048.Idx → Elt F .bf16)
    (a' : S2048x512.Idx → Elt F .bf16) (b' : S2048x512.Idx → Elt F .bf16) (d' : S512x2048.Idx → Elt F .bf16)
    (XH : Buf (Elt F) (hM.view.loc (c : Thread nD τ))) (y : S1024x2048.Idx → Elt F .f32) (x : S1024x2048.Idx → Elt F .f32)
    (W : Waits sig Unit) (Q : PUnit → sProp 𝕄) :
    iprop((rd c arg4 a ∗ rd c arg5 b ∗ rd c arg6 d ∗ rd c arg7 a' ∗ rd c arg8 b' ∗ rd c arg9 d' ∗ rd c nM n
        ∗ slotIs c (sl (i 0).val) x
        ∗ backing c (sl ((i 0).val + 1)) (bk ((i 0).val - 1)) y ∗ cellI c (sl ((i 0).val + 1)) ∗ hIs c XH (bk ((i 0).val + 1)) ∗ owes (c : Thread nD τ) 0 W)
      ∗ ((rd c arg4 a ∗ rd c arg5 b ∗ rd c arg6 d ∗ rd c arg7 a' ∗ rd c arg8 b' ∗ rd c arg9 d' ∗ rd c nM n
          ∗ slotIs c (sl (i 0).val) (accStep (k0_pay18 n a' b') d' (accStep (k0_pay18 n a b) d x))
          ∗ outIs c (bk ((i 0).val - 1)) y ∗ cellO c (sl ((i 0).val + 1)) ∗ fetching c XH (sl ((i 0).val + 1)) (bk ((i 0).val + 1)) ∗ ∃ W', owes (c : Thread nD τ) 0 W') -∗ Q ⟨⟩))
      ⊢ wp frame (wpE (defs₀ (F := F)) Variants.none (c : Thread nD τ) none) Set.univ
        (cc0_ffn_final i hM (Memref.isWhole_whole _) arg3 harg3 arg4 harg4 arg5 harg5 arg6 harg6 arg7 harg7 arg8 harg8 arg9 harg9 arg10 harg10
          outM (Memref.isWhole_whole _) accM (Memref.isWhole_whole _) nM (Memref.isWhole_whole _) cc0_scratch2 cc0_scratch3) Q := by
  have k1 : k0_cond1 i = 1#1 := by rw [cond1_iff]; omega
  have k2 : k0_cond2 i = 1#1 := by rw [cond2_iff]; omega
  have k3 : k0_cond3 i = 1#1 := by rw [cond3_iff]; omega
  have k4 : ¬ k0_cond4 i = 1#1 := by rw [cond4_iff]; omega
  have k6 : k0_cond6 i = 1#1 := by rw [cond6_iff]; omega
  have k7 : ¬ k0_cond7 i = 1#1 := by rw [cond7_iff]; omega
  iintro ⟨⟨H4, H5, H6, H7, H8, H9, Hn, ⟨%f, %hf, Ha⟩, ⟨%gb, %fb, %hgb, Hb⟩, Hc, Hh, HW⟩, Hk⟩
  sl_exec_parts
  sl_step
  iapply Hk
  have hr : secondRun.sl.r arg4 arg5 n a b = k0_pay18 n a b := by
    unfold secondRun.sl.r
    rw [View.readAt_rep_full, View.readAt_rep_full, View.readAt_rep_full]
  have hr1 : secondRun.sl.r_1 arg7 arg8 n a' b' = k0_pay18 n a' b' := by
    unfold secondRun.sl.r_1
    rw [View.readAt_rep_full, View.readAt_rep_full, View.readAt_rep_full]
    rfl
  have hv : sv (sl (i 0).val) (secondRun.sl.Ha_w8 c arg4 arg5 arg6 arg7 arg8 arg9 i n a b d a' b' d' k6 f)
      = accStep (secondRun.sl.r_1 arg7 arg8 n a' b') d' (accStep (secondRun.sl.r arg4 arg5 n a b) d x) :=
    chunk_step _ 3 arg9 d' _ _ (off18_eq i) _ (off18_eq i) _ _ _ <| chunk_step _ 2 arg9 d' _ _ (off17_eq i) _ (off17_eq i) _ _ _ <|
    chunk_step _ 1 arg9 d' _ _ (off16_eq i) _ (off16_eq i) _ _ _ <| chunk_step _ 0 arg9 d' _ _ (off15_eq i) _ (off15_eq i) _ _ _ <|
    chunk_step _ 3 arg6 d _ _ (off18_eq i) _ (off18_eq i) _ _ _ <| chunk_step _ 2 arg6 d _ _ (off17_eq i) _ (off17_eq i) _ _ _ <|
    chunk_step _ 1 arg6 d _ _ (off16_eq i) _ (off16_eq i) _ _ _ <| chunk_step _ 0 arg6 d _ _ (off15_eq i) _ (off15_eq i) _ _ _ hf
  rw [hr, hr1] at hv
  isplitl [H4]
  · iexact H4
  isplitl [H5]
  · iexact H5
  isplitl [H6]
  · iexact H6
  isplitl [H7]
  · iexact H7
  isplitl [H8]
  · iexact H8
  isplitl [H9]
  · iexact H9
  isplitl [Hn]
  · iexact Hn
  isplitl [Ha]
  · iexists _
    isplitr
    · ipureintro; exact hv
    · iexact Ha
  isplitl [Hb_dst]
  · iexists _
    isplitr
    · ipureintro; exact (read_landedO c (bk ((i 0).val - 1)) ((accS (sl ((i 0).val + 1))).view.read (Elt F) gb) fb).trans hgb
    · iexact Hb_dst
  isplitl [Hb]
  · iexact Hb
  isplitl [Hc]
  · iexists _
    iexact Hc
  · iexists _
    iexact HW

set_option backward.proofsInPublic true in
theorem secondRun0 (i : grid0.Coords) (hj : (i 1).val = 1) (hi0 : (i 0).val = 0)
    (n : S1024x2048.Idx → Elt F .bf16) (a : S2048x512.Idx → Elt F .bf16) (b : S2048x512.Idx → Elt F .bf16) (d : S512x2048.Idx → Elt F .bf16)
    (a' : S2048x512.Idx → Elt F .bf16) (b' : S2048x512.Idx → Elt F .bf16) (d' : S512x2048.Idx → Elt F .bf16)
    (XH : Buf (Elt F) (hM.view.loc (c : Thread nD τ))) (x : S1024x2048.Idx → Elt F .f32)
    (W : Waits sig Unit) (Q : PUnit → sProp 𝕄) :
    iprop((rd c arg4 a ∗ rd c arg5 b ∗ rd c arg6 d ∗ rd c arg7 a' ∗ rd c arg8 b' ∗ rd c arg9 d' ∗ rd c nM n
        ∗ slotIs c (sl (i 0).val) x
        ∗ cellI c (sl ((i 0).val + 1)) ∗ hIs c XH (bk ((i 0).val + 1)) ∗ slotAny c (sl ((i 0).val + 1)) ∗ owes (c : Thread nD τ) 0 W)
      ∗ ((rd c arg4 a ∗ rd c arg5 b ∗ rd c arg6 d ∗ rd c arg7 a' ∗ rd c arg8 b' ∗ rd c arg9 d' ∗ rd c nM n
          ∗ slotIs c (sl (i 0).val) (accStep (k0_pay18 n a' b') d' (accStep (k0_pay18 n a b) d x))
          ∗ fetching c XH (sl ((i 0).val + 1)) (bk ((i 0).val + 1)) ∗ ∃ W', owes (c : Thread nD τ) 0 W') -∗ Q ⟨⟩))
      ⊢ wp frame (wpE (defs₀ (F := F)) Variants.none (c : Thread nD τ) none) Set.univ
        (cc0_ffn_final i hM (Memref.isWhole_whole _) arg3 harg3 arg4 harg4 arg5 harg5 arg6 harg6 arg7 harg7 arg8 harg8 arg9 harg9 arg10 harg10
          outM (Memref.isWhole_whole _) accM (Memref.isWhole_whole _) nM (Memref.isWhole_whole _) cc0_scratch2 cc0_scratch3) Q := by
  have k1 : k0_cond1 i = 1#1 := by rw [cond1_iff]; omega
  have k2 : ¬ k0_cond2 i = 1#1 := by rw [cond2_iff]; omega
  have k3 : k0_cond3 i = 1#1 := by rw [cond3_iff]; omega
  have k4 : ¬ k0_cond4 i = 1#1 := by rw [cond4_iff]; omega
  have k6 : k0_cond6 i = 1#1 := by rw [cond6_iff]; omega
  have k7 : ¬ k0_cond7 i = 1#1 := by rw [cond7_iff]; omega
  iintro ⟨⟨H4, H5, H6, H7, H8, H9, Hn, ⟨%f, %hf, Ha⟩, Hc, Hh, ⟨%fs, Hs⟩, HW⟩, Hk⟩
  sl_exec_parts
  sl_step
  iapply Hk
  have hr : secondRun0.sl.r arg4 arg5 n a b = k0_pay18 n a b := by
    unfold secondRun0.sl.r
    rw [View.readAt_rep_full, View.readAt_rep_full, View.readAt_rep_full]
  have hr1 : secondRun0.sl.r_1 arg7 arg8 n a' b' = k0_pay18 n a' b' := by
    unfold secondRun0.sl.r_1
    rw [View.readAt_rep_full, View.readAt_rep_full, View.readAt_rep_full]
    rfl
  have hv : sv (sl (i 0).val) (secondRun0.sl.Ha_w8 c arg4 arg5 arg6 arg7 arg8 arg9 i n a b d a' b' d' k6 f)
      = accStep (secondRun0.sl.r_1 arg7 arg8 n a' b') d' (accStep (secondRun0.sl.r arg4 arg5 n a b) d x) :=
    chunk_step _ 3 arg9 d' _ _ (off18_eq i) _ (off18_eq i) _ _ _ <| chunk_step _ 2 arg9 d' _ _ (off17_eq i) _ (off17_eq i) _ _ _ <|
    chunk_step _ 1 arg9 d' _ _ (off16_eq i) _ (off16_eq i) _ _ _ <| chunk_step _ 0 arg9 d' _ _ (off15_eq i) _ (off15_eq i) _ _ _ <|
    chunk_step _ 3 arg6 d _ _ (off18_eq i) _ (off18_eq i) _ _ _ <| chunk_step _ 2 arg6 d _ _ (off17_eq i) _ (off17_eq i) _ _ _ <|
    chunk_step _ 1 arg6 d _ _ (off16_eq i) _ (off16_eq i) _ _ _ <| chunk_step _ 0 arg6 d _ _ (off15_eq i) _ (off15_eq i) _ _ _ hf
  rw [hr, hr1] at hv
  isplitl [H4]
  · iexact H4
  isplitl [H5]
  · iexact H5
  isplitl [H6]
  · iexact H6
  isplitl [H7]
  · iexact H7
  isplitl [H8]
  · iexact H8
  isplitl [H9]
  · iexact H9
  isplitl [Hn]
  · iexact Hn
  isplitl [Ha]
  · iexists _
    isplitr
    · ipureintro; exact hv
    · iexact Ha
  isplitl [Hc]
  · iexists _
    iexact Hc
  · iexists _
    iexact HW

set_option backward.proofsInPublic true in
theorem secondRunL (i : grid0.Coords) (hj : (i 1).val = 1) (hi0 : (i 0).val = 15)
    (n : S1024x2048.Idx → Elt F .bf16) (a : S2048x512.Idx → Elt F .bf16) (b : S2048x512.Idx → Elt F .bf16) (d : S512x2048.Idx → Elt F .bf16)
    (a' : S2048x512.Idx → Elt F .bf16) (b' : S2048x512.Idx → Elt F .bf16) (d' : S512x2048.Idx → Elt F .bf16)
    (y : S1024x2048.Idx → Elt F .f32) (x : S1024x2048.Idx → Elt F .f32)
    (W : Waits sig Unit) (Q : PUnit → sProp 𝕄) :
    iprop((rd c arg4 a ∗ rd c arg5 b ∗ rd c arg6 d ∗ rd c arg7 a' ∗ rd c arg8 b' ∗ rd c arg9 d' ∗ rd c nM n
        ∗ slotIs c (sl (i 0).val) x
        ∗ backing c (sl ((i 0).val + 1)) (bk ((i 0).val - 1)) y ∗ owes (c : Thread nD τ) 0 W)
      ∗ ((rd c arg4 a ∗ rd c arg5 b ∗ rd c arg6 d ∗ rd c arg7 a' ∗ rd c arg8 b' ∗ rd c arg9 d' ∗ rd c nM n
          ∗ slotIs c (sl (i 0).val) (accStep (k0_pay18 n a' b') d' (accStep (k0_pay18 n a b) d x))
          ∗ outIs c (bk ((i 0).val - 1)) y ∗ cellO c (sl ((i 0).val + 1)) ∗ slotAny c (sl ((i 0).val + 1)) ∗ ∃ W', owes (c : Thread nD τ) 0 W') -∗ Q ⟨⟩))
      ⊢ wp frame (wpE (defs₀ (F := F)) Variants.none (c : Thread nD τ) none) Set.univ
        (cc0_ffn_final i hM (Memref.isWhole_whole _) arg3 harg3 arg4 harg4 arg5 harg5 arg6 harg6 arg7 harg7 arg8 harg8 arg9 harg9 arg10 harg10
          outM (Memref.isWhole_whole _) accM (Memref.isWhole_whole _) nM (Memref.isWhole_whole _) cc0_scratch2 cc0_scratch3) Q := by
  have k1 : k0_cond1 i = 1#1 := by rw [cond1_iff]; omega
  have k2 : k0_cond2 i = 1#1 := by rw [cond2_iff]; omega
  have k3 : ¬ k0_cond3 i = 1#1 := by rw [cond3_iff]; omega
  have k4 : ¬ k0_cond4 i = 1#1 := by rw [cond4_iff]; omega
  have k6 : k0_cond6 i = 1#1 := by rw [cond6_iff]; omega
  have k7 : ¬ k0_cond7 i = 1#1 := by rw [cond7_iff]; omega
  iintro ⟨⟨H4, H5, H6, H7, H8, H9, Hn, ⟨%f, %hf, Ha⟩, ⟨%gb, %fb, %hgb, Hb⟩, HW⟩, Hk⟩
  sl_exec_parts
  sl_step
  iapply Hk
  have hr : secondRunL.sl.r arg4 arg5 n a b = k0_pay18 n a b := by
    unfold secondRunL.sl.r
    rw [View.readAt_rep_full, View.readAt_rep_full, View.readAt_rep_full]
  have hr1 : secondRunL.sl.r_1 arg7 arg8 n a' b' = k0_pay18 n a' b' := by
    unfold secondRunL.sl.r_1
    rw [View.readAt_rep_full, View.readAt_rep_full, View.readAt_rep_full]
    rfl
  have hv : sv (sl (i 0).val) (secondRunL.sl.Ha_w8 c arg4 arg5 arg6 arg7 arg8 arg9 i n a b d a' b' d' k6 f)
      = accStep (secondRunL.sl.r_1 arg7 arg8 n a' b') d' (accStep (secondRunL.sl.r arg4 arg5 n a b) d x) :=
    chunk_step _ 3 arg9 d' _ _ (off18_eq i) _ (off18_eq i) _ _ _ <| chunk_step _ 2 arg9 d' _ _ (off17_eq i) _ (off17_eq i) _ _ _ <|
    chunk_step _ 1 arg9 d' _ _ (off16_eq i) _ (off16_eq i) _ _ _ <| chunk_step _ 0 arg9 d' _ _ (off15_eq i) _ (off15_eq i) _ _ _ <|
    chunk_step _ 3 arg6 d _ _ (off18_eq i) _ (off18_eq i) _ _ _ <| chunk_step _ 2 arg6 d _ _ (off17_eq i) _ (off17_eq i) _ _ _ <|
    chunk_step _ 1 arg6 d _ _ (off16_eq i) _ (off16_eq i) _ _ _ <| chunk_step _ 0 arg6 d _ _ (off15_eq i) _ (off15_eq i) _ _ _ hf
  rw [hr, hr1] at hv
  isplitl [H4]
  · iexact H4
  isplitl [H5]
  · iexact H5
  isplitl [H6]
  · iexact H6
  isplitl [H7]
  · iexact H7
  isplitl [H8]
  · iexact H8
  isplitl [H9]
  · iexact H9
  isplitl [Hn]
  · iexact Hn
  isplitl [Ha]
  · iexists _
    isplitr
    · ipureintro; exact hv
    · iexact Ha
  isplitl [Hb_dst]
  · iexists _
    isplitr
    · ipureintro; exact (read_landedO c (bk ((i 0).val - 1)) ((accS (sl ((i 0).val + 1))).view.read (Elt F) gb) fb).trans hgb
    · iexact Hb_dst
  isplitl [Hb]
  · iexact Hb
  isplitl [Hb_src]
  · iexists gb
    iexact Hb_src
  · iexists _
    iexact HW

end Cert.Proof.Ffn
-- ==== Proof.RunMid.lean ====
/-
  The body at a step between the first and the last of a row block, without transfers.
-/
module

public import proofs.«01_k».proof.Proof.Values

@[expose] public section

noncomputable section

namespace Cert.Proof.Ffn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (Pipeline.UD sig nD τ) ℕ

variable (c : Dev nD)
  (arg3 : Memref sig .tc .vmem S1x2048 .f32) (harg3 : arg3.IsWhole)
  (arg4 : Memref sig .tc .vmem S2048x512 .bf16) (harg4 : arg4.IsWhole)
  (arg5 : Memref sig .tc .vmem S2048x512 .bf16) (harg5 : arg5.IsWhole)
  (arg6 : Memref sig .tc .vmem S512x2048 .bf16) (harg6 : arg6.IsWhole)
  (arg7 : Memref sig .tc .vmem S2048x512 .bf16) (harg7 : arg7.IsWhole)
  (arg8 : Memref sig .tc .vmem S2048x512 .bf16) (harg8 : arg8.IsWhole)
  (arg9 : Memref sig .tc .vmem S512x2048 .bf16) (harg9 : arg9.IsWhole)
  (arg10 : Memref sig .tc .vmem S1x2048 .f32) (harg10 : arg10.IsWhole)

set_option backward.proofsInPublic true in
theorem midRun (i : grid0.Coords) (hj0 : 1 < (i 1).val) (hj1 : (i 1).val < 5)
    (n : S1024x2048.Idx → Elt F .bf16) (a : S2048x512.Idx → Elt F .bf16) (b : S2048x512.Idx → Elt F .bf16) (d : S512x2048.Idx → Elt F .bf16)
    (a' : S2048x512.Idx → Elt F .bf16) (b' : S2048x512.Idx → Elt F .bf16) (d' : S512x2048.Idx → Elt F .bf16)
    (x : S1024x2048.Idx → Elt F .f32)
    (W : Waits sig Unit) (Q : PUnit → sProp 𝕄) :
    iprop((rd c arg4 a ∗ rd c arg5 b ∗ rd c arg6 d ∗ rd c arg7 a' ∗ rd c arg8 b' ∗ rd c arg9 d' ∗ rd c nM n
        ∗ slotIs c (sl (i 0).val) x ∗ owes (c : Thread nD τ) 0 W)
      ∗ ((rd c arg4 a ∗ rd c arg5 b ∗ rd c arg6 d ∗ rd c arg7 a' ∗ rd c arg8 b' ∗ rd c arg9 d' ∗ rd c nM n
          ∗ slotIs c (sl (i 0).val) (accStep (k0_pay18 n a' b') d' (accStep (k0_pay18 n a b) d x)) ∗ ∃ W', owes (c : Thread nD τ) 0 W') -∗ Q ⟨⟩))
      ⊢ wp frame (wpE (defs₀ (F := F)) Variants.none (c : Thread nD τ) none) Set.univ
        (cc0_ffn_final i hM (Memref.isWhole_whole _) arg3 harg3 arg4 harg4 arg5 harg5 arg6 harg6 arg7 harg7 arg8 harg8 arg9 harg9 arg10 harg10
          outM (Memref.isWhole_whole _) accM (Memref.isWhole_whole _) nM (Memref.isWhole_whole _) cc0_scratch2 cc0_scratch3) Q := by
  have k1 : ¬ k0_cond1 i = 1#1 := by rw [cond1_iff]; omega
  have k4 : ¬ k0_cond4 i = 1#1 := by rw [cond4_iff]; omega
  have k6 : k0_cond6 i = 1#1 := by rw [cond6_iff]; omega
  have k7 : ¬ k0_cond7 i = 1#1 := by rw [cond7_iff]; omega
  iintro ⟨⟨H4, H5, H6, H7, H8, H9, Hn, ⟨%f, %hf, Ha⟩, HW⟩, Hk⟩
  sl_exec_parts
  sl_step
  iapply Hk
  have hr : midRun.sl.r arg4 arg5 n a b = k0_pay18 n a b := by
    unfold midRun.sl.r
    rw [View.readAt_rep_full, View.readAt_rep_full, View.readAt_rep_full]
  have hr1 : midRun.sl.r_1 arg7 arg8 n a' b' = k0_pay18 n a' b' := by
    unfold midRun.sl.r_1
    rw [View.readAt_rep_full, View.readAt_rep_full, View.readAt_rep_full]
    rfl
  have hv : sv (sl (i 0).val) (midRun.sl.Ha_w8 c arg4 arg5 arg6 arg7 arg8 arg9 i n a b d a' b' d' k6 f)
      = accStep (midRun.sl.r_1 arg7 arg8 n a' b') d' (accStep (midRun.sl.r arg4 arg5 n a b) d x) :=
    chunk_step _ 3 arg9 d' _ _ (off18_eq i) _ (off18_eq i) _ _ _ <| chunk_step _ 2 arg9 d' _ _ (off17_eq i) _ (off17_eq i) _ _ _ <|
    chunk_step _ 1 arg9 d' _ _ (off16_eq i) _ (off16_eq i) _ _ _ <| chunk_step _ 0 arg9 d' _ _ (off15_eq i) _ (off15_eq i) _ _ _ <|
    chunk_step _ 3 arg6 d _ _ (off18_eq i) _ (off18_eq i) _ _ _ <| chunk_step _ 2 arg6 d _ _ (off17_eq i) _ (off17_eq i) _ _ _ <|
    chunk_step _ 1 arg6 d _ _ (off16_eq i) _ (off16_eq i) _ _ _ <| chunk_step _ 0 arg6 d _ _ (off15_eq i) _ (off15_eq i) _ _ _ hf
  rw [hr, hr1] at hv
  isplitl [H4]
  · iexact H4
  isplitl [H5]
  · iexact H5
  isplitl [H6]
  · iexact H6
  isplitl [H7]
  · iexact H7
  isplitl [H8]
  · iexact H8
  isplitl [H9]
  · iexact H9
  isplitl [Hn]
  · iexact Hn
  isplitl [Ha]
  · iexists _
    isplitr
    · ipureintro; exact hv
    · iexact Ha
  · iexists _
    iexact HW

end Cert.Proof.Ffn
-- ==== Proof.RunLast.lean ====
/-
  The body at the last step of a row block: the last 384 hidden columns, the final normalisation of the slot, and the
  start of its write-back.
-/
module

public import proofs.«01_k».proof.Proof.Values

@[expose] public section

noncomputable section

namespace Cert.Proof.Ffn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (Pipeline.UD sig nD τ) ℕ

variable (c : Dev nD)
  (arg3 : Memref sig .tc .vmem S1x2048 .f32) (harg3 : arg3.IsWhole)
  (arg4 : Memref sig .tc .vmem S2048x512 .bf16) (harg4 : arg4.IsWhole)
  (arg5 : Memref sig .tc .vmem S2048x512 .bf16) (harg5 : arg5.IsWhole)
  (arg6 : Memref sig .tc .vmem S512x2048 .bf16) (harg6 : arg6.IsWhole)
  (arg7 : Memref sig .tc .vmem S2048x512 .bf16) (harg7 : arg7.IsWhole)
  (arg8 : Memref sig .tc .vmem S2048x512 .bf16) (harg8 : arg8.IsWhole)
  (arg9 : Memref sig .tc .vmem S512x2048 .bf16) (harg9 : arg9.IsWhole)
  (arg10 : Memref sig .tc .vmem S1x2048 .f32) (harg10 : arg10.IsWhole)

set_option backward.proofsInPublic true in
theorem lastRun (i : grid0.Coords) (hj : (i 1).val = 5) (hi1 : (i 0).val + 1 < 16)
    (n : S1024x2048.Idx → Elt F .bf16) (a : S2048x512.Idx → Elt F .bf16) (b : S2048x512.Idx → Elt F .bf16) (d : S512x2048.Idx → Elt F .bf16)
    (g : S1x2048.Idx → Elt F .f32) (x : S1024x2048.Idx → Elt F .f32)
    (W : Waits sig Unit) (Q : PUnit → sProp 𝕄) :
    iprop((rd c arg4 a ∗ rd c arg5 b ∗ rd c arg6 d ∗ rd c arg10 g ∗ rd c nM n
        ∗ slotIs c (sl (i 0).val) x ∗ cellO c (sl (i 0).val) ∗ outAny c (bk (i 0).val) ∗ owes (c : Thread nD τ) 0 W)
      ∗ ((rd c arg4 a ∗ rd c arg5 b ∗ rd c arg6 d ∗ rd c arg10 g ∗ rd c nM n
          ∗ backing c (sl (i 0).val) (bk (i 0).val) (finish g (accStep (k0_pay27 n a b) d x)) ∗ ∃ W', owes (c : Thread nD τ) 0 W') -∗ Q ⟨⟩))
      ⊢ wp frame (wpE (defs₀ (F := F)) Variants.none (c : Thread nD τ) none) Set.univ
        (cc0_ffn_final i hM (Memref.isWhole_whole _) arg3 harg3 arg4 harg4 arg5 harg5 arg6 harg6 arg7 harg7 arg8 harg8 arg9 harg9 arg10 harg10
          outM (Memref.isWhole_whole _) accM (Memref.isWhole_whole _) nM (Memref.isWhole_whole _) cc0_scratch2 cc0_scratch3) Q := by
  have k1 : ¬ k0_cond1 i = 1#1 := by rw [cond1_iff]; omega
  have k4 : ¬ k0_cond4 i = 1#1 := by rw [cond4_iff]; omega
  have k6 : ¬ k0_cond6 i = 1#1 := by rw [cond6_iff]; omega
  have k7 : k0_cond7 i = 1#1 := by rw [cond7_iff]; omega
  have k8 : ¬ k0_cond8 i = 1#1 := by rw [cond8_iff]; omega
  iintro ⟨⟨H4, H5, H6, H10, Hn, ⟨%f, %hf, Ha⟩, Hc, ⟨%fo, Ho⟩, HW⟩, Hk⟩
  sl_exec_parts
  sl_step
  iapply Hk
  have hr : lastRun.sl.r arg4 arg5 n a b = k0_pay27 n a b := by
    unfold lastRun.sl.r
    rw [View.readAt_rep_full, View.readAt_rep_full, View.readAt_rep_full]
  have hg : View.readAt (Elt F) arg10.view (Rect.unit ![0, 0] S1x2048.size inb_S1x2048_S1x2048_0_0).toLoadRect (arg10.view.rep g) = g :=
    View.readAt_rep_full _ _ _
  have hv : sv (sl (i 0).val) (lastRun.sl.Ha_w5 c arg4 arg5 arg6 arg10 i n a b d g k7 f)
      = finish (View.readAt (Elt F) arg10.view (Rect.unit ![0, 0] S1x2048.size inb_S1x2048_S1x2048_0_0).toLoadRect (arg10.view.rep g))
          (accStep (lastRun.sl.r arg4 arg5 n a b) d x) :=
    slot_step _ _ _ (off23_eq i) _ (off23_eq i) _ _ <|
    chunk_step _ 3 arg6 d _ _ (off22_eq i) _ (off22_eq i) _ _ _ <| chunk_step _ 2 arg6 d _ _ (off21_eq i) _ (off21_eq i) _ _ _ <|
    chunk_step _ 1 arg6 d _ _ (off20_eq i) _ (off20_eq i) _ _ _ <| chunk_step _ 0 arg6 d _ _ (off19_eq i) _ (off19_eq i) _ _ _ hf
  rw [hr, hg] at hv
  isplitl [H4]
  · iexact H4
  isplitl [H5]
  · iexact H5
  isplitl [H6]
  · iexact H6
  isplitl [H10]
  · iexact H10
  isplitl [Hn]
  · iexact Hn
  isplitl [Hc]
  · iexists _
    iexists _
    isplitr
    · ipureintro; exact hv
    · iexact Hc
  · iexists _
    iexact HW

set_option backward.proofsInPublic true in
theorem lastRunL (i : grid0.Coords) (hj : (i 1).val = 5) (hi1 : (i 0).val = 15)
    (n : S1024x2048.Idx → Elt F .bf16) (a : S2048x512.Idx → Elt F .bf16) (b : S2048x512.Idx → Elt F .bf16) (d : S512x2048.Idx → Elt F .bf16)
    (g : S1x2048.Idx → Elt F .f32) (x : S1024x2048.Idx → Elt F .f32)
    (W : Waits sig Unit) (Q : PUnit → sProp 𝕄) :
    iprop((rd c arg4 a ∗ rd c arg5 b ∗ rd c arg6 d ∗ rd c arg10 g ∗ rd c nM n
        ∗ slotIs c (sl (i 0).val) x ∗ cellO c (sl (i 0).val) ∗ outAny c (bk (i 0).val) ∗ owes (c : Thread nD τ) 0 W)
      ∗ ((rd c arg4 a ∗ rd c arg5 b ∗ rd c arg6 d ∗ rd c arg10 g ∗ rd c nM n
          ∗ outIs c (bk (i 0).val) (finish g (accStep (k0_pay27 n a b) d x)) ∗ slotAny c (sl (i 0).val) ∗ cellO c (sl (i 0).val) ∗ ∃ W', owes (c : Thread nD τ) 0 W') -∗ Q ⟨⟩))
      ⊢ wp frame (wpE (defs₀ (F := F)) Variants.none (c : Thread nD τ) none) Set.univ
        (cc0_ffn_final i hM (Memref.isWhole_whole _) arg3 harg3 arg4 harg4 arg5 harg5 arg6 harg6 arg7 harg7 arg8 harg8 arg9 harg9 arg10 harg10
          outM (Memref.isWhole_whole _) accM (Memref.isWhole_whole _) nM (Memref.isWhole_whole _) cc0_scratch2 cc0_scratch3) Q := by
  have k1 : ¬ k0_cond1 i = 1#1 := by rw [cond1_iff]; omega
  have k4 : ¬ k0_cond4 i = 1#1 := by rw [cond4_iff]; omega
  have k6 : ¬ k0_cond6 i = 1#1 := by rw [cond6_iff]; omega
  have k7 : k0_cond7 i = 1#1 := by rw [cond7_iff]; omega
  have k8 : k0_cond8 i = 1#1 := by rw [cond8_iff]; omega
  iintro ⟨⟨H4, H5, H6, H10, Hn, ⟨%f, %hf, Ha⟩, Hc, ⟨%fo, Ho⟩, HW⟩, Hk⟩
  sl_exec_parts
  sl_step
  iapply Hk
  have hr : lastRunL.sl.r arg4 arg5 n a b = k0_pay27 n a b := by
    unfold lastRunL.sl.r
    rw [View.readAt_rep_full, View.readAt_rep_full, View.readAt_rep_full]
  have hg : View.readAt (Elt F) arg10.view (Rect.unit ![0, 0] S1x2048.size inb_S1x2048_S1x2048_0_0).toLoadRect (arg10.view.rep g) = g :=
    View.readAt_rep_full _ _ _
  have hv : sv (sl (i 0).val) (lastRunL.sl.Ha_w5 c arg4 arg5 arg6 arg10 i n a b d g k7 f)
      = finish (View.readAt (Elt F) arg10.view (Rect.unit ![0, 0] S1x2048.size inb_S1x2048_S1x2048_0_0).toLoadRect (arg10.view.rep g))
          (accStep (lastRunL.sl.r arg4 arg5 n a b) d x) :=
    slot_step _ _ _ (off23_eq i) _ (off23_eq i) _ _ <|
    chunk_step _ 3 arg6 d _ _ (off22_eq i) _ (off22_eq i) _ _ _ <| chunk_step _ 2 arg6 d _ _ (off21_eq i) _ (off21_eq i) _ _ _ <|
    chunk_step _ 1 arg6 d _ _ (off20_eq i) _ (off20_eq i) _ _ _ <| chunk_step _ 0 arg6 d _ _ (off19_eq i) _ (off19_eq i) _ _ _ hf
  rw [hr, hg] at hv
  isplitl [H4]
  · iexact H4
  isplitl [H5]
  · iexact H5
  isplitl [H6]
  · iexact H6
  isplitl [H10]
  · iexact H10
  isplitl [Hn]
  · iexact Hn
  isplitl [Ho]
  · iexists _
    isplitr
    · ipureintro; exact (read_landedO c (bk (i 0).val) (sv (sl (i 0).val) (lastRunL.sl.Ha_w5 c arg4 arg5 arg6 arg10 i n a b d g k7 f)) fo).trans hv
    · iexact Ho
  isplitl [Ha]
  · iexists (lastRunL.sl.Ha_w5 c arg4 arg5 arg6 arg10 i n a b d g k7 f)
    iexact Ha
  isplitl [Hc]
  · iexact Hc
  · iexists _
    iexact HW

end Cert.Proof.Ffn
-- ==== Proof.Inv.lean ====
module

public import proofs.«01_k».proof.Proof.RunFirst
public import proofs.«01_k».proof.Proof.RunSecond
public import proofs.«01_k».proof.Proof.RunMid
public import proofs.«01_k».proof.Proof.RunLast
public import Idealize.ShloMosaic.Lib.Ring.WriteBehind

@[expose] public section

noncomputable section

namespace Cert.Proof.Ffn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (Pipeline.UD sig nD τ) ℕ

variable (c : Dev nD)
  (arg3 : Memref sig .tc .vmem S1x2048 .f32) (harg3 : arg3.IsWhole)
  (arg4 : Memref sig .tc .vmem S2048x512 .bf16) (harg4 : arg4.IsWhole)
  (arg5 : Memref sig .tc .vmem S2048x512 .bf16) (harg5 : arg5.IsWhole)
  (arg6 : Memref sig .tc .vmem S512x2048 .bf16) (harg6 : arg6.IsWhole)
  (arg7 : Memref sig .tc .vmem S2048x512 .bf16) (harg7 : arg7.IsWhole)
  (arg8 : Memref sig .tc .vmem S2048x512 .bf16) (harg8 : arg8.IsWhole)
  (arg9 : Memref sig .tc .vmem S512x2048 .bf16) (harg9 : arg9.IsWhole)
  (arg10 : Memref sig .tc .vmem S1x2048 .f32) (harg10 : arg10.IsWhole)

/-- The blocks the pipeline stages, by the number of the grid point. -/
structure Blocks (F : FTy → Type) where
  g : ℕ → S1x2048.Idx → Elt F .f32
  a : ℕ → S2048x512.Idx → Elt F .bf16
  b : ℕ → S2048x512.Idx → Elt F .bf16
  d : ℕ → S512x2048.Idx → Elt F .bf16
  a' : ℕ → S2048x512.Idx → Elt F .bf16
  b' : ℕ → S2048x512.Idx → Elt F .bf16
  d' : ℕ → S512x2048.Idx → Elt F .bf16
  gf : ℕ → S1x2048.Idx → Elt F .f32

variable (B : Blocks F) (XH : Buf (Elt F) (hM.view.loc (c : Thread nD τ)))

/-- Row block `I` of `h`. -/
def hV (I : ℕ) : S1024x2048.Idx → Elt F .f32 := (hB (bk I)).view.read (Elt F) XH
/-- Its normalised rows. -/
def nV (I : ℕ) : S1024x2048.Idx → Elt F .bf16 := normed (B.g (6 * I)) (hV c XH I)
/-- The row block after step `J` of its six. -/
def accV (I : ℕ) : ℕ → S1024x2048.Idx → Elt F .f32
  | 0 => firstStep (B.g (6 * I)) (B.a (6 * I)) (B.b (6 * I)) (B.d (6 * I)) (B.a' (6 * I)) (B.b' (6 * I)) (B.d' (6 * I)) (hV c XH I)
  | J + 1 => accStep (k0_pay18 (nV c B XH I) (B.a' (6 * I + (J + 1))) (B.b' (6 * I + (J + 1)))) (B.d' (6 * I + (J + 1)))
      (accStep (k0_pay18 (nV c B XH I) (B.a (6 * I + (J + 1))) (B.b (6 * I + (J + 1)))) (B.d (6 * I + (J + 1))) (accV I J))
/-- Row block `I` of the result. -/
def outV (I : ℕ) : S1024x2048.Idx → Elt F .f32 :=
  finish (B.gf (6 * I + 5)) (accStep (k0_pay27 (nV c B XH I) (B.a (6 * I + 5)) (B.b (6 * I + 5))) (B.d (6 * I + 5)) (accV c B XH I 4))

/-- The row blocks of the result not yet written before row block `I`, -/
abbrev outsA (I : ℕ) : sProp 𝕄 := bigSep (Ring.aheadSet (NB := 16) I) (fun b => outAny c b)
/-- and those written and waited for. -/
abbrev outsB (e I : ℕ) : sProp 𝕄 := bigSep (Ring.behindSet (NB := 16) e I) (fun b => outIs c b (outV c B XH b.val))
/-- All row blocks of `h`, -/
abbrev hAll : sProp 𝕄 := bigSep Finset.univ (hIs c XH)
/-- all but one. -/
abbrev hBut (b : Fin 16) : sProp 𝕄 := bigSep (Finset.univ.erase b) (hIs c XH)
abbrev nAny : sProp 𝕄 := iprop(∃ f : Buf (Elt F) (nM.view.loc (c : Thread nD τ)), at_ c nM f)

/-- Held before the first step of all. -/
abbrev PStart : sProp 𝕄 := iprop(hAll c XH ∗ slotAny c (sl 0) ∗ slotAny c (sl 1) ∗ cellI c (sl 0) ∗ cellI c (sl 1) ∗ cellO c (sl 0) ∗ cellO c (sl 1)
  ∗ nAny c ∗ outsA c 0)
/-- Held after the last step of all. -/
abbrev PEnd : sProp 𝕄 := iprop(hAll c XH ∗ slotAny c (sl 0) ∗ slotAny c (sl 1) ∗ cellI c (sl 0) ∗ cellI c (sl 1) ∗ cellO c (sl 0) ∗ cellO c (sl 1)
  ∗ nAny c ∗ outsB c B XH 0 16)
/-- Held before the first step of row block `I ≥ 1`. -/
abbrev P0 (I : ℕ) : sProp 𝕄 := iprop(hBut c XH (bk I) ∗ fetching c XH (sl I) (bk I) ∗ cellI c (sl (I + 1)) ∗ cellO c (sl I)
  ∗ backing c (sl (I + 1)) (bk (I - 1)) (outV c B XH (I - 1)) ∗ nAny c ∗ outsA c I ∗ outsB c B XH 1 I)
/-- Before the second step of row block `I`: what its other slot is doing. -/
def X1 (I : ℕ) : sProp 𝕄 :=
  if 1 ≤ I then backing c (sl (I + 1)) (bk (I - 1)) (outV c B XH (I - 1)) else iprop(slotAny c (sl (I + 1)) ∗ cellO c (sl (I + 1)))
/-- Held before the second step of row block `I`. -/
abbrev P1 (I : ℕ) : sProp 𝕄 := iprop(hAll c XH ∗ slotIs c (sl I) (accV c B XH I 0) ∗ rd c nM (nV c B XH I) ∗ cellI c (sl I) ∗ cellI c (sl (I + 1)) ∗ cellO c (sl I)
  ∗ outsA c I ∗ outsB c B XH 1 I ∗ X1 c B XH I)
/-- After the second step of row block `I`: what its other slot is doing. -/
def X2 (I : ℕ) : sProp 𝕄 :=
  if I + 1 < 16 then iprop(fetching c XH (sl (I + 1)) (bk (I + 1)) ∗ hBut c XH (bk (I + 1))) else iprop(slotAny c (sl (I + 1)) ∗ cellI c (sl (I + 1)) ∗ hAll c XH)
/-- Held after `J + 1 ≥ 2` steps of row block `I`. -/
abbrev P2 (I J : ℕ) : sProp 𝕄 := iprop(slotIs c (sl I) (accV c B XH I J) ∗ rd c nM (nV c B XH I) ∗ cellI c (sl I) ∗ cellO c (sl I) ∗ cellO c (sl (I + 1))
  ∗ outsA c I ∗ outsB c B XH 0 I ∗ X2 c XH I)

/-- What the body holds before grid point `k`. -/
def Pk (k : ℕ) : sProp 𝕄 :=
  if k = 0 then PStart c XH else if k = 96 then PEnd c B XH else if k % 6 = 0 then P0 c B XH (k / 6)
  else if k % 6 = 1 then P1 c B XH (k / 6) else P2 c B XH (k / 6) (k % 6 - 1)

theorem Pk_start : Pk c B XH 0 = PStart c XH := by unfold Pk; rw [if_pos rfl]
theorem Pk_end : Pk c B XH 96 = PEnd c B XH := by unfold Pk; rw [if_neg (by decide), if_pos rfl]
theorem Pk_0 {k I : ℕ} (h1 : 1 ≤ I) (h2 : I < 16) (hk : k = 6 * I) : Pk c B XH k = P0 c B XH I := by
  unfold Pk; rw [if_neg (by omega), if_neg (by omega), if_pos (by omega), show k / 6 = I by omega]
theorem Pk_1 {k I : ℕ} (h2 : I < 16) (hk : k = 6 * I + 1) : Pk c B XH k = P1 c B XH I := by
  unfold Pk; rw [if_neg (by omega), if_neg (by omega), if_neg (by omega), if_pos (by omega), show k / 6 = I by omega]
theorem Pk_2 {k I J : ℕ} (h1 : 1 ≤ J) (h3 : J < 5) (h2 : I < 16) (hk : k = 6 * I + (J + 1)) : Pk c B XH k = P2 c B XH I J := by
  unfold Pk; rw [if_neg (by omega), if_neg (by omega), if_neg (by omega), if_neg (by omega), show k / 6 = I by omega, show k % 6 - 1 = J by omega]

theorem hAll_take (b : Fin 16) : hAll c XH = iprop(hIs c XH b ∗ hBut c XH b) := Ring.bigSep_take (Finset.mem_univ b) _

/-- The staged blocks at grid point `k`. -/
abbrev wins (k : ℕ) : sProp 𝕄 := iprop(rd c arg3 (B.g k) ∗ rd c arg4 (B.a k) ∗ rd c arg5 (B.b k) ∗ rd c arg6 (B.d k)
  ∗ rd c arg7 (B.a' k) ∗ rd c arg8 (B.b' k) ∗ rd c arg9 (B.d' k) ∗ rd c arg10 (B.gf k))

set_option backward.proofsInPublic true in
theorem step0 (i : grid0.Coords) (hj : (i 1).val = 0) (hi0 : 1 ≤ (i 0).val) (hI : (i 0).val < 16)
    (W : Waits sig Unit) (Q : PUnit → sProp 𝕄) :
    iprop((wins c arg3 arg4 arg5 arg6 arg7 arg8 arg9 arg10 B (6 * (i 0).val) ∗ Pk c B XH (6 * (i 0).val) ∗ owes (c : Thread nD τ) 0 W)
      ∗ ((wins c arg3 arg4 arg5 arg6 arg7 arg8 arg9 arg10 B (6 * (i 0).val) ∗ Pk c B XH (6 * (i 0).val + 1) ∗ ∃ W', owes (c : Thread nD τ) 0 W') -∗ Q ⟨⟩))
      ⊢ wp frame (wpE (defs₀ (F := F)) Variants.none (c : Thread nD τ) none) Set.univ
        (cc0_ffn_final i hM (Memref.isWhole_whole _) arg3 harg3 arg4 harg4 arg5 harg5 arg6 harg6 arg7 harg7 arg8 harg8 arg9 harg9 arg10 harg10
          outM (Memref.isWhole_whole _) accM (Memref.isWhole_whole _) nM (Memref.isWhole_whole _) cc0_scratch2 cc0_scratch3) Q := by
  rw [Pk_0 c B XH hi0 hI rfl, Pk_1 c B XH hI rfl]
  iintro ⟨⟨⟨H3, H4, H5, H6, H7, H8, H9, H10⟩, ⟨Hh, Hf, Hci, Hco, Hbk, ⟨%fn, Hn⟩, HA, HB⟩, HW⟩, Hk⟩
  iapply (firstRun c arg3 harg3 arg4 harg4 arg5 harg5 arg6 harg6 arg7 harg7 arg8 harg8 arg9 harg9 arg10 harg10 i hj hi0 (B.a _) (B.b _) (B.d _) (B.a' _) (B.b' _) (B.d' _) (B.g (6 * (i 0).val)) XH fn W Q)
  isplitl [H4 H5 H6 H7 H8 H9 H3 Hn Hf HW]
  · isplitl [H4]
    · iexact H4
    isplitl [H5]
    · iexact H5
    isplitl [H6]
    · iexact H6
    isplitl [H7]
    · iexact H7
    isplitl [H8]
    · iexact H8
    isplitl [H9]
    · iexact H9
    isplitl [H3]
    · iexact H3
    isplitl [Hn]
    · iexact Hn
    isplitl [Hf]
    · iexact Hf
    · iexact HW
  iintro ⟨H4, H5, H6, H7, H8, H9, H3, Hn, Hs, Hh0, Hci0, HW⟩
  iapply Hk
  isplitl [H3 H4 H5 H6 H7 H8 H9 H10]
  · isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    · iexact H10
  isplitl [Hh Hh0 Hs Hn Hci0 Hci Hco HA HB Hbk]
  · isplitl [Hh Hh0]
    · rw [hAll_take c XH (bk (i 0).val)]
      isplitl [Hh0] <;> iassumption
    isplitl [Hs]
    · iexact Hs
    isplitl [Hn]
    · unfold owns
      icases Hn with ⟨%f, %hf, Hn⟩
      ihave Hn := (pointsTo_rep_entails (c : Thread nD τ) nM f fullShare) $$ Hn
      rw [hf]
      iexact Hn
    isplitl [Hci0]
    · iexact Hci0
    isplitl [Hci]
    · iexact Hci
    isplitl [Hco]
    · iexact Hco
    isplitl [HA]
    · iexact HA
    isplitl [HB]
    · iexact HB
    · unfold X1
      rw [if_pos hi0]
      iexact Hbk
  · iexact HW

set_option backward.proofsInPublic true in
theorem step0s (i : grid0.Coords) (hj : (i 1).val = 0) (hi0 : (i 0).val = 0)
    (W : Waits sig Unit) (Q : PUnit → sProp 𝕄) :
    iprop((wins c arg3 arg4 arg5 arg6 arg7 arg8 arg9 arg10 B (0) ∗ Pk c B XH (0) ∗ owes (c : Thread nD τ) 0 W)
      ∗ ((wins c arg3 arg4 arg5 arg6 arg7 arg8 arg9 arg10 B (0) ∗ Pk c B XH (0 + 1) ∗ ∃ W', owes (c : Thread nD τ) 0 W') -∗ Q ⟨⟩))
      ⊢ wp frame (wpE (defs₀ (F := F)) Variants.none (c : Thread nD τ) none) Set.univ
        (cc0_ffn_final i hM (Memref.isWhole_whole _) arg3 harg3 arg4 harg4 arg5 harg5 arg6 harg6 arg7 harg7 arg8 harg8 arg9 harg9 arg10 harg10
          outM (Memref.isWhole_whole _) accM (Memref.isWhole_whole _) nM (Memref.isWhole_whole _) cc0_scratch2 cc0_scratch3) Q := by
  rw [Pk_1 c B XH (k := 0 + 1) (I := 0) (by omega) (by omega), Pk_start c B XH]
  iintro ⟨⟨⟨H3, H4, H5, H6, H7, H8, H9, H10⟩, ⟨Hh, Hs0, Hs1, Hc0, Hc1, Ho0, Ho1, ⟨%fn, Hn⟩, HA⟩, HW⟩, Hk⟩
  ihave Hh := (Entails.of_eq (hAll_take c XH (bk 0))) $$ Hh
  icases Hh with ⟨Hh0, Hh⟩
  have run := firstRun0 c arg3 harg3 arg4 harg4 arg5 harg5 arg6 harg6 arg7 harg7 arg8 harg8 arg9 harg9 arg10 harg10 i hj hi0 (B.a 0) (B.b 0) (B.d 0) (B.a' 0) (B.b' 0) (B.d' 0) (B.g 0) XH fn W Q
  rw [hi0] at run
  iapply run
  isplitl [H4 H5 H6 H7 H8 H9 H3 Hn Hs0 Hc0 Hh0 HW]
  · isplitl [H4]
    · iexact H4
    isplitl [H5]
    · iexact H5
    isplitl [H6]
    · iexact H6
    isplitl [H7]
    · iexact H7
    isplitl [H8]
    · iexact H8
    isplitl [H9]
    · iexact H9
    isplitl [H3]
    · iexact H3
    isplitl [Hn]
    · iexact Hn
    isplitl [Hs0]
    · iexact Hs0
    isplitl [Hc0]
    · iexact Hc0
    isplitl [Hh0]
    · iexact Hh0
    · iexact HW
  iintro ⟨H4, H5, H6, H7, H8, H9, H3, Hn, Hs, Hh0, Hci0, HW⟩
  iapply Hk
  isplitl [H3 H4 H5 H6 H7 H8 H9 H10]
  · isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    · iexact H10
  isplitl [Hh Hh0 Hs Hn Hci0 Hs1 Hc1 Ho0 Ho1 HA]
  · isplitl [Hh Hh0]
    · rw [hAll_take c XH (bk 0)]
      isplitl [Hh0]
      · iexact Hh0
      iexact Hh
    isplitl [Hs]
    · iexact Hs
    isplitl [Hn]
    · unfold owns
      icases Hn with ⟨%f, %hf, Hn⟩
      ihave Hn := (pointsTo_rep_entails (c : Thread nD τ) nM f fullShare) $$ Hn
      rw [hf]
      iexact Hn
    isplitl [Hci0]
    · iexact Hci0
    isplitl [Hc1]
    · iexact Hc1
    isplitl [Ho0]
    · iexact Ho0
    isplitl [HA]
    · iexact HA
    isplitl []
    · rw [show outsB c B XH 1 0 = iprop(emp) from by unfold outsB; rw [Ring.behindSet_boot 1 0 (by omega)]; exact bigSep_empty]
      iempintro
    · unfold X1
      rw [if_neg (by omega)]
      isplitl [Hs1] <;> iassumption
  · iexact HW

theorem outsA_open {I : ℕ} (h : I < 16) : (outsA c I : sProp 𝕄) = iprop(outAny c (bk I) ∗ outsA c (I + 1)) := by
  unfold outsA; rw [Ring.aheadSet_open I h]; exact Ring.bigSep_put (Ring.bk_not_mem_aheadSet_succ I h) _
theorem outsB_close {I : ℕ} (h1 : 1 ≤ I) (h : I ≤ 16) :
    outsB c B XH 0 I = iprop(outIs c (bk (I - 1)) (outV c B XH (I - 1)) ∗ outsB c B XH 1 I) := by
  have e : Ring.behindSet (NB := 16) 0 I = insert (bk (I - 1)) (Ring.behindSet 1 I) := by
    ext u; rw [Ring.mem_behindSet, Finset.mem_insert, Ring.mem_behindSet, Fin.ext_iff, Ring.bk_val (by omega)]; omega
  unfold outsB
  rw [e, Ring.bigSep_put (by rw [Ring.mem_behindSet, Ring.bk_val (by omega)]; omega), Ring.bk_val (show I - 1 < 16 by omega)]
theorem outsB_shift (I : ℕ) : outsB c B XH 1 (I + 1) = outsB c B XH 0 I := by
  have e : Ring.behindSet (NB := 16) 1 (I + 1) = Ring.behindSet 0 I := by
    ext u; rw [Ring.mem_behindSet, Ring.mem_behindSet]; omega
  unfold outsB; rw [e]
theorem X1_pos {I : ℕ} (h : 1 ≤ I) : X1 c B XH I = backing c (sl (I + 1)) (bk (I - 1)) (outV c B XH (I - 1)) := if_pos h
theorem X1_neg {I : ℕ} (h : ¬ 1 ≤ I) : X1 c B XH I = iprop(slotAny c (sl (I + 1)) ∗ cellO c (sl (I + 1))) := if_neg h
theorem X2_pos {I : ℕ} (h : I + 1 < 16) : X2 c XH I = iprop(fetching c XH (sl (I + 1)) (bk (I + 1)) ∗ hBut c XH (bk (I + 1))) := if_pos h
theorem X2_neg {I : ℕ} (h : ¬ I + 1 < 16) : X2 c XH I = iprop(slotAny c (sl (I + 1)) ∗ cellI c (sl (I + 1)) ∗ hAll c XH) := if_neg h
theorem outsB_last {I : ℕ} (h : I = 15) : outsB c B XH 0 16 = iprop(outIs c (bk I) (outV c B XH I) ∗ outsB c B XH 0 I) := by
  subst h; exact (outsB_close c B XH (by omega) (by omega)).trans (by rw [← outsB_shift c B XH 15])
theorem sl_two (I : ℕ) : sl (I + 1 + 1) = sl I := Ring.sl_add 2 I

set_option backward.proofsInPublic true in
theorem step1 (i : grid0.Coords) (hj : (i 1).val = 1) (hi0 : 1 ≤ (i 0).val) (hi1 : (i 0).val + 1 < 16) (hI : (i 0).val < 16)
    (W : Waits sig Unit) (Q : PUnit → sProp 𝕄) :
    iprop((wins c arg3 arg4 arg5 arg6 arg7 arg8 arg9 arg10 B (6 * (i 0).val + 1) ∗ Pk c B XH (6 * (i 0).val + 1) ∗ owes (c : Thread nD τ) 0 W)
      ∗ ((wins c arg3 arg4 arg5 arg6 arg7 arg8 arg9 arg10 B (6 * (i 0).val + 1) ∗ Pk c B XH (6 * (i 0).val + 1 + 1) ∗ ∃ W', owes (c : Thread nD τ) 0 W') -∗ Q ⟨⟩))
      ⊢ wp frame (wpE (defs₀ (F := F)) Variants.none (c : Thread nD τ) none) Set.univ
        (cc0_ffn_final i hM (Memref.isWhole_whole _) arg3 harg3 arg4 harg4 arg5 harg5 arg6 harg6 arg7 harg7 arg8 harg8 arg9 harg9 arg10 harg10
          outM (Memref.isWhole_whole _) accM (Memref.isWhole_whole _) nM (Memref.isWhole_whole _) cc0_scratch2 cc0_scratch3) Q := by
  rw [Pk_1 c B XH hI rfl, Pk_2 c B XH (J := 1) (by omega) (by omega) hI rfl]
  iintro ⟨⟨⟨H3, H4, H5, H6, H7, H8, H9, H10⟩, ⟨Hh, Hs, Hn, Hc, Hc', Ho, HA, HB, HX⟩, HW⟩, Hk⟩
  ihave HX := (Entails.of_eq (X1_pos c B XH hi0)) $$ HX
  ihave Hh := (Entails.of_eq (hAll_take c XH (bk ((i 0).val + 1)))) $$ Hh
  icases Hh with ⟨Hh0, Hh⟩
  iapply (secondRun c arg3 harg3 arg4 harg4 arg5 harg5 arg6 harg6 arg7 harg7 arg8 harg8 arg9 harg9 arg10 harg10 i hj hi0 hi1 (nV c B XH (i 0).val) (B.a _) (B.b _) (B.d _) (B.a' _) (B.b' _) (B.d' _) XH (outV c B XH ((i 0).val - 1)) (accV c B XH (i 0).val 0) W Q)
  isplitl [H4 H5 H6 H7 H8 H9 Hn Hs HX Hc' Hh0 HW]
  · isplitl [H4]
    · iexact H4
    isplitl [H5]
    · iexact H5
    isplitl [H6]
    · iexact H6
    isplitl [H7]
    · iexact H7
    isplitl [H8]
    · iexact H8
    isplitl [H9]
    · iexact H9
    isplitl [Hn]
    · iexact Hn
    isplitl [Hs]
    · iexact Hs
    isplitl [HX]
    · iexact HX
    isplitl [Hc']
    · iexact Hc'
    isplitl [Hh0]
    · iexact Hh0
    · iexact HW
  iintro ⟨H4, H5, H6, H7, H8, H9, Hn, Hs, HO, Ho', HF, HW⟩
  iapply Hk
  isplitl [H3 H4 H5 H6 H7 H8 H9 H10]
  · isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    · iexact H10
  isplitl [Hs Hn Hc Ho Ho' HA HB HO HF Hh]
  · isplitl [Hs]
    · iexact Hs
    isplitl [Hn]
    · iexact Hn
    isplitl [Hc]
    · iexact Hc
    isplitl [Ho]
    · iexact Ho
    isplitl [Ho']
    · iexact Ho'
    isplitl [HA]
    · iexact HA
    isplitl [HB HO]
    · rw [outsB_close c B XH hi0 (by omega)]
      isplitl [HO] <;> iassumption
    · unfold X2
      rw [if_pos hi1]
      isplitl [HF] <;> iassumption
  · iexact HW

set_option backward.proofsInPublic true in
theorem step1s (i : grid0.Coords) (hj : (i 1).val = 1) (hi0 : (i 0).val = 0) (hI : (i 0).val < 16)
    (W : Waits sig Unit) (Q : PUnit → sProp 𝕄) :
    iprop((wins c arg3 arg4 arg5 arg6 arg7 arg8 arg9 arg10 B (6 * (i 0).val + 1) ∗ Pk c B XH (6 * (i 0).val + 1) ∗ owes (c : Thread nD τ) 0 W)
      ∗ ((wins c arg3 arg4 arg5 arg6 arg7 arg8 arg9 arg10 B (6 * (i 0).val + 1) ∗ Pk c B XH (6 * (i 0).val + 1 + 1) ∗ ∃ W', owes (c : Thread nD τ) 0 W') -∗ Q ⟨⟩))
      ⊢ wp frame (wpE (defs₀ (F := F)) Variants.none (c : Thread nD τ) none) Set.univ
        (cc0_ffn_final i hM (Memref.isWhole_whole _) arg3 harg3 arg4 harg4 arg5 harg5 arg6 harg6 arg7 harg7 arg8 harg8 arg9 harg9 arg10 harg10
          outM (Memref.isWhole_whole _) accM (Memref.isWhole_whole _) nM (Memref.isWhole_whole _) cc0_scratch2 cc0_scratch3) Q := by
  rw [Pk_1 c B XH hI rfl, Pk_2 c B XH (J := 1) (by omega) (by omega) hI rfl]
  iintro ⟨⟨⟨H3, H4, H5, H6, H7, H8, H9, H10⟩, ⟨Hh, Hs, Hn, Hc, Hc', Ho, HA, HB, HX⟩, HW⟩, Hk⟩
  ihave HX := (Entails.of_eq (X1_neg c B XH (show ¬ 1 ≤ (i 0).val by omega))) $$ HX
  icases HX with ⟨Hs', Ho'⟩
  ihave Hh := (Entails.of_eq (hAll_take c XH (bk ((i 0).val + 1)))) $$ Hh
  icases Hh with ⟨Hh0, Hh⟩
  iapply (secondRun0 c arg3 harg3 arg4 harg4 arg5 harg5 arg6 harg6 arg7 harg7 arg8 harg8 arg9 harg9 arg10 harg10 i hj hi0 (nV c B XH (i 0).val) (B.a _) (B.b _) (B.d _) (B.a' _) (B.b' _) (B.d' _) XH (accV c B XH (i 0).val 0) W Q)
  isplitl [H4 H5 H6 H7 H8 H9 Hn Hs Hc' Hh0 Hs' HW]
  · isplitl [H4]
    · iexact H4
    isplitl [H5]
    · iexact H5
    isplitl [H6]
    · iexact H6
    isplitl [H7]
    · iexact H7
    isplitl [H8]
    · iexact H8
    isplitl [H9]
    · iexact H9
    isplitl [Hn]
    · iexact Hn
    isplitl [Hs]
    · iexact Hs
    isplitl [Hc']
    · iexact Hc'
    isplitl [Hh0]
    · iexact Hh0
    isplitl [Hs']
    · iexact Hs'
    · iexact HW
  iintro ⟨H4, H5, H6, H7, H8, H9, Hn, Hs, HF, HW⟩
  iapply Hk
  isplitl [H3 H4 H5 H6 H7 H8 H9 H10]
  · isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    · iexact H10
  isplitl [Hs Hn Hc Ho Ho' HA HB HF Hh]
  · isplitl [Hs]
    · iexact Hs
    isplitl [Hn]
    · iexact Hn
    isplitl [Hc]
    · iexact Hc
    isplitl [Ho]
    · iexact Ho
    isplitl [Ho']
    · iexact Ho'
    isplitl [HA]
    · iexact HA
    isplitl [HB]
    · rw [show outsB c B XH 0 (i 0).val = outsB c B XH 1 (i 0).val from by unfold outsB; rw [hi0, Ring.behindSet_boot 1 0 (by omega), Ring.behindSet_boot 0 0 (by omega)]]
      iexact HB
    · unfold X2
      rw [if_pos (by omega)]
      isplitl [HF] <;> iassumption
  · iexact HW

set_option backward.proofsInPublic true in
theorem step1l (i : grid0.Coords) (hj : (i 1).val = 1) (hi0 : (i 0).val = 15) (hI : (i 0).val < 16)
    (W : Waits sig Unit) (Q : PUnit → sProp 𝕄) :
    iprop((wins c arg3 arg4 arg5 arg6 arg7 arg8 arg9 arg10 B (6 * (i 0).val + 1) ∗ Pk c B XH (6 * (i 0).val + 1) ∗ owes (c : Thread nD τ) 0 W)
      ∗ ((wins c arg3 arg4 arg5 arg6 arg7 arg8 arg9 arg10 B (6 * (i 0).val + 1) ∗ Pk c B XH (6 * (i 0).val + 1 + 1) ∗ ∃ W', owes (c : Thread nD τ) 0 W') -∗ Q ⟨⟩))
      ⊢ wp frame (wpE (defs₀ (F := F)) Variants.none (c : Thread nD τ) none) Set.univ
        (cc0_ffn_final i hM (Memref.isWhole_whole _) arg3 harg3 arg4 harg4 arg5 harg5 arg6 harg6 arg7 harg7 arg8 harg8 arg9 harg9 arg10 harg10
          outM (Memref.isWhole_whole _) accM (Memref.isWhole_whole _) nM (Memref.isWhole_whole _) cc0_scratch2 cc0_scratch3) Q := by
  rw [Pk_1 c B XH hI rfl, Pk_2 c B XH (J := 1) (by omega) (by omega) hI rfl]
  iintro ⟨⟨⟨H3, H4, H5, H6, H7, H8, H9, H10⟩, ⟨Hh, Hs, Hn, Hc, Hc', Ho, HA, HB, HX⟩, HW⟩, Hk⟩
  ihave HX := (Entails.of_eq (X1_pos c B XH (show 1 ≤ (i 0).val by omega))) $$ HX
  iapply (secondRunL c arg3 harg3 arg4 harg4 arg5 harg5 arg6 harg6 arg7 harg7 arg8 harg8 arg9 harg9 arg10 harg10 i hj hi0 (nV c B XH (i 0).val) (B.a _) (B.b _) (B.d _) (B.a' _) (B.b' _) (B.d' _) (outV c B XH ((i 0).val - 1)) (accV c B XH (i 0).val 0) W Q)
  isplitl [H4 H5 H6 H7 H8 H9 Hn Hs HX HW]
  · isplitl [H4]
    · iexact H4
    isplitl [H5]
    · iexact H5
    isplitl [H6]
    · iexact H6
    isplitl [H7]
    · iexact H7
    isplitl [H8]
    · iexact H8
    isplitl [H9]
    · iexact H9
    isplitl [Hn]
    · iexact Hn
    isplitl [Hs]
    · iexact Hs
    isplitl [HX]
    · iexact HX
    · iexact HW
  iintro ⟨H4, H5, H6, H7, H8, H9, Hn, Hs, HO, Ho', Hs', HW⟩
  iapply Hk
  isplitl [H3 H4 H5 H6 H7 H8 H9 H10]
  · isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    · iexact H10
  isplitl [Hs Hn Hc Ho Ho' HA HB HO Hs' Hc' Hh]
  · isplitl [Hs]
    · iexact Hs
    isplitl [Hn]
    · iexact Hn
    isplitl [Hc]
    · iexact Hc
    isplitl [Ho]
    · iexact Ho
    isplitl [Ho']
    · iexact Ho'
    isplitl [HA]
    · iexact HA
    isplitl [HB HO]
    · rw [outsB_close c B XH (by omega) (by omega)]
      isplitl [HO] <;> iassumption
    · unfold X2
      rw [if_neg (by omega)]
      isplitl [Hs']
      · iexact Hs'
      isplitl [Hc'] <;> iassumption
  · iexact HW

set_option backward.proofsInPublic true in
theorem step2 (i : grid0.Coords) (J : ℕ) (hj : (i 1).val = J + 1 + 1) (hJ : J + 1 + 1 < 5) (hI : (i 0).val < 16)
    (W : Waits sig Unit) (Q : PUnit → sProp 𝕄) :
    iprop((wins c arg3 arg4 arg5 arg6 arg7 arg8 arg9 arg10 B (6 * (i 0).val + (J + 1 + 1)) ∗ Pk c B XH (6 * (i 0).val + (J + 1 + 1)) ∗ owes (c : Thread nD τ) 0 W)
      ∗ ((wins c arg3 arg4 arg5 arg6 arg7 arg8 arg9 arg10 B (6 * (i 0).val + (J + 1 + 1)) ∗ Pk c B XH (6 * (i 0).val + (J + 1 + 1) + 1) ∗ ∃ W', owes (c : Thread nD τ) 0 W') -∗ Q ⟨⟩))
      ⊢ wp frame (wpE (defs₀ (F := F)) Variants.none (c : Thread nD τ) none) Set.univ
        (cc0_ffn_final i hM (Memref.isWhole_whole _) arg3 harg3 arg4 harg4 arg5 harg5 arg6 harg6 arg7 harg7 arg8 harg8 arg9 harg9 arg10 harg10
          outM (Memref.isWhole_whole _) accM (Memref.isWhole_whole _) nM (Memref.isWhole_whole _) cc0_scratch2 cc0_scratch3) Q := by
  rw [Pk_2 c B XH (J := J + 1) (by omega) (by omega) hI rfl, Pk_2 c B XH (k := 6 * (i 0).val + (J + 1 + 1) + 1) (J := J + 1 + 1) (by omega) (by omega) hI rfl]
  iintro ⟨⟨⟨H3, H4, H5, H6, H7, H8, H9, H10⟩, ⟨Hs, Hn, Hc, Ho, Ho', HA, HB, HX⟩, HW⟩, Hk⟩
  iapply (midRun c arg3 harg3 arg4 harg4 arg5 harg5 arg6 harg6 arg7 harg7 arg8 harg8 arg9 harg9 arg10 harg10 i (by omega) (by omega) (nV c B XH (i 0).val) (B.a _) (B.b _) (B.d _) (B.a' _) (B.b' _) (B.d' _) (accV c B XH (i 0).val (J + 1)) W Q)
  isplitl [H4 H5 H6 H7 H8 H9 Hn Hs HW]
  · isplitl [H4]
    · iexact H4
    isplitl [H5]
    · iexact H5
    isplitl [H6]
    · iexact H6
    isplitl [H7]
    · iexact H7
    isplitl [H8]
    · iexact H8
    isplitl [H9]
    · iexact H9
    isplitl [Hn]
    · iexact Hn
    isplitl [Hs]
    · iexact Hs
    · iexact HW
  iintro ⟨H4, H5, H6, H7, H8, H9, Hn, Hs, HW⟩
  iapply Hk
  isplitl [H3 H4 H5 H6 H7 H8 H9 H10]
  · isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    · iexact H10
  isplitl [Hs Hn Hc Ho Ho' HA HB HX]
  · isplitl [Hs]
    · iexact Hs
    isplitl [Hn]
    · iexact Hn
    isplitl [Hc]
    · iexact Hc
    isplitl [Ho]
    · iexact Ho
    isplitl [Ho']
    · iexact Ho'
    isplitl [HA]
    · iexact HA
    isplitl [HB]
    · iexact HB
    · iexact HX
  · iexact HW

set_option backward.proofsInPublic true in
theorem step5 (i : grid0.Coords) (hj : (i 1).val = 5) (hi1 : (i 0).val + 1 < 16) (hI : (i 0).val < 16)
    (W : Waits sig Unit) (Q : PUnit → sProp 𝕄) :
    iprop((wins c arg3 arg4 arg5 arg6 arg7 arg8 arg9 arg10 B (6 * (i 0).val + 5) ∗ Pk c B XH (6 * (i 0).val + 5) ∗ owes (c : Thread nD τ) 0 W)
      ∗ ((wins c arg3 arg4 arg5 arg6 arg7 arg8 arg9 arg10 B (6 * (i 0).val + 5) ∗ Pk c B XH (6 * (i 0).val + 5 + 1) ∗ ∃ W', owes (c : Thread nD τ) 0 W') -∗ Q ⟨⟩))
      ⊢ wp frame (wpE (defs₀ (F := F)) Variants.none (c : Thread nD τ) none) Set.univ
        (cc0_ffn_final i hM (Memref.isWhole_whole _) arg3 harg3 arg4 harg4 arg5 harg5 arg6 harg6 arg7 harg7 arg8 harg8 arg9 harg9 arg10 harg10
          outM (Memref.isWhole_whole _) accM (Memref.isWhole_whole _) nM (Memref.isWhole_whole _) cc0_scratch2 cc0_scratch3) Q := by
  rw [Pk_2 c B XH (J := 4) (by omega) (by omega) hI rfl, Pk_0 c B XH (k := 6 * (i 0).val + 5 + 1) (I := (i 0).val + 1) (by omega) hi1 (by omega)]
  iintro ⟨⟨⟨H3, H4, H5, H6, H7, H8, H9, H10⟩, ⟨Hs, Hn, Hc, Ho, Ho', HA, HB, HX⟩, HW⟩, Hk⟩
  ihave HX := (Entails.of_eq (X2_pos c XH hi1)) $$ HX
  icases HX with ⟨HF, Hh⟩
  ihave HA := (Entails.of_eq (outsA_open c hI)) $$ HA
  icases HA with ⟨HO, HA⟩
  iapply (lastRun c arg3 harg3 arg4 harg4 arg5 harg5 arg6 harg6 arg7 harg7 arg8 harg8 arg9 harg9 arg10 harg10 i hj hi1 (nV c B XH (i 0).val) (B.a _) (B.b _) (B.d _) (B.gf _) (accV c B XH (i 0).val 4) W Q)
  isplitl [H4 H5 H6 H10 Hn Hs Ho HO HW]
  · isplitl [H4]
    · iexact H4
    isplitl [H5]
    · iexact H5
    isplitl [H6]
    · iexact H6
    isplitl [H10]
    · iexact H10
    isplitl [Hn]
    · iexact Hn
    isplitl [Hs]
    · iexact Hs
    isplitl [Ho]
    · iexact Ho
    isplitl [HO]
    · iexact HO
    · iexact HW
  iintro ⟨H4, H5, H6, H10, Hn, Hb, HW⟩
  iapply Hk
  isplitl [H3 H4 H5 H6 H7 H8 H9 H10]
  · isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    · iexact H10
  isplitl [Hh HF Hc Ho' Hb Hn HA HB]
  · isplitl [Hh]
    · iexact Hh
    isplitl [HF]
    · iexact HF
    isplitl [Hc]
    · rw [sl_two (i 0).val]
      iexact Hc
    isplitl [Ho']
    · iexact Ho'
    isplitl [Hb]
    · rw [sl_two (i 0).val, Nat.add_sub_cancel]
      iexact Hb
    isplitl [Hn]
    · iexists _
      iexact Hn
    isplitl [HA]
    · iexact HA
    · rw [outsB_shift]
      iexact HB
  · iexact HW

set_option backward.proofsInPublic true in
theorem step5l (i : grid0.Coords) (hj : (i 1).val = 5) (hi1 : (i 0).val = 15) (hI : (i 0).val < 16)
    (W : Waits sig Unit) (Q : PUnit → sProp 𝕄) :
    iprop((wins c arg3 arg4 arg5 arg6 arg7 arg8 arg9 arg10 B (6 * (i 0).val + 5) ∗ Pk c B XH (6 * (i 0).val + 5) ∗ owes (c : Thread nD τ) 0 W)
      ∗ ((wins c arg3 arg4 arg5 arg6 arg7 arg8 arg9 arg10 B (6 * (i 0).val + 5) ∗ Pk c B XH (6 * (i 0).val + 5 + 1) ∗ ∃ W', owes (c : Thread nD τ) 0 W') -∗ Q ⟨⟩))
      ⊢ wp frame (wpE (defs₀ (F := F)) Variants.none (c : Thread nD τ) none) Set.univ
        (cc0_ffn_final i hM (Memref.isWhole_whole _) arg3 harg3 arg4 harg4 arg5 harg5 arg6 harg6 arg7 harg7 arg8 harg8 arg9 harg9 arg10 harg10
          outM (Memref.isWhole_whole _) accM (Memref.isWhole_whole _) nM (Memref.isWhole_whole _) cc0_scratch2 cc0_scratch3) Q := by
  rw [Pk_2 c B XH (J := 4) (by omega) (by omega) hI rfl, show 6 * (i 0).val + 5 + 1 = 96 from by omega, Pk_end c B XH]
  iintro ⟨⟨⟨H3, H4, H5, H6, H7, H8, H9, H10⟩, ⟨Hs, Hn, Hc, Ho, Ho', HA, HB, HX⟩, HW⟩, Hk⟩
  ihave HX := (Entails.of_eq (X2_neg c XH (show ¬ (i 0).val + 1 < 16 by omega))) $$ HX
  icases HX with ⟨Hs', Hc', Hh⟩
  ihave HA := (Entails.of_eq (outsA_open c hI)) $$ HA
  icases HA with ⟨HO, HA⟩
  have e1 : sl 1 = sl (i 0).val := by rw [hi1]; rfl
  have e0 : sl 0 = sl ((i 0).val + 1) := by rw [hi1]; rfl
  iapply (lastRunL c arg3 harg3 arg4 harg4 arg5 harg5 arg6 harg6 arg7 harg7 arg8 harg8 arg9 harg9 arg10 harg10 i hj hi1 (nV c B XH (i 0).val) (B.a _) (B.b _) (B.d _) (B.gf _) (accV c B XH (i 0).val 4) W Q)
  isplitl [H4 H5 H6 H10 Hn Hs Ho HO HW]
  · isplitl [H4]
    · iexact H4
    isplitl [H5]
    · iexact H5
    isplitl [H6]
    · iexact H6
    isplitl [H10]
    · iexact H10
    isplitl [Hn]
    · iexact Hn
    isplitl [Hs]
    · iexact Hs
    isplitl [Ho]
    · iexact Ho
    isplitl [HO]
    · iexact HO
    · iexact HW
  iintro ⟨H4, H5, H6, H10, Hn, Hb, Hs, Ho, HW⟩
  iapply Hk
  isplitl [H3 H4 H5 H6 H7 H8 H9 H10]
  · isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    · iexact H10
  isplitl [Hh Hs' Hs Hc' Hc Ho' Ho Hn HB Hb]
  · unfold PEnd
    rw [e0, e1]
    isplitl [Hh]
    · iexact Hh
    isplitl [Hs']
    · iexact Hs'
    isplitl [Hs]
    · iexact Hs
    isplitl [Hc']
    · iexact Hc'
    isplitl [Hc]
    · iexact Hc
    isplitl [Ho']
    · iexact Ho'
    isplitl [Ho]
    · iexact Ho
    isplitl [Hn]
    · iexists _
      iexact Hn
    · rw [outsB_last c B XH hi1]
      isplitl [Hb]
      · iexact Hb
      · iexact HB
  · iexact HW

/-- The body meets what it holds, at every grid point. -/
theorem step_all (i : grid0.Coords) (k : ℕ) (hk : k = 6 * (i 0).val + (i 1).val)
    (W : Waits sig Unit) (Q : PUnit → sProp 𝕄) :
    iprop((wins c arg3 arg4 arg5 arg6 arg7 arg8 arg9 arg10 B (k) ∗ Pk c B XH (k) ∗ owes (c : Thread nD τ) 0 W)
      ∗ ((wins c arg3 arg4 arg5 arg6 arg7 arg8 arg9 arg10 B (k) ∗ Pk c B XH (k + 1) ∗ ∃ W', owes (c : Thread nD τ) 0 W') -∗ Q ⟨⟩))
      ⊢ wp frame (wpE (defs₀ (F := F)) Variants.none (c : Thread nD τ) none) Set.univ
        (cc0_ffn_final i hM (Memref.isWhole_whole _) arg3 harg3 arg4 harg4 arg5 harg5 arg6 harg6 arg7 harg7 arg8 harg8 arg9 harg9 arg10 harg10
          outM (Memref.isWhole_whole _) accM (Memref.isWhole_whole _) nM (Memref.isWhole_whole _) cc0_scratch2 cc0_scratch3) Q := by
  have hI : (i 0).val < 16 := (i 0).isLt
  have hJ : (i 1).val < 6 := (i 1).isLt
  obtain hj | hj | ⟨J, hj, hJ'⟩ | hj : (i 1).val = 0 ∨ (i 1).val = 1 ∨ (∃ J, (i 1).val = J + 1 + 1 ∧ J + 1 + 1 < 5) ∨ (i 1).val = 5 := by
    rcases Nat.lt_or_ge (i 1).val 2 with h | h
    · omega
    · by_cases h5 : (i 1).val = 5
      · exact Or.inr (Or.inr (Or.inr h5))
      · exact Or.inr (Or.inr (Or.inl ⟨(i 1).val - 2, by omega, by omega⟩))
  · rcases Nat.eq_zero_or_pos (i 0).val with h0 | h0
    · obtain rfl : k = 0 := by omega
      exact step0s c arg3 harg3 arg4 harg4 arg5 harg5 arg6 harg6 arg7 harg7 arg8 harg8 arg9 harg9 arg10 harg10 B XH i hj h0 W Q
    · obtain rfl : k = 6 * (i 0).val := by omega
      exact step0 c arg3 harg3 arg4 harg4 arg5 harg5 arg6 harg6 arg7 harg7 arg8 harg8 arg9 harg9 arg10 harg10 B XH i hj h0 hI W Q
  · obtain rfl : k = 6 * (i 0).val + 1 := by omega
    rcases Nat.eq_zero_or_pos (i 0).val with h0 | h0
    · exact step1s c arg3 harg3 arg4 harg4 arg5 harg5 arg6 harg6 arg7 harg7 arg8 harg8 arg9 harg9 arg10 harg10 B XH i hj h0 hI W Q
    · by_cases h1 : (i 0).val + 1 < 16
      · exact step1 c arg3 harg3 arg4 harg4 arg5 harg5 arg6 harg6 arg7 harg7 arg8 harg8 arg9 harg9 arg10 harg10 B XH i hj h0 h1 hI W Q
      · exact step1l c arg3 harg3 arg4 harg4 arg5 harg5 arg6 harg6 arg7 harg7 arg8 harg8 arg9 harg9 arg10 harg10 B XH i hj (by omega) hI W Q
  · obtain rfl : k = 6 * (i 0).val + (J + 1 + 1) := by omega
    exact step2 c arg3 harg3 arg4 harg4 arg5 harg5 arg6 harg6 arg7 harg7 arg8 harg8 arg9 harg9 arg10 harg10 B XH i J hj hJ' hI W Q
  · obtain rfl : k = 6 * (i 0).val + 5 := by omega
    by_cases h1 : (i 0).val + 1 < 16
    · exact step5 c arg3 harg3 arg4 harg4 arg5 harg5 arg6 harg6 arg7 harg7 arg8 harg8 arg9 harg9 arg10 harg10 B XH i hj h1 hI W Q
    · exact step5l c arg3 harg3 arg4 harg4 arg5 harg5 arg6 harg6 arg7 harg7 arg8 harg8 arg9 harg9 arg10 harg10 B XH i hj (by omega) hI W Q

end Cert.Proof.Ffn
-- ==== Proof.Oblig.lean ====
/-
  What the pipeline hands the body at a grid point, and that the body meets it at every point.
-/
module

public import proofs.«01_k».proof.Proof.Inv
public import proofs.«01_k».proof.Proof.Gen.KernelIdeal.Launch
public import Idealize.ShloMosaic.Lib.Pipeline.Routed

@[expose] public section

noncomputable section

namespace Cert.Proof.Ffn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (Pipeline.UD sig nD τ) ℕ

open Idealize.ShloMosaic.Pipeline (Dat BodyObligation)

variable (m : (ℓ : Loc nD τ sig) → Buf (Elt F) ℓ)

/-- The rows `h` as launched. -/
abbrev XA (c : Dev nD) : Buf (Elt F) (hM.view.loc (c : Thread nD τ)) := V m c main_arg0

/-- Grid point `k`. -/
def tk (k : ℕ) : Fin cfg0.N := ⟨k % 96, Nat.mod_lt _ (by decide)⟩
theorem tk_val (t : Fin cfg0.N) : tk t.val = t := Fin.ext (Nat.mod_eq_of_lt t.isLt)

/-- The blocks the pipeline stages, read off the arrays the host operations leave. -/
def blocks (c : Dev nD) : Blocks F where
  g k := iblk m c 0 (tk k)
  a k := iblk m c 1 (tk k)
  b k := iblk m c 2 (tk k)
  d k := iblk m c 3 (tk k)
  a' k := iblk m c 4 (tk k)
  b' k := iblk m c 5 (tk k)
  d' k := iblk m c 6 (tk k)
  gf k := iblk m c 7 (tk k)

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
  Φ t := Pk c (blocks m c) (XA m c) t.val
  q w := Pipeline.shareOf spec0 w
  owed _ := 0

theorem before_w0 (c : Dev nD) (t : Fin cfg0.N) (d) : (dats m 0 c).before 0 t d = iblk m c 0 t :=
  ((dats m 0 c).before_in_eq_fetched 0 rfl (fun _ => rfl) (fun _ _ _ => rfl) (fun t => by dsimp only [dats]; unfold Dat.blockOf iblk; rfl) t d).trans
    (by unfold Dat.fetched Dat.blockOf iblk; dsimp only [dats]; rfl)
theorem before_w1 (c : Dev nD) (t : Fin cfg0.N) (d) : (dats m 0 c).before 1 t d = iblk m c 1 t :=
  ((dats m 0 c).before_in_eq_fetched 1 rfl (fun _ => rfl) (fun _ _ _ => rfl) (fun t => by dsimp only [dats]; unfold Dat.blockOf iblk; rfl) t d).trans
    (by unfold Dat.fetched Dat.blockOf iblk; dsimp only [dats]; rfl)
theorem before_w2 (c : Dev nD) (t : Fin cfg0.N) (d) : (dats m 0 c).before 2 t d = iblk m c 2 t :=
  ((dats m 0 c).before_in_eq_fetched 2 rfl (fun _ => rfl) (fun _ _ _ => rfl) (fun t => by dsimp only [dats]; unfold Dat.blockOf iblk; rfl) t d).trans
    (by unfold Dat.fetched Dat.blockOf iblk; dsimp only [dats]; rfl)
theorem before_w3 (c : Dev nD) (t : Fin cfg0.N) (d) : (dats m 0 c).before 3 t d = iblk m c 3 t :=
  ((dats m 0 c).before_in_eq_fetched 3 rfl (fun _ => rfl) (fun _ _ _ => rfl) (fun t => by dsimp only [dats]; unfold Dat.blockOf iblk; rfl) t d).trans
    (by unfold Dat.fetched Dat.blockOf iblk; dsimp only [dats]; rfl)
theorem before_w4 (c : Dev nD) (t : Fin cfg0.N) (d) : (dats m 0 c).before 4 t d = iblk m c 4 t :=
  ((dats m 0 c).before_in_eq_fetched 4 rfl (fun _ => rfl) (fun _ _ _ => rfl) (fun t => by dsimp only [dats]; unfold Dat.blockOf iblk; rfl) t d).trans
    (by unfold Dat.fetched Dat.blockOf iblk; dsimp only [dats]; rfl)
theorem before_w5 (c : Dev nD) (t : Fin cfg0.N) (d) : (dats m 0 c).before 5 t d = iblk m c 5 t :=
  ((dats m 0 c).before_in_eq_fetched 5 rfl (fun _ => rfl) (fun _ _ _ => rfl) (fun t => by dsimp only [dats]; unfold Dat.blockOf iblk; rfl) t d).trans
    (by unfold Dat.fetched Dat.blockOf iblk; dsimp only [dats]; rfl)
theorem before_w6 (c : Dev nD) (t : Fin cfg0.N) (d) : (dats m 0 c).before 6 t d = iblk m c 6 t :=
  ((dats m 0 c).before_in_eq_fetched 6 rfl (fun _ => rfl) (fun _ _ _ => rfl) (fun t => by dsimp only [dats]; unfold Dat.blockOf iblk; rfl) t d).trans
    (by unfold Dat.fetched Dat.blockOf iblk; dsimp only [dats]; rfl)
theorem before_w7 (c : Dev nD) (t : Fin cfg0.N) (d) : (dats m 0 c).before 7 t d = iblk m c 7 t :=
  ((dats m 0 c).before_in_eq_fetched 7 rfl (fun _ => rfl) (fun _ _ _ => rfl) (fun t => by dsimp only [dats]; unfold Dat.blockOf iblk; rfl) t d).trans
    (by unfold Dat.fetched Dat.blockOf iblk; dsimp only [dats]; rfl)
theorem after_w0 (c : Dev nD) (t : Fin cfg0.N) : (dats m 0 c).after 0 t = iblk m c 0 t := by dsimp only [dats]
theorem after_w1 (c : Dev nD) (t : Fin cfg0.N) : (dats m 0 c).after 1 t = iblk m c 1 t := by dsimp only [dats]
theorem after_w2 (c : Dev nD) (t : Fin cfg0.N) : (dats m 0 c).after 2 t = iblk m c 2 t := by dsimp only [dats]
theorem after_w3 (c : Dev nD) (t : Fin cfg0.N) : (dats m 0 c).after 3 t = iblk m c 3 t := by dsimp only [dats]
theorem after_w4 (c : Dev nD) (t : Fin cfg0.N) : (dats m 0 c).after 4 t = iblk m c 4 t := by dsimp only [dats]
theorem after_w5 (c : Dev nD) (t : Fin cfg0.N) : (dats m 0 c).after 5 t = iblk m c 5 t := by dsimp only [dats]
theorem after_w6 (c : Dev nD) (t : Fin cfg0.N) : (dats m 0 c).after 6 t = iblk m c 6 t := by dsimp only [dats]
theorem after_w7 (c : Dev nD) (t : Fin cfg0.N) : (dats m 0 c).after 7 t = iblk m c 7 t := by dsimp only [dats]

theorem coord0 : ∀ t : Fin cfg0.N, (grid0.coords t 0).val = t.val / 6 := by decide +kernel
theorem coord1 : ∀ t : Fin cfg0.N, (grid0.coords t 1).val = t.val % 6 := by decide +kernel

theorem defs_tc : (defs₀ (F := F)) .tc cfg0.body = fun a =>
    cc0_ffn_final (grid0.coords a.1) (Memref.whole main_arg0) (Memref.isWhole_whole _) (win0_0.stage (a.2 0)) (hstage0_0 ((a.2 0).cast nbuf0_0)) (win0_1.stage (a.2 1)) (hstage0_1 ((a.2 1).cast nbuf0_1)) (win0_2.stage (a.2 2)) (hstage0_2 ((a.2 2).cast nbuf0_2)) (win0_3.stage (a.2 3)) (hstage0_3 ((a.2 3).cast nbuf0_3)) (win0_4.stage (a.2 4)) (hstage0_4 ((a.2 4).cast nbuf0_4)) (win0_5.stage (a.2 5)) (hstage0_5 ((a.2 5).cast nbuf0_5)) (win0_6.stage (a.2 6)) (hstage0_6 ((a.2 6).cast nbuf0_6)) (win0_7.stage (a.2 7)) (hstage0_7 ((a.2 7).cast nbuf0_7)) (Memref.whole main_v5) (Memref.isWhole_whole _) (Memref.whole cc0_scratch0) (Memref.isWhole_whole _) (Memref.whole cc0_scratch1) (Memref.isWhole_whole _) cc0_scratch2 cc0_scratch3 := rfl
theorem prog_eq (t : Fin cfg0.N) : (defs₀ (F := F)) .tc cfg0.body (cfg0.bodyArgs t (cfg0.slots t)) = bodyAt0 t :=
  (congrFun defs_tc _).trans rfl
theorem block_0 (c : Dev nD) (t : Fin cfg0.N) : (blocks m c).g t.val = iblk m c 0 t := by unfold blocks; dsimp only; rw [tk_val]
theorem block_1 (c : Dev nD) (t : Fin cfg0.N) : (blocks m c).a t.val = iblk m c 1 t := by unfold blocks; dsimp only; rw [tk_val]
theorem block_2 (c : Dev nD) (t : Fin cfg0.N) : (blocks m c).b t.val = iblk m c 2 t := by unfold blocks; dsimp only; rw [tk_val]
theorem block_3 (c : Dev nD) (t : Fin cfg0.N) : (blocks m c).d t.val = iblk m c 3 t := by unfold blocks; dsimp only; rw [tk_val]
theorem block_4 (c : Dev nD) (t : Fin cfg0.N) : (blocks m c).a' t.val = iblk m c 4 t := by unfold blocks; dsimp only; rw [tk_val]
theorem block_5 (c : Dev nD) (t : Fin cfg0.N) : (blocks m c).b' t.val = iblk m c 5 t := by unfold blocks; dsimp only; rw [tk_val]
theorem block_6 (c : Dev nD) (t : Fin cfg0.N) : (blocks m c).d' t.val = iblk m c 6 t := by unfold blocks; dsimp only; rw [tk_val]
theorem block_7 (c : Dev nD) (t : Fin cfg0.N) : (blocks m c).gf t.val = iblk m c 7 t := by unfold blocks; dsimp only; rw [tk_val]

/-- The staged blocks at point `t`. -/
theorem wins_eq (c : Dev nD) (t : Fin cfg0.N) :
    wins c (st0_0 t) (st0_1 t) (st0_2 t) (st0_3 t) (st0_4 t) (st0_5 t) (st0_6 t) (st0_7 t) (blocks m c) t.val
      = iprop(rd c (st0_0 t) (iblk m c 0 t) ∗ rd c (st0_1 t) (iblk m c 1 t) ∗ rd c (st0_2 t) (iblk m c 2 t) ∗ rd c (st0_3 t) (iblk m c 3 t) ∗ rd c (st0_4 t) (iblk m c 4 t) ∗ rd c (st0_5 t) (iblk m c 5 t) ∗ rd c (st0_6 t) (iblk m c 6 t) ∗ rd c (st0_7 t) (iblk m c 7 t)) := by
  unfold wins
  rw [block_0, block_1, block_2, block_3, block_4, block_5, block_6, block_7]

/-- The body at point `t`. -/
theorem step_at (c : Dev nD) (t : Fin cfg0.N) (W : Waits sig Unit) (Q : PUnit → sProp 𝕄) :
    iprop(((rd c (st0_0 t) (iblk m c 0 t) ∗ rd c (st0_1 t) (iblk m c 1 t) ∗ rd c (st0_2 t) (iblk m c 2 t) ∗ rd c (st0_3 t) (iblk m c 3 t) ∗ rd c (st0_4 t) (iblk m c 4 t) ∗ rd c (st0_5 t) (iblk m c 5 t) ∗ rd c (st0_6 t) (iblk m c 6 t) ∗ rd c (st0_7 t) (iblk m c 7 t)) ∗ Pk c (blocks m c) (XA m c) t.val ∗ owes (c : Thread nD τ) 0 W)
      ∗ (((rd c (st0_0 t) (iblk m c 0 t) ∗ rd c (st0_1 t) (iblk m c 1 t) ∗ rd c (st0_2 t) (iblk m c 2 t) ∗ rd c (st0_3 t) (iblk m c 3 t) ∗ rd c (st0_4 t) (iblk m c 4 t) ∗ rd c (st0_5 t) (iblk m c 5 t) ∗ rd c (st0_6 t) (iblk m c 6 t) ∗ rd c (st0_7 t) (iblk m c 7 t)) ∗ Pk c (blocks m c) (XA m c) (t.val + 1) ∗ ∃ W', owes (c : Thread nD τ) 0 W') -∗ Q ⟨⟩))
      ⊢ wp frame (wpE (defs₀ (F := F)) Variants.none (c : Thread nD τ) none) Set.univ (bodyAt0 t) Q := by
  rw [← wins_eq]
  exact step_all c (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7))
    (blocks m c) (XA m c) (grid0.coords t) t.val (by rw [coord0, coord1]; omega) W Q

set_option backward.isDefEq.respectTransparency.types false in
theorem body_obligation (c : Dev nD) : BodyObligation (dats (F := F) m 0 c) (defs₀ (F := F)) Variants.none () Set.univ := fun t => by
  rw [bigSep_W0, bigSep_W0]
  dsimp only
  simp only [before_w0, before_w1, before_w2, before_w3, before_w4, before_w5, before_w6, before_w7, after_w0, after_w1, after_w2, after_w3, after_w4, after_w5, after_w6, after_w7]
  rw [show (dats m 0 c).Φ t.castSucc = Pk c (blocks m c) (XA m c) t.val from rfl,
    show (dats m 0 c).Φ t.succ = Pk c (blocks m c) (XA m c) (t.val + 1) from rfl]
  unfold Dat.owesAt Pipeline.owesWithin
  rw [show (dats m 0 c).owed t.castSucc = 0 from rfl, show (dats m 0 c).owed t.succ = 0 from rfl]
  unfold owns
  iintro ⟨HP, ⟨%W, -, HW⟩, ⟨%d0, %g0, %hg0, H0⟩, ⟨%d1, %g1, %hg1, H1⟩, ⟨%d2, %g2, %hg2, H2⟩, ⟨%d3, %g3, %hg3, H3⟩, ⟨%d4, %g4, %hg4, H4⟩, ⟨%d5, %g5, %hg5, H5⟩, ⟨%d6, %g6, %hg6, H6⟩, ⟨%d7, %g7, %hg7, H7⟩⟩
  ihave H0' := (pointsTo_rep_of_read (c : Thread nD τ) (st0_0 t) g0 fullShare _ hg0) $$ H0
  ihave H1' := (pointsTo_rep_of_read (c : Thread nD τ) (st0_1 t) g1 fullShare _ hg1) $$ H1
  ihave H2' := (pointsTo_rep_of_read (c : Thread nD τ) (st0_2 t) g2 fullShare _ hg2) $$ H2
  ihave H3' := (pointsTo_rep_of_read (c : Thread nD τ) (st0_3 t) g3 fullShare _ hg3) $$ H3
  ihave H4' := (pointsTo_rep_of_read (c : Thread nD τ) (st0_4 t) g4 fullShare _ hg4) $$ H4
  ihave H5' := (pointsTo_rep_of_read (c : Thread nD τ) (st0_5 t) g5 fullShare _ hg5) $$ H5
  ihave H6' := (pointsTo_rep_of_read (c : Thread nD τ) (st0_6 t) g6 fullShare _ hg6) $$ H6
  ihave H7' := (pointsTo_rep_of_read (c : Thread nD τ) (st0_7 t) g7 fullShare _ hg7) $$ H7
  sl_rw [prog_eq t]
  iapply (step_at m c t W _)
  isplitl [HP HW H0' H1' H2' H3' H4' H5' H6' H7']
  · isplitl [H0' H1' H2' H3' H4' H5' H6' H7']
    · isplitl [H0']; · iexact H0'
      isplitl [H1']; · iexact H1'
      isplitl [H2']; · iexact H2'
      isplitl [H3']; · iexact H3'
      isplitl [H4']; · iexact H4'
      isplitl [H5']; · iexact H5'
      isplitl [H6']; · iexact H6'
      iexact H7'
    isplitl [HP]
    · iexact HP
    iexact HW
  · iintro ⟨⟨H0, H1, H2, H3, H4, H5, H6, H7⟩, HP, ⟨%W', HW⟩⟩
    isplitl [HP]
    · iexact HP
    isplitl [HW]
    · iexists W'
      isplitr
      · ipureintro; exact fun _ _ => Or.inl trivial
      iexact HW
    isplitl [H0]
    · iexists _
      isplitr
      · ipureintro; exact View.read_rep _ _
      iexact H0
    isplitl [H1]
    · iexists _
      isplitr
      · ipureintro; exact View.read_rep _ _
      iexact H1
    isplitl [H2]
    · iexists _
      isplitr
      · ipureintro; exact View.read_rep _ _
      iexact H2
    isplitl [H3]
    · iexists _
      isplitr
      · ipureintro; exact View.read_rep _ _
      iexact H3
    isplitl [H4]
    · iexists _
      isplitr
      · ipureintro; exact View.read_rep _ _
      iexact H4
    isplitl [H5]
    · iexists _
      isplitr
      · ipureintro; exact View.read_rep _ _
      iexact H5
    isplitl [H6]
    · iexists _
      isplitr
      · ipureintro; exact View.read_rep _ _
      iexact H6
    iexists _
    isplitr
    · ipureintro; exact View.read_rep _ _
    iexact H7

end Cert.Proof.Ffn
-- ==== Proof.Run.lean ====
/-
  The launch: what the arguments and the scratch buffers bring to the body, what it leaves, and the run of the program.
-/
module

public import proofs.«01_k».proof.Proof.Oblig
public import Idealize.ShloMosaic.Lib.Pipeline.Quiescent
public import Idealize.ShloMosaic.Lib.Pipeline.FrameSuffix

@[expose] public section

noncomputable section

namespace Cert.Proof.Ffn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (Pipeline.UD sig nD τ) ℕ

open Idealize.ShloMosaic.ValueIdx
open Idealize.ShloMosaic.Pipeline (Dat BodyObligation cells launchToks)

variable (m : (ℓ : Loc nD τ sig) → Buf (Elt F) ℓ) (ρ : Dev nD → PrngReg)

/-- The kernel's own semaphores: the cells of the two fetches and of the two write-backs. -/
abbrev osem : Fin 4 → SemLoc sig := ![.dma (inC 0).sem, .dma (inC 1).sem, .dma (outC 0).sem, .dma (outC 1).sem]
theorem ownSemFacts : Pipeline.OwnSemFacts spec0 osem := by decide

theorem bigSep_fin4 (Φ : Fin 4 → sProp 𝕄) : bigSep Finset.univ Φ = iprop(Φ 0 ∗ Φ 1 ∗ Φ 2 ∗ Φ 3) :=
  bigSep_univ_eq_bigSepL [(0 : Fin 4), (1 : Fin 4), (2 : Fin 4), (3 : Fin 4)] (by decide) (by decide) Φ
theorem bigSep_fin2 (Φ : Fin 2 → sProp 𝕄) : bigSep Finset.univ Φ = iprop(Φ 0 ∗ Φ 1) :=
  bigSep_univ_eq_bigSepL [(0 : Fin 2), (1 : Fin 2)] (by decide) (by decide) Φ

theorem ownSems0_eq (c : Dev nD) : (Pipeline.ownSems0 (Ix := Unit) (Name := ℕ) (U := Pipeline.UD sig nD τ) (Lvl := ℕ) (Val := Elt F) (τ := τ) osem c : sProp 𝕄)
    = iprop(cellI c 0 ∗ cellI c 1 ∗ cellO c 0 ∗ cellO c 1) := by
  unfold Pipeline.ownSems0; rw [bigSep_fin4]; rfl

/-- `h` whole is its row blocks. -/
theorem h_eq (c : Dev nD) (XH : Buf (Elt F) (hM.view.loc (c : Thread nD τ))) :
    (((c : Thread nD τ).loc main_arg0) ↦{fullShare} XH : sProp 𝕄) = hAll c XH := by
  rw [Ring.pointsTo_blocks (ℓ := (c : Thread nD τ).loc main_arg0) _ rows_disjoint rows_cover]
  exact bigSep_congr fun b _ => by rw [← set_hB]; rfl
/-- The result whole is its row blocks. -/
theorem o_eq (c : Dev nD) (G : Buf (Elt F) (outM.view.loc (c : Thread nD τ))) :
    (((c : Thread nD τ).loc main_v5) ↦{fullShare} G : sProp 𝕄) = bigSep Finset.univ (fun b : Fin 16 => at_ c (oB b) G) := by
  rw [Ring.pointsTo_blocks (ℓ := (c : Thread nD τ).loc main_v5) _ rows_disjoint rows_cover]
  exact bigSep_congr fun b _ => by rw [← set_oB]; rfl

/-- The result, row block by row block. -/
def finalOut (c : Dev nD) : S16384x2048.Idx → Elt F .f32 := fun y =>
  outV c (blocks m c) (XA m c) ((y 0).val / 1024) (ix2 (⟨(y 0).val % 1024, Nat.mod_lt _ (by decide)⟩ : Fin 1024) (y 1 : Fin 2048))

theorem read_finalOut (c : Dev nD) (b : Fin 16) :
    (oB b).view.read (Elt F) (show Buf (Elt F) ((oB b).view.loc (c : Thread nD τ)) from finalOut m c) = outV c (blocks m c) (XA m c) b.val := by
  funext y
  obtain ⟨p, q, rfl⟩ : ∃ (p : Fin 1024) (q : Fin 2048), y = ix2 p q := ⟨y 0, y 1, eq_ix2 y⟩
  have h0 : (1024 * b.val + 1 * p.val) / 1024 = b.val := by have := p.isLt; omega
  have h1 : (1024 * b.val + 1 * p.val) % 1024 = p.val := by have := p.isLt; omega
  show outV c (blocks m c) (XA m c) ((1024 * b.val + 1 * p.val) / 1024)
    (ix2 (⟨(1024 * b.val + 1 * p.val) % 1024, Nat.mod_lt _ (by decide)⟩ : Fin 1024) (⟨0 + 1 * q.val, _⟩ : Fin 2048)) = _
  rw [h0]
  refine congrArg _ ?_
  congr 1
  · exact Fin.ext h1
  · exact Fin.ext (by show 0 + 1 * q.val = q.val; omega)

theorem out_is (c : Dev nD) (b : Fin 16) :
    (outIs c b (outV c (blocks m c) (XA m c) b.val) : sProp 𝕄) ⊢ at_ c (oB b) (show Buf (Elt F) ((oB b).view.loc (c : Thread nD τ)) from finalOut m c) := by
  iintro ⟨%f, %hf, H⟩
  ihave H := (pointsTo_rep_of_read (c : Thread nD τ) (oB b) f fullShare _ hf) $$ H
  iapply (Entails.of_eq (pointsTo_rep (c : Thread nD τ) (oB b) (show Buf (Elt F) ((oB b).view.loc (c : Thread nD τ)) from finalOut m c) fullShare).symm)
  rw [read_finalOut]
  iexact H

/-- All row blocks written are the result. -/
theorem outs_join (c : Dev nD) :
    (outsB c (blocks m c) (XA m c) 0 16 : sProp 𝕄) ⊢ ((c : Thread nD τ).loc main_v5) ↦{fullShare} finalOut m c := by
  have e : Ring.behindSet (NB := 16) 0 16 = Finset.univ := by
    ext u; rw [Ring.mem_behindSet]; have := u.isLt; simp only [Finset.mem_univ, iff_true]; omega
  unfold outsB
  rw [o_eq, e]
  exact bigSep_mono fun b _ => out_is m c b
/-- The result's buffer at some contents is its row blocks at some contents. -/
theorem outs_split (c : Dev nD) (G : Buf (Elt F) (outM.view.loc (c : Thread nD τ))) :
    (((c : Thread nD τ).loc main_v5) ↦{fullShare} G : sProp 𝕄) ⊢ outsA c 0 := by
  unfold outsA
  rw [o_eq, Ring.aheadSet_zero]
  exact bigSep_mono fun b _ => (show at_ c (oB b) G ⊢ (outAny c b : sProp 𝕄) from by iintro H; iexists G; iexact H)

theorem slot_eq (c : Dev nD) (s : Fin 2) (f : Buf (Elt F) (accM.view.loc (c : Thread nD τ))) : (at_ c (accS s) f : sProp 𝕄)
    = ((c : Thread nD τ).loc cc0_scratch0) ↦[(Rect.unit (s := S2x1024x2048) (slotOff s) S1x1024x2048.size (slotOff_inb s)).set]{fullShare} f :=
  congrArg (fun S => (_ ↦[S]{fullShare} f : sProp 𝕄)) (set_accS s)
/-- The accumulator whole is its two slots, and back. -/
theorem acc_split (c : Dev nD) :
    iprop(∃ f : Buf (Elt F) ((c : Thread nD τ).loc cc0_scratch0), ((c : Thread nD τ).loc cc0_scratch0) ↦{fullShare} f)
      ⊢ (iprop(slotAny c 0 ∗ slotAny c 1) : sProp 𝕄) := by
  iintro ⟨%f, H⟩
  ihave H2 := (Entails.of_eq ((Ring.pointsTo_blocks (Ix := Unit) (Name := ℕ) (U := Pipeline.UD sig nD τ) (Lvl := ℕ) (q := fullShare) (ℓ := (c : Thread nD τ).loc cc0_scratch0) _ slots_disjoint slots_cover f).trans (bigSep_fin2 _))) $$ H
  icases H2 with ⟨H0, H1⟩
  isplitl [H0]
  · iexists f; iapply (Entails.of_eq (slot_eq c 0 f).symm); iexact H0
  · iexists f; iapply (Entails.of_eq (slot_eq c 1 f).symm); iexact H1
theorem acc_join (c : Dev nD) :
    (iprop(slotAny c 0 ∗ slotAny c 1) : sProp 𝕄)
      ⊢ iprop(∃ f : Buf (Elt F) ((c : Thread nD τ).loc cc0_scratch0), ((c : Thread nD τ).loc cc0_scratch0) ↦{fullShare} f) := by
  iintro ⟨⟨%f0, H0⟩, ⟨%f1, H1⟩⟩
  iapply (Ring.pointsTo_blocks_join_exists (ℓ := (c : Thread nD τ).loc cc0_scratch0) _ slots_disjoint slots_cover f0)
  irw [bigSep_fin2]
  isplitl [H0]
  · iexists f0; iapply (Entails.of_eq (slot_eq c 0 f0)); iexact H0
  · iexists f1; iapply (Entails.of_eq (slot_eq c 1 f1)); iexact H1
theorem n_eq (c : Dev nD) (f : Buf (Elt F) (nM.view.loc (c : Thread nD τ))) : (at_ c nM f : sProp 𝕄) = ((c : Thread nD τ).loc cc0_scratch1) ↦{fullShare} f :=
  congrArg (fun S => (_ ↦[S]{fullShare} f : sProp 𝕄)) (View.set_whole _)

/-- The arguments the region is not handed. -/
abbrev restArgs (c : Dev nD) : sProp 𝕄 := iprop((((c : Thread nD τ).loc main_arg1) ↦{fullShare} V m c main_arg1) ∗ (((c : Thread nD τ).loc main_arg2) ↦{fullShare} V m c main_arg2)
  ∗ (((c : Thread nD τ).loc main_arg3) ↦{fullShare} V m c main_arg3) ∗ (((c : Thread nD τ).loc main_arg4) ↦{fullShare} V m c main_arg4) ∗ (((c : Thread nD τ).loc main_arg5) ↦{fullShare} V m c main_arg5))
def intoP (c : Dev nD) : sProp 𝕄 := iprop(hAll c (XA m c) ∗ outsA c 0 ∗ Pipeline.ownSems0 osem c)
def outOfP (c : Dev nD) : sProp 𝕄 := iprop((((c : Thread nD τ).loc main_arg0) ↦{fullShare} XA m c) ∗ ((c : Thread nD τ).loc main_v5) ↦{fullShare} finalOut m c)
def u₀ : Pipeline.UD sig nD τ := (initOf (cells cfgs cellOf_inj) (launchToks cfgs cellOf_inj), 1)
def QY (c : Dev nD) (s : MemSt nD τ sig (Elt F)) : Prop :=
  s.mem ((c : Thread nD τ).loc main_v5) = finalOut m c ∧ s.mem ((c : Thread nD τ).loc main_arg0) = V m c main_arg0 ∧ s.mem ((c : Thread nD τ).loc main_arg1) = V m c main_arg1
  ∧ s.mem ((c : Thread nD τ).loc main_arg2) = V m c main_arg2 ∧ s.mem ((c : Thread nD τ).loc main_arg3) = V m c main_arg3
  ∧ s.mem ((c : Thread nD τ).loc main_arg4) = V m c main_arg4 ∧ s.mem ((c : Thread nD τ).loc main_arg5) = V m c main_arg5

theorem into_start (c : Dev nD) : iprop(intoP m c ∗ Pipeline.scopedRest spec0 c) ⊢ (dats m 0 c).Φ 0 := by
  rw [scopedRest0_eq, show (dats m 0 c).Φ 0 = Pk c (blocks m c) (XA m c) 0 from rfl, Pk_start]
  unfold intoP
  rw [ownSems0_eq]
  iintro ⟨⟨Hh, Ho, Hc0, Hc1, Hc2, Hc3⟩, Ha, ⟨%f, Hn⟩⟩
  ihave Hs := (acc_split c) $$ Ha
  icases Hs with ⟨Hs0, Hs1⟩
  isplitl [Hh]; · iexact Hh
  isplitl [Hs0]; · iexact Hs0
  isplitl [Hs1]; · iexact Hs1
  isplitl [Hc0]; · iexact Hc0
  isplitl [Hc1]; · iexact Hc1
  isplitl [Hc2]; · iexact Hc2
  isplitl [Hc3]; · iexact Hc3
  isplitl [Hn]
  · iexists f; iapply (Entails.of_eq (n_eq c f).symm); iexact Hn
  iexact Ho

theorem out_end (c : Dev nD) : (dats m 0 c).Φ (Fin.last cfg0.N) ⊢ iprop(outOfP m c ∗ Pipeline.ownSems0 osem c ∗ Pipeline.scopedRest spec0 c) := by
  rw [scopedRest0_eq, show (dats m 0 c).Φ (Fin.last cfg0.N) = Pk c (blocks m c) (XA m c) 96 from rfl, Pk_end, ownSems0_eq]
  unfold outOfP
  rw [h_eq]
  iintro ⟨Hh, Hs0, Hs1, Hc0, Hc1, Hc2, Hc3, ⟨%f, Hn⟩, Ho⟩
  isplitl [Hh Ho]
  · isplitl [Hh]; · iexact Hh
    iapply (outs_join m c)
    iexact Ho
  isplitl [Hc0 Hc1 Hc2 Hc3]
  · isplitl [Hc0]; · iexact Hc0
    isplitl [Hc1]; · iexact Hc1
    isplitl [Hc2]; · iexact Hc2
    iexact Hc3
  isplitl [Hs0 Hs1]
  · iapply (acc_join c)
    isplitl [Hs0]; · iexact Hs0
    iexact Hs1
  · iexists f; iapply (Entails.of_eq (n_eq c f)); iexact Hn

theorem read_end (c : Dev nD) (s' : Phys nD τ sig (Elt F)) : iprop(outOfP m c ∗ restArgs m c ∗ SI s') ⊢ (|={Set.univ}=> iprop(⌜QY m c s'.mem⌝ ∗ SI s') : sProp 𝕄) := by
  unfold outOfP
  iintro ⟨⟨H0, HO⟩, ⟨H1, H2, H3, H4, H5⟩, HSI⟩
  icombine HSI H0 gives %h0
  icombine HSI HO gives %hO
  icombine HSI H1 gives %h1
  icombine HSI H2 gives %h2
  icombine HSI H3 gives %h3
  icombine HSI H4 gives %h4
  icombine HSI H5 gives %h5
  imodintro
  isplitr
  · ipureintro
    exact ⟨Buf.eq_of_forall_mem_univ hO, Buf.eq_of_forall_mem_univ h0, Buf.eq_of_forall_mem_univ h1, Buf.eq_of_forall_mem_univ h2,
      Buf.eq_of_forall_mem_univ h3, Buf.eq_of_forall_mem_univ h4, Buf.eq_of_forall_mem_univ h5⟩
  iexact HSI

set_option backward.isDefEq.respectTransparency.types false in
/-- From any memory with zero counters: every weakly fair execution terminates, the result at `finalOut`, the arguments
    unchanged, every counter at zero. -/
theorem run_main : θ_run defs (onTc (τ := τ) (main (F := F))) ⟨m, fun _ => 0, ρ⟩ (fun r => (∀ c : Dev nD, QY m c r.2) ∧ r.2.sem = fun _ => 0) :=
  Pipeline.θ_run_region_pf_quiescent (fun p => (cfgs p).toPCfg) (fun p => (cfgs p).toPCfg_adm) (dats m) () cellOf_inj (0 : Fin 1) winFacts₀0 ownSemFacts
    (Pipeline.PreFacts.none _) embL defs₀ Variants.none m ρ main
    (fun c => (body_obligation m c).loose) block_pos0 arr_whole0 stage_whole0 (fun _ _ => rfl) (G := fun _ => iprop(emp)) u₀
    (by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (V m) (Pipeline.hmain_prefix cfgs 0 defs₀ Variants.none m main hostOps0 hostOps0_sub hostOps0_fresh main_chain)
    (fun c => (dats m 0 c).arrays_split_shared sharedIn0 arr_whole0 (fun _ _ => rfl) (V m c) _ (fun _ => rfl))
    (fun _ k => k.elim0) (intoP m) (outOfP m) (restArgs m)
    (fun c => by
      rw [Pipeline.unscopedRestP_none]
      rw [unscopedRest0_eq, h_eq]
      unfold intoP
      iintro ⟨⟨H0, H1, H2, H3, H4, H5, HO⟩, HS, -, -, -⟩
      imodintro
      isplitl [H0 HO HS]
      · isplitl [H0]; · iexact H0
        isplitl [HO]
        · iapply (outs_split c _); iexact HO
        iexact HS
      isplitl [H1]; · iexact H1
      isplitl [H2]; · iexact H2
      isplitl [H3]; · iexact H3
      isplitl [H4]; · iexact H4
      iexact H5)
    (fun c => (show _ ⊢ iprop(intoP m c ∗ Pipeline.scopedRest spec0 c) from by
      iintro ⟨HX, -, HR⟩; isplitl [HX] <;> iassumption).trans (into_start m c))
    (out_end m) (QY m) (read_end m) fun s h hz => ⟨fun c => (h c).2.2, hz⟩

end Cert.Proof.Ffn
-- ==== Proof.Blocks.lean ====
/-
  What each staged block holds of the arguments, at the extended reals: a weight block the columns (or rows) from
  the offset its element-indexed window names, a gain the whole gain, a row block the rows of `h`.
-/
module

public import proofs.«01_k».proof.Proof.Run
public import Idealize.ShloMosaic.Lib.Pointwise

@[expose] public section

set_option maxRecDepth 16384

noncomputable section

namespace Cert.Proof.Ffn

open Cert.KernelIdeal Cert.KernelIdeal.Gen
open Idealize.ShloMosaic
open Idealize.ShloMosaic.TcCoe

variable (m : (ℓ : Loc nD τ sig) → Buf (Elt Ideal) ℓ) (c : Dev nD)

/-- The arguments at launch. -/
abbrev aH : S16384x2048.Idx → EReal := m ((c.tc : Thread nD τ).loc main_arg0)
abbrev aG : S2048.Idx → EReal := m ((c.tc : Thread nD τ).loc main_arg1)
abbrev aWg : S2048x5504.Idx → EReal := m ((c.tc : Thread nD τ).loc main_arg2)
abbrev aWu : S2048x5504.Idx → EReal := m ((c.tc : Thread nD τ).loc main_arg3)
abbrev aWd : S5504x2048.Idx → EReal := m ((c.tc : Thread nD τ).loc main_arg4)
abbrev aGf : S2048.Idx → EReal := m ((c.tc : Thread nD τ).loc main_arg5)

theorem V_v0 : (V m c main_v0 : S2048x5504.Idx → EReal) = aWg m c := by
  dsimp only [V, hostOps0]; after_results; rfl
theorem V_v1 : (V m c main_v1 : S2048x5504.Idx → EReal) = aWu m c := by
  dsimp only [V, hostOps0]; after_results; rfl
theorem V_v2 : (V m c main_v2 : S5504x2048.Idx → EReal) = aWd m c := by
  dsimp only [V, hostOps0]; after_results; rfl
theorem V_v3 (f : Fin 2048) : (V m c main_v3 : S1x2048.Idx → EReal) (ix2 (0 : Fin 1) f) = aG m c (ix1 f) := by
  dsimp only [V, hostOps0]; after_results; pointwise
theorem V_v4 (f : Fin 2048) : (V m c main_v4 : S1x2048.Idx → EReal) (ix2 (0 : Fin 1) f) = aGf m c (ix1 f) := by
  dsimp only [V, hostOps0]; after_results; pointwise

/-- Where hidden block `b` begins: the last one begins early enough to end with the array. -/
def start (b : ℕ) : ℕ := min (b * 512) 4992

theorem start_le (b : ℕ) : start b + 512 ≤ 5504 := by unfold start; omega

theorem off_2 : ∀ t : Fin cfg0.N, cc0_transform_2 (cfg0.grid.coords t) = ![0, start (2 * (t.val % 6))] := by decide +kernel
theorem off_3 : ∀ t : Fin cfg0.N, cc0_transform_3 (cfg0.grid.coords t) = ![0, start (2 * (t.val % 6))] := by decide +kernel
theorem off_4 : ∀ t : Fin cfg0.N, cc0_transform_4 (cfg0.grid.coords t) = ![start (2 * (t.val % 6)), 0] := by decide +kernel
theorem off_5 : ∀ t : Fin cfg0.N, cc0_transform_5 (cfg0.grid.coords t) = ![0, start (min (2 * (t.val % 6) + 1) 9)] := by decide +kernel
theorem off_6 : ∀ t : Fin cfg0.N, cc0_transform_6 (cfg0.grid.coords t) = ![0, start (min (2 * (t.val % 6) + 1) 9)] := by decide +kernel
theorem off_7 : ∀ t : Fin cfg0.N, cc0_transform_7 (cfg0.grid.coords t) = ![start (min (2 * (t.val % 6) + 1) 9), 0] := by decide +kernel

/-- Lane `l` of hidden block `b`. -/
abbrev lane (b : ℕ) (l : Fin 512) : Fin 5504 := ⟨start b + l.val, by have := start_le b; omega⟩

theorem blk_a (t : Fin cfg0.N) (f : Fin 2048) (l : Fin 512) :
    (iblk m c 1 t : S2048x512.Idx → EReal) (ix2 f l) = aWg m c (ix2 f (lane (2 * (t.val % 6)) l)) := by
  rw [← V_v0]
  show V m c main_v0 _ = V m c main_v0 _
  refine congrArg (V m c main_v0) (funext fun a => ?_)
  have h := off_2 t
  fin_cases a <;> refine Fin.ext ?_
  · show cc0_transform_2 (cfg0.grid.coords t) 0 + 1 * f.val = f.val
    rw [h]; show 0 + 1 * f.val = _; omega
  · show cc0_transform_2 (cfg0.grid.coords t) 1 + 1 * l.val = _
    rw [h]; show start _ + 1 * l.val = start _ + l.val; omega

theorem blk_b (t : Fin cfg0.N) (f : Fin 2048) (l : Fin 512) :
    (iblk m c 2 t : S2048x512.Idx → EReal) (ix2 f l) = aWu m c (ix2 f (lane (2 * (t.val % 6)) l)) := by
  rw [← V_v1]
  show V m c main_v1 _ = V m c main_v1 _
  refine congrArg (V m c main_v1) (funext fun a => ?_)
  have h := off_3 t
  fin_cases a <;> refine Fin.ext ?_
  · show cc0_transform_3 (cfg0.grid.coords t) 0 + 1 * f.val = f.val
    rw [h]; show 0 + 1 * f.val = _; omega
  · show cc0_transform_3 (cfg0.grid.coords t) 1 + 1 * l.val = _
    rw [h]; show start _ + 1 * l.val = start _ + l.val; omega

theorem blk_d (t : Fin cfg0.N) (l : Fin 512) (q : Fin 2048) :
    (iblk m c 3 t : S512x2048.Idx → EReal) (ix2 l q) = aWd m c (ix2 (lane (2 * (t.val % 6)) l) q) := by
  rw [← V_v2]
  show V m c main_v2 _ = V m c main_v2 _
  refine congrArg (V m c main_v2) (funext fun a => ?_)
  have h := off_4 t
  fin_cases a <;> refine Fin.ext ?_
  · show cc0_transform_4 (cfg0.grid.coords t) 0 + 1 * l.val = _
    rw [h]; show start _ + 1 * l.val = start _ + l.val; omega
  · show cc0_transform_4 (cfg0.grid.coords t) 1 + 1 * q.val = q.val
    rw [h]; show 0 + 1 * q.val = _; omega

theorem blk_a' (t : Fin cfg0.N) (f : Fin 2048) (l : Fin 512) :
    (iblk m c 4 t : S2048x512.Idx → EReal) (ix2 f l) = aWg m c (ix2 f (lane (min (2 * (t.val % 6) + 1) 9) l)) := by
  rw [← V_v0]
  show V m c main_v0 _ = V m c main_v0 _
  refine congrArg (V m c main_v0) (funext fun a => ?_)
  have h := off_5 t
  fin_cases a <;> refine Fin.ext ?_
  · show cc0_transform_5 (cfg0.grid.coords t) 0 + 1 * f.val = f.val
    rw [h]; show 0 + 1 * f.val = _; omega
  · show cc0_transform_5 (cfg0.grid.coords t) 1 + 1 * l.val = _
    rw [h]; show start _ + 1 * l.val = start _ + l.val; omega

theorem blk_b' (t : Fin cfg0.N) (f : Fin 2048) (l : Fin 512) :
    (iblk m c 5 t : S2048x512.Idx → EReal) (ix2 f l) = aWu m c (ix2 f (lane (min (2 * (t.val % 6) + 1) 9) l)) := by
  rw [← V_v1]
  show V m c main_v1 _ = V m c main_v1 _
  refine congrArg (V m c main_v1) (funext fun a => ?_)
  have h := off_6 t
  fin_cases a <;> refine Fin.ext ?_
  · show cc0_transform_6 (cfg0.grid.coords t) 0 + 1 * f.val = f.val
    rw [h]; show 0 + 1 * f.val = _; omega
  · show cc0_transform_6 (cfg0.grid.coords t) 1 + 1 * l.val = _
    rw [h]; show start _ + 1 * l.val = start _ + l.val; omega

theorem blk_d' (t : Fin cfg0.N) (l : Fin 512) (q : Fin 2048) :
    (iblk m c 6 t : S512x2048.Idx → EReal) (ix2 l q) = aWd m c (ix2 (lane (min (2 * (t.val % 6) + 1) 9) l) q) := by
  rw [← V_v2]
  show V m c main_v2 _ = V m c main_v2 _
  refine congrArg (V m c main_v2) (funext fun a => ?_)
  have h := off_7 t
  fin_cases a <;> refine Fin.ext ?_
  · show cc0_transform_7 (cfg0.grid.coords t) 0 + 1 * l.val = _
    rw [h]; show start _ + 1 * l.val = start _ + l.val; omega
  · show cc0_transform_7 (cfg0.grid.coords t) 1 + 1 * q.val = q.val
    rw [h]; show 0 + 1 * q.val = _; omega

theorem blk_g (t : Fin cfg0.N) (f : Fin 2048) : (iblk m c 0 t : S1x2048.Idx → EReal) (ix2 (0 : Fin 1) f) = aG m c (ix1 f) := by
  rw [← V_v3]
  show V m c main_v3 _ = V m c main_v3 _
  refine congrArg (V m c main_v3) (funext fun a => ?_)
  fin_cases a <;> refine Fin.ext ?_
  · show 0 * 1 + 1 * 0 = 0; omega
  · show 0 * 2048 + 1 * f.val = f.val; omega

theorem blk_gf (t : Fin cfg0.N) (f : Fin 2048) : (iblk m c 7 t : S1x2048.Idx → EReal) (ix2 (0 : Fin 1) f) = aGf m c (ix1 f) := by
  rw [← V_v4]
  show V m c main_v4 _ = V m c main_v4 _
  refine congrArg (V m c main_v4) (funext fun a => ?_)
  fin_cases a <;> refine Fin.ext ?_
  · show 0 * 1 + 1 * 0 = 0; omega
  · show 0 * 2048 + 1 * f.val = f.val; omega

/-- Row block `I` of `h`. -/
theorem hV_apply (I : ℕ) (hI : I < 16) (p : Fin 1024) (q : Fin 2048) :
    (hV c (XA m c) I : S1024x2048.Idx → EReal) (ix2 p q) = aH m c (ix2 (⟨I * 1024 + p.val, by omega⟩ : Fin 16384) q) := by
  rw [show aH m c = V m c main_arg0 from (V_main_arg0 m c).symm]
  show V m c main_arg0 _ = V m c main_arg0 _
  refine congrArg (V m c main_arg0) (funext fun a => ?_)
  have e : (bk I).val = I := Nat.mod_eq_of_lt hI
  fin_cases a <;> refine Fin.ext ?_
  · show rowOff (bk I) 0 + 1 * p.val = I * 1024 + p.val
    unfold rowOff
    show _ + 1 * p.val = _
    simp only [e, Matrix.cons_val_zero]; omega
  · show 0 + 1 * q.val = q.val; omega

end Cert.Proof.Ffn
-- ==== Proof.Payload.lean ====
/-
  The body's computed vectors at the extended reals, each read at one element.
-/
module

public import proofs.«01_k».proof.Proof.Gen.KernelIdeal.Skeleton
public import Idealize.ShloMosaic.Lib.Pointwise

@[expose] public section

set_option maxRecDepth 16384

noncomputable section

namespace Cert.Proof.Ffn

open Cert.KernelIdeal Cert.KernelIdeal.Gen
open Idealize.ShloMosaic

/-- The patterns of the body's constants: one half, the number of columns, the small addend of the norm. -/
abbrev half : EReal := Ideal.ofBits .f32 0x3F000000#32
abbrev cols : EReal := Ideal.ofBits .f32 0x45000000#32
abbrev eps : EReal := Ideal.ofBits .f32 0x358637BD#32

theorem pay1_apply (act : S1024x512.Idx → Elt Ideal .bf16) (x : S1x1024x512.Idx → Elt Ideal .f32) (d : S512x512.Idx → Elt Ideal .bf16)
    (p : Fin 1024) (q : Fin 512) :
    k0_pay1 (F := Ideal) act x d (ix3 (0 : Fin 1) p q) = x (ix3 (0 : Fin 1) p q) + ∑ l : Fin 512, act (ix2 p l) * d (ix2 l q) := by
  pointwise [k0_pay1]

theorem pay18_apply (n : S1024x2048.Idx → Elt Ideal .bf16) (a b : S2048x512.Idx → Elt Ideal .bf16) (p : Fin 1024) (l : Fin 512) :
    k0_pay18 (F := Ideal) n a b (ix2 p l)
      = half * ((∑ f : Fin 2048, n (ix2 p f) * a (ix2 f l)) * Ideal.logistic (∑ f : Fin 2048, n (ix2 p f) * a (ix2 f l)))
        * (∑ f : Fin 2048, n (ix2 p f) * b (ix2 f l)) := by
  pointwise [k0_pay18]

theorem pay27_apply (n : S1024x2048.Idx → Elt Ideal .bf16) (a b : S2048x512.Idx → Elt Ideal .bf16) (p : Fin 1024) (l : Fin 512) :
    k0_pay27 (F := Ideal) n a b (ix2 p l) = if 128 ≤ l.val then k0_pay18 (F := Ideal) n a b (ix2 p l) else 0 := by
  have h : ∀ l : Fin 512, IntOp.cmpi .sge (BitVec.ofNat 32 l.val) 128#32 = if 128 ≤ l.val then 1#1 else 0#1 := by decide +kernel
  pointwise [k0_pay27, k0_pay18]
  rw [h l]
  split
  · rfl
  · rfl

theorem pay3_apply (x : S1x1024x2048.Idx → Elt Ideal .f32) (g : S1x2048.Idx → Elt Ideal .f32) (p : Fin 1024) (f : Fin 2048) :
    k0_pay3 (F := Ideal) x g (ix2 p f)
      = x (ix3 (0 : Fin 1) p f) * Ideal.rsqrt (Ideal.div (∑ k : Fin 2048, x (ix3 (0 : Fin 1) p k) * x (ix3 (0 : Fin 1) p k)) cols + eps)
        * g (ix2 (0 : Fin 1) f) := by
  pointwise [k0_pay3]

theorem pay2_apply (x : S1x1024x2048.Idx → Elt Ideal .f32) (g : S1x2048.Idx → Elt Ideal .f32) (p : Fin 1024) (f : Fin 2048) :
    k0_pay2 (F := Ideal) (k0_pay33 x) (k0_pay34 g) (k0_pay35 x) k0_pay36 (ix3 (0 : Fin 1) p f)
      = x (ix3 (0 : Fin 1) p f) * Ideal.rsqrt (Ideal.div (∑ k : Fin 2048, x (ix3 (0 : Fin 1) p k) * x (ix3 (0 : Fin 1) p k)) cols + eps)
        * g (ix2 (0 : Fin 1) f) := by
  pointwise [k0_pay2, k0_pay33, k0_pay34, k0_pay35, k0_pay36]

/-- One half is a real number that is not negative. -/
theorem half_eq : half = ((1 / 2 : ℝ) : EReal) := by
  show Ideal.ofBits .f32 0x3F000000#32 = _
  simp [Ideal.ofBits, Ideal.ieee, -EReal.coe_mul]; norm_num

/-- It distributes over a sum of extended reals. -/
theorem half_mul_sum {ι : Type} (s : Finset ι) (f : ι → EReal) : ∑ i ∈ s, half * f i = half * ∑ i ∈ s, f i := by
  classical
  have h0 : (0 : EReal) ≤ half := by rw [half_eq]; exact_mod_cast (by norm_num : (0 : ℝ) ≤ 1 / 2)
  have ht : half ≠ ⊤ := by rw [half_eq]; exact EReal.coe_ne_top _
  induction s using Finset.induction_on with
  | empty => simp
  | insert a s ha ih => rw [Finset.sum_insert ha, Finset.sum_insert ha, ih, EReal.left_distrib_of_nonneg_of_ne_top h0 ht]

end Cert.Proof.Ffn
-- ==== Proof.Reference.lean ====
/-
  The reference's stages at the extended reals, each read at one element.
-/
module

public import proofs.«01_k».proof.Proof.Gen.ReferenceIdeal.Read
public import Idealize.ShloMosaic.Lib.Pointwise
public import proofs.«01_k».proof.Proof.Payload

@[expose] public section

set_option maxRecDepth 16384

noncomputable section

namespace Cert.Proof.Ffn

open Cert.ReferenceIdeal Cert.ReferenceIdeal.Read
open Idealize.ShloMosaic

variable (x0 : S16384x2048.Idx → Elt Ideal .f32) (x1 : S2048.Idx → Elt Ideal .f32) (x2 x3 : S2048x5504.Idx → Elt Ideal .f32)
  (x4 : S5504x2048.Idx → Elt Ideal .f32) (x5 : S2048.Idx → Elt Ideal .f32)

theorem ref_norm (r : Fin 16384) (f : Fin 2048) :
    val_main_v12 (F := Ideal) x0 x1 (ix2 r f)
      = x0 (ix2 r f) * Ideal.rsqrt (Ideal.div (∑ k : Fin 2048, x0 (ix2 r k) * x0 (ix2 r k)) cols + eps) * x1 (ix1 f) := by
  pointwise [val_main_v12, val_main_v11, val_main_v10, val_main_v9, val_main_v8, val_main_v7, val_main_v6, val_main_v5, val_main_v4, val_main_v3,
    val_main_v2, val_main_v1, val_main_v0, val_main_cst, val_main_cst_0, val_main_cst_1]

theorem ref_hidden (r : Fin 16384) (j : Fin 5504) :
    val_main_v16 (F := Ideal) x0 x1 x2 x3 (ix2 r j)
      = (∑ f : Fin 2048, val_main_v12 (F := Ideal) x0 x1 (ix2 r f) * x2 (ix2 f j))
          * Ideal.logistic (∑ f : Fin 2048, val_main_v12 (F := Ideal) x0 x1 (ix2 r f) * x2 (ix2 f j))
        * (∑ f : Fin 2048, val_main_v12 (F := Ideal) x0 x1 (ix2 r f) * x3 (ix2 f j)) := by
  pointwise [val_main_v16, val_main_v15, val_main_v14, val_main_call0_v5, val_main_call0_v4, val_main_call0_v3, val_main_call0_v2, val_main_call0_v1,
    val_main_call0_v0, val_main_call0_cst, val_main_call0_cst_0, val_main_v13]
  rfl

theorem ref_sum (r : Fin 16384) (q : Fin 2048) :
    val_main_v20 (F := Ideal) x0 x1 x2 x3 x4 (ix2 r q)
      = x0 (ix2 r q) + half * ∑ j : Fin 5504, val_main_v16 (F := Ideal) x0 x1 x2 x3 (ix2 r j) * x4 (ix2 j q) := by
  pointwise [val_main_v20, val_main_v19, val_main_v18, val_main_cst_2, val_main_v17]

theorem ref_out (r : Fin 16384) (q : Fin 2048) :
    val_main_v33 (F := Ideal) x0 x1 x2 x3 x4 x5 (ix2 r q)
      = val_main_v20 (F := Ideal) x0 x1 x2 x3 x4 (ix2 r q)
          * Ideal.rsqrt (Ideal.div (∑ k : Fin 2048, val_main_v20 (F := Ideal) x0 x1 x2 x3 x4 (ix2 r k) * val_main_v20 (F := Ideal) x0 x1 x2 x3 x4 (ix2 r k)) cols + eps)
        * x5 (ix1 q) := by
  pointwise [val_main_v33, val_main_v32, val_main_v31, val_main_v30, val_main_v29, val_main_v28, val_main_v27, val_main_v26, val_main_v25, val_main_v24,
    val_main_v23, val_main_v22, val_main_v21, val_main_cst_3, val_main_cst_4, val_main_cst_5]

end Cert.Proof.Ffn
-- ==== Proof.Value.lean ====
/-
  The kernel's result is the reference's: the hidden blocks the six steps add, put end to end, are the hidden columns
  once each, and the half the kernel multiplies into each of them is the half the reference multiplies into their sum.
-/
module

public import proofs.«01_k».proof.Proof.Blocks
public import proofs.«01_k».proof.Proof.Payload
public import proofs.«01_k».proof.Proof.Reference

@[expose] public section

noncomputable section

namespace Cert.Proof.Ffn

open Cert.KernelIdeal Cert.KernelIdeal.Gen
open Idealize.ShloMosaic
open Idealize.ShloMosaic.TcCoe
open Cert.ReferenceIdeal.Read (val_main_v12 val_main_v16 val_main_v20 val_main_v33)

/-! ## One hidden block added -/

theorem addChunk_apply (k : Fin 4) (act : S1024x512.Idx → EReal) (d : S512x2048.Idx → EReal) (x : S1024x2048.Idx → EReal) (p : Fin 1024) (q : Fin 2048) :
    (addChunk (F := Ideal) k act d x : S1024x2048.Idx → EReal) (ix2 p q)
      = if q.val / 512 = k.val then x (ix2 p q) + ∑ l : Fin 512, act (ix2 p l) * d (ix2 l q) else x (ix2 p q) := by
  unfold addChunk putChunk
  by_cases h : q.val / 512 = k.val
  · rw [if_pos h]
    refine (if_pos h).trans ((pay1_apply act (chunkOf k x) (wdChunk k d) p ⟨q.val % 512, Nat.mod_lt _ (by decide)⟩).trans ?_)
    have e : (⟨512 * k.val + q.val % 512, by have := q.isLt; omega⟩ : Fin 2048) = q := Fin.ext (by show 512 * k.val + q.val % 512 = q.val; omega)
    show x (ix2 p ⟨512 * k.val + q.val % 512, _⟩) + ∑ l : Fin 512, act (ix2 p l) * d (ix2 l ⟨512 * k.val + q.val % 512, _⟩) = _
    simp only [e]
  · rw [if_neg h]; exact if_neg h

theorem accStep_apply (act : S1024x512.Idx → EReal) (d : S512x2048.Idx → EReal) (x : S1024x2048.Idx → EReal) (p : Fin 1024) (q : Fin 2048) :
    (accStep (F := Ideal) act d x : S1024x2048.Idx → EReal) (ix2 p q) = x (ix2 p q) + ∑ l : Fin 512, act (ix2 p l) * d (ix2 l q) := by
  unfold accStep
  rw [addChunk_apply, addChunk_apply, addChunk_apply, addChunk_apply]
  have h3 : (3 : Fin 4).val = 3 := rfl
  have h2 : (2 : Fin 4).val = 2 := rfl
  have h1 : (1 : Fin 4).val = 1 := rfl
  have h0 : (0 : Fin 4).val = 0 := rfl
  rw [h3, h2, h1, h0]
  have hq : q.val < 2048 := q.isLt
  have : q.val / 512 = 0 ∨ q.val / 512 = 1 ∨ q.val / 512 = 2 ∨ q.val / 512 = 3 := by omega
  rcases this with h | h | h | h <;> rw [h] <;> simp

variable (m : (ℓ : Loc nD τ sig) → Buf (Elt Ideal) ℓ) (c : Dev nD)

/-- Row `p` of row block `I`. -/
abbrev row (I : Fin 16) (p : Fin 1024) : Fin 16384 := ⟨I.val * 1024 + p.val, by omega⟩

/-- Hidden column `j` of row `r`, as the reference has it. -/
def hid (r : Fin 16384) (j : Fin 5504) : EReal := val_main_v16 (F := Ideal) (aH m c) (aG m c) (aWg m c) (aWu m c) (ix2 r j)

/-- What hidden column `i` adds to column `q` of row `r`. -/
def term (r : Fin 16384) (q : Fin 2048) (i : ℕ) : EReal :=
  if h : i < 5504 then half * hid m c r ⟨i, h⟩ * aWd m c (ix2 (⟨i, h⟩ : Fin 5504) q) else 0

theorem tk_mod (I : Fin 16) (J : ℕ) (hJ : J < 6) : (tk (6 * I.val + J)).val % 6 = J := by
  show (6 * I.val + J) % 96 % 6 = J; have := I.isLt; omega

theorem normed_apply (k : ℕ) (I : Fin 16) (p : Fin 1024) (f : Fin 2048) :
    (normed (F := Ideal) ((blocks m c).g k) (hV c (XA m c) I.val) : S1024x2048.Idx → EReal) (ix2 p f)
      = val_main_v12 (F := Ideal) (aH m c) (aG m c) (ix2 (row I p) f) := by
  unfold normed
  refine (pay3_apply _ _ p f).trans ?_
  rw [ref_norm]
  have hx : ∀ k : Fin 2048, (slotOf (F := Ideal) (hV c (XA m c) I.val) : S1x1024x2048.Idx → EReal) (ix3 (0 : Fin 1) p k) = aH m c (ix2 (row I p) k) :=
    fun k => hV_apply m c I.val I.isLt p k
  have hg : ((blocks m c).g k : S1x2048.Idx → EReal) (ix2 (0 : Fin 1) f) = aG m c (ix1 f) := blk_g m c (tk k) f
  simp only [hx]
  rw [hg]

theorem nV_apply (I : Fin 16) (p : Fin 1024) (f : Fin 2048) :
    (nV c (blocks m c) (XA m c) I.val : S1024x2048.Idx → EReal) (ix2 p f) = val_main_v12 (F := Ideal) (aH m c) (aG m c) (ix2 (row I p) f) :=
  normed_apply m c _ I p f

/-- One hidden lane of the kernel is half the reference's hidden column. -/
theorem act_apply (I : Fin 16) (n : S1024x2048.Idx → EReal) (a b : S2048x512.Idx → EReal) (p : Fin 1024) (l : Fin 512) (j : Fin 5504)
    (hn : ∀ f : Fin 2048, n (ix2 p f) = val_main_v12 (F := Ideal) (aH m c) (aG m c) (ix2 (row I p) f))
    (ha : ∀ f : Fin 2048, a (ix2 f l) = aWg m c (ix2 f j)) (hb : ∀ f : Fin 2048, b (ix2 f l) = aWu m c (ix2 f j)) :
    (k0_pay18 (F := Ideal) n a b : S1024x512.Idx → EReal) (ix2 p l) = half * hid m c (row I p) j := by
  refine (pay18_apply n a b p l).trans ?_
  unfold hid
  rw [ref_hidden]
  simp only [hn, ha, hb]
  rw [mul_assoc]

/-- A whole hidden block added: the columns `512 b …`. -/
theorem block_sum (b : ℕ) (hb : b ≤ 9) (I : Fin 16) (act : S1024x512.Idx → EReal) (d : S512x2048.Idx → EReal) (p : Fin 1024) (q : Fin 2048)
    (hact : ∀ l : Fin 512, act (ix2 p l) = half * hid m c (row I p) (lane b l)) (hd : ∀ l : Fin 512, d (ix2 l q) = aWd m c (ix2 (lane b l) q)) :
    ∑ l : Fin 512, act (ix2 p l) * d (ix2 l q) = ∑ i ∈ Finset.range 512, term m c (row I p) q (512 * b + i) := by
  rw [Finset.sum_range]
  refine Finset.sum_congr rfl fun l _ => ?_
  rw [hact, hd]
  have e : 512 * b + l.val = start b + l.val := by unfold start; omega
  have h : start b + l.val < 5504 := (lane b l).isLt
  rw [e]
  unfold term
  rw [dif_pos h]

theorem even_block (I : Fin 16) (J : ℕ) (hJ : J ≤ 4) (n : S1024x2048.Idx → EReal) (p : Fin 1024) (q : Fin 2048)
    (hn : ∀ f : Fin 2048, n (ix2 p f) = val_main_v12 (F := Ideal) (aH m c) (aG m c) (ix2 (row I p) f)) :
    ∑ l : Fin 512, (k0_pay18 (F := Ideal) n ((blocks m c).a (6 * I.val + J)) ((blocks m c).b (6 * I.val + J)) : S1024x512.Idx → EReal) (ix2 p l)
        * ((blocks m c).d (6 * I.val + J) : S512x2048.Idx → EReal) (ix2 l q)
      = ∑ i ∈ Finset.range 512, term m c (row I p) q (512 * (2 * J) + i) := by
  have e := tk_mod I J (by omega)
  refine block_sum m c (2 * J) (by omega) I _ _ p q (fun l => act_apply m c I n _ _ p l _ hn (fun f => ?_) (fun f => ?_)) (fun l => ?_)
  · have := blk_a m c (tk (6 * I.val + J)) f l; rw [e] at this; exact this
  · have := blk_b m c (tk (6 * I.val + J)) f l; rw [e] at this; exact this
  · have := blk_d m c (tk (6 * I.val + J)) l q; rw [e] at this; exact this

theorem odd_block (I : Fin 16) (J : ℕ) (hJ : J ≤ 4) (n : S1024x2048.Idx → EReal) (p : Fin 1024) (q : Fin 2048)
    (hn : ∀ f : Fin 2048, n (ix2 p f) = val_main_v12 (F := Ideal) (aH m c) (aG m c) (ix2 (row I p) f)) :
    ∑ l : Fin 512, (k0_pay18 (F := Ideal) n ((blocks m c).a' (6 * I.val + J)) ((blocks m c).b' (6 * I.val + J)) : S1024x512.Idx → EReal) (ix2 p l)
        * ((blocks m c).d' (6 * I.val + J) : S512x2048.Idx → EReal) (ix2 l q)
      = ∑ i ∈ Finset.range 512, term m c (row I p) q (512 * (2 * J + 1) + i) := by
  have e := tk_mod I J (by omega)
  have e' : min (2 * J + 1) 9 = 2 * J + 1 := by omega
  refine block_sum m c (2 * J + 1) (by omega) I _ _ p q (fun l => act_apply m c I n _ _ p l _ hn (fun f => ?_) (fun f => ?_)) (fun l => ?_)
  · have := blk_a' m c (tk (6 * I.val + J)) f l; rw [e, e'] at this; exact this
  · have := blk_b' m c (tk (6 * I.val + J)) f l; rw [e, e'] at this; exact this
  · have := blk_d' m c (tk (6 * I.val + J)) l q; rw [e, e'] at this; exact this

/-- The last block, its first lanes masked: the columns `5120 …`. -/
theorem last_block (I : Fin 16) (n : S1024x2048.Idx → EReal) (p : Fin 1024) (q : Fin 2048)
    (hn : ∀ f : Fin 2048, n (ix2 p f) = val_main_v12 (F := Ideal) (aH m c) (aG m c) (ix2 (row I p) f)) :
    ∑ l : Fin 512, (k0_pay27 (F := Ideal) n ((blocks m c).a (6 * I.val + 5)) ((blocks m c).b (6 * I.val + 5)) : S1024x512.Idx → EReal) (ix2 p l)
        * ((blocks m c).d (6 * I.val + 5) : S512x2048.Idx → EReal) (ix2 l q)
      = ∑ i ∈ Finset.range 384, term m c (row I p) q (5120 + i) := by
  have e := tk_mod I 5 (by omega)
  have key : ∀ l : Fin 512, (k0_pay27 (F := Ideal) n ((blocks m c).a (6 * I.val + 5)) ((blocks m c).b (6 * I.val + 5)) : S1024x512.Idx → EReal) (ix2 p l)
        * ((blocks m c).d (6 * I.val + 5) : S512x2048.Idx → EReal) (ix2 l q) = if 128 ≤ l.val then term m c (row I p) q (4992 + l.val) else 0 := by
    intro l
    have h27 : (k0_pay27 (F := Ideal) n ((blocks m c).a (6 * I.val + 5)) ((blocks m c).b (6 * I.val + 5)) : S1024x512.Idx → EReal) (ix2 p l) = _ :=
      pay27_apply n ((blocks m c).a (6 * I.val + 5)) ((blocks m c).b (6 * I.val + 5)) p l
    rw [h27]
    by_cases h : 128 ≤ l.val
    · rw [if_pos h, if_pos h]
      have h18 := act_apply m c I n ((blocks m c).a (6 * I.val + 5)) ((blocks m c).b (6 * I.val + 5)) p l (lane 10 l) hn
        (fun f => by have := blk_a m c (tk (6 * I.val + 5)) f l; rw [e] at this; exact this)
        (fun f => by have := blk_b m c (tk (6 * I.val + 5)) f l; rw [e] at this; exact this)
      have hd : ((blocks m c).d (6 * I.val + 5) : S512x2048.Idx → EReal) (ix2 l q) = aWd m c (ix2 (lane 10 l) q) := by
        have := blk_d m c (tk (6 * I.val + 5)) l q; rw [e] at this; exact this
      rw [h18, hd]
      have hs : start 10 = 4992 := by decide
      have hl : 4992 + l.val < 5504 := by have := l.isLt; omega
      unfold term
      rw [dif_pos hl]
      have : lane 10 l = (⟨4992 + l.val, hl⟩ : Fin 5504) := Fin.ext (by show start 10 + l.val = _; rw [hs])
      rw [this]
    · rw [if_neg h, if_neg h, zero_mul]
  rw [Finset.sum_congr rfl fun l _ => key l, ← Finset.sum_range (fun l => if 128 ≤ l then term m c (row I p) q (4992 + l) else 0),
    show (512 : ℕ) = 128 + 384 from rfl, Finset.sum_range_add]
  rw [Finset.sum_eq_zero (fun i hi => if_neg (by have := Finset.mem_range.mp hi; omega)), zero_add]
  refine Finset.sum_congr rfl fun i _ => ?_
  rw [if_pos (by omega), show 4992 + (128 + i) = 5120 + i by omega]

/-! ## The six steps -/

theorem accV_apply (I : Fin 16) (p : Fin 1024) (q : Fin 2048) : ∀ J : ℕ, J ≤ 4 →
    (accV c (blocks m c) (XA m c) I.val J : S1024x2048.Idx → EReal) (ix2 p q)
      = aH m c (ix2 (row I p) q) + ∑ i ∈ Finset.range (512 * (2 * J + 2)), term m c (row I p) q i := by
  have split : ∀ J : ℕ, ∑ i ∈ Finset.range (512 * (2 * J + 2)), term m c (row I p) q i
      = (∑ i ∈ Finset.range (512 * (2 * J)), term m c (row I p) q i + ∑ i ∈ Finset.range 512, term m c (row I p) q (512 * (2 * J) + i))
        + ∑ i ∈ Finset.range 512, term m c (row I p) q (512 * (2 * J + 1) + i) := by
    intro J
    rw [← Finset.sum_range_add, show 512 * (2 * J) + 512 = 512 * (2 * J + 1) by omega, ← Finset.sum_range_add,
      show 512 * (2 * J + 1) + 512 = 512 * (2 * J + 2) by omega]
  intro J
  induction J with
  | zero =>
    intro _
    have he := even_block m c I 0 (by omega) (normed (F := Ideal) ((blocks m c).g (6 * I.val)) (hV c (XA m c) I.val)) p q (normed_apply m c _ I p)
    have ho := odd_block m c I 0 (by omega) (normed (F := Ideal) ((blocks m c).g (6 * I.val)) (hV c (XA m c) I.val)) p q (normed_apply m c _ I p)
    rw [Nat.add_zero] at he ho
    unfold accV firstStep
    rw [accStep_apply, accStep_apply, he, ho, hV_apply m c I.val I.isLt, split 0, show 512 * (2 * 0) = 0 from rfl, Finset.range_zero, Finset.sum_empty]
    simp only [zero_add, add_assoc]
  | succ J ih =>
    intro hJ
    have he := even_block m c I (J + 1) hJ (nV c (blocks m c) (XA m c) I.val) p q (nV_apply m c I p)
    have ho := odd_block m c I (J + 1) hJ (nV c (blocks m c) (XA m c) I.val) p q (nV_apply m c I p)
    unfold accV
    rw [accStep_apply, accStep_apply, he, ho, ih (by omega), split (J + 1), show 512 * (2 * (J + 1)) = 512 * (2 * J + 2) by omega]
    simp only [add_assoc]

/-- The row block after all its hidden columns: the reference's sum. -/
theorem total_apply (I : Fin 16) (p : Fin 1024) (q : Fin 2048) :
    (accStep (F := Ideal) (k0_pay27 (nV c (blocks m c) (XA m c) I.val) ((blocks m c).a (6 * I.val + 5)) ((blocks m c).b (6 * I.val + 5)))
        ((blocks m c).d (6 * I.val + 5)) (accV c (blocks m c) (XA m c) I.val 4) : S1024x2048.Idx → EReal) (ix2 p q)
      = val_main_v20 (F := Ideal) (aH m c) (aG m c) (aWg m c) (aWu m c) (aWd m c) (ix2 (row I p) q) := by
  rw [accStep_apply, last_block m c I _ p q (nV_apply m c I p), accV_apply m c I p q 4 le_rfl, ref_sum, add_assoc,
    show 512 * (2 * 4 + 2) = 5120 from rfl, ← Finset.sum_range_add, ← half_mul_sum, show 5120 + 384 = 5504 from rfl, Finset.sum_range]
  refine congrArg (aH m c (ix2 (row I p) q) + ·) (Finset.sum_congr rfl fun j _ => ?_)
  unfold term
  rw [dif_pos j.isLt, mul_assoc]
  rfl

theorem gf_apply (k : ℕ) (q : Fin 2048) : ((blocks m c).gf k : S1x2048.Idx → EReal) (ix2 (0 : Fin 1) q) = aGf m c (ix1 q) := blk_gf m c (tk k) q

theorem outV_apply (I : Fin 16) (p : Fin 1024) (q : Fin 2048) :
    (outV c (blocks m c) (XA m c) I.val : S1024x2048.Idx → EReal) (ix2 p q)
      = val_main_v33 (F := Ideal) (aH m c) (aG m c) (aWg m c) (aWu m c) (aWd m c) (aGf m c) (ix2 (row I p) q) := by
  unfold outV finish
  refine (pay2_apply _ _ p q).trans ?_
  rw [ref_out]
  have hx : ∀ k : Fin 2048, (slotOf (F := Ideal) (accStep (F := Ideal) (k0_pay27 (nV c (blocks m c) (XA m c) I.val) ((blocks m c).a (6 * I.val + 5))
      ((blocks m c).b (6 * I.val + 5))) ((blocks m c).d (6 * I.val + 5)) (accV c (blocks m c) (XA m c) I.val 4)) : S1x1024x2048.Idx → EReal) (ix3 (0 : Fin 1) p k)
      = val_main_v20 (F := Ideal) (aH m c) (aG m c) (aWg m c) (aWu m c) (aWd m c) (ix2 (row I p) k) := fun k => total_apply m c I p k
  have hg : ((blocks m c).gf (6 * I.val + 5) : S1x2048.Idx → EReal) (ix2 (0 : Fin 1) q) = aGf m c (ix1 q) := gf_apply m c _ q
  simp only [hx]
  rw [hg]

/-- The whole result. -/
theorem finalOut_eq : (finalOut m c : S16384x2048.Idx → EReal)
    = val_main_v33 (F := Ideal) (aH m c) (aG m c) (aWg m c) (aWu m c) (aWd m c) (aGf m c) := by
  funext y
  obtain ⟨r, q, rfl⟩ : ∃ (r : Fin 16384) (q : Fin 2048), y = ix2 r q := ⟨y 0, y 1, eq_ix2 y⟩
  have hr := r.isLt
  have := outV_apply m c ⟨r.val / 1024, by omega⟩ ⟨r.val % 1024, Nat.mod_lt _ (by decide)⟩ q
  refine Eq.trans this (congrArg (fun r => val_main_v33 (F := Ideal) (aH m c) (aG m c) (aWg m c) (aWu m c) (aWd m c) (aGf m c) (ix2 r q)) (Fin.ext ?_))
  show r.val / 1024 * 1024 + r.val % 1024 = r.val
  omega

end Cert.Proof.Ffn
-- ==== Proof.Same.lean ====
/-
  The kernel as compiled and the kernel read at the extended reals have one text: their body tables are equal, so a
  run of the one over any float values is a run of the other.
-/
module

public import proofs.«01_k».proof.Proof.Gen.Kernel
public import proofs.«01_k».proof.Proof.Gen.KernelIdeal

@[expose] public section

set_option maxRecDepth 16384

noncomputable section

namespace Cert.Proof.Ffn

open Idealize.ShloMosaic Idealize.SL.Sem

variable {F : FTy → Type} [FloatOps F]

theorem body_eq : @Cert.Kernel.cc0_ffn_final F _ Cert.Kernel.Gen.facts = @Cert.KernelIdeal.cc0_ffn_final F _ Cert.KernelIdeal.Gen.facts := rfl

theorem bodies_eq : @Cert.Kernel.defs₀ F _ Cert.Kernel.Gen.facts = @Cert.KernelIdeal.defs₀ F _ Cert.KernelIdeal.Gen.facts := by
  unfold Cert.Kernel.defs₀ Cert.KernelIdeal.defs₀
  refine congrArg Defs.onTc (funext fun l => funext fun a => ?_)
  match l, a with
  | ⟨0, _⟩, (t, s) => rfl
  | ⟨_ + 1, h⟩, _ => exact absurd h (Nat.not_lt.2 (Nat.le_add_left _ _))

theorem defs_eq : @Cert.Kernel.defs F _ Cert.Kernel.Gen.facts = @Cert.KernelIdeal.defs F _ Cert.KernelIdeal.Gen.facts :=
  congrArg (Pipeline.defs (@Cert.KernelIdeal.pcfgs F Cert.KernelIdeal.Gen.facts)) bodies_eq

end Cert.Proof.Ffn
-- ==== Proof.Names2.lean ====
/-
  The windows of the kernel's own transfers under one name each: row block `b` of `h` (`hB b`) and of the result
  (`oB b`), slot `s` of the accumulator (`accS s`), the two transfer semaphores (`inC s`, `outC s`); the equations
  that bring the printed slices to these names, and the offsets of the column chunks in closed form.
-/
module

public import proofs.«01_k».proof.Proof.Gen.Kernel2Ideal.Launch
public import proofs.«01_k».proof.Proof.Gen.Kernel2Ideal.Skeleton
public import proofs.«01_k».proof.Proof.Gen.Kernel2Ideal.Points
public import proofs.«01_k».proof.Proof.Gen.Kernel2Ideal.Frame
public import Idealize.ShloMosaic.Lib.Pipeline.KitQuiescent
public import Idealize.ShloMosaic.Lib.Ring
public import Idealize.ShloMosaic.Lib.Ring.WriteBehind
public import Idealize.ShloMosaic.Lib.Affine
public import Idealize.ShloMosaic.Lib.Tactic

@[expose] public section

noncomputable section

namespace Cert.Proof.Ffn2

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The names -/

abbrev hM : Memref sig .tc .hbm S16384x2048 .f32 := Memref.whole main_arg0
abbrev outM : Memref sig .tc .hbm S16384x2048 .f32 := Memref.whole main_v4_0
abbrev accM : Memref sig .tc .vmem S2x1024x2048 .f32 := Memref.whole cc0_scratch0
abbrev nM : Memref sig .tc .vmem S1024x2048 .bf16 := Memref.whole cc0_scratch1

abbrev rowOff (b : Fin 16) : Fin 2 → Nat := ![1024 * b.val, 0]
theorem rowOff_inb (b : Fin 16) : ∀ a, rowOff b a + S1024x2048.size a ≤ S16384x2048.size a := by
  have := b.isLt; intro a; fin_cases a
  · show 1024 * b.val + 1024 ≤ 16384; omega
  · show 0 + 2048 ≤ 2048; omega
abbrev slotOff (s : Fin 2) : Fin 3 → Nat := ![s.val, 0, 0]
theorem slotOff_inb (s : Fin 2) : ∀ a, slotOff s a + S1x1024x2048.size a ≤ S2x1024x2048.size a := by
  have := s.isLt; intro a; fin_cases a
  · show s.val + 1 ≤ 2; omega
  · show 0 + 1024 ≤ 1024; omega
  · show 0 + 2048 ≤ 2048; omega
abbrev semOff (s : Fin 2) : Fin 1 → Nat := ![s.val]
theorem semOff_inb (s : Fin 2) : ∀ a, semOff s a + S1.size a ≤ S2.size a := by
  have := s.isLt; intro a; fin_cases a; show s.val + 1 ≤ 2; omega

/-- Rows `1024 b …` of `h`. -/
def hB (b : Fin 16) : Memref sig .tc .hbm S1024x2048 .f32 :=
  hM.slice (Rect.unit (s := S16384x2048) (rowOff b) S1024x2048.size (rowOff_inb b)) (fun _ => rfl)
/-- Rows `1024 b …` of the result. -/
def oB (b : Fin 16) : Memref sig .tc .hbm S1024x2048 .f32 :=
  outM.slice (Rect.unit (s := S16384x2048) (rowOff b) S1024x2048.size (rowOff_inb b)) (fun _ => rfl)
/-- Slot `s` of the accumulator, as the body slices and squeezes it. -/
def accS (s : Fin 2) : Memref sig .tc .vmem S1024x2048 .f32 :=
  (accM.slice (Rect.unit (s := S2x1024x2048) (slotOff s) S1x1024x2048.size (slotOff_inb s)) (fun _ => rfl)).squeeze S1024x2048 squeezes_S1x1024x2048_S1024x2048
/-- The semaphore of the fetch into slot `s`. -/
def inC (s : Fin 2) : DmaSems sig S_ := (cc0_scratch2.slice (Rect.unit (s := S2) (semOff s) S1.size (semOff_inb s))).squeeze S_ squeezes_S1_S_
/-- The semaphore of the write-back out of slot `s`. -/
def outC (s : Fin 2) : DmaSems sig S_ := (cc0_scratch3.slice (Rect.unit (s := S2) (semOff s) S1.size (semOff_inb s))).squeeze S_ squeezes_S1_S_

instance (s : Fin 2) : ClosedOff (slotOff s) := ⟨slotOff s, rfl⟩
instance (b : Fin 16) : ClosedOff (rowOff b) := ⟨rowOff b, rfl⟩

/-- The slot of row block `k`. -/
abbrev sl (k : ℕ) : Fin 2 := Ring.sl 2 k
abbrev bk (k : ℕ) : Fin 16 := Ring.bk 16 k

/-! ## The offsets over the grid -/

theorem off1_eq : ∀ i : grid0.Coords, k0_cond1 i = 1#1 → k0_cond2 i = 1#1 → k0_off1 i = semOff (sl ((i 0).val + 1)) := by decide +kernel
theorem off2_eq : ∀ i : grid0.Coords, k0_cond1 i = 1#1 → k0_cond2 i = 1#1 → k0_off2 i = rowOff (bk ((i 0).val - 1)) := by decide +kernel
theorem off3_eq : ∀ i : grid0.Coords, k0_cond1 i = 1#1 → k0_cond2 i = 1#1 → k0_off3 i = slotOff (sl ((i 0).val + 1)) := by decide +kernel
theorem off4_eq : ∀ i : grid0.Coords, k0_cond1 i = 1#1 → k0_cond3 i = 1#1 → k0_off4 i = semOff (sl ((i 0).val + 1)) := by decide +kernel
theorem off5_eq : ∀ i : grid0.Coords, k0_cond1 i = 1#1 → k0_cond3 i = 1#1 → k0_off5 i = slotOff (sl ((i 0).val + 1)) := by decide +kernel
theorem off6_eq : ∀ i : grid0.Coords, k0_cond1 i = 1#1 → k0_cond3 i = 1#1 → k0_off6 i = rowOff (bk ((i 0).val + 1)) := by decide +kernel
theorem off7_eq : ∀ i : grid0.Coords, k0_off7 i = semOff (sl (i 0).val) := by decide +kernel
theorem off8_eq : ∀ i : grid0.Coords, k0_off8 i = slotOff (sl (i 0).val) := by decide +kernel
theorem off9_eq : ∀ i : grid0.Coords, k0_off9 i = rowOff (bk (i 0).val) := by decide +kernel
theorem off10_eq : ∀ i : grid0.Coords, k0_off10 i = ![(sl (i 0).val).val, 0, 0] := by decide +kernel
theorem off11_eq : ∀ i : grid0.Coords, k0_off11 i = ![(sl (i 0).val).val, 0, 0] := by decide +kernel
theorem off12_eq : ∀ i : grid0.Coords, k0_off12 i = ![(sl (i 0).val).val, 0, 512] := by decide +kernel
theorem off13_eq : ∀ i : grid0.Coords, k0_off13 i = ![(sl (i 0).val).val, 0, 1024] := by decide +kernel
theorem off14_eq : ∀ i : grid0.Coords, k0_off14 i = ![(sl (i 0).val).val, 0, 1536] := by decide +kernel
theorem off15_eq : ∀ i : grid0.Coords, k0_off15 i = ![(sl (i 0).val).val, 0, 0] := by decide +kernel
theorem off16_eq : ∀ i : grid0.Coords, k0_off16 i = ![(sl (i 0).val).val, 0, 512] := by decide +kernel
theorem off17_eq : ∀ i : grid0.Coords, k0_off17 i = ![(sl (i 0).val).val, 0, 1024] := by decide +kernel
theorem off18_eq : ∀ i : grid0.Coords, k0_off18 i = ![(sl (i 0).val).val, 0, 1536] := by decide +kernel
theorem off19_eq : ∀ i : grid0.Coords, k0_off19 i = ![(sl (i 0).val).val, 0, 0] := by decide +kernel
theorem off20_eq : ∀ i : grid0.Coords, k0_off20 i = ![(sl (i 0).val).val, 0, 512] := by decide +kernel
theorem off21_eq : ∀ i : grid0.Coords, k0_off21 i = ![(sl (i 0).val).val, 0, 1024] := by decide +kernel
theorem off22_eq : ∀ i : grid0.Coords, k0_off22 i = ![(sl (i 0).val).val, 0, 1536] := by decide +kernel
theorem off23_eq : ∀ i : grid0.Coords, k0_off23 i = semOff (sl (i 0).val) := by decide +kernel
theorem off24_eq : ∀ i : grid0.Coords, k0_off24 i = rowOff (bk (i 0).val) := by decide +kernel
theorem off25_eq : ∀ i : grid0.Coords, k0_off25 i = slotOff (sl (i 0).val) := by decide +kernel
theorem off26_eq : ∀ i : grid0.Coords, k0_off26 i = semOff (sl (i 0).val) := by decide +kernel
theorem off27_eq : ∀ i : grid0.Coords, k0_off27 i = rowOff (bk (i 0).val) := by decide +kernel
theorem off28_eq : ∀ i : grid0.Coords, k0_off28 i = slotOff (sl (i 0).val) := by decide +kernel

instance (i : grid0.Coords) : ClosedOff (k0_off10 i) := ⟨_, off10_eq i⟩
instance (i : grid0.Coords) : ClosedOff (k0_off11 i) := ⟨_, off11_eq i⟩
instance (i : grid0.Coords) : ClosedOff (k0_off12 i) := ⟨_, off12_eq i⟩
instance (i : grid0.Coords) : ClosedOff (k0_off13 i) := ⟨_, off13_eq i⟩
instance (i : grid0.Coords) : ClosedOff (k0_off14 i) := ⟨_, off14_eq i⟩
instance (i : grid0.Coords) : ClosedOff (k0_off15 i) := ⟨_, off15_eq i⟩
instance (i : grid0.Coords) : ClosedOff (k0_off16 i) := ⟨_, off16_eq i⟩
instance (i : grid0.Coords) : ClosedOff (k0_off17 i) := ⟨_, off17_eq i⟩
instance (i : grid0.Coords) : ClosedOff (k0_off18 i) := ⟨_, off18_eq i⟩
instance (i : grid0.Coords) : ClosedOff (k0_off19 i) := ⟨_, off19_eq i⟩
instance (i : grid0.Coords) : ClosedOff (k0_off20 i) := ⟨_, off20_eq i⟩
instance (i : grid0.Coords) : ClosedOff (k0_off21 i) := ⟨_, off21_eq i⟩
instance (i : grid0.Coords) : ClosedOff (k0_off22 i) := ⟨_, off22_eq i⟩

/-! ## The branches over the grid -/

theorem cond1_iff : ∀ i : grid0.Coords, k0_cond1 i = 1#1 ↔ (i 1).val = 1 := by decide +kernel
theorem cond2_iff : ∀ i : grid0.Coords, k0_cond2 i = 1#1 ↔ 1 ≤ (i 0).val := by decide +kernel
theorem cond3_iff : ∀ i : grid0.Coords, k0_cond3 i = 1#1 ↔ (i 0).val + 1 < 16 := by decide +kernel
theorem cond4_iff : ∀ i : grid0.Coords, k0_cond4 i = 1#1 ↔ (i 1).val = 0 := by decide +kernel
theorem cond6_iff : ∀ i : grid0.Coords, k0_cond6 i = 1#1 ↔ (0 < (i 1).val ∧ (i 1).val < 5) := by decide +kernel
theorem cond7_iff : ∀ i : grid0.Coords, k0_cond7 i = 1#1 ↔ (i 1).val = 5 := by decide +kernel
theorem cond8_iff : ∀ i : grid0.Coords, k0_cond8 i = 1#1 ↔ (i 0).val = 15 := by decide +kernel
theorem cond5_iff : ∀ i : grid0.Coords,
    Scalar.cmpi .ne (Scalar.extui (Scalar.cmpi .eq (BitVec.ofNat 32 (i 0).val) 0#32) : BitVec 32) 0#32 = 1#1 ↔ (i 0).val = 0 := by decide +kernel

/-! ## The canonical-name equations -/

theorem inC_congr {off : Fin 1 → Nat} {s : Fin 2} (e : off = semOff s) (hh) :
    (cc0_scratch2.slice (Rect.unit (s := S2) off S1.size hh)).squeeze S_ squeezes_S1_S_ = inC s :=
  congrArg (fun A : DmaSems sig S1 => A.squeeze S_ squeezes_S1_S_) (SemArray.slice_unit_congr _ e _ _)
theorem outC_congr {off : Fin 1 → Nat} {s : Fin 2} (e : off = semOff s) (hh) :
    (cc0_scratch3.slice (Rect.unit (s := S2) off S1.size hh)).squeeze S_ squeezes_S1_S_ = outC s :=
  congrArg (fun A : DmaSems sig S1 => A.squeeze S_ squeezes_S1_S_) (SemArray.slice_unit_congr _ e _ _)
theorem accS_congr {off : Fin 3 → Nat} {s : Fin 2} (e : off = slotOff s) (hh hs) :
    (accM.slice (Rect.unit (s := S2x1024x2048) off S1x1024x2048.size hh) hs).squeeze S1024x2048 squeezes_S1x1024x2048_S1024x2048 = accS s :=
  congrArg (fun M : Memref sig .tc .vmem S1x1024x2048 .f32 => M.squeeze S1024x2048 squeezes_S1x1024x2048_S1024x2048) (Memref.slice_unit_congr _ e _ _ _ _)
theorem hB_congr {off : Fin 2 → Nat} {b : Fin 16} (e : off = rowOff b) (hh hs) :
    hM.slice (Rect.unit (s := S16384x2048) off S1024x2048.size hh) hs = hB b := Memref.slice_unit_congr _ e _ _ _ (fun _ => rfl)
theorem oB_congr {off : Fin 2 → Nat} {b : Fin 16} (e : off = rowOff b) (hh hs) :
    outM.slice (Rect.unit (s := S16384x2048) off S1024x2048.size hh) hs = oB b := Memref.slice_unit_congr _ e _ _ _ (fun _ => rfl)

section Canon
variable (i : grid0.Coords)

@[sl_canon] theorem c_off1 (h1 : k0_cond1 i = 1#1) (h2 : k0_cond2 i = 1#1) (hh) :
    (cc0_scratch3.slice (Rect.unit (s := S2) (k0_off1 i) S1.size hh)).squeeze S_ squeezes_S1_S_ = outC (sl ((i 0).val + 1)) := outC_congr (off1_eq i h1 h2) _
@[sl_canon] theorem c_off2 (h1 : k0_cond1 i = 1#1) (h2 : k0_cond2 i = 1#1) (hh hs) :
    outM.slice (Rect.unit (s := S16384x2048) (k0_off2 i) S1024x2048.size hh) hs = oB (bk ((i 0).val - 1)) := oB_congr (off2_eq i h1 h2) _ _
@[sl_canon] theorem c_off3 (h1 : k0_cond1 i = 1#1) (h2 : k0_cond2 i = 1#1) (hh hs) :
    (accM.slice (Rect.unit (s := S2x1024x2048) (k0_off3 i) S1x1024x2048.size hh) hs).squeeze S1024x2048 squeezes_S1x1024x2048_S1024x2048 = accS (sl ((i 0).val + 1)) :=
  accS_congr (off3_eq i h1 h2) _ _
@[sl_canon] theorem c_off4 (h1 : k0_cond1 i = 1#1) (h3 : k0_cond3 i = 1#1) (hh) :
    (cc0_scratch2.slice (Rect.unit (s := S2) (k0_off4 i) S1.size hh)).squeeze S_ squeezes_S1_S_ = inC (sl ((i 0).val + 1)) := inC_congr (off4_eq i h1 h3) _
@[sl_canon] theorem c_off5 (h1 : k0_cond1 i = 1#1) (h3 : k0_cond3 i = 1#1) (hh hs) :
    (accM.slice (Rect.unit (s := S2x1024x2048) (k0_off5 i) S1x1024x2048.size hh) hs).squeeze S1024x2048 squeezes_S1x1024x2048_S1024x2048 = accS (sl ((i 0).val + 1)) :=
  accS_congr (off5_eq i h1 h3) _ _
@[sl_canon] theorem c_off6 (h1 : k0_cond1 i = 1#1) (h3 : k0_cond3 i = 1#1) (hh hs) :
    hM.slice (Rect.unit (s := S16384x2048) (k0_off6 i) S1024x2048.size hh) hs = hB (bk ((i 0).val + 1)) := hB_congr (off6_eq i h1 h3) _ _
@[sl_canon] theorem c_off7 (hh) :
    (cc0_scratch2.slice (Rect.unit (s := S2) (k0_off7 i) S1.size hh)).squeeze S_ squeezes_S1_S_ = inC (sl (i 0).val) := inC_congr (off7_eq i) _
@[sl_canon] theorem c_off8 (hh hs) :
    (accM.slice (Rect.unit (s := S2x1024x2048) (k0_off8 i) S1x1024x2048.size hh) hs).squeeze S1024x2048 squeezes_S1x1024x2048_S1024x2048 = accS (sl (i 0).val) :=
  accS_congr (off8_eq i) _ _
@[sl_canon] theorem c_off9 (hh hs) :
    hM.slice (Rect.unit (s := S16384x2048) (k0_off9 i) S1024x2048.size hh) hs = hB (bk (i 0).val) := hB_congr (off9_eq i) _ _
@[sl_canon] theorem c_off23 (hh) :
    (cc0_scratch3.slice (Rect.unit (s := S2) (k0_off23 i) S1.size hh)).squeeze S_ squeezes_S1_S_ = outC (sl (i 0).val) := outC_congr (off23_eq i) _
@[sl_canon] theorem c_off24 (hh hs) :
    outM.slice (Rect.unit (s := S16384x2048) (k0_off24 i) S1024x2048.size hh) hs = oB (bk (i 0).val) := oB_congr (off24_eq i) _ _
@[sl_canon] theorem c_off25 (hh hs) :
    (accM.slice (Rect.unit (s := S2x1024x2048) (k0_off25 i) S1x1024x2048.size hh) hs).squeeze S1024x2048 squeezes_S1x1024x2048_S1024x2048 = accS (sl (i 0).val) :=
  accS_congr (off25_eq i) _ _
@[sl_canon] theorem c_off26 (hh) :
    (cc0_scratch3.slice (Rect.unit (s := S2) (k0_off26 i) S1.size hh)).squeeze S_ squeezes_S1_S_ = outC (sl (i 0).val) := outC_congr (off26_eq i) _
@[sl_canon] theorem c_off27 (hh hs) :
    outM.slice (Rect.unit (s := S16384x2048) (k0_off27 i) S1024x2048.size hh) hs = oB (bk (i 0).val) := oB_congr (off27_eq i) _ _
@[sl_canon] theorem c_off28 (hh hs) :
    (accM.slice (Rect.unit (s := S2x1024x2048) (k0_off28 i) S1x1024x2048.size hh) hs).squeeze S1024x2048 squeezes_S1x1024x2048_S1024x2048 = accS (sl (i 0).val) :=
  accS_congr (off28_eq i) _ _

/-- The first point's own fetch: slot 0, its semaphore, rows 0. -/
@[sl_canon] theorem c_lit1 (h0 : (i 0).val = 0) (hh) :
    (cc0_scratch2.slice (Rect.unit (s := S2) ![0] S1.size hh)).squeeze S_ squeezes_S1_S_ = inC (sl (i 0).val) := inC_congr (by rw [h0]; decide) _
@[sl_canon] theorem c_lit2 (h0 : (i 0).val = 0) (hh hs) :
    (accM.slice (Rect.unit (s := S2x1024x2048) ![0, 0, 0] S1x1024x2048.size hh) hs).squeeze S1024x2048 squeezes_S1x1024x2048_S1024x2048 = accS (sl (i 0).val) :=
  accS_congr (by rw [h0]; decide) _ _
@[sl_canon] theorem c_lit3 (h0 : (i 0).val = 0) (hh hs) :
    hM.slice (Rect.unit (s := S16384x2048) ![0, 0] S1024x2048.size hh) hs = hB (bk (i 0).val) := hB_congr (by rw [h0]; decide) _ _

end Canon

/-! ## The sets of the windows -/

theorem set_hB (b : Fin 16) : (hB b).view.set = (Rect.unit (s := S16384x2048) (rowOff b) S1024x2048.size (rowOff_inb b)).set := View.set_slice_whole _ _
theorem set_oB (b : Fin 16) : (oB b).view.set = (Rect.unit (s := S16384x2048) (rowOff b) S1024x2048.size (rowOff_inb b)).set := View.set_slice_whole _ _
theorem set_accS (s : Fin 2) : (accS s).view.set = (Rect.unit (s := S2x1024x2048) (slotOff s) S1x1024x2048.size (slotOff_inb s)).set :=
  (View.set_reshape _ _).trans (View.set_slice_whole _ _)

theorem rows_disjoint (b b' : Fin 16) (h : b ≠ b') :
    Disjoint (Rect.unit (s := S16384x2048) (rowOff b) S1024x2048.size (rowOff_inb b)).set (Rect.unit (s := S16384x2048) (rowOff b') S1024x2048.size (rowOff_inb b')).set := by
  rw [Finset.disjoint_left]; intro x hx hx'
  rw [Rect.mem_set_unit] at hx hx'
  have h0 : 1024 * b.val ≤ (x 0).val ∧ (x 0).val < 1024 * b.val + 1024 := hx 0
  have h0' : 1024 * b'.val ≤ (x 0).val ∧ (x 0).val < 1024 * b'.val + 1024 := hx' 0
  exact h (Fin.ext (by omega))
theorem rows_cover : (Finset.univ : Finset (Fin 16)).biUnion (fun b => (Rect.unit (s := S16384x2048) (rowOff b) S1024x2048.size (rowOff_inb b)).set) = Finset.univ := by
  ext x; simp only [Finset.mem_biUnion, Finset.mem_univ, true_and, iff_true]
  have hx0 : (x 0).val < 16384 := (x 0).isLt
  have hx1 : (x 1).val < 2048 := (x 1).isLt
  refine ⟨⟨(x 0).val / 1024, by omega⟩, ?_⟩
  rw [Rect.mem_set_unit]; intro a; fin_cases a
  · show 1024 * ((x 0).val / 1024) ≤ (x 0).val ∧ (x 0).val < 1024 * ((x 0).val / 1024) + 1024; omega
  · show 0 ≤ (x 1).val ∧ (x 1).val < 0 + 2048; omega
theorem slots_disjoint (b b' : Fin 2) (h : b ≠ b') :
    Disjoint (Rect.unit (s := S2x1024x2048) (slotOff b) S1x1024x2048.size (slotOff_inb b)).set (Rect.unit (s := S2x1024x2048) (slotOff b') S1x1024x2048.size (slotOff_inb b')).set := by
  rw [Finset.disjoint_left]; intro x hx hx'
  rw [Rect.mem_set_unit] at hx hx'
  have h0 : b.val ≤ (x 0).val ∧ (x 0).val < b.val + 1 := hx 0
  have h0' : b'.val ≤ (x 0).val ∧ (x 0).val < b'.val + 1 := hx' 0
  exact h (Fin.ext (by omega))
theorem slots_cover : (Finset.univ : Finset (Fin 2)).biUnion (fun b => (Rect.unit (s := S2x1024x2048) (slotOff b) S1x1024x2048.size (slotOff_inb b)).set) = Finset.univ := by
  ext x; simp only [Finset.mem_biUnion, Finset.mem_univ, true_and, iff_true]
  have hx0 : (x 0).val < 2 := (x 0).isLt
  have hx1 : (x 1).val < 1024 := (x 1).isLt
  have hx2 : (x 2).val < 2048 := (x 2).isLt
  refine ⟨⟨(x 0).val, hx0⟩, ?_⟩
  rw [Rect.mem_set_unit]; intro a; fin_cases a
  · show (x 0).val ≤ (x 0).val ∧ (x 0).val < (x 0).val + 1; omega
  · show 0 ≤ (x 1).val ∧ (x 1).val < 0 + 1024; omega
  · show 0 ≤ (x 2).val ∧ (x 2).val < 0 + 2048; omega

end Cert.Proof.Ffn2
-- ==== Proof.Pieces2.lean ====
/-
  What the body holds at a grid point: the staged blocks, a slot of the accumulator, a row block of `h` and of the
  result, the two kinds of transfer in flight (a fetch into a slot, a write-back out of one).
-/
module

public import proofs.«01_k».proof.Proof.Names2

@[expose] public section

noncomputable section

namespace Cert.Proof.Ffn2

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (Pipeline.UD sig nD τ) ℕ

variable (c : Dev nD)

/-- A buffer's window held whole at `f`. -/
abbrev at_ {sp : Space} {S : Shape} {e : EltTy} (M : Memref sig .tc sp S e) (f : Buf (Elt F) (M.view.loc (c : Thread nD τ))) : sProp 𝕄 :=
  M.view.loc (c : Thread nD τ) ↦[M.view.set]{fullShare} f
/-- The window held at contents that read as `x`. -/
abbrev rd {sp : Space} {S : Shape} {e : EltTy} (M : Memref sig .tc sp S e) (x : S.Idx → Elt F e) : sProp 𝕄 :=
  at_ c M (M.view.rep x)
abbrev cellI (s : Fin 2) : sProp 𝕄 := semVal ((c : Thread nD τ), SemLoc.dma (inC s).sem) 0
abbrev cellO (s : Fin 2) : sProp 𝕄 := semVal ((c : Thread nD τ), SemLoc.dma (outC s).sem) 0

/-- Slot `s` with the words `x` written over it. -/
abbrev landedI (s : Fin 2) (x : S1024x2048.Idx → Elt F .f32) (f : Buf (Elt F) ((accS s).view.loc (c : Thread nD τ))) : Buf (Elt F) ((accS s).view.loc (c : Thread nD τ)) :=
  (accS s).view.writes (Elt F) f [⟨Rect.whole S1024x2048, x⟩]
/-- Row block `b` of the result with the words `x` written over it. -/
abbrev landedO (b : Fin 16) (x : S1024x2048.Idx → Elt F .f32) (f : Buf (Elt F) ((oB b).view.loc (c : Thread nD τ))) : Buf (Elt F) ((oB b).view.loc (c : Thread nD τ)) :=
  (oB b).view.writes (Elt F) f [⟨Rect.whole S1024x2048, x⟩]
theorem read_landedI (s : Fin 2) (x : S1024x2048.Idx → Elt F .f32) (f) : (accS s).view.read (Elt F) (landedI c s (ReadAs.same.apply x) f) = x := by
  rw [View.read_writes_whole]
theorem read_landedO (b : Fin 16) (x : S1024x2048.Idx → Elt F .f32) (f) : (oB b).view.read (Elt F) (landedO c b (ReadAs.same.apply x) f) = x := by
  rw [View.read_writes_whole]

/-- Row block `b` of `h`. -/
abbrev hIs (XH : Buf (Elt F) (hM.view.loc (c : Thread nD τ))) (b : Fin 16) : sProp 𝕄 := at_ c (hB b) XH
/-- Row block `b` of `h` on its way into slot `s`. -/
abbrev fetchP (XH : Buf (Elt F) (hM.view.loc (c : Thread nD τ))) (s : Fin 2) (b : Fin 16) (f : Buf (Elt F) ((accS s).view.loc (c : Thread nD τ))) : sProp 𝕄 :=
  Transfers.Flight countersEmb (c : Thread nD τ) (SemLoc.dma (inC s).sem) () 262144
    iprop(at_ c (accS s) (landedI c s (ReadAs.same.apply ((hB b).view.read (Elt F) XH)) f) ∗ at_ c (hB b) XH)
/-- Slot `s`, at `g`, on its way out to row block `b` of the result. -/
abbrev backP (s : Fin 2) (b : Fin 16) (g : Buf (Elt F) ((accS s).view.loc (c : Thread nD τ)))
    (f : Buf (Elt F) ((oB b).view.loc (c : Thread nD τ))) : sProp 𝕄 :=
  Transfers.Flight countersEmb (c : Thread nD τ) (SemLoc.dma (outC s).sem) () 262144
    iprop(at_ c (oB b) (landedO c b (ReadAs.same.apply ((accS s).view.read (Elt F) g)) f) ∗ at_ c (accS s) g)

/-- Slot `s` holds the row block `x`. -/
abbrev slotIs (s : Fin 2) (x : S1024x2048.Idx → Elt F .f32) : sProp 𝕄 :=
  iprop(∃ f : Buf (Elt F) ((accS s).view.loc (c : Thread nD τ)), ⌜(accS s).view.read (Elt F) f = x⌝ ∗ at_ c (accS s) f)
/-- Slot `s` at some contents. -/
abbrev slotAny (s : Fin 2) : sProp 𝕄 := iprop(∃ f : Buf (Elt F) ((accS s).view.loc (c : Thread nD τ)), at_ c (accS s) f)
/-- Row block `b` of the result holds `x`. -/
abbrev outIs (b : Fin 16) (x : S1024x2048.Idx → Elt F .f32) : sProp 𝕄 :=
  iprop(∃ f : Buf (Elt F) ((oB b).view.loc (c : Thread nD τ)), ⌜(oB b).view.read (Elt F) f = x⌝ ∗ at_ c (oB b) f)
/-- Row block `b` of the result at some contents. -/
abbrev outAny (b : Fin 16) : sProp 𝕄 := iprop(∃ f : Buf (Elt F) ((oB b).view.loc (c : Thread nD τ)), at_ c (oB b) f)
/-- A fetch in flight, over some contents. -/
abbrev fetching (XH : Buf (Elt F) (hM.view.loc (c : Thread nD τ))) (s : Fin 2) (b : Fin 16) : sProp 𝕄 :=
  iprop(∃ f : Buf (Elt F) ((accS s).view.loc (c : Thread nD τ)), fetchP c XH s b f)
/-- A write-back of `x` in flight. -/
abbrev backing (s : Fin 2) (b : Fin 16) (x : S1024x2048.Idx → Elt F .f32) : sProp 𝕄 :=
  iprop(∃ g : Buf (Elt F) ((accS s).view.loc (c : Thread nD τ)), ∃ f : Buf (Elt F) ((oB b).view.loc (c : Thread nD τ)),
    ⌜(accS s).view.read (Elt F) g = x⌝ ∗ backP c s b g f)

/-- The staged output block at some contents, -/
abbrev castAny (M : Memref sig .tc .vmem S32x4096 .bf16) : sProp 𝕄 := iprop(∃ f : Buf (Elt F) (M.view.loc (c : Thread nD τ)), at_ c M f)
/-- and reading as the block `w` rounded to bf16. -/
abbrev castIs (M : Memref sig .tc .vmem S32x4096 .bf16) (w : S32x4096.Idx → Elt F .f32) : sProp 𝕄 := owns c M fullShare (k0_pay1 w)
end Cert.Proof.Ffn2
-- ==== Proof.Values2.lean ====
/-
  What a slot of the accumulator reads as after the column chunks of one hidden block are added to it, and
  the values the body keeps, for the call that does not normalise its result.
-/
module

public import proofs.«01_k».proof.Proof.Pieces2
public import Idealize.ShloMosaic.Lib.VecWindow
public import Idealize.ShloMosaic.Lib.ValueLayout

@[expose] public section

noncomputable section

namespace Cert.Proof.Ffn2

open Cert.Kernel2Ideal Cert.Kernel2Ideal.Gen
open Idealize.ShloMosaic
open Idealize.ShloMosaic.ValueIdx

variable {F : FTy → Type} [FloatOps F]

/-- Slot `s` of the accumulator, read as a row block. -/
abbrev sv (s : Fin 2) (f : accM.view.ty.Contents (Elt F)) : S1024x2048.Idx → Elt F .f32 := (accS s).view.read (Elt F) f

theorem sv_apply (s : Fin 2) (f : accM.view.ty.Contents (Elt F)) (p : Fin 1024) (q : Fin 2048) :
    sv s f (ix2 p q) = f (ix3 s p q) := by
  show shapeCast S1024x2048 (accM.view.readAt (Elt F) (Rect.unit (s := S2x1024x2048) (slotOff s) S1x1024x2048.size (slotOff_inb s)).toLoadRect f)
    shapeCasts_S1x1024x2048_S1024x2048 (ix2 p q) = _
  rw [shapeCast_1ab_ab_apply]
  show f _ = f _
  refine congrArg f (funext fun a => ?_)
  fin_cases a <;> refine Fin.ext ?_
  · show s.val + 1 * 0 = s.val; omega
  · show 0 + 1 * p.val = p.val; omega
  · show 0 + 1 * q.val = q.val; omega

/-- The columns `512 k …` of a row block, as the chunk the body loads. -/
def chunkOf (k : Fin 4) (x : S1024x2048.Idx → Elt F .f32) : S1x1024x512.Idx → Elt F .f32 :=
  fun y => x (ix2 (y 1 : Fin 1024) (⟨512 * k.val + (y 2).val, by have := k.isLt; have h : (y 2).val < 512 := (y 2).isLt; omega⟩ : Fin 2048))

/-- The columns `512 k …` of a weight block. -/
def wdChunk (k : Fin 4) (d : S512x2048.Idx → Elt F .bf16) : S512x512.Idx → Elt F .bf16 :=
  fun y => d (ix2 (y 0 : Fin 512) (⟨512 * k.val + (y 1).val, by have := k.isLt; have h : (y 1).val < 512 := (y 1).isLt; omega⟩ : Fin 2048))

/-- A row block with its columns `512 k …` replaced by the chunk `v`. -/
def putChunk (k : Fin 4) (v : S1x1024x512.Idx → Elt F .f32) (x : S1024x2048.Idx → Elt F .f32) : S1024x2048.Idx → Elt F .f32 :=
  fun p => if (p 1).val / 512 = k.val
    then v (ix3 (0 : Fin 1) (p 0 : Fin 1024) (⟨(p 1).val % 512, Nat.mod_lt _ (by decide)⟩ : Fin 512)) else x p

theorem read_chunk (s : Fin 2) (k : Fin 4) (f : accM.view.ty.Contents (Elt F)) {off : Fin 3 → ℕ} (e : off = ![s.val, 0, 512 * k.val])
    (hh : ∀ a, off a + S1x1024x512.size a ≤ S2x1024x2048.size a) :
    accM.view.readAt (Elt F) (Rect.unit (s := S2x1024x2048) off S1x1024x512.size hh).toLoadRect f = chunkOf k (sv s f) := by
  subst e
  funext y
  refine Eq.trans ?_ (sv_apply s f _ _).symm
  show f _ = f _
  refine congrArg f (funext fun a => ?_)
  have h0 : (y 0).val < 1 := (y 0).isLt
  fin_cases a <;> refine Fin.ext ?_
  · show s.val + 1 * (y 0).val = s.val; omega
  · show 0 + 1 * (y 1).val = (y 1).val; omega
  · show 512 * k.val + 1 * (y 2).val = 512 * k.val + (y 2).val; omega

theorem write_chunk (s : Fin 2) (k : Fin 4) (f : accM.view.ty.Contents (Elt F)) {off : Fin 3 → ℕ} (e : off = ![s.val, 0, 512 * k.val])
    (hh : ∀ a, off a + S1x1024x512.size a ≤ S2x1024x2048.size a) (v : S1x1024x512.Idx → Elt F .f32) :
    sv s (View.write (Elt F) (accM.access (Rect.unit (s := S2x1024x2048) off S1x1024x512.size hh)) f v Finset.univ) = putChunk k v (sv s f) := by
  subst e
  funext j
  obtain ⟨p, q, rfl⟩ : ∃ (p : Fin 1024) (q : Fin 2048), j = ix2 p q := ⟨j 0, j 1, eq_ix2 j⟩
  unfold putChunk
  rw [sv_apply]
  have hq : q.val < 2048 := q.isLt
  by_cases hk : q.val / 512 = k.val
  · rw [if_pos hk]
    have hx : (ix3 s p q : S2x1024x2048.Idx) = (accM.access (Rect.unit (s := S2x1024x2048) ![s.val, 0, 512 * k.val] S1x1024x512.size hh)).emb
        (ix3 (0 : Fin 1) p (⟨q.val % 512, Nat.mod_lt _ (by decide)⟩ : Fin 512)) := by
      funext a
      fin_cases a <;> refine Fin.ext ?_
      · show s.val = s.val + 1 * 0; omega
      · show p.val = 0 + 1 * p.val; omega
      · show q.val = 512 * k.val + 1 * (q.val % 512); omega
    rw [hx]
    exact View.write_emb_of_mem _ _ (Finset.mem_univ _)
  · rw [if_neg hk, sv_apply]
    refine View.write_of_not_mem _ _ _ fun hm => hk ?_
    obtain ⟨x, -, hx⟩ := Finset.mem_map.mp hm
    have h2 : 512 * k.val + 1 * (x 2).val = q.val := congrArg (fun z : S2x1024x2048.Idx => (z 2).val) hx
    have hx2 : (x 2).val < 512 := (x 2).isLt
    show q.val / 512 = k.val
    omega

theorem read_wd (k : Fin 4) {M : Memref sig .tc .vmem S512x2048 .bf16} (d : S512x2048.Idx → Elt F .bf16) {off : Fin 2 → ℕ} (e : off = ![0, 512 * k.val])
    (hh : ∀ a, off a + S512x512.size a ≤ S512x2048.size a) :
    M.view.readAt (Elt F) (Rect.unit (s := S512x2048) off S512x512.size hh).toLoadRect (M.view.rep d) = wdChunk k d := by
  subst e
  rw [View.readAt_rep_unit M.view d hh rfl hh]
  funext y
  show d _ = d _
  refine congrArg d (funext fun a => ?_)
  fin_cases a <;> refine Fin.ext ?_
  · show 0 + 1 * (y 0).val = (y 0).val; omega
  · show 512 * k.val + 1 * (y 1).val = 512 * k.val + (y 1).val; omega

/-- A whole slot loaded. -/
def slotOf (x : S1024x2048.Idx → Elt F .f32) : S1x1024x2048.Idx → Elt F .f32 := fun y => x (ix2 (y 1 : Fin 1024) (y 2 : Fin 2048))

theorem read_slot (s : Fin 2) (f : accM.view.ty.Contents (Elt F)) {off : Fin 3 → ℕ} (e : off = ![s.val, 0, 0])
    (hh : ∀ a, off a + S1x1024x2048.size a ≤ S2x1024x2048.size a) :
    accM.view.readAt (Elt F) (Rect.unit (s := S2x1024x2048) off S1x1024x2048.size hh).toLoadRect f = slotOf (sv s f) := by
  subst e
  funext y
  refine Eq.trans ?_ (sv_apply s f _ _).symm
  show f _ = f _
  refine congrArg f (funext fun a => ?_)
  have h0 : (y 0).val < 1 := (y 0).isLt
  fin_cases a <;> refine Fin.ext ?_
  · show s.val + 1 * (y 0).val = s.val; omega
  · show 0 + 1 * (y 1).val = (y 1).val; omega
  · show 0 + 1 * (y 2).val = (y 2).val; omega

/-- Column chunk `k` of one hidden block added to a row block. -/
def addChunk (k : Fin 4) (act : S1024x512.Idx → Elt F .bf16) (d : S512x2048.Idx → Elt F .bf16) (x : S1024x2048.Idx → Elt F .f32) :
    S1024x2048.Idx → Elt F .f32 :=
  putChunk k (k0_pay2 act (chunkOf k x) (wdChunk k d)) x

/-- One hidden block's four column chunks added to a row block, in the body's order. -/
def accStep (act : S1024x512.Idx → Elt F .bf16) (d : S512x2048.Idx → Elt F .bf16) (x : S1024x2048.Idx → Elt F .f32) : S1024x2048.Idx → Elt F .f32 :=
  addChunk 3 act d (addChunk 2 act d (addChunk 1 act d (addChunk 0 act d x)))

/-- The normalised rows of a row block, rounded, as the body keeps them. -/
def normed (g : S1x2048.Idx → Elt F .f32) (x : S1024x2048.Idx → Elt F .f32) : S1024x2048.Idx → Elt F .bf16 := k0_pay4 (slotOf x) g

/-- A row block after its first step. -/
def firstStep (g : S1x2048.Idx → Elt F .f32) (a : S2048x512.Idx → Elt F .bf16) (b : S2048x512.Idx → Elt F .bf16) (d : S512x2048.Idx → Elt F .bf16)
    (a' : S2048x512.Idx → Elt F .bf16) (b' : S2048x512.Idx → Elt F .bf16) (d' : S512x2048.Idx → Elt F .bf16) (x : S1024x2048.Idx → Elt F .f32) :
    S1024x2048.Idx → Elt F .f32 :=
  accStep (k0_pay19 (normed g x) a' b') d' (accStep (k0_pay19 (normed g x) a b) d x)

theorem chunk_step (s : Fin 2) (k : Fin 4) (M : Memref sig .tc .vmem S512x2048 .bf16) (d : S512x2048.Idx → Elt F .bf16)
    (act : S1024x512.Idx → Elt F .bf16) (x : S1024x2048.Idx → Elt F .f32)
    {off : Fin 3 → ℕ} (e : off = ![s.val, 0, 512 * k.val]) (hh : ∀ a, off a + S1x1024x512.size a ≤ S2x1024x2048.size a)
    {off' : Fin 3 → ℕ} (e' : off' = ![s.val, 0, 512 * k.val]) (hh' : ∀ a, off' a + S1x1024x512.size a ≤ S2x1024x2048.size a)
    (hw : ∀ a, (![0, 512 * k.val] : Fin 2 → ℕ) a + S512x512.size a ≤ S512x2048.size a)
    (f : accM.view.ty.Contents (Elt F)) (hf : sv s f = x) :
    sv s (View.write (Elt F) (accM.access (Rect.unit (s := S2x1024x2048) off S1x1024x512.size hh)) f
      (k0_pay2 act (accM.view.readAt (Elt F) (Rect.unit (s := S2x1024x2048) off' S1x1024x512.size hh').toLoadRect f)
        (M.view.readAt (Elt F) (Rect.unit (s := S512x2048) ![0, 512 * k.val] S512x512.size hw).toLoadRect (M.view.rep d))) Finset.univ) = addChunk k act d x := by
  rw [write_chunk s k f e hh, read_chunk s k f e' hh', read_wd k d rfl hw, hf]
  rfl

/-- The block the body rounds is the staged one. -/
theorem cast_read (M : Memref sig .tc .vmem S32x4096 .f32) (w : S32x4096.Idx → Elt F .f32) :
    k0_pay1 (View.readAt (Elt F) M.view (Rect.unit ![0, 0] S32x4096.size inb_S32x4096_S32x4096_0_0).toLoadRect (M.view.rep w)) = k0_pay1 w :=
  congrArg k0_pay1 (View.readAt_rep_full _ _ _)

end Cert.Proof.Ffn2
-- ==== Proof.RunFirst2.lean ====
/-
  The body at the first step of a row block: its fetch is waited for (and, at the first of all, started), the normalised
  rows are stored, and the step's own sums are added to the row block.
-/
module

public import proofs.«01_k».proof.Proof.Values2
public import Idealize.ShloMosaic.Lib.Pipeline.Value

@[expose] public section

noncomputable section

namespace Cert.Proof.Ffn2

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (Pipeline.UD sig nD τ) ℕ

variable (c : Dev nD)
  (arg3 : Memref sig .tc .vmem S1x2048 .f32) (harg3 : arg3.IsWhole)
  (arg4 : Memref sig .tc .vmem S2048x512 .bf16) (harg4 : arg4.IsWhole)
  (arg5 : Memref sig .tc .vmem S2048x512 .bf16) (harg5 : arg5.IsWhole)
  (arg6 : Memref sig .tc .vmem S512x2048 .bf16) (harg6 : arg6.IsWhole)
  (arg7 : Memref sig .tc .vmem S2048x512 .bf16) (harg7 : arg7.IsWhole)
  (arg8 : Memref sig .tc .vmem S2048x512 .bf16) (harg8 : arg8.IsWhole)
  (arg9 : Memref sig .tc .vmem S512x2048 .bf16) (harg9 : arg9.IsWhole)
  (arg10 : Memref sig .tc .vmem S32x4096 .f32) (harg10 : arg10.IsWhole)
  (arg12 : Memref sig .tc .vmem S32x4096 .bf16) (harg12 : arg12.IsWhole)

set_option backward.proofsInPublic true in
theorem firstRun (i : grid0.Coords) (hj : (i 1).val = 0) (hi0 : 1 ≤ (i 0).val)
    (a : S2048x512.Idx → Elt F .bf16) (b : S2048x512.Idx → Elt F .bf16) (d : S512x2048.Idx → Elt F .bf16)
    (a' : S2048x512.Idx → Elt F .bf16) (b' : S2048x512.Idx → Elt F .bf16) (d' : S512x2048.Idx → Elt F .bf16)
    (g : S1x2048.Idx → Elt F .f32) (XH : Buf (Elt F) (hM.view.loc (c : Thread nD τ))) (fn : Buf (Elt F) (nM.view.loc (c : Thread nD τ)))
    (w : S32x4096.Idx → Elt F .f32) (W : Waits sig Unit) (Q : PUnit → sProp 𝕄) :
    iprop((rd c arg4 a ∗ rd c arg5 b ∗ rd c arg6 d ∗ rd c arg7 a' ∗ rd c arg8 b' ∗ rd c arg9 d' ∗ rd c arg3 g ∗ at_ c nM fn
        ∗ fetching c XH (sl (i 0).val) (bk (i 0).val) ∗ rd c arg10 w ∗ castAny c arg12 ∗ owes (c : Thread nD τ) 0 W)
      ∗ ((rd c arg4 a ∗ rd c arg5 b ∗ rd c arg6 d ∗ rd c arg7 a' ∗ rd c arg8 b' ∗ rd c arg9 d' ∗ rd c arg3 g
          ∗ owns c nM fullShare (normed g ((hB (bk (i 0).val)).view.read (Elt F) XH))
          ∗ slotIs c (sl (i 0).val) (firstStep g a b d a' b' d' ((hB (bk (i 0).val)).view.read (Elt F) XH))
          ∗ hIs c XH (bk (i 0).val) ∗ cellI c (sl (i 0).val) ∗ rd c arg10 w ∗ castIs c arg12 w ∗ ∃ W', owes (c : Thread nD τ) 0 W') -∗ Q ⟨⟩))
      ⊢ wp frame (wpE (defs₀ (F := F)) Variants.none (c : Thread nD τ) none) Set.univ
        (cc0_ffn i hM (Memref.isWhole_whole _) arg3 harg3 arg4 harg4 arg5 harg5 arg6 harg6 arg7 harg7 arg8 harg8 arg9 harg9 arg10 harg10
          outM (Memref.isWhole_whole _) arg12 harg12 accM (Memref.isWhole_whole _) nM (Memref.isWhole_whole _) cc0_scratch2 cc0_scratch3) Q := by
  have k1 : ¬ k0_cond1 i = 1#1 := by rw [cond1_iff]; omega
  have k4 : k0_cond4 i = 1#1 := by rw [cond4_iff]; omega
  have k5 : ¬ (Scalar.cmpi .ne (Scalar.extui (Scalar.cmpi .eq (BitVec.ofNat 32 (i 0).val) 0#32) : BitVec 32) 0#32 = 1#1) := by rw [cond5_iff]; omega
  have k6 : ¬ k0_cond6 i = 1#1 := by rw [cond6_iff]; omega
  have k7 : ¬ k0_cond7 i = 1#1 := by rw [cond7_iff]; omega
  iintro ⟨⟨H4, H5, H6, H7, H8, H9, H3, Hn, ⟨%f, Hf⟩, H10, ⟨%fw, Hv⟩, HW⟩, Hk⟩
  sl_exec_parts
  sl_step
  iapply Hk
  have hf : sv (sl (i 0).val) (landedI c (sl (i 0).val) (ReadAs.same.apply ((hB (bk (i 0).val)).view.read (Elt F) XH)) (accS (sl (i 0).val)).view.junk) = (hB (bk (i 0).val)).view.read (Elt F) XH :=
    read_landedI c _ _ _
  have h34 : firstRun.sl.v34 c i XH k4 = slotOf ((hB (bk (i 0).val)).view.read (Elt F) XH) :=
    (read_slot _ _ (off10_eq i) _).trans (congrArg slotOf hf)
  have hg : View.readAt (Elt F) arg3.view (Rect.unit ![0, 0] S1x2048.size inb_S1x2048_S1x2048_0_0).toLoadRect (arg3.view.rep g) = g :=
    View.readAt_rep_full _ _ _
  have hn : k0_pay5 (firstRun.sl.v34 c i XH k4) (View.readAt (Elt F) arg3.view (Rect.unit ![0, 0] S1x2048.size inb_S1x2048_S1x2048_0_0).toLoadRect (arg3.view.rep g))
      = normed g ((hB (bk (i 0).val)).view.read (Elt F) XH) := by
    rw [h34, hg]
    exact shapeCast_self _ _
  have hr : firstRun.sl.r_3 c arg3 arg4 arg5 i a b g XH k4 = k0_pay19 (normed g ((hB (bk (i 0).val)).view.read (Elt F) XH)) a b := by
    unfold firstRun.sl.r_3 firstRun.sl.r_1 firstRun.sl.r_2
    rw [h34, hg, View.readAt_rep_full, View.readAt_rep_full]
    rfl
  have hr1 : firstRun.sl.r_5 c arg3 arg7 arg8 i a' b' g XH k4 = k0_pay19 (normed g ((hB (bk (i 0).val)).view.read (Elt F) XH)) a' b' := by
    unfold firstRun.sl.r_5 firstRun.sl.r
    rw [h34, hg, View.readAt_rep_full, View.readAt_rep_full]
    rfl
  have hv : sv (sl (i 0).val) (firstRun.sl.Hf_dst_w8 c arg3 arg4 arg5 arg6 arg7 arg8 arg9 i a b d a' b' d' g XH k4)
      = accStep (firstRun.sl.r_5 c arg3 arg7 arg8 i a' b' g XH k4) d' (accStep (firstRun.sl.r_3 c arg3 arg4 arg5 i a b g XH k4) d
          ((hB (bk (i 0).val)).view.read (Elt F) XH)) :=
    chunk_step _ 3 arg9 d' _ _ (off14_eq i) _ (off14_eq i) _ _ _ <| chunk_step _ 2 arg9 d' _ _ (off13_eq i) _ (off13_eq i) _ _ _ <|
    chunk_step _ 1 arg9 d' _ _ (off12_eq i) _ (off12_eq i) _ _ _ <| chunk_step _ 0 arg9 d' _ _ (off11_eq i) _ (off11_eq i) _ _ _ <|
    chunk_step _ 3 arg6 d _ _ (off14_eq i) _ (off14_eq i) _ _ _ <| chunk_step _ 2 arg6 d _ _ (off13_eq i) _ (off13_eq i) _ _ _ <|
    chunk_step _ 1 arg6 d _ _ (off12_eq i) _ (off12_eq i) _ _ _ <| chunk_step _ 0 arg6 d _ _ (off11_eq i) _ (off11_eq i) _ _ _ hf
  rw [hr, hr1] at hv
  isplitl [H4]
  · iexact H4
  isplitl [H5]
  · iexact H5
  isplitl [H6]
  · iexact H6
  isplitl [H7]
  · iexact H7
  isplitl [H8]
  · iexact H8
  isplitl [H9]
  · iexact H9
  isplitl [H3]
  · iexact H3
  isplitl [Hn]
  · unfold owns
    iexists (nM.view.writes (Elt F) fn (firstRun.sl.Hn_1 c arg3 i g XH k4))
    isplitr
    · ipureintro; exact (View.read_writes_full _ _ _ _ _).trans hn
    · iexact Hn
  isplitl [Hf_dst]
  · iexists (firstRun.sl.Hf_dst_w8 c arg3 arg4 arg5 arg6 arg7 arg8 arg9 i a b d a' b' d' g XH k4)
    isplitr
    · ipureintro; exact hv
    · iexact Hf_dst
  isplitl [Hf_src]
  · iexact Hf_src
  isplitl [Hf]
  · iexact Hf
  isplitl [H10]
  · iexact H10
  isplitl [Hv]
  · unfold castIs owns
    iexists _
    isplitr
    pick_goal 2
    · iexact Hv
    · ipureintro; exact (View.read_writes_full _ _ _ _ _).trans (cast_read arg10 w)
  · iexists _
    iexact HW

set_option backward.proofsInPublic true in
theorem firstRun0 (i : grid0.Coords) (hj : (i 1).val = 0) (hi0 : (i 0).val = 0)
    (a : S2048x512.Idx → Elt F .bf16) (b : S2048x512.Idx → Elt F .bf16) (d : S512x2048.Idx → Elt F .bf16)
    (a' : S2048x512.Idx → Elt F .bf16) (b' : S2048x512.Idx → Elt F .bf16) (d' : S512x2048.Idx → Elt F .bf16)
    (g : S1x2048.Idx → Elt F .f32) (XH : Buf (Elt F) (hM.view.loc (c : Thread nD τ))) (fn : Buf (Elt F) (nM.view.loc (c : Thread nD τ)))
    (w : S32x4096.Idx → Elt F .f32) (W : Waits sig Unit) (Q : PUnit → sProp 𝕄) :
    iprop((rd c arg4 a ∗ rd c arg5 b ∗ rd c arg6 d ∗ rd c arg7 a' ∗ rd c arg8 b' ∗ rd c arg9 d' ∗ rd c arg3 g ∗ at_ c nM fn
        ∗ slotAny c (sl (i 0).val) ∗ cellI c (sl (i 0).val) ∗ hIs c XH (bk (i 0).val) ∗ rd c arg10 w ∗ castAny c arg12 ∗ owes (c : Thread nD τ) 0 W)
      ∗ ((rd c arg4 a ∗ rd c arg5 b ∗ rd c arg6 d ∗ rd c arg7 a' ∗ rd c arg8 b' ∗ rd c arg9 d' ∗ rd c arg3 g
          ∗ owns c nM fullShare (normed g ((hB (bk (i 0).val)).view.read (Elt F) XH))
          ∗ slotIs c (sl (i 0).val) (firstStep g a b d a' b' d' ((hB (bk (i 0).val)).view.read (Elt F) XH))
          ∗ hIs c XH (bk (i 0).val) ∗ cellI c (sl (i 0).val) ∗ rd c arg10 w ∗ castIs c arg12 w ∗ ∃ W', owes (c : Thread nD τ) 0 W') -∗ Q ⟨⟩))
      ⊢ wp frame (wpE (defs₀ (F := F)) Variants.none (c : Thread nD τ) none) Set.univ
        (cc0_ffn i hM (Memref.isWhole_whole _) arg3 harg3 arg4 harg4 arg5 harg5 arg6 harg6 arg7 harg7 arg8 harg8 arg9 harg9 arg10 harg10
          outM (Memref.isWhole_whole _) arg12 harg12 accM (Memref.isWhole_whole _) nM (Memref.isWhole_whole _) cc0_scratch2 cc0_scratch3) Q := by
  have k1 : ¬ k0_cond1 i = 1#1 := by rw [cond1_iff]; omega
  have k4 : k0_cond4 i = 1#1 := by rw [cond4_iff]; omega
  have k5 : (Scalar.cmpi .ne (Scalar.extui (Scalar.cmpi .eq (BitVec.ofNat 32 (i 0).val) 0#32) : BitVec 32) 0#32 = 1#1) := by rw [cond5_iff]; omega
  have k6 : ¬ k0_cond6 i = 1#1 := by rw [cond6_iff]; omega
  have k7 : ¬ k0_cond7 i = 1#1 := by rw [cond7_iff]; omega
  iintro ⟨⟨H4, H5, H6, H7, H8, H9, H3, Hn, ⟨%f, Ha⟩, Hf, Hh, H10, ⟨%fw, Hv⟩, HW⟩, Hk⟩
  sl_exec_parts
  sl_step
  iapply Hk
  have hf : sv (sl (i 0).val) (landedI c (sl (i 0).val) (ReadAs.same.apply ((hB (bk (i 0).val)).view.read (Elt F) XH)) (accS (sl (i 0).val)).view.junk) = (hB (bk (i 0).val)).view.read (Elt F) XH :=
    read_landedI c _ _ _
  have h34 : firstRun0.sl.v34 c i XH k4 = slotOf ((hB (bk (i 0).val)).view.read (Elt F) XH) :=
    (read_slot _ _ (off10_eq i) _).trans (congrArg slotOf hf)
  have hg : View.readAt (Elt F) arg3.view (Rect.unit ![0, 0] S1x2048.size inb_S1x2048_S1x2048_0_0).toLoadRect (arg3.view.rep g) = g :=
    View.readAt_rep_full _ _ _
  have hn : k0_pay5 (firstRun0.sl.v34 c i XH k4) (View.readAt (Elt F) arg3.view (Rect.unit ![0, 0] S1x2048.size inb_S1x2048_S1x2048_0_0).toLoadRect (arg3.view.rep g))
      = normed g ((hB (bk (i 0).val)).view.read (Elt F) XH) := by
    rw [h34, hg]
    exact shapeCast_self _ _
  have hr : firstRun0.sl.r_3 c arg3 arg4 arg5 i a b g XH k4 = k0_pay19 (normed g ((hB (bk (i 0).val)).view.read (Elt F) XH)) a b := by
    unfold firstRun0.sl.r_3 firstRun0.sl.r_1 firstRun0.sl.r_2
    rw [h34, hg, View.readAt_rep_full, View.readAt_rep_full]
    rfl
  have hr1 : firstRun0.sl.r_5 c arg3 arg7 arg8 i a' b' g XH k4 = k0_pay19 (normed g ((hB (bk (i 0).val)).view.read (Elt F) XH)) a' b' := by
    unfold firstRun0.sl.r_5 firstRun0.sl.r
    rw [h34, hg, View.readAt_rep_full, View.readAt_rep_full]
    rfl
  have hv : sv (sl (i 0).val) (firstRun0.sl.Ha_w8 c arg3 arg4 arg5 arg6 arg7 arg8 arg9 i a b d a' b' d' g XH k4)
      = accStep (firstRun0.sl.r_5 c arg3 arg7 arg8 i a' b' g XH k4) d' (accStep (firstRun0.sl.r_3 c arg3 arg4 arg5 i a b g XH k4) d
          ((hB (bk (i 0).val)).view.read (Elt F) XH)) :=
    chunk_step _ 3 arg9 d' _ _ (off14_eq i) _ (off14_eq i) _ _ _ <| chunk_step _ 2 arg9 d' _ _ (off13_eq i) _ (off13_eq i) _ _ _ <|
    chunk_step _ 1 arg9 d' _ _ (off12_eq i) _ (off12_eq i) _ _ _ <| chunk_step _ 0 arg9 d' _ _ (off11_eq i) _ (off11_eq i) _ _ _ <|
    chunk_step _ 3 arg6 d _ _ (off14_eq i) _ (off14_eq i) _ _ _ <| chunk_step _ 2 arg6 d _ _ (off13_eq i) _ (off13_eq i) _ _ _ <|
    chunk_step _ 1 arg6 d _ _ (off12_eq i) _ (off12_eq i) _ _ _ <| chunk_step _ 0 arg6 d _ _ (off11_eq i) _ (off11_eq i) _ _ _ hf
  rw [hr, hr1] at hv
  isplitl [H4]
  · iexact H4
  isplitl [H5]
  · iexact H5
  isplitl [H6]
  · iexact H6
  isplitl [H7]
  · iexact H7
  isplitl [H8]
  · iexact H8
  isplitl [H9]
  · iexact H9
  isplitl [H3]
  · iexact H3
  isplitl [Hn]
  · unfold owns
    iexists (nM.view.writes (Elt F) fn (firstRun0.sl.Hn_1 c arg3 i g XH k4))
    isplitr
    · ipureintro; exact (View.read_writes_full _ _ _ _ _).trans hn
    · iexact Hn
  isplitl [Ha]
  · iexists (firstRun0.sl.Ha_w8 c arg3 arg4 arg5 arg6 arg7 arg8 arg9 i a b d a' b' d' g XH k4)
    isplitr
    · ipureintro; exact hv
    · iexact Ha
  isplitl [Hh]
  · iexact Hh
  isplitl [Hf]
  · iexact Hf
  isplitl [H10]
  · iexact H10
  isplitl [Hv]
  · unfold castIs owns
    iexists _
    isplitr
    pick_goal 2
    · iexact Hv
    · ipureintro; exact (View.read_writes_full _ _ _ _ _).trans (cast_read arg10 w)
  · iexists _
    iexact HW

end Cert.Proof.Ffn2
-- ==== Proof.RunSecond2.lean ====
/-
  The body at the second step of a row block: the write-back of the block before is waited for, the fetch of the block
  after is started, and the step's own sums follow.
-/
module

public import proofs.«01_k».proof.Proof.Values2

@[expose] public section

noncomputable section

namespace Cert.Proof.Ffn2

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (Pipeline.UD sig nD τ) ℕ

variable (c : Dev nD)
  (arg3 : Memref sig .tc .vmem S1x2048 .f32) (harg3 : arg3.IsWhole)
  (arg4 : Memref sig .tc .vmem S2048x512 .bf16) (harg4 : arg4.IsWhole)
  (arg5 : Memref sig .tc .vmem S2048x512 .bf16) (harg5 : arg5.IsWhole)
  (arg6 : Memref sig .tc .vmem S512x2048 .bf16) (harg6 : arg6.IsWhole)
  (arg7 : Memref sig .tc .vmem S2048x512 .bf16) (harg7 : arg7.IsWhole)
  (arg8 : Memref sig .tc .vmem S2048x512 .bf16) (harg8 : arg8.IsWhole)
  (arg9 : Memref sig .tc .vmem S512x2048 .bf16) (harg9 : arg9.IsWhole)
  (arg10 : Memref sig .tc .vmem S32x4096 .f32) (harg10 : arg10.IsWhole)
  (arg12 : Memref sig .tc .vmem S32x4096 .bf16) (harg12 : arg12.IsWhole)

set_option backward.proofsInPublic true in
theorem secondRun (i : grid0.Coords) (hj : (i 1).val = 1) (hi0 : 1 ≤ (i 0).val) (hi1 : (i 0).val + 1 < 16)
    (n : S1024x2048.Idx → Elt F .bf16) (a : S2048x512.Idx → Elt F .bf16) (b : S2048x512.Idx → Elt F .bf16) (d : S512x2048.Idx → Elt F .bf16)
    (a' : S2048x512.Idx → Elt F .bf16) (b' : S2048x512.Idx → Elt F .bf16) (d' : S512x2048.Idx → Elt F .bf16)
    (XH : Buf (Elt F) (hM.view.loc (c : Thread nD τ))) (y : S1024x2048.Idx → Elt F .f32) (x : S1024x2048.Idx → Elt F .f32)
    (w : S32x4096.Idx → Elt F .f32) (W : Waits sig Unit) (Q : PUnit → sProp 𝕄) :
    iprop((rd c arg4 a ∗ rd c arg5 b ∗ rd c arg6 d ∗ rd c arg7 a' ∗ rd c arg8 b' ∗ rd c arg9 d' ∗ rd c nM n
        ∗ slotIs c (sl (i 0).val) x
        ∗ backing c (sl ((i 0).val + 1)) (bk ((i 0).val - 1)) y ∗ cellI c (sl ((i 0).val + 1)) ∗ hIs c XH (bk ((i 0).val + 1)) ∗ rd c arg10 w ∗ castAny c arg12 ∗ owes (c : Thread nD τ) 0 W)
      ∗ ((rd c arg4 a ∗ rd c arg5 b ∗ rd c arg6 d ∗ rd c arg7 a' ∗ rd c arg8 b' ∗ rd c arg9 d' ∗ rd c nM n
          ∗ slotIs c (sl (i 0).val) (accStep (k0_pay19 n a' b') d' (accStep (k0_pay19 n a b) d x))
          ∗ outIs c (bk ((i 0).val - 1)) y ∗ cellO c (sl ((i 0).val + 1)) ∗ fetching c XH (sl ((i 0).val + 1)) (bk ((i 0).val + 1)) ∗ rd c arg10 w ∗ castIs c arg12 w ∗ ∃ W', owes (c : Thread nD τ) 0 W') -∗ Q ⟨⟩))
      ⊢ wp frame (wpE (defs₀ (F := F)) Variants.none (c : Thread nD τ) none) Set.univ
        (cc0_ffn i hM (Memref.isWhole_whole _) arg3 harg3 arg4 harg4 arg5 harg5 arg6 harg6 arg7 harg7 arg8 harg8 arg9 harg9 arg10 harg10
          outM (Memref.isWhole_whole _) arg12 harg12 accM (Memref.isWhole_whole _) nM (Memref.isWhole_whole _) cc0_scratch2 cc0_scratch3) Q := by
  have k1 : k0_cond1 i = 1#1 := by rw [cond1_iff]; omega
  have k2 : k0_cond2 i = 1#1 := by rw [cond2_iff]; omega
  have k3 : k0_cond3 i = 1#1 := by rw [cond3_iff]; omega
  have k4 : ¬ k0_cond4 i = 1#1 := by rw [cond4_iff]; omega
  have k6 : k0_cond6 i = 1#1 := by rw [cond6_iff]; omega
  have k7 : ¬ k0_cond7 i = 1#1 := by rw [cond7_iff]; omega
  iintro ⟨⟨H4, H5, H6, H7, H8, H9, Hn, ⟨%f, %hf, Ha⟩, ⟨%gb, %fb, %hgb, Hb⟩, Hc, Hh, H10, ⟨%fw, Hv⟩, HW⟩, Hk⟩
  sl_exec_parts
  sl_step
  iapply Hk
  have hr : secondRun.sl.r arg4 arg5 n a b = k0_pay19 n a b := by
    unfold secondRun.sl.r
    rw [View.readAt_rep_full, View.readAt_rep_full, View.readAt_rep_full]
  have hr1 : secondRun.sl.r_1 arg7 arg8 n a' b' = k0_pay19 n a' b' := by
    unfold secondRun.sl.r_1
    rw [View.readAt_rep_full, View.readAt_rep_full, View.readAt_rep_full]
    rfl
  have hv : sv (sl (i 0).val) (secondRun.sl.Ha_w8 c arg4 arg5 arg6 arg7 arg8 arg9 i n a b d a' b' d' k6 f)
      = accStep (secondRun.sl.r_1 arg7 arg8 n a' b') d' (accStep (secondRun.sl.r arg4 arg5 n a b) d x) :=
    chunk_step _ 3 arg9 d' _ _ (off18_eq i) _ (off18_eq i) _ _ _ <| chunk_step _ 2 arg9 d' _ _ (off17_eq i) _ (off17_eq i) _ _ _ <|
    chunk_step _ 1 arg9 d' _ _ (off16_eq i) _ (off16_eq i) _ _ _ <| chunk_step _ 0 arg9 d' _ _ (off15_eq i) _ (off15_eq i) _ _ _ <|
    chunk_step _ 3 arg6 d _ _ (off18_eq i) _ (off18_eq i) _ _ _ <| chunk_step _ 2 arg6 d _ _ (off17_eq i) _ (off17_eq i) _ _ _ <|
    chunk_step _ 1 arg6 d _ _ (off16_eq i) _ (off16_eq i) _ _ _ <| chunk_step _ 0 arg6 d _ _ (off15_eq i) _ (off15_eq i) _ _ _ hf
  rw [hr, hr1] at hv
  isplitl [H4]
  · iexact H4
  isplitl [H5]
  · iexact H5
  isplitl [H6]
  · iexact H6
  isplitl [H7]
  · iexact H7
  isplitl [H8]
  · iexact H8
  isplitl [H9]
  · iexact H9
  isplitl [Hn]
  · iexact Hn
  isplitl [Ha]
  · iexists _
    isplitr
    · ipureintro; exact hv
    · iexact Ha
  isplitl [Hb_dst]
  · iexists _
    isplitr
    · ipureintro; exact (read_landedO c (bk ((i 0).val - 1)) ((accS (sl ((i 0).val + 1))).view.read (Elt F) gb) fb).trans hgb
    · iexact Hb_dst
  isplitl [Hb]
  · iexact Hb
  isplitl [Hc]
  · iexists _
    iexact Hc
  isplitl [H10]
  · iexact H10
  isplitl [Hv]
  · unfold castIs owns
    iexists _
    isplitr
    pick_goal 2
    · iexact Hv
    · ipureintro; exact (View.read_writes_full _ _ _ _ _).trans (cast_read arg10 w)
  · iexists _
    iexact HW

set_option backward.proofsInPublic true in
theorem secondRun0 (i : grid0.Coords) (hj : (i 1).val = 1) (hi0 : (i 0).val = 0)
    (n : S1024x2048.Idx → Elt F .bf16) (a : S2048x512.Idx → Elt F .bf16) (b : S2048x512.Idx → Elt F .bf16) (d : S512x2048.Idx → Elt F .bf16)
    (a' : S2048x512.Idx → Elt F .bf16) (b' : S2048x512.Idx → Elt F .bf16) (d' : S512x2048.Idx → Elt F .bf16)
    (XH : Buf (Elt F) (hM.view.loc (c : Thread nD τ))) (x : S1024x2048.Idx → Elt F .f32)
    (w : S32x4096.Idx → Elt F .f32) (W : Waits sig Unit) (Q : PUnit → sProp 𝕄) :
    iprop((rd c arg4 a ∗ rd c arg5 b ∗ rd c arg6 d ∗ rd c arg7 a' ∗ rd c arg8 b' ∗ rd c arg9 d' ∗ rd c nM n
        ∗ slotIs c (sl (i 0).val) x
        ∗ cellI c (sl ((i 0).val + 1)) ∗ hIs c XH (bk ((i 0).val + 1)) ∗ slotAny c (sl ((i 0).val + 1)) ∗ rd c arg10 w ∗ castAny c arg12 ∗ owes (c : Thread nD τ) 0 W)
      ∗ ((rd c arg4 a ∗ rd c arg5 b ∗ rd c arg6 d ∗ rd c arg7 a' ∗ rd c arg8 b' ∗ rd c arg9 d' ∗ rd c nM n
          ∗ slotIs c (sl (i 0).val) (accStep (k0_pay19 n a' b') d' (accStep (k0_pay19 n a b) d x))
          ∗ fetching c XH (sl ((i 0).val + 1)) (bk ((i 0).val + 1)) ∗ rd c arg10 w ∗ castIs c arg12 w ∗ ∃ W', owes (c : Thread nD τ) 0 W') -∗ Q ⟨⟩))
      ⊢ wp frame (wpE (defs₀ (F := F)) Variants.none (c : Thread nD τ) none) Set.univ
        (cc0_ffn i hM (Memref.isWhole_whole _) arg3 harg3 arg4 harg4 arg5 harg5 arg6 harg6 arg7 harg7 arg8 harg8 arg9 harg9 arg10 harg10
          outM (Memref.isWhole_whole _) arg12 harg12 accM (Memref.isWhole_whole _) nM (Memref.isWhole_whole _) cc0_scratch2 cc0_scratch3) Q := by
  have k1 : k0_cond1 i = 1#1 := by rw [cond1_iff]; omega
  have k2 : ¬ k0_cond2 i = 1#1 := by rw [cond2_iff]; omega
  have k3 : k0_cond3 i = 1#1 := by rw [cond3_iff]; omega
  have k4 : ¬ k0_cond4 i = 1#1 := by rw [cond4_iff]; omega
  have k6 : k0_cond6 i = 1#1 := by rw [cond6_iff]; omega
  have k7 : ¬ k0_cond7 i = 1#1 := by rw [cond7_iff]; omega
  iintro ⟨⟨H4, H5, H6, H7, H8, H9, Hn, ⟨%f, %hf, Ha⟩, Hc, Hh, ⟨%fs, Hs⟩, H10, ⟨%fw, Hv⟩, HW⟩, Hk⟩
  sl_exec_parts
  sl_step
  iapply Hk
  have hr : secondRun0.sl.r arg4 arg5 n a b = k0_pay19 n a b := by
    unfold secondRun0.sl.r
    rw [View.readAt_rep_full, View.readAt_rep_full, View.readAt_rep_full]
  have hr1 : secondRun0.sl.r_1 arg7 arg8 n a' b' = k0_pay19 n a' b' := by
    unfold secondRun0.sl.r_1
    rw [View.readAt_rep_full, View.readAt_rep_full, View.readAt_rep_full]
    rfl
  have hv : sv (sl (i 0).val) (secondRun0.sl.Ha_w8 c arg4 arg5 arg6 arg7 arg8 arg9 i n a b d a' b' d' k6 f)
      = accStep (secondRun0.sl.r_1 arg7 arg8 n a' b') d' (accStep (secondRun0.sl.r arg4 arg5 n a b) d x) :=
    chunk_step _ 3 arg9 d' _ _ (off18_eq i) _ (off18_eq i) _ _ _ <| chunk_step _ 2 arg9 d' _ _ (off17_eq i) _ (off17_eq i) _ _ _ <|
    chunk_step _ 1 arg9 d' _ _ (off16_eq i) _ (off16_eq i) _ _ _ <| chunk_step _ 0 arg9 d' _ _ (off15_eq i) _ (off15_eq i) _ _ _ <|
    chunk_step _ 3 arg6 d _ _ (off18_eq i) _ (off18_eq i) _ _ _ <| chunk_step _ 2 arg6 d _ _ (off17_eq i) _ (off17_eq i) _ _ _ <|
    chunk_step _ 1 arg6 d _ _ (off16_eq i) _ (off16_eq i) _ _ _ <| chunk_step _ 0 arg6 d _ _ (off15_eq i) _ (off15_eq i) _ _ _ hf
  rw [hr, hr1] at hv
  isplitl [H4]
  · iexact H4
  isplitl [H5]
  · iexact H5
  isplitl [H6]
  · iexact H6
  isplitl [H7]
  · iexact H7
  isplitl [H8]
  · iexact H8
  isplitl [H9]
  · iexact H9
  isplitl [Hn]
  · iexact Hn
  isplitl [Ha]
  · iexists _
    isplitr
    · ipureintro; exact hv
    · iexact Ha
  isplitl [Hc]
  · iexists _
    iexact Hc
  isplitl [H10]
  · iexact H10
  isplitl [Hv]
  · unfold castIs owns
    iexists _
    isplitr
    pick_goal 2
    · iexact Hv
    · ipureintro; exact (View.read_writes_full _ _ _ _ _).trans (cast_read arg10 w)
  · iexists _
    iexact HW

set_option backward.proofsInPublic true in
theorem secondRunL (i : grid0.Coords) (hj : (i 1).val = 1) (hi0 : (i 0).val = 15)
    (n : S1024x2048.Idx → Elt F .bf16) (a : S2048x512.Idx → Elt F .bf16) (b : S2048x512.Idx → Elt F .bf16) (d : S512x2048.Idx → Elt F .bf16)
    (a' : S2048x512.Idx → Elt F .bf16) (b' : S2048x512.Idx → Elt F .bf16) (d' : S512x2048.Idx → Elt F .bf16)
    (y : S1024x2048.Idx → Elt F .f32) (x : S1024x2048.Idx → Elt F .f32)
    (w : S32x4096.Idx → Elt F .f32) (W : Waits sig Unit) (Q : PUnit → sProp 𝕄) :
    iprop((rd c arg4 a ∗ rd c arg5 b ∗ rd c arg6 d ∗ rd c arg7 a' ∗ rd c arg8 b' ∗ rd c arg9 d' ∗ rd c nM n
        ∗ slotIs c (sl (i 0).val) x
        ∗ backing c (sl ((i 0).val + 1)) (bk ((i 0).val - 1)) y ∗ rd c arg10 w ∗ castAny c arg12 ∗ owes (c : Thread nD τ) 0 W)
      ∗ ((rd c arg4 a ∗ rd c arg5 b ∗ rd c arg6 d ∗ rd c arg7 a' ∗ rd c arg8 b' ∗ rd c arg9 d' ∗ rd c nM n
          ∗ slotIs c (sl (i 0).val) (accStep (k0_pay19 n a' b') d' (accStep (k0_pay19 n a b) d x))
          ∗ outIs c (bk ((i 0).val - 1)) y ∗ cellO c (sl ((i 0).val + 1)) ∗ slotAny c (sl ((i 0).val + 1)) ∗ rd c arg10 w ∗ castIs c arg12 w ∗ ∃ W', owes (c : Thread nD τ) 0 W') -∗ Q ⟨⟩))
      ⊢ wp frame (wpE (defs₀ (F := F)) Variants.none (c : Thread nD τ) none) Set.univ
        (cc0_ffn i hM (Memref.isWhole_whole _) arg3 harg3 arg4 harg4 arg5 harg5 arg6 harg6 arg7 harg7 arg8 harg8 arg9 harg9 arg10 harg10
          outM (Memref.isWhole_whole _) arg12 harg12 accM (Memref.isWhole_whole _) nM (Memref.isWhole_whole _) cc0_scratch2 cc0_scratch3) Q := by
  have k1 : k0_cond1 i = 1#1 := by rw [cond1_iff]; omega
  have k2 : k0_cond2 i = 1#1 := by rw [cond2_iff]; omega
  have k3 : ¬ k0_cond3 i = 1#1 := by rw [cond3_iff]; omega
  have k4 : ¬ k0_cond4 i = 1#1 := by rw [cond4_iff]; omega
  have k6 : k0_cond6 i = 1#1 := by rw [cond6_iff]; omega
  have k7 : ¬ k0_cond7 i = 1#1 := by rw [cond7_iff]; omega
  iintro ⟨⟨H4, H5, H6, H7, H8, H9, Hn, ⟨%f, %hf, Ha⟩, ⟨%gb, %fb, %hgb, Hb⟩, H10, ⟨%fw, Hv⟩, HW⟩, Hk⟩
  sl_exec_parts
  sl_step
  iapply Hk
  have hr : secondRunL.sl.r arg4 arg5 n a b = k0_pay19 n a b := by
    unfold secondRunL.sl.r
    rw [View.readAt_rep_full, View.readAt_rep_full, View.readAt_rep_full]
  have hr1 : secondRunL.sl.r_1 arg7 arg8 n a' b' = k0_pay19 n a' b' := by
    unfold secondRunL.sl.r_1
    rw [View.readAt_rep_full, View.readAt_rep_full, View.readAt_rep_full]
    rfl
  have hv : sv (sl (i 0).val) (secondRunL.sl.Ha_w8 c arg4 arg5 arg6 arg7 arg8 arg9 i n a b d a' b' d' k6 f)
      = accStep (secondRunL.sl.r_1 arg7 arg8 n a' b') d' (accStep (secondRunL.sl.r arg4 arg5 n a b) d x) :=
    chunk_step _ 3 arg9 d' _ _ (off18_eq i) _ (off18_eq i) _ _ _ <| chunk_step _ 2 arg9 d' _ _ (off17_eq i) _ (off17_eq i) _ _ _ <|
    chunk_step _ 1 arg9 d' _ _ (off16_eq i) _ (off16_eq i) _ _ _ <| chunk_step _ 0 arg9 d' _ _ (off15_eq i) _ (off15_eq i) _ _ _ <|
    chunk_step _ 3 arg6 d _ _ (off18_eq i) _ (off18_eq i) _ _ _ <| chunk_step _ 2 arg6 d _ _ (off17_eq i) _ (off17_eq i) _ _ _ <|
    chunk_step _ 1 arg6 d _ _ (off16_eq i) _ (off16_eq i) _ _ _ <| chunk_step _ 0 arg6 d _ _ (off15_eq i) _ (off15_eq i) _ _ _ hf
  rw [hr, hr1] at hv
  isplitl [H4]
  · iexact H4
  isplitl [H5]
  · iexact H5
  isplitl [H6]
  · iexact H6
  isplitl [H7]
  · iexact H7
  isplitl [H8]
  · iexact H8
  isplitl [H9]
  · iexact H9
  isplitl [Hn]
  · iexact Hn
  isplitl [Ha]
  · iexists _
    isplitr
    · ipureintro; exact hv
    · iexact Ha
  isplitl [Hb_dst]
  · iexists _
    isplitr
    · ipureintro; exact (read_landedO c (bk ((i 0).val - 1)) ((accS (sl ((i 0).val + 1))).view.read (Elt F) gb) fb).trans hgb
    · iexact Hb_dst
  isplitl [Hb]
  · iexact Hb
  isplitl [Hb_src]
  · iexists gb
    iexact Hb_src
  isplitl [H10]
  · iexact H10
  isplitl [Hv]
  · unfold castIs owns
    iexists _
    isplitr
    pick_goal 2
    · iexact Hv
    · ipureintro; exact (View.read_writes_full _ _ _ _ _).trans (cast_read arg10 w)
  · iexists _
    iexact HW

end Cert.Proof.Ffn2
-- ==== Proof.RunMid2.lean ====
/-
  The body at a step between the first and the last of a row block, without transfers.
-/
module

public import proofs.«01_k».proof.Proof.Values2

@[expose] public section

noncomputable section

namespace Cert.Proof.Ffn2

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (Pipeline.UD sig nD τ) ℕ

variable (c : Dev nD)
  (arg3 : Memref sig .tc .vmem S1x2048 .f32) (harg3 : arg3.IsWhole)
  (arg4 : Memref sig .tc .vmem S2048x512 .bf16) (harg4 : arg4.IsWhole)
  (arg5 : Memref sig .tc .vmem S2048x512 .bf16) (harg5 : arg5.IsWhole)
  (arg6 : Memref sig .tc .vmem S512x2048 .bf16) (harg6 : arg6.IsWhole)
  (arg7 : Memref sig .tc .vmem S2048x512 .bf16) (harg7 : arg7.IsWhole)
  (arg8 : Memref sig .tc .vmem S2048x512 .bf16) (harg8 : arg8.IsWhole)
  (arg9 : Memref sig .tc .vmem S512x2048 .bf16) (harg9 : arg9.IsWhole)
  (arg10 : Memref sig .tc .vmem S32x4096 .f32) (harg10 : arg10.IsWhole)
  (arg12 : Memref sig .tc .vmem S32x4096 .bf16) (harg12 : arg12.IsWhole)

set_option backward.proofsInPublic true in
theorem midRun (i : grid0.Coords) (hj0 : 1 < (i 1).val) (hj1 : (i 1).val < 5)
    (n : S1024x2048.Idx → Elt F .bf16) (a : S2048x512.Idx → Elt F .bf16) (b : S2048x512.Idx → Elt F .bf16) (d : S512x2048.Idx → Elt F .bf16)
    (a' : S2048x512.Idx → Elt F .bf16) (b' : S2048x512.Idx → Elt F .bf16) (d' : S512x2048.Idx → Elt F .bf16)
    (x : S1024x2048.Idx → Elt F .f32)
    (w : S32x4096.Idx → Elt F .f32) (W : Waits sig Unit) (Q : PUnit → sProp 𝕄) :
    iprop((rd c arg4 a ∗ rd c arg5 b ∗ rd c arg6 d ∗ rd c arg7 a' ∗ rd c arg8 b' ∗ rd c arg9 d' ∗ rd c nM n
        ∗ slotIs c (sl (i 0).val) x ∗ rd c arg10 w ∗ castAny c arg12 ∗ owes (c : Thread nD τ) 0 W)
      ∗ ((rd c arg4 a ∗ rd c arg5 b ∗ rd c arg6 d ∗ rd c arg7 a' ∗ rd c arg8 b' ∗ rd c arg9 d' ∗ rd c nM n
          ∗ slotIs c (sl (i 0).val) (accStep (k0_pay19 n a' b') d' (accStep (k0_pay19 n a b) d x)) ∗ rd c arg10 w ∗ castIs c arg12 w ∗ ∃ W', owes (c : Thread nD τ) 0 W') -∗ Q ⟨⟩))
      ⊢ wp frame (wpE (defs₀ (F := F)) Variants.none (c : Thread nD τ) none) Set.univ
        (cc0_ffn i hM (Memref.isWhole_whole _) arg3 harg3 arg4 harg4 arg5 harg5 arg6 harg6 arg7 harg7 arg8 harg8 arg9 harg9 arg10 harg10
          outM (Memref.isWhole_whole _) arg12 harg12 accM (Memref.isWhole_whole _) nM (Memref.isWhole_whole _) cc0_scratch2 cc0_scratch3) Q := by
  have k1 : ¬ k0_cond1 i = 1#1 := by rw [cond1_iff]; omega
  have k4 : ¬ k0_cond4 i = 1#1 := by rw [cond4_iff]; omega
  have k6 : k0_cond6 i = 1#1 := by rw [cond6_iff]; omega
  have k7 : ¬ k0_cond7 i = 1#1 := by rw [cond7_iff]; omega
  iintro ⟨⟨H4, H5, H6, H7, H8, H9, Hn, ⟨%f, %hf, Ha⟩, H10, ⟨%fw, Hv⟩, HW⟩, Hk⟩
  sl_exec_parts
  sl_step
  iapply Hk
  have hr : midRun.sl.r arg4 arg5 n a b = k0_pay19 n a b := by
    unfold midRun.sl.r
    rw [View.readAt_rep_full, View.readAt_rep_full, View.readAt_rep_full]
  have hr1 : midRun.sl.r_1 arg7 arg8 n a' b' = k0_pay19 n a' b' := by
    unfold midRun.sl.r_1
    rw [View.readAt_rep_full, View.readAt_rep_full, View.readAt_rep_full]
    rfl
  have hv : sv (sl (i 0).val) (midRun.sl.Ha_w8 c arg4 arg5 arg6 arg7 arg8 arg9 i n a b d a' b' d' k6 f)
      = accStep (midRun.sl.r_1 arg7 arg8 n a' b') d' (accStep (midRun.sl.r arg4 arg5 n a b) d x) :=
    chunk_step _ 3 arg9 d' _ _ (off18_eq i) _ (off18_eq i) _ _ _ <| chunk_step _ 2 arg9 d' _ _ (off17_eq i) _ (off17_eq i) _ _ _ <|
    chunk_step _ 1 arg9 d' _ _ (off16_eq i) _ (off16_eq i) _ _ _ <| chunk_step _ 0 arg9 d' _ _ (off15_eq i) _ (off15_eq i) _ _ _ <|
    chunk_step _ 3 arg6 d _ _ (off18_eq i) _ (off18_eq i) _ _ _ <| chunk_step _ 2 arg6 d _ _ (off17_eq i) _ (off17_eq i) _ _ _ <|
    chunk_step _ 1 arg6 d _ _ (off16_eq i) _ (off16_eq i) _ _ _ <| chunk_step _ 0 arg6 d _ _ (off15_eq i) _ (off15_eq i) _ _ _ hf
  rw [hr, hr1] at hv
  isplitl [H4]
  · iexact H4
  isplitl [H5]
  · iexact H5
  isplitl [H6]
  · iexact H6
  isplitl [H7]
  · iexact H7
  isplitl [H8]
  · iexact H8
  isplitl [H9]
  · iexact H9
  isplitl [Hn]
  · iexact Hn
  isplitl [Ha]
  · iexists _
    isplitr
    · ipureintro; exact hv
    · iexact Ha
  isplitl [H10]
  · iexact H10
  isplitl [Hv]
  · unfold castIs owns
    iexists _
    isplitr
    pick_goal 2
    · iexact Hv
    · ipureintro; exact (View.read_writes_full _ _ _ _ _).trans (cast_read arg10 w)
  · iexists _
    iexact HW

end Cert.Proof.Ffn2
-- ==== Proof.RunLast2.lean ====
/-
  The body at the last step of a row block: the last 384 hidden columns, and the
  start of its write-back.
-/
module

public import proofs.«01_k».proof.Proof.Values2

@[expose] public section

noncomputable section

namespace Cert.Proof.Ffn2

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (Pipeline.UD sig nD τ) ℕ

variable (c : Dev nD)
  (arg3 : Memref sig .tc .vmem S1x2048 .f32) (harg3 : arg3.IsWhole)
  (arg4 : Memref sig .tc .vmem S2048x512 .bf16) (harg4 : arg4.IsWhole)
  (arg5 : Memref sig .tc .vmem S2048x512 .bf16) (harg5 : arg5.IsWhole)
  (arg6 : Memref sig .tc .vmem S512x2048 .bf16) (harg6 : arg6.IsWhole)
  (arg7 : Memref sig .tc .vmem S2048x512 .bf16) (harg7 : arg7.IsWhole)
  (arg8 : Memref sig .tc .vmem S2048x512 .bf16) (harg8 : arg8.IsWhole)
  (arg9 : Memref sig .tc .vmem S512x2048 .bf16) (harg9 : arg9.IsWhole)
  (arg10 : Memref sig .tc .vmem S32x4096 .f32) (harg10 : arg10.IsWhole)
  (arg12 : Memref sig .tc .vmem S32x4096 .bf16) (harg12 : arg12.IsWhole)

set_option backward.proofsInPublic true in
theorem lastRun (i : grid0.Coords) (hj : (i 1).val = 5) (hi1 : (i 0).val + 1 < 16)
    (n : S1024x2048.Idx → Elt F .bf16) (a : S2048x512.Idx → Elt F .bf16) (b : S2048x512.Idx → Elt F .bf16) (d : S512x2048.Idx → Elt F .bf16)
    (x : S1024x2048.Idx → Elt F .f32)
    (w : S32x4096.Idx → Elt F .f32) (W : Waits sig Unit) (Q : PUnit → sProp 𝕄) :
    iprop((rd c arg4 a ∗ rd c arg5 b ∗ rd c arg6 d ∗ rd c nM n
        ∗ slotIs c (sl (i 0).val) x ∗ cellO c (sl (i 0).val) ∗ outAny c (bk (i 0).val) ∗ rd c arg10 w ∗ castAny c arg12 ∗ owes (c : Thread nD τ) 0 W)
      ∗ ((rd c arg4 a ∗ rd c arg5 b ∗ rd c arg6 d ∗ rd c nM n
          ∗ backing c (sl (i 0).val) (bk (i 0).val) (accStep (k0_pay28 n a b) d x) ∗ rd c arg10 w ∗ castIs c arg12 w ∗ ∃ W', owes (c : Thread nD τ) 0 W') -∗ Q ⟨⟩))
      ⊢ wp frame (wpE (defs₀ (F := F)) Variants.none (c : Thread nD τ) none) Set.univ
        (cc0_ffn i hM (Memref.isWhole_whole _) arg3 harg3 arg4 harg4 arg5 harg5 arg6 harg6 arg7 harg7 arg8 harg8 arg9 harg9 arg10 harg10
          outM (Memref.isWhole_whole _) arg12 harg12 accM (Memref.isWhole_whole _) nM (Memref.isWhole_whole _) cc0_scratch2 cc0_scratch3) Q := by
  have k1 : ¬ k0_cond1 i = 1#1 := by rw [cond1_iff]; omega
  have k4 : ¬ k0_cond4 i = 1#1 := by rw [cond4_iff]; omega
  have k6 : ¬ k0_cond6 i = 1#1 := by rw [cond6_iff]; omega
  have k7 : k0_cond7 i = 1#1 := by rw [cond7_iff]; omega
  have k8 : ¬ k0_cond8 i = 1#1 := by rw [cond8_iff]; omega
  iintro ⟨⟨H4, H5, H6, Hn, ⟨%f, %hf, Ha⟩, Hc, ⟨%fo, Ho⟩, H10, ⟨%fw, Hv⟩, HW⟩, Hk⟩
  sl_exec_parts
  sl_step
  iapply Hk
  have hr : lastRun.sl.r arg4 arg5 n a b = k0_pay28 n a b := by
    unfold lastRun.sl.r
    rw [View.readAt_rep_full, View.readAt_rep_full, View.readAt_rep_full]
  have hv : sv (sl (i 0).val) (lastRun.sl.Ha_w4 c arg4 arg5 arg6 i n a b d k7 f)
      = accStep (lastRun.sl.r arg4 arg5 n a b) d x :=
    chunk_step _ 3 arg6 d _ _ (off22_eq i) _ (off22_eq i) _ _ _ <| chunk_step _ 2 arg6 d _ _ (off21_eq i) _ (off21_eq i) _ _ _ <|
    chunk_step _ 1 arg6 d _ _ (off20_eq i) _ (off20_eq i) _ _ _ <| chunk_step _ 0 arg6 d _ _ (off19_eq i) _ (off19_eq i) _ _ _ hf
  rw [hr] at hv
  isplitl [H4]
  · iexact H4
  isplitl [H5]
  · iexact H5
  isplitl [H6]
  · iexact H6
  isplitl [Hn]
  · iexact Hn
  isplitl [Hc]
  · iexists _
    iexists _
    isplitr
    · ipureintro; exact hv
    · iexact Hc
  isplitl [H10]
  · iexact H10
  isplitl [Hv]
  · unfold castIs owns
    iexists _
    isplitr
    pick_goal 2
    · iexact Hv
    · ipureintro; exact (View.read_writes_full _ _ _ _ _).trans (cast_read arg10 w)
  · iexists _
    iexact HW

set_option backward.proofsInPublic true in
theorem lastRunL (i : grid0.Coords) (hj : (i 1).val = 5) (hi1 : (i 0).val = 15)
    (n : S1024x2048.Idx → Elt F .bf16) (a : S2048x512.Idx → Elt F .bf16) (b : S2048x512.Idx → Elt F .bf16) (d : S512x2048.Idx → Elt F .bf16)
    (x : S1024x2048.Idx → Elt F .f32)
    (w : S32x4096.Idx → Elt F .f32) (W : Waits sig Unit) (Q : PUnit → sProp 𝕄) :
    iprop((rd c arg4 a ∗ rd c arg5 b ∗ rd c arg6 d ∗ rd c nM n
        ∗ slotIs c (sl (i 0).val) x ∗ cellO c (sl (i 0).val) ∗ outAny c (bk (i 0).val) ∗ rd c arg10 w ∗ castAny c arg12 ∗ owes (c : Thread nD τ) 0 W)
      ∗ ((rd c arg4 a ∗ rd c arg5 b ∗ rd c arg6 d ∗ rd c nM n
          ∗ outIs c (bk (i 0).val) (accStep (k0_pay28 n a b) d x) ∗ slotAny c (sl (i 0).val) ∗ cellO c (sl (i 0).val) ∗ rd c arg10 w ∗ castIs c arg12 w ∗ ∃ W', owes (c : Thread nD τ) 0 W') -∗ Q ⟨⟩))
      ⊢ wp frame (wpE (defs₀ (F := F)) Variants.none (c : Thread nD τ) none) Set.univ
        (cc0_ffn i hM (Memref.isWhole_whole _) arg3 harg3 arg4 harg4 arg5 harg5 arg6 harg6 arg7 harg7 arg8 harg8 arg9 harg9 arg10 harg10
          outM (Memref.isWhole_whole _) arg12 harg12 accM (Memref.isWhole_whole _) nM (Memref.isWhole_whole _) cc0_scratch2 cc0_scratch3) Q := by
  have k1 : ¬ k0_cond1 i = 1#1 := by rw [cond1_iff]; omega
  have k4 : ¬ k0_cond4 i = 1#1 := by rw [cond4_iff]; omega
  have k6 : ¬ k0_cond6 i = 1#1 := by rw [cond6_iff]; omega
  have k7 : k0_cond7 i = 1#1 := by rw [cond7_iff]; omega
  have k8 : k0_cond8 i = 1#1 := by rw [cond8_iff]; omega
  iintro ⟨⟨H4, H5, H6, Hn, ⟨%f, %hf, Ha⟩, Hc, ⟨%fo, Ho⟩, H10, ⟨%fw, Hv⟩, HW⟩, Hk⟩
  sl_exec_parts
  sl_step
  iapply Hk
  have hr : lastRunL.sl.r arg4 arg5 n a b = k0_pay28 n a b := by
    unfold lastRunL.sl.r
    rw [View.readAt_rep_full, View.readAt_rep_full, View.readAt_rep_full]
  have hv : sv (sl (i 0).val) (lastRunL.sl.Ha_w4 c arg4 arg5 arg6 i n a b d k7 f)
      = accStep (lastRunL.sl.r arg4 arg5 n a b) d x :=
    chunk_step _ 3 arg6 d _ _ (off22_eq i) _ (off22_eq i) _ _ _ <| chunk_step _ 2 arg6 d _ _ (off21_eq i) _ (off21_eq i) _ _ _ <|
    chunk_step _ 1 arg6 d _ _ (off20_eq i) _ (off20_eq i) _ _ _ <| chunk_step _ 0 arg6 d _ _ (off19_eq i) _ (off19_eq i) _ _ _ hf
  rw [hr] at hv
  isplitl [H4]
  · iexact H4
  isplitl [H5]
  · iexact H5
  isplitl [H6]
  · iexact H6
  isplitl [Hn]
  · iexact Hn
  isplitl [Ho]
  · iexists _
    isplitr
    · ipureintro; exact (read_landedO c (bk (i 0).val) (sv (sl (i 0).val) (lastRunL.sl.Ha_w4 c arg4 arg5 arg6 i n a b d k7 f)) fo).trans hv
    · iexact Ho
  isplitl [Ha]
  · iexists (lastRunL.sl.Ha_w4 c arg4 arg5 arg6 i n a b d k7 f)
    iexact Ha
  isplitl [Hc]
  · iexact Hc
  isplitl [H10]
  · iexact H10
  isplitl [Hv]
  · unfold castIs owns
    iexists _
    isplitr
    pick_goal 2
    · iexact Hv
    · ipureintro; exact (View.read_writes_full _ _ _ _ _).trans (cast_read arg10 w)
  · iexists _
    iexact HW

end Cert.Proof.Ffn2
-- ==== Proof.Inv2.lean ====
module

public import proofs.«01_k».proof.Proof.RunFirst2
public import proofs.«01_k».proof.Proof.RunSecond2
public import proofs.«01_k».proof.Proof.RunMid2
public import proofs.«01_k».proof.Proof.RunLast2
public import Idealize.ShloMosaic.Lib.Ring.WriteBehind

@[expose] public section

noncomputable section

namespace Cert.Proof.Ffn2

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (Pipeline.UD sig nD τ) ℕ

variable (c : Dev nD)
  (arg3 : Memref sig .tc .vmem S1x2048 .f32) (harg3 : arg3.IsWhole)
  (arg4 : Memref sig .tc .vmem S2048x512 .bf16) (harg4 : arg4.IsWhole)
  (arg5 : Memref sig .tc .vmem S2048x512 .bf16) (harg5 : arg5.IsWhole)
  (arg6 : Memref sig .tc .vmem S512x2048 .bf16) (harg6 : arg6.IsWhole)
  (arg7 : Memref sig .tc .vmem S2048x512 .bf16) (harg7 : arg7.IsWhole)
  (arg8 : Memref sig .tc .vmem S2048x512 .bf16) (harg8 : arg8.IsWhole)
  (arg9 : Memref sig .tc .vmem S512x2048 .bf16) (harg9 : arg9.IsWhole)
  (arg10 : Memref sig .tc .vmem S32x4096 .f32) (harg10 : arg10.IsWhole)
  (arg12 : Memref sig .tc .vmem S32x4096 .bf16) (harg12 : arg12.IsWhole)

/-- The blocks the pipeline stages, by the number of the grid point. -/
structure Blocks (F : FTy → Type) where
  g : ℕ → S1x2048.Idx → Elt F .f32
  a : ℕ → S2048x512.Idx → Elt F .bf16
  b : ℕ → S2048x512.Idx → Elt F .bf16
  d : ℕ → S512x2048.Idx → Elt F .bf16
  a' : ℕ → S2048x512.Idx → Elt F .bf16
  b' : ℕ → S2048x512.Idx → Elt F .bf16
  d' : ℕ → S512x2048.Idx → Elt F .bf16
  w : ℕ → S32x4096.Idx → Elt F .f32

variable (B : Blocks F) (XH : Buf (Elt F) (hM.view.loc (c : Thread nD τ)))

/-- Row block `I` of `h`. -/
def hV (I : ℕ) : S1024x2048.Idx → Elt F .f32 := (hB (bk I)).view.read (Elt F) XH
/-- Its normalised rows. -/
def nV (I : ℕ) : S1024x2048.Idx → Elt F .bf16 := normed (B.g (6 * I)) (hV c XH I)
/-- The row block after step `J` of its six. -/
def accV (I : ℕ) : ℕ → S1024x2048.Idx → Elt F .f32
  | 0 => firstStep (B.g (6 * I)) (B.a (6 * I)) (B.b (6 * I)) (B.d (6 * I)) (B.a' (6 * I)) (B.b' (6 * I)) (B.d' (6 * I)) (hV c XH I)
  | J + 1 => accStep (k0_pay19 (nV c B XH I) (B.a' (6 * I + (J + 1))) (B.b' (6 * I + (J + 1)))) (B.d' (6 * I + (J + 1)))
      (accStep (k0_pay19 (nV c B XH I) (B.a (6 * I + (J + 1))) (B.b (6 * I + (J + 1)))) (B.d (6 * I + (J + 1))) (accV I J))
/-- Row block `I` of the result. -/
def outV (I : ℕ) : S1024x2048.Idx → Elt F .f32 :=
  accStep (k0_pay28 (nV c B XH I) (B.a (6 * I + 5)) (B.b (6 * I + 5))) (B.d (6 * I + 5)) (accV c B XH I 4)

/-- The row blocks of the result not yet written before row block `I`, -/
abbrev outsA (I : ℕ) : sProp 𝕄 := bigSep (Ring.aheadSet (NB := 16) I) (fun b => outAny c b)
/-- and those written and waited for. -/
abbrev outsB (e I : ℕ) : sProp 𝕄 := bigSep (Ring.behindSet (NB := 16) e I) (fun b => outIs c b (outV c B XH b.val))
/-- All row blocks of `h`, -/
abbrev hAll : sProp 𝕄 := bigSep Finset.univ (hIs c XH)
/-- all but one. -/
abbrev hBut (b : Fin 16) : sProp 𝕄 := bigSep (Finset.univ.erase b) (hIs c XH)
abbrev nAny : sProp 𝕄 := iprop(∃ f : Buf (Elt F) (nM.view.loc (c : Thread nD τ)), at_ c nM f)

/-- Held before the first step of all. -/
abbrev PStart : sProp 𝕄 := iprop(hAll c XH ∗ slotAny c (sl 0) ∗ slotAny c (sl 1) ∗ cellI c (sl 0) ∗ cellI c (sl 1) ∗ cellO c (sl 0) ∗ cellO c (sl 1)
  ∗ nAny c ∗ outsA c 0)
/-- Held after the last step of all. -/
abbrev PEnd : sProp 𝕄 := iprop(hAll c XH ∗ slotAny c (sl 0) ∗ slotAny c (sl 1) ∗ cellI c (sl 0) ∗ cellI c (sl 1) ∗ cellO c (sl 0) ∗ cellO c (sl 1)
  ∗ nAny c ∗ outsB c B XH 0 16)
/-- Held before the first step of row block `I ≥ 1`. -/
abbrev P0 (I : ℕ) : sProp 𝕄 := iprop(hBut c XH (bk I) ∗ fetching c XH (sl I) (bk I) ∗ cellI c (sl (I + 1)) ∗ cellO c (sl I)
  ∗ backing c (sl (I + 1)) (bk (I - 1)) (outV c B XH (I - 1)) ∗ nAny c ∗ outsA c I ∗ outsB c B XH 1 I)
/-- Before the second step of row block `I`: what its other slot is doing. -/
def X1 (I : ℕ) : sProp 𝕄 :=
  if 1 ≤ I then backing c (sl (I + 1)) (bk (I - 1)) (outV c B XH (I - 1)) else iprop(slotAny c (sl (I + 1)) ∗ cellO c (sl (I + 1)))
/-- Held before the second step of row block `I`. -/
abbrev P1 (I : ℕ) : sProp 𝕄 := iprop(hAll c XH ∗ slotIs c (sl I) (accV c B XH I 0) ∗ rd c nM (nV c B XH I) ∗ cellI c (sl I) ∗ cellI c (sl (I + 1)) ∗ cellO c (sl I)
  ∗ outsA c I ∗ outsB c B XH 1 I ∗ X1 c B XH I)
/-- After the second step of row block `I`: what its other slot is doing. -/
def X2 (I : ℕ) : sProp 𝕄 :=
  if I + 1 < 16 then iprop(fetching c XH (sl (I + 1)) (bk (I + 1)) ∗ hBut c XH (bk (I + 1))) else iprop(slotAny c (sl (I + 1)) ∗ cellI c (sl (I + 1)) ∗ hAll c XH)
/-- Held after `J + 1 ≥ 2` steps of row block `I`. -/
abbrev P2 (I J : ℕ) : sProp 𝕄 := iprop(slotIs c (sl I) (accV c B XH I J) ∗ rd c nM (nV c B XH I) ∗ cellI c (sl I) ∗ cellO c (sl I) ∗ cellO c (sl (I + 1))
  ∗ outsA c I ∗ outsB c B XH 0 I ∗ X2 c XH I)

/-- What the body holds before grid point `k`. -/
def Pk (k : ℕ) : sProp 𝕄 :=
  if k = 0 then PStart c XH else if k = 96 then PEnd c B XH else if k % 6 = 0 then P0 c B XH (k / 6)
  else if k % 6 = 1 then P1 c B XH (k / 6) else P2 c B XH (k / 6) (k % 6 - 1)

theorem Pk_start : Pk c B XH 0 = PStart c XH := by unfold Pk; rw [if_pos rfl]
theorem Pk_end : Pk c B XH 96 = PEnd c B XH := by unfold Pk; rw [if_neg (by decide), if_pos rfl]
theorem Pk_0 {k I : ℕ} (h1 : 1 ≤ I) (h2 : I < 16) (hk : k = 6 * I) : Pk c B XH k = P0 c B XH I := by
  unfold Pk; rw [if_neg (by omega), if_neg (by omega), if_pos (by omega), show k / 6 = I by omega]
theorem Pk_1 {k I : ℕ} (h2 : I < 16) (hk : k = 6 * I + 1) : Pk c B XH k = P1 c B XH I := by
  unfold Pk; rw [if_neg (by omega), if_neg (by omega), if_neg (by omega), if_pos (by omega), show k / 6 = I by omega]
theorem Pk_2 {k I J : ℕ} (h1 : 1 ≤ J) (h3 : J < 5) (h2 : I < 16) (hk : k = 6 * I + (J + 1)) : Pk c B XH k = P2 c B XH I J := by
  unfold Pk; rw [if_neg (by omega), if_neg (by omega), if_neg (by omega), if_neg (by omega), show k / 6 = I by omega, show k % 6 - 1 = J by omega]

theorem hAll_take (b : Fin 16) : hAll c XH = iprop(hIs c XH b ∗ hBut c XH b) := Ring.bigSep_take (Finset.mem_univ b) _

/-- The staged blocks at grid point `k`. -/
abbrev wins (k : ℕ) : sProp 𝕄 := iprop(rd c arg3 (B.g k) ∗ rd c arg4 (B.a k) ∗ rd c arg5 (B.b k) ∗ rd c arg6 (B.d k)
  ∗ rd c arg7 (B.a' k) ∗ rd c arg8 (B.b' k) ∗ rd c arg9 (B.d' k) ∗ rd c arg10 (B.w k))

set_option backward.proofsInPublic true in
theorem step0 (i : grid0.Coords) (hj : (i 1).val = 0) (hi0 : 1 ≤ (i 0).val) (hI : (i 0).val < 16)
    (W : Waits sig Unit) (Q : PUnit → sProp 𝕄) :
    iprop((wins c arg3 arg4 arg5 arg6 arg7 arg8 arg9 arg10 B (6 * (i 0).val) ∗ castAny c arg12 ∗ Pk c B XH (6 * (i 0).val) ∗ owes (c : Thread nD τ) 0 W)
      ∗ ((wins c arg3 arg4 arg5 arg6 arg7 arg8 arg9 arg10 B (6 * (i 0).val) ∗ castIs c arg12 (B.w (6 * (i 0).val)) ∗ Pk c B XH (6 * (i 0).val + 1) ∗ ∃ W', owes (c : Thread nD τ) 0 W') -∗ Q ⟨⟩))
      ⊢ wp frame (wpE (defs₀ (F := F)) Variants.none (c : Thread nD τ) none) Set.univ
        (cc0_ffn i hM (Memref.isWhole_whole _) arg3 harg3 arg4 harg4 arg5 harg5 arg6 harg6 arg7 harg7 arg8 harg8 arg9 harg9 arg10 harg10
          outM (Memref.isWhole_whole _) arg12 harg12 accM (Memref.isWhole_whole _) nM (Memref.isWhole_whole _) cc0_scratch2 cc0_scratch3) Q := by
  rw [Pk_0 c B XH hi0 hI rfl, Pk_1 c B XH hI rfl]
  iintro ⟨⟨⟨H3, H4, H5, H6, H7, H8, H9, H10⟩, Hv, ⟨Hh, Hf, Hci, Hco, Hbk, ⟨%fn, Hn⟩, HA, HB⟩, HW⟩, Hk⟩
  iapply (firstRun c arg3 harg3 arg4 harg4 arg5 harg5 arg6 harg6 arg7 harg7 arg8 harg8 arg9 harg9 arg10 harg10 arg12 harg12 i hj hi0 (B.a _) (B.b _) (B.d _) (B.a' _) (B.b' _) (B.d' _) (B.g (6 * (i 0).val)) XH fn (B.w _) W Q)
  isplitl [H4 H5 H6 H7 H8 H9 H3 Hn Hf H10 Hv HW]
  · isplitl [H4]
    · iexact H4
    isplitl [H5]
    · iexact H5
    isplitl [H6]
    · iexact H6
    isplitl [H7]
    · iexact H7
    isplitl [H8]
    · iexact H8
    isplitl [H9]
    · iexact H9
    isplitl [H3]
    · iexact H3
    isplitl [Hn]
    · iexact Hn
    isplitl [Hf]
    · iexact Hf
    isplitl [H10]
    · iexact H10
    isplitl [Hv]
    · iexact Hv
    · iexact HW
  iintro ⟨H4, H5, H6, H7, H8, H9, H3, Hn, Hs, Hh0, Hci0, H10, Hv, HW⟩
  iapply Hk
  isplitl [H3 H4 H5 H6 H7 H8 H9 H10]
  · isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    · iexact H10
  isplitl [Hv]
  · iexact Hv
  isplitl [Hh Hh0 Hs Hn Hci0 Hci Hco HA HB Hbk]
  · isplitl [Hh Hh0]
    · rw [hAll_take c XH (bk (i 0).val)]
      isplitl [Hh0] <;> iassumption
    isplitl [Hs]
    · iexact Hs
    isplitl [Hn]
    · unfold owns
      icases Hn with ⟨%f, %hf, Hn⟩
      ihave Hn := (pointsTo_rep_entails (c : Thread nD τ) nM f fullShare) $$ Hn
      rw [hf]
      iexact Hn
    isplitl [Hci0]
    · iexact Hci0
    isplitl [Hci]
    · iexact Hci
    isplitl [Hco]
    · iexact Hco
    isplitl [HA]
    · iexact HA
    isplitl [HB]
    · iexact HB
    · unfold X1
      rw [if_pos hi0]
      iexact Hbk
  · iexact HW

set_option backward.proofsInPublic true in
theorem step0s (i : grid0.Coords) (hj : (i 1).val = 0) (hi0 : (i 0).val = 0)
    (W : Waits sig Unit) (Q : PUnit → sProp 𝕄) :
    iprop((wins c arg3 arg4 arg5 arg6 arg7 arg8 arg9 arg10 B (0) ∗ castAny c arg12 ∗ Pk c B XH (0) ∗ owes (c : Thread nD τ) 0 W)
      ∗ ((wins c arg3 arg4 arg5 arg6 arg7 arg8 arg9 arg10 B (0) ∗ castIs c arg12 (B.w (0)) ∗ Pk c B XH (0 + 1) ∗ ∃ W', owes (c : Thread nD τ) 0 W') -∗ Q ⟨⟩))
      ⊢ wp frame (wpE (defs₀ (F := F)) Variants.none (c : Thread nD τ) none) Set.univ
        (cc0_ffn i hM (Memref.isWhole_whole _) arg3 harg3 arg4 harg4 arg5 harg5 arg6 harg6 arg7 harg7 arg8 harg8 arg9 harg9 arg10 harg10
          outM (Memref.isWhole_whole _) arg12 harg12 accM (Memref.isWhole_whole _) nM (Memref.isWhole_whole _) cc0_scratch2 cc0_scratch3) Q := by
  rw [Pk_1 c B XH (k := 0 + 1) (I := 0) (by omega) (by omega), Pk_start c B XH]
  iintro ⟨⟨⟨H3, H4, H5, H6, H7, H8, H9, H10⟩, Hv, ⟨Hh, Hs0, Hs1, Hc0, Hc1, Ho0, Ho1, ⟨%fn, Hn⟩, HA⟩, HW⟩, Hk⟩
  ihave Hh := (Entails.of_eq (hAll_take c XH (bk 0))) $$ Hh
  icases Hh with ⟨Hh0, Hh⟩
  have run := firstRun0 c arg3 harg3 arg4 harg4 arg5 harg5 arg6 harg6 arg7 harg7 arg8 harg8 arg9 harg9 arg10 harg10 arg12 harg12 i hj hi0 (B.a 0) (B.b 0) (B.d 0) (B.a' 0) (B.b' 0) (B.d' 0) (B.g 0) XH fn (B.w 0) W Q
  rw [hi0] at run
  iapply run
  isplitl [H4 H5 H6 H7 H8 H9 H3 Hn Hs0 Hc0 Hh0 H10 Hv HW]
  · isplitl [H4]
    · iexact H4
    isplitl [H5]
    · iexact H5
    isplitl [H6]
    · iexact H6
    isplitl [H7]
    · iexact H7
    isplitl [H8]
    · iexact H8
    isplitl [H9]
    · iexact H9
    isplitl [H3]
    · iexact H3
    isplitl [Hn]
    · iexact Hn
    isplitl [Hs0]
    · iexact Hs0
    isplitl [Hc0]
    · iexact Hc0
    isplitl [Hh0]
    · iexact Hh0
    isplitl [H10]
    · iexact H10
    isplitl [Hv]
    · iexact Hv
    · iexact HW
  iintro ⟨H4, H5, H6, H7, H8, H9, H3, Hn, Hs, Hh0, Hci0, H10, Hv, HW⟩
  iapply Hk
  isplitl [H3 H4 H5 H6 H7 H8 H9 H10]
  · isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    · iexact H10
  isplitl [Hv]
  · iexact Hv
  isplitl [Hh Hh0 Hs Hn Hci0 Hs1 Hc1 Ho0 Ho1 HA]
  · isplitl [Hh Hh0]
    · rw [hAll_take c XH (bk 0)]
      isplitl [Hh0]
      · iexact Hh0
      iexact Hh
    isplitl [Hs]
    · iexact Hs
    isplitl [Hn]
    · unfold owns
      icases Hn with ⟨%f, %hf, Hn⟩
      ihave Hn := (pointsTo_rep_entails (c : Thread nD τ) nM f fullShare) $$ Hn
      rw [hf]
      iexact Hn
    isplitl [Hci0]
    · iexact Hci0
    isplitl [Hc1]
    · iexact Hc1
    isplitl [Ho0]
    · iexact Ho0
    isplitl [HA]
    · iexact HA
    isplitl []
    · rw [show outsB c B XH 1 0 = iprop(emp) from by unfold outsB; rw [Ring.behindSet_boot 1 0 (by omega)]; exact bigSep_empty]
      iempintro
    · unfold X1
      rw [if_neg (by omega)]
      isplitl [Hs1] <;> iassumption
  · iexact HW

theorem outsA_open {I : ℕ} (h : I < 16) : (outsA c I : sProp 𝕄) = iprop(outAny c (bk I) ∗ outsA c (I + 1)) := by
  unfold outsA; rw [Ring.aheadSet_open I h]; exact Ring.bigSep_put (Ring.bk_not_mem_aheadSet_succ I h) _
theorem outsB_close {I : ℕ} (h1 : 1 ≤ I) (h : I ≤ 16) :
    outsB c B XH 0 I = iprop(outIs c (bk (I - 1)) (outV c B XH (I - 1)) ∗ outsB c B XH 1 I) := by
  have e : Ring.behindSet (NB := 16) 0 I = insert (bk (I - 1)) (Ring.behindSet 1 I) := by
    ext u; rw [Ring.mem_behindSet, Finset.mem_insert, Ring.mem_behindSet, Fin.ext_iff, Ring.bk_val (by omega)]; omega
  unfold outsB
  rw [e, Ring.bigSep_put (by rw [Ring.mem_behindSet, Ring.bk_val (by omega)]; omega), Ring.bk_val (show I - 1 < 16 by omega)]
theorem outsB_shift (I : ℕ) : outsB c B XH 1 (I + 1) = outsB c B XH 0 I := by
  have e : Ring.behindSet (NB := 16) 1 (I + 1) = Ring.behindSet 0 I := by
    ext u; rw [Ring.mem_behindSet, Ring.mem_behindSet]; omega
  unfold outsB; rw [e]
theorem X1_pos {I : ℕ} (h : 1 ≤ I) : X1 c B XH I = backing c (sl (I + 1)) (bk (I - 1)) (outV c B XH (I - 1)) := if_pos h
theorem X1_neg {I : ℕ} (h : ¬ 1 ≤ I) : X1 c B XH I = iprop(slotAny c (sl (I + 1)) ∗ cellO c (sl (I + 1))) := if_neg h
theorem X2_pos {I : ℕ} (h : I + 1 < 16) : X2 c XH I = iprop(fetching c XH (sl (I + 1)) (bk (I + 1)) ∗ hBut c XH (bk (I + 1))) := if_pos h
theorem X2_neg {I : ℕ} (h : ¬ I + 1 < 16) : X2 c XH I = iprop(slotAny c (sl (I + 1)) ∗ cellI c (sl (I + 1)) ∗ hAll c XH) := if_neg h
theorem outsB_last {I : ℕ} (h : I = 15) : outsB c B XH 0 16 = iprop(outIs c (bk I) (outV c B XH I) ∗ outsB c B XH 0 I) := by
  subst h; exact (outsB_close c B XH (by omega) (by omega)).trans (by rw [← outsB_shift c B XH 15])
theorem sl_two (I : ℕ) : sl (I + 1 + 1) = sl I := Ring.sl_add 2 I

set_option backward.proofsInPublic true in
theorem step1 (i : grid0.Coords) (hj : (i 1).val = 1) (hi0 : 1 ≤ (i 0).val) (hi1 : (i 0).val + 1 < 16) (hI : (i 0).val < 16)
    (W : Waits sig Unit) (Q : PUnit → sProp 𝕄) :
    iprop((wins c arg3 arg4 arg5 arg6 arg7 arg8 arg9 arg10 B (6 * (i 0).val + 1) ∗ castAny c arg12 ∗ Pk c B XH (6 * (i 0).val + 1) ∗ owes (c : Thread nD τ) 0 W)
      ∗ ((wins c arg3 arg4 arg5 arg6 arg7 arg8 arg9 arg10 B (6 * (i 0).val + 1) ∗ castIs c arg12 (B.w (6 * (i 0).val + 1)) ∗ Pk c B XH (6 * (i 0).val + 1 + 1) ∗ ∃ W', owes (c : Thread nD τ) 0 W') -∗ Q ⟨⟩))
      ⊢ wp frame (wpE (defs₀ (F := F)) Variants.none (c : Thread nD τ) none) Set.univ
        (cc0_ffn i hM (Memref.isWhole_whole _) arg3 harg3 arg4 harg4 arg5 harg5 arg6 harg6 arg7 harg7 arg8 harg8 arg9 harg9 arg10 harg10
          outM (Memref.isWhole_whole _) arg12 harg12 accM (Memref.isWhole_whole _) nM (Memref.isWhole_whole _) cc0_scratch2 cc0_scratch3) Q := by
  rw [Pk_1 c B XH hI rfl, Pk_2 c B XH (J := 1) (by omega) (by omega) hI rfl]
  iintro ⟨⟨⟨H3, H4, H5, H6, H7, H8, H9, H10⟩, Hv, ⟨Hh, Hs, Hn, Hc, Hc', Ho, HA, HB, HX⟩, HW⟩, Hk⟩
  ihave HX := (Entails.of_eq (X1_pos c B XH hi0)) $$ HX
  ihave Hh := (Entails.of_eq (hAll_take c XH (bk ((i 0).val + 1)))) $$ Hh
  icases Hh with ⟨Hh0, Hh⟩
  iapply (secondRun c arg3 harg3 arg4 harg4 arg5 harg5 arg6 harg6 arg7 harg7 arg8 harg8 arg9 harg9 arg10 harg10 arg12 harg12 i hj hi0 hi1 (nV c B XH (i 0).val) (B.a _) (B.b _) (B.d _) (B.a' _) (B.b' _) (B.d' _) XH (outV c B XH ((i 0).val - 1)) (accV c B XH (i 0).val 0) (B.w _) W Q)
  isplitl [H4 H5 H6 H7 H8 H9 Hn Hs HX Hc' Hh0 H10 Hv HW]
  · isplitl [H4]
    · iexact H4
    isplitl [H5]
    · iexact H5
    isplitl [H6]
    · iexact H6
    isplitl [H7]
    · iexact H7
    isplitl [H8]
    · iexact H8
    isplitl [H9]
    · iexact H9
    isplitl [Hn]
    · iexact Hn
    isplitl [Hs]
    · iexact Hs
    isplitl [HX]
    · iexact HX
    isplitl [Hc']
    · iexact Hc'
    isplitl [Hh0]
    · iexact Hh0
    isplitl [H10]
    · iexact H10
    isplitl [Hv]
    · iexact Hv
    · iexact HW
  iintro ⟨H4, H5, H6, H7, H8, H9, Hn, Hs, HO, Ho', HF, H10, Hv, HW⟩
  iapply Hk
  isplitl [H3 H4 H5 H6 H7 H8 H9 H10]
  · isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    · iexact H10
  isplitl [Hv]
  · iexact Hv
  isplitl [Hs Hn Hc Ho Ho' HA HB HO HF Hh]
  · isplitl [Hs]
    · iexact Hs
    isplitl [Hn]
    · iexact Hn
    isplitl [Hc]
    · iexact Hc
    isplitl [Ho]
    · iexact Ho
    isplitl [Ho']
    · iexact Ho'
    isplitl [HA]
    · iexact HA
    isplitl [HB HO]
    · rw [outsB_close c B XH hi0 (by omega)]
      isplitl [HO] <;> iassumption
    · unfold X2
      rw [if_pos hi1]
      isplitl [HF] <;> iassumption
  · iexact HW

set_option backward.proofsInPublic true in
theorem step1s (i : grid0.Coords) (hj : (i 1).val = 1) (hi0 : (i 0).val = 0) (hI : (i 0).val < 16)
    (W : Waits sig Unit) (Q : PUnit → sProp 𝕄) :
    iprop((wins c arg3 arg4 arg5 arg6 arg7 arg8 arg9 arg10 B (6 * (i 0).val + 1) ∗ castAny c arg12 ∗ Pk c B XH (6 * (i 0).val + 1) ∗ owes (c : Thread nD τ) 0 W)
      ∗ ((wins c arg3 arg4 arg5 arg6 arg7 arg8 arg9 arg10 B (6 * (i 0).val + 1) ∗ castIs c arg12 (B.w (6 * (i 0).val + 1)) ∗ Pk c B XH (6 * (i 0).val + 1 + 1) ∗ ∃ W', owes (c : Thread nD τ) 0 W') -∗ Q ⟨⟩))
      ⊢ wp frame (wpE (defs₀ (F := F)) Variants.none (c : Thread nD τ) none) Set.univ
        (cc0_ffn i hM (Memref.isWhole_whole _) arg3 harg3 arg4 harg4 arg5 harg5 arg6 harg6 arg7 harg7 arg8 harg8 arg9 harg9 arg10 harg10
          outM (Memref.isWhole_whole _) arg12 harg12 accM (Memref.isWhole_whole _) nM (Memref.isWhole_whole _) cc0_scratch2 cc0_scratch3) Q := by
  rw [Pk_1 c B XH hI rfl, Pk_2 c B XH (J := 1) (by omega) (by omega) hI rfl]
  iintro ⟨⟨⟨H3, H4, H5, H6, H7, H8, H9, H10⟩, Hv, ⟨Hh, Hs, Hn, Hc, Hc', Ho, HA, HB, HX⟩, HW⟩, Hk⟩
  ihave HX := (Entails.of_eq (X1_neg c B XH (show ¬ 1 ≤ (i 0).val by omega))) $$ HX
  icases HX with ⟨Hs', Ho'⟩
  ihave Hh := (Entails.of_eq (hAll_take c XH (bk ((i 0).val + 1)))) $$ Hh
  icases Hh with ⟨Hh0, Hh⟩
  iapply (secondRun0 c arg3 harg3 arg4 harg4 arg5 harg5 arg6 harg6 arg7 harg7 arg8 harg8 arg9 harg9 arg10 harg10 arg12 harg12 i hj hi0 (nV c B XH (i 0).val) (B.a _) (B.b _) (B.d _) (B.a' _) (B.b' _) (B.d' _) XH (accV c B XH (i 0).val 0) (B.w _) W Q)
  isplitl [H4 H5 H6 H7 H8 H9 Hn Hs Hc' Hh0 Hs' H10 Hv HW]
  · isplitl [H4]
    · iexact H4
    isplitl [H5]
    · iexact H5
    isplitl [H6]
    · iexact H6
    isplitl [H7]
    · iexact H7
    isplitl [H8]
    · iexact H8
    isplitl [H9]
    · iexact H9
    isplitl [Hn]
    · iexact Hn
    isplitl [Hs]
    · iexact Hs
    isplitl [Hc']
    · iexact Hc'
    isplitl [Hh0]
    · iexact Hh0
    isplitl [Hs']
    · iexact Hs'
    isplitl [H10]
    · iexact H10
    isplitl [Hv]
    · iexact Hv
    · iexact HW
  iintro ⟨H4, H5, H6, H7, H8, H9, Hn, Hs, HF, H10, Hv, HW⟩
  iapply Hk
  isplitl [H3 H4 H5 H6 H7 H8 H9 H10]
  · isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    · iexact H10
  isplitl [Hv]
  · iexact Hv
  isplitl [Hs Hn Hc Ho Ho' HA HB HF Hh]
  · isplitl [Hs]
    · iexact Hs
    isplitl [Hn]
    · iexact Hn
    isplitl [Hc]
    · iexact Hc
    isplitl [Ho]
    · iexact Ho
    isplitl [Ho']
    · iexact Ho'
    isplitl [HA]
    · iexact HA
    isplitl [HB]
    · rw [show outsB c B XH 0 (i 0).val = outsB c B XH 1 (i 0).val from by unfold outsB; rw [hi0, Ring.behindSet_boot 1 0 (by omega), Ring.behindSet_boot 0 0 (by omega)]]
      iexact HB
    · unfold X2
      rw [if_pos (by omega)]
      isplitl [HF] <;> iassumption
  · iexact HW

set_option backward.proofsInPublic true in
theorem step1l (i : grid0.Coords) (hj : (i 1).val = 1) (hi0 : (i 0).val = 15) (hI : (i 0).val < 16)
    (W : Waits sig Unit) (Q : PUnit → sProp 𝕄) :
    iprop((wins c arg3 arg4 arg5 arg6 arg7 arg8 arg9 arg10 B (6 * (i 0).val + 1) ∗ castAny c arg12 ∗ Pk c B XH (6 * (i 0).val + 1) ∗ owes (c : Thread nD τ) 0 W)
      ∗ ((wins c arg3 arg4 arg5 arg6 arg7 arg8 arg9 arg10 B (6 * (i 0).val + 1) ∗ castIs c arg12 (B.w (6 * (i 0).val + 1)) ∗ Pk c B XH (6 * (i 0).val + 1 + 1) ∗ ∃ W', owes (c : Thread nD τ) 0 W') -∗ Q ⟨⟩))
      ⊢ wp frame (wpE (defs₀ (F := F)) Variants.none (c : Thread nD τ) none) Set.univ
        (cc0_ffn i hM (Memref.isWhole_whole _) arg3 harg3 arg4 harg4 arg5 harg5 arg6 harg6 arg7 harg7 arg8 harg8 arg9 harg9 arg10 harg10
          outM (Memref.isWhole_whole _) arg12 harg12 accM (Memref.isWhole_whole _) nM (Memref.isWhole_whole _) cc0_scratch2 cc0_scratch3) Q := by
  rw [Pk_1 c B XH hI rfl, Pk_2 c B XH (J := 1) (by omega) (by omega) hI rfl]
  iintro ⟨⟨⟨H3, H4, H5, H6, H7, H8, H9, H10⟩, Hv, ⟨Hh, Hs, Hn, Hc, Hc', Ho, HA, HB, HX⟩, HW⟩, Hk⟩
  ihave HX := (Entails.of_eq (X1_pos c B XH (show 1 ≤ (i 0).val by omega))) $$ HX
  iapply (secondRunL c arg3 harg3 arg4 harg4 arg5 harg5 arg6 harg6 arg7 harg7 arg8 harg8 arg9 harg9 arg10 harg10 arg12 harg12 i hj hi0 (nV c B XH (i 0).val) (B.a _) (B.b _) (B.d _) (B.a' _) (B.b' _) (B.d' _) (outV c B XH ((i 0).val - 1)) (accV c B XH (i 0).val 0) (B.w _) W Q)
  isplitl [H4 H5 H6 H7 H8 H9 Hn Hs HX H10 Hv HW]
  · isplitl [H4]
    · iexact H4
    isplitl [H5]
    · iexact H5
    isplitl [H6]
    · iexact H6
    isplitl [H7]
    · iexact H7
    isplitl [H8]
    · iexact H8
    isplitl [H9]
    · iexact H9
    isplitl [Hn]
    · iexact Hn
    isplitl [Hs]
    · iexact Hs
    isplitl [HX]
    · iexact HX
    isplitl [H10]
    · iexact H10
    isplitl [Hv]
    · iexact Hv
    · iexact HW
  iintro ⟨H4, H5, H6, H7, H8, H9, Hn, Hs, HO, Ho', Hs', H10, Hv, HW⟩
  iapply Hk
  isplitl [H3 H4 H5 H6 H7 H8 H9 H10]
  · isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    · iexact H10
  isplitl [Hv]
  · iexact Hv
  isplitl [Hs Hn Hc Ho Ho' HA HB HO Hs' Hc' Hh]
  · isplitl [Hs]
    · iexact Hs
    isplitl [Hn]
    · iexact Hn
    isplitl [Hc]
    · iexact Hc
    isplitl [Ho]
    · iexact Ho
    isplitl [Ho']
    · iexact Ho'
    isplitl [HA]
    · iexact HA
    isplitl [HB HO]
    · rw [outsB_close c B XH (by omega) (by omega)]
      isplitl [HO] <;> iassumption
    · unfold X2
      rw [if_neg (by omega)]
      isplitl [Hs']
      · iexact Hs'
      isplitl [Hc'] <;> iassumption
  · iexact HW

set_option backward.proofsInPublic true in
theorem step2 (i : grid0.Coords) (J : ℕ) (hj : (i 1).val = J + 1 + 1) (hJ : J + 1 + 1 < 5) (hI : (i 0).val < 16)
    (W : Waits sig Unit) (Q : PUnit → sProp 𝕄) :
    iprop((wins c arg3 arg4 arg5 arg6 arg7 arg8 arg9 arg10 B (6 * (i 0).val + (J + 1 + 1)) ∗ castAny c arg12 ∗ Pk c B XH (6 * (i 0).val + (J + 1 + 1)) ∗ owes (c : Thread nD τ) 0 W)
      ∗ ((wins c arg3 arg4 arg5 arg6 arg7 arg8 arg9 arg10 B (6 * (i 0).val + (J + 1 + 1)) ∗ castIs c arg12 (B.w (6 * (i 0).val + (J + 1 + 1))) ∗ Pk c B XH (6 * (i 0).val + (J + 1 + 1) + 1) ∗ ∃ W', owes (c : Thread nD τ) 0 W') -∗ Q ⟨⟩))
      ⊢ wp frame (wpE (defs₀ (F := F)) Variants.none (c : Thread nD τ) none) Set.univ
        (cc0_ffn i hM (Memref.isWhole_whole _) arg3 harg3 arg4 harg4 arg5 harg5 arg6 harg6 arg7 harg7 arg8 harg8 arg9 harg9 arg10 harg10
          outM (Memref.isWhole_whole _) arg12 harg12 accM (Memref.isWhole_whole _) nM (Memref.isWhole_whole _) cc0_scratch2 cc0_scratch3) Q := by
  rw [Pk_2 c B XH (J := J + 1) (by omega) (by omega) hI rfl, Pk_2 c B XH (k := 6 * (i 0).val + (J + 1 + 1) + 1) (J := J + 1 + 1) (by omega) (by omega) hI rfl]
  iintro ⟨⟨⟨H3, H4, H5, H6, H7, H8, H9, H10⟩, Hv, ⟨Hs, Hn, Hc, Ho, Ho', HA, HB, HX⟩, HW⟩, Hk⟩
  iapply (midRun c arg3 harg3 arg4 harg4 arg5 harg5 arg6 harg6 arg7 harg7 arg8 harg8 arg9 harg9 arg10 harg10 arg12 harg12 i (by omega) (by omega) (nV c B XH (i 0).val) (B.a _) (B.b _) (B.d _) (B.a' _) (B.b' _) (B.d' _) (accV c B XH (i 0).val (J + 1)) (B.w _) W Q)
  isplitl [H4 H5 H6 H7 H8 H9 Hn Hs H10 Hv HW]
  · isplitl [H4]
    · iexact H4
    isplitl [H5]
    · iexact H5
    isplitl [H6]
    · iexact H6
    isplitl [H7]
    · iexact H7
    isplitl [H8]
    · iexact H8
    isplitl [H9]
    · iexact H9
    isplitl [Hn]
    · iexact Hn
    isplitl [Hs]
    · iexact Hs
    isplitl [H10]
    · iexact H10
    isplitl [Hv]
    · iexact Hv
    · iexact HW
  iintro ⟨H4, H5, H6, H7, H8, H9, Hn, Hs, H10, Hv, HW⟩
  iapply Hk
  isplitl [H3 H4 H5 H6 H7 H8 H9 H10]
  · isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    · iexact H10
  isplitl [Hv]
  · iexact Hv
  isplitl [Hs Hn Hc Ho Ho' HA HB HX]
  · isplitl [Hs]
    · iexact Hs
    isplitl [Hn]
    · iexact Hn
    isplitl [Hc]
    · iexact Hc
    isplitl [Ho]
    · iexact Ho
    isplitl [Ho']
    · iexact Ho'
    isplitl [HA]
    · iexact HA
    isplitl [HB]
    · iexact HB
    · iexact HX
  · iexact HW

set_option backward.proofsInPublic true in
theorem step5 (i : grid0.Coords) (hj : (i 1).val = 5) (hi1 : (i 0).val + 1 < 16) (hI : (i 0).val < 16)
    (W : Waits sig Unit) (Q : PUnit → sProp 𝕄) :
    iprop((wins c arg3 arg4 arg5 arg6 arg7 arg8 arg9 arg10 B (6 * (i 0).val + 5) ∗ castAny c arg12 ∗ Pk c B XH (6 * (i 0).val + 5) ∗ owes (c : Thread nD τ) 0 W)
      ∗ ((wins c arg3 arg4 arg5 arg6 arg7 arg8 arg9 arg10 B (6 * (i 0).val + 5) ∗ castIs c arg12 (B.w (6 * (i 0).val + 5)) ∗ Pk c B XH (6 * (i 0).val + 5 + 1) ∗ ∃ W', owes (c : Thread nD τ) 0 W') -∗ Q ⟨⟩))
      ⊢ wp frame (wpE (defs₀ (F := F)) Variants.none (c : Thread nD τ) none) Set.univ
        (cc0_ffn i hM (Memref.isWhole_whole _) arg3 harg3 arg4 harg4 arg5 harg5 arg6 harg6 arg7 harg7 arg8 harg8 arg9 harg9 arg10 harg10
          outM (Memref.isWhole_whole _) arg12 harg12 accM (Memref.isWhole_whole _) nM (Memref.isWhole_whole _) cc0_scratch2 cc0_scratch3) Q := by
  rw [Pk_2 c B XH (J := 4) (by omega) (by omega) hI rfl, Pk_0 c B XH (k := 6 * (i 0).val + 5 + 1) (I := (i 0).val + 1) (by omega) hi1 (by omega)]
  iintro ⟨⟨⟨H3, H4, H5, H6, H7, H8, H9, H10⟩, Hv, ⟨Hs, Hn, Hc, Ho, Ho', HA, HB, HX⟩, HW⟩, Hk⟩
  ihave HX := (Entails.of_eq (X2_pos c XH hi1)) $$ HX
  icases HX with ⟨HF, Hh⟩
  ihave HA := (Entails.of_eq (outsA_open c hI)) $$ HA
  icases HA with ⟨HO, HA⟩
  iapply (lastRun c arg3 harg3 arg4 harg4 arg5 harg5 arg6 harg6 arg7 harg7 arg8 harg8 arg9 harg9 arg10 harg10 arg12 harg12 i hj hi1 (nV c B XH (i 0).val) (B.a _) (B.b _) (B.d _) (accV c B XH (i 0).val 4) (B.w _) W Q)
  isplitl [H4 H5 H6 Hn Hs Ho HO H10 Hv HW]
  · isplitl [H4]
    · iexact H4
    isplitl [H5]
    · iexact H5
    isplitl [H6]
    · iexact H6
    isplitl [Hn]
    · iexact Hn
    isplitl [Hs]
    · iexact Hs
    isplitl [Ho]
    · iexact Ho
    isplitl [HO]
    · iexact HO
    isplitl [H10]
    · iexact H10
    isplitl [Hv]
    · iexact Hv
    · iexact HW
  iintro ⟨H4, H5, H6, Hn, Hb, H10, Hv, HW⟩
  iapply Hk
  isplitl [H3 H4 H5 H6 H7 H8 H9 H10]
  · isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    · iexact H10
  isplitl [Hv]
  · iexact Hv
  isplitl [Hh HF Hc Ho' Hb Hn HA HB]
  · isplitl [Hh]
    · iexact Hh
    isplitl [HF]
    · iexact HF
    isplitl [Hc]
    · rw [sl_two (i 0).val]
      iexact Hc
    isplitl [Ho']
    · iexact Ho'
    isplitl [Hb]
    · rw [sl_two (i 0).val, Nat.add_sub_cancel]
      iexact Hb
    isplitl [Hn]
    · iexists _
      iexact Hn
    isplitl [HA]
    · iexact HA
    · rw [outsB_shift]
      iexact HB
  · iexact HW

set_option backward.proofsInPublic true in
theorem step5l (i : grid0.Coords) (hj : (i 1).val = 5) (hi1 : (i 0).val = 15) (hI : (i 0).val < 16)
    (W : Waits sig Unit) (Q : PUnit → sProp 𝕄) :
    iprop((wins c arg3 arg4 arg5 arg6 arg7 arg8 arg9 arg10 B (6 * (i 0).val + 5) ∗ castAny c arg12 ∗ Pk c B XH (6 * (i 0).val + 5) ∗ owes (c : Thread nD τ) 0 W)
      ∗ ((wins c arg3 arg4 arg5 arg6 arg7 arg8 arg9 arg10 B (6 * (i 0).val + 5) ∗ castIs c arg12 (B.w (6 * (i 0).val + 5)) ∗ Pk c B XH (6 * (i 0).val + 5 + 1) ∗ ∃ W', owes (c : Thread nD τ) 0 W') -∗ Q ⟨⟩))
      ⊢ wp frame (wpE (defs₀ (F := F)) Variants.none (c : Thread nD τ) none) Set.univ
        (cc0_ffn i hM (Memref.isWhole_whole _) arg3 harg3 arg4 harg4 arg5 harg5 arg6 harg6 arg7 harg7 arg8 harg8 arg9 harg9 arg10 harg10
          outM (Memref.isWhole_whole _) arg12 harg12 accM (Memref.isWhole_whole _) nM (Memref.isWhole_whole _) cc0_scratch2 cc0_scratch3) Q := by
  rw [Pk_2 c B XH (J := 4) (by omega) (by omega) hI rfl, show 6 * (i 0).val + 5 + 1 = 96 from by omega, Pk_end c B XH]
  iintro ⟨⟨⟨H3, H4, H5, H6, H7, H8, H9, H10⟩, Hv, ⟨Hs, Hn, Hc, Ho, Ho', HA, HB, HX⟩, HW⟩, Hk⟩
  ihave HX := (Entails.of_eq (X2_neg c XH (show ¬ (i 0).val + 1 < 16 by omega))) $$ HX
  icases HX with ⟨Hs', Hc', Hh⟩
  ihave HA := (Entails.of_eq (outsA_open c hI)) $$ HA
  icases HA with ⟨HO, HA⟩
  have e1 : sl 1 = sl (i 0).val := by rw [hi1]; rfl
  have e0 : sl 0 = sl ((i 0).val + 1) := by rw [hi1]; rfl
  iapply (lastRunL c arg3 harg3 arg4 harg4 arg5 harg5 arg6 harg6 arg7 harg7 arg8 harg8 arg9 harg9 arg10 harg10 arg12 harg12 i hj hi1 (nV c B XH (i 0).val) (B.a _) (B.b _) (B.d _) (accV c B XH (i 0).val 4) (B.w _) W Q)
  isplitl [H4 H5 H6 Hn Hs Ho HO H10 Hv HW]
  · isplitl [H4]
    · iexact H4
    isplitl [H5]
    · iexact H5
    isplitl [H6]
    · iexact H6
    isplitl [Hn]
    · iexact Hn
    isplitl [Hs]
    · iexact Hs
    isplitl [Ho]
    · iexact Ho
    isplitl [HO]
    · iexact HO
    isplitl [H10]
    · iexact H10
    isplitl [Hv]
    · iexact Hv
    · iexact HW
  iintro ⟨H4, H5, H6, Hn, Hb, Hs, Ho, H10, Hv, HW⟩
  iapply Hk
  isplitl [H3 H4 H5 H6 H7 H8 H9 H10]
  · isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    · iexact H10
  isplitl [Hv]
  · iexact Hv
  isplitl [Hh Hs' Hs Hc' Hc Ho' Ho Hn HB Hb]
  · unfold PEnd
    rw [e0, e1]
    isplitl [Hh]
    · iexact Hh
    isplitl [Hs']
    · iexact Hs'
    isplitl [Hs]
    · iexact Hs
    isplitl [Hc']
    · iexact Hc'
    isplitl [Hc]
    · iexact Hc
    isplitl [Ho']
    · iexact Ho'
    isplitl [Ho]
    · iexact Ho
    isplitl [Hn]
    · iexists _
      iexact Hn
    · rw [outsB_last c B XH hi1]
      isplitl [Hb]
      · iexact Hb
      · iexact HB
  · iexact HW

/-- The body meets what it holds, at every grid point. -/
theorem step_all (i : grid0.Coords) (k : ℕ) (hk : k = 6 * (i 0).val + (i 1).val)
    (W : Waits sig Unit) (Q : PUnit → sProp 𝕄) :
    iprop((wins c arg3 arg4 arg5 arg6 arg7 arg8 arg9 arg10 B (k) ∗ castAny c arg12 ∗ Pk c B XH (k) ∗ owes (c : Thread nD τ) 0 W)
      ∗ ((wins c arg3 arg4 arg5 arg6 arg7 arg8 arg9 arg10 B (k) ∗ castIs c arg12 (B.w (k)) ∗ Pk c B XH (k + 1) ∗ ∃ W', owes (c : Thread nD τ) 0 W') -∗ Q ⟨⟩))
      ⊢ wp frame (wpE (defs₀ (F := F)) Variants.none (c : Thread nD τ) none) Set.univ
        (cc0_ffn i hM (Memref.isWhole_whole _) arg3 harg3 arg4 harg4 arg5 harg5 arg6 harg6 arg7 harg7 arg8 harg8 arg9 harg9 arg10 harg10
          outM (Memref.isWhole_whole _) arg12 harg12 accM (Memref.isWhole_whole _) nM (Memref.isWhole_whole _) cc0_scratch2 cc0_scratch3) Q := by
  have hI : (i 0).val < 16 := (i 0).isLt
  have hJ : (i 1).val < 6 := (i 1).isLt
  obtain hj | hj | ⟨J, hj, hJ'⟩ | hj : (i 1).val = 0 ∨ (i 1).val = 1 ∨ (∃ J, (i 1).val = J + 1 + 1 ∧ J + 1 + 1 < 5) ∨ (i 1).val = 5 := by
    rcases Nat.lt_or_ge (i 1).val 2 with h | h
    · omega
    · by_cases h5 : (i 1).val = 5
      · exact Or.inr (Or.inr (Or.inr h5))
      · exact Or.inr (Or.inr (Or.inl ⟨(i 1).val - 2, by omega, by omega⟩))
  · rcases Nat.eq_zero_or_pos (i 0).val with h0 | h0
    · obtain rfl : k = 0 := by omega
      exact step0s c arg3 harg3 arg4 harg4 arg5 harg5 arg6 harg6 arg7 harg7 arg8 harg8 arg9 harg9 arg10 harg10 arg12 harg12 B XH i hj h0 W Q
    · obtain rfl : k = 6 * (i 0).val := by omega
      exact step0 c arg3 harg3 arg4 harg4 arg5 harg5 arg6 harg6 arg7 harg7 arg8 harg8 arg9 harg9 arg10 harg10 arg12 harg12 B XH i hj h0 hI W Q
  · obtain rfl : k = 6 * (i 0).val + 1 := by omega
    rcases Nat.eq_zero_or_pos (i 0).val with h0 | h0
    · exact step1s c arg3 harg3 arg4 harg4 arg5 harg5 arg6 harg6 arg7 harg7 arg8 harg8 arg9 harg9 arg10 harg10 arg12 harg12 B XH i hj h0 hI W Q
    · by_cases h1 : (i 0).val + 1 < 16
      · exact step1 c arg3 harg3 arg4 harg4 arg5 harg5 arg6 harg6 arg7 harg7 arg8 harg8 arg9 harg9 arg10 harg10 arg12 harg12 B XH i hj h0 h1 hI W Q
      · exact step1l c arg3 harg3 arg4 harg4 arg5 harg5 arg6 harg6 arg7 harg7 arg8 harg8 arg9 harg9 arg10 harg10 arg12 harg12 B XH i hj (by omega) hI W Q
  · obtain rfl : k = 6 * (i 0).val + (J + 1 + 1) := by omega
    exact step2 c arg3 harg3 arg4 harg4 arg5 harg5 arg6 harg6 arg7 harg7 arg8 harg8 arg9 harg9 arg10 harg10 arg12 harg12 B XH i J hj hJ' hI W Q
  · obtain rfl : k = 6 * (i 0).val + 5 := by omega
    by_cases h1 : (i 0).val + 1 < 16
    · exact step5 c arg3 harg3 arg4 harg4 arg5 harg5 arg6 harg6 arg7 harg7 arg8 harg8 arg9 harg9 arg10 harg10 arg12 harg12 B XH i hj h1 hI W Q
    · exact step5l c arg3 harg3 arg4 harg4 arg5 harg5 arg6 harg6 arg7 harg7 arg8 harg8 arg9 harg9 arg10 harg10 arg12 harg12 B XH i hj (by omega) hI W Q

end Cert.Proof.Ffn2
-- ==== Proof.Oblig2.lean ====
/-
  What the pipeline hands the body at a grid point, and that the body meets it at every point.
-/
module

public import proofs.«01_k».proof.Proof.Inv2
public import proofs.«01_k».proof.Proof.Gen.Kernel2Ideal.Launch
public import Idealize.ShloMosaic.Lib.Pipeline.Routed

@[expose] public section

noncomputable section

namespace Cert.Proof.Ffn2

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (Pipeline.UD sig nD τ) ℕ

open Idealize.ShloMosaic.Pipeline (Dat BodyObligation)

variable (m : (ℓ : Loc nD τ sig) → Buf (Elt F) ℓ)

/-- The rows `h` as launched. -/
abbrev XA (c : Dev nD) : Buf (Elt F) (hM.view.loc (c : Thread nD τ)) := V m c main_arg0

/-- Grid point `k`. -/
def tk (k : ℕ) : Fin cfg0.N := ⟨k % 96, Nat.mod_lt _ (by decide)⟩
theorem tk_val (t : Fin cfg0.N) : tk t.val = t := Fin.ext (Nat.mod_eq_of_lt t.isLt)

/-- The blocks the pipeline stages, read off the arrays the host operations leave. -/
def blocks (c : Dev nD) : Blocks F where
  g k := iblk m c 0 (tk k)
  a k := iblk m c 1 (tk k)
  b k := iblk m c 2 (tk k)
  d k := iblk m c 3 (tk k)
  a' k := iblk m c 4 (tk k)
  b' k := iblk m c 5 (tk k)
  d' k := iblk m c 6 (tk k)
  w k := iblk m c 7 (tk k)

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => k0_pay1 (iblk m c 7 t)
  Φ t := Pk c (blocks m c) (XA m c) t.val
  q w := Pipeline.shareOf spec0 w
  owed _ := 0

theorem before_w0 (c : Dev nD) (t : Fin cfg0.N) (d) : (dats m 0 c).before 0 t d = iblk m c 0 t :=
  ((dats m 0 c).before_in_eq_fetched 0 rfl (fun _ => rfl) (fun _ _ _ => rfl) (fun t => by dsimp only [dats]; unfold Dat.blockOf iblk; rfl) t d).trans
    (by unfold Dat.fetched Dat.blockOf iblk; dsimp only [dats]; rfl)
theorem before_w1 (c : Dev nD) (t : Fin cfg0.N) (d) : (dats m 0 c).before 1 t d = iblk m c 1 t :=
  ((dats m 0 c).before_in_eq_fetched 1 rfl (fun _ => rfl) (fun _ _ _ => rfl) (fun t => by dsimp only [dats]; unfold Dat.blockOf iblk; rfl) t d).trans
    (by unfold Dat.fetched Dat.blockOf iblk; dsimp only [dats]; rfl)
theorem before_w2 (c : Dev nD) (t : Fin cfg0.N) (d) : (dats m 0 c).before 2 t d = iblk m c 2 t :=
  ((dats m 0 c).before_in_eq_fetched 2 rfl (fun _ => rfl) (fun _ _ _ => rfl) (fun t => by dsimp only [dats]; unfold Dat.blockOf iblk; rfl) t d).trans
    (by unfold Dat.fetched Dat.blockOf iblk; dsimp only [dats]; rfl)
theorem before_w3 (c : Dev nD) (t : Fin cfg0.N) (d) : (dats m 0 c).before 3 t d = iblk m c 3 t :=
  ((dats m 0 c).before_in_eq_fetched 3 rfl (fun _ => rfl) (fun _ _ _ => rfl) (fun t => by dsimp only [dats]; unfold Dat.blockOf iblk; rfl) t d).trans
    (by unfold Dat.fetched Dat.blockOf iblk; dsimp only [dats]; rfl)
theorem before_w4 (c : Dev nD) (t : Fin cfg0.N) (d) : (dats m 0 c).before 4 t d = iblk m c 4 t :=
  ((dats m 0 c).before_in_eq_fetched 4 rfl (fun _ => rfl) (fun _ _ _ => rfl) (fun t => by dsimp only [dats]; unfold Dat.blockOf iblk; rfl) t d).trans
    (by unfold Dat.fetched Dat.blockOf iblk; dsimp only [dats]; rfl)
theorem before_w5 (c : Dev nD) (t : Fin cfg0.N) (d) : (dats m 0 c).before 5 t d = iblk m c 5 t :=
  ((dats m 0 c).before_in_eq_fetched 5 rfl (fun _ => rfl) (fun _ _ _ => rfl) (fun t => by dsimp only [dats]; unfold Dat.blockOf iblk; rfl) t d).trans
    (by unfold Dat.fetched Dat.blockOf iblk; dsimp only [dats]; rfl)
theorem before_w6 (c : Dev nD) (t : Fin cfg0.N) (d) : (dats m 0 c).before 6 t d = iblk m c 6 t :=
  ((dats m 0 c).before_in_eq_fetched 6 rfl (fun _ => rfl) (fun _ _ _ => rfl) (fun t => by dsimp only [dats]; unfold Dat.blockOf iblk; rfl) t d).trans
    (by unfold Dat.fetched Dat.blockOf iblk; dsimp only [dats]; rfl)
theorem before_w7 (c : Dev nD) (t : Fin cfg0.N) (d) : (dats m 0 c).before 7 t d = iblk m c 7 t :=
  ((dats m 0 c).before_in_eq_fetched 7 rfl (fun _ => rfl) (fun _ _ _ => rfl) (fun t => by dsimp only [dats]; unfold Dat.blockOf iblk; rfl) t d).trans
    (by unfold Dat.fetched Dat.blockOf iblk; dsimp only [dats]; rfl)
theorem after_w0 (c : Dev nD) (t : Fin cfg0.N) : (dats m 0 c).after 0 t = iblk m c 0 t := by dsimp only [dats]
theorem after_w1 (c : Dev nD) (t : Fin cfg0.N) : (dats m 0 c).after 1 t = iblk m c 1 t := by dsimp only [dats]
theorem after_w2 (c : Dev nD) (t : Fin cfg0.N) : (dats m 0 c).after 2 t = iblk m c 2 t := by dsimp only [dats]
theorem after_w3 (c : Dev nD) (t : Fin cfg0.N) : (dats m 0 c).after 3 t = iblk m c 3 t := by dsimp only [dats]
theorem after_w4 (c : Dev nD) (t : Fin cfg0.N) : (dats m 0 c).after 4 t = iblk m c 4 t := by dsimp only [dats]
theorem after_w5 (c : Dev nD) (t : Fin cfg0.N) : (dats m 0 c).after 5 t = iblk m c 5 t := by dsimp only [dats]
theorem after_w6 (c : Dev nD) (t : Fin cfg0.N) : (dats m 0 c).after 6 t = iblk m c 6 t := by dsimp only [dats]
theorem after_w7 (c : Dev nD) (t : Fin cfg0.N) : (dats m 0 c).after 7 t = iblk m c 7 t := by dsimp only [dats]
theorem after_w8 (c : Dev nD) (t : Fin cfg0.N) : (dats m 0 c).after 8 t = k0_pay1 (iblk m c 7 t) := by dsimp only [dats]

/-- The staged output block is written at every point. -/
theorem cast_idle : ∀ t : Fin cfg0.N, idle0 8 (grid0.coords t) = false := by decide +kernel

theorem coord0 : ∀ t : Fin cfg0.N, (grid0.coords t 0).val = t.val / 6 := by decide +kernel
theorem coord1 : ∀ t : Fin cfg0.N, (grid0.coords t 1).val = t.val % 6 := by decide +kernel

theorem defs_tc : (defs₀ (F := F)) .tc cfg0.body = fun a =>
    cc0_ffn (grid0.coords a.1) (Memref.whole main_arg0) (Memref.isWhole_whole _) (win0_0.stage (a.2 0)) (hstage0_0 ((a.2 0).cast nbuf0_0)) (win0_1.stage (a.2 1)) (hstage0_1 ((a.2 1).cast nbuf0_1)) (win0_2.stage (a.2 2)) (hstage0_2 ((a.2 2).cast nbuf0_2)) (win0_3.stage (a.2 3)) (hstage0_3 ((a.2 3).cast nbuf0_3)) (win0_4.stage (a.2 4)) (hstage0_4 ((a.2 4).cast nbuf0_4)) (win0_5.stage (a.2 5)) (hstage0_5 ((a.2 5).cast nbuf0_5)) (win0_6.stage (a.2 6)) (hstage0_6 ((a.2 6).cast nbuf0_6)) (win0_7.stage (a.2 7)) (hstage0_7 ((a.2 7).cast nbuf0_7)) (Memref.whole main_v4_0) (Memref.isWhole_whole _) (win0_8.stage (a.2 8)) (hstage0_8 ((a.2 8).cast nbuf0_8)) (Memref.whole cc0_scratch0) (Memref.isWhole_whole _) (Memref.whole cc0_scratch1) (Memref.isWhole_whole _) cc0_scratch2 cc0_scratch3 := rfl
theorem prog_eq (t : Fin cfg0.N) : (defs₀ (F := F)) .tc cfg0.body (cfg0.bodyArgs t (cfg0.slots t)) = bodyAt0 t :=
  (congrFun defs_tc _).trans rfl
theorem block_0 (c : Dev nD) (t : Fin cfg0.N) : (blocks m c).g t.val = iblk m c 0 t := by unfold blocks; dsimp only; rw [tk_val]
theorem block_1 (c : Dev nD) (t : Fin cfg0.N) : (blocks m c).a t.val = iblk m c 1 t := by unfold blocks; dsimp only; rw [tk_val]
theorem block_2 (c : Dev nD) (t : Fin cfg0.N) : (blocks m c).b t.val = iblk m c 2 t := by unfold blocks; dsimp only; rw [tk_val]
theorem block_3 (c : Dev nD) (t : Fin cfg0.N) : (blocks m c).d t.val = iblk m c 3 t := by unfold blocks; dsimp only; rw [tk_val]
theorem block_4 (c : Dev nD) (t : Fin cfg0.N) : (blocks m c).a' t.val = iblk m c 4 t := by unfold blocks; dsimp only; rw [tk_val]
theorem block_5 (c : Dev nD) (t : Fin cfg0.N) : (blocks m c).b' t.val = iblk m c 5 t := by unfold blocks; dsimp only; rw [tk_val]
theorem block_6 (c : Dev nD) (t : Fin cfg0.N) : (blocks m c).d' t.val = iblk m c 6 t := by unfold blocks; dsimp only; rw [tk_val]
theorem block_7 (c : Dev nD) (t : Fin cfg0.N) : (blocks m c).w t.val = iblk m c 7 t := by unfold blocks; dsimp only; rw [tk_val]

/-- The staged blocks at point `t`. -/
theorem wins_eq (c : Dev nD) (t : Fin cfg0.N) :
    wins c (st0_0 t) (st0_1 t) (st0_2 t) (st0_3 t) (st0_4 t) (st0_5 t) (st0_6 t) (st0_7 t) (blocks m c) t.val
      = iprop(rd c (st0_0 t) (iblk m c 0 t) ∗ rd c (st0_1 t) (iblk m c 1 t) ∗ rd c (st0_2 t) (iblk m c 2 t) ∗ rd c (st0_3 t) (iblk m c 3 t) ∗ rd c (st0_4 t) (iblk m c 4 t) ∗ rd c (st0_5 t) (iblk m c 5 t) ∗ rd c (st0_6 t) (iblk m c 6 t) ∗ rd c (st0_7 t) (iblk m c 7 t)) := by
  unfold wins
  rw [block_0, block_1, block_2, block_3, block_4, block_5, block_6, block_7]

/-- The body at point `t`. -/
theorem step_at (c : Dev nD) (t : Fin cfg0.N) (W : Waits sig Unit) (Q : PUnit → sProp 𝕄) :
    iprop(((rd c (st0_0 t) (iblk m c 0 t) ∗ rd c (st0_1 t) (iblk m c 1 t) ∗ rd c (st0_2 t) (iblk m c 2 t) ∗ rd c (st0_3 t) (iblk m c 3 t) ∗ rd c (st0_4 t) (iblk m c 4 t) ∗ rd c (st0_5 t) (iblk m c 5 t) ∗ rd c (st0_6 t) (iblk m c 6 t) ∗ rd c (st0_7 t) (iblk m c 7 t)) ∗ castAny c (st0_8 t) ∗ Pk c (blocks m c) (XA m c) t.val ∗ owes (c : Thread nD τ) 0 W)
      ∗ (((rd c (st0_0 t) (iblk m c 0 t) ∗ rd c (st0_1 t) (iblk m c 1 t) ∗ rd c (st0_2 t) (iblk m c 2 t) ∗ rd c (st0_3 t) (iblk m c 3 t) ∗ rd c (st0_4 t) (iblk m c 4 t) ∗ rd c (st0_5 t) (iblk m c 5 t) ∗ rd c (st0_6 t) (iblk m c 6 t) ∗ rd c (st0_7 t) (iblk m c 7 t)) ∗ castIs c (st0_8 t) (iblk m c 7 t) ∗ Pk c (blocks m c) (XA m c) (t.val + 1) ∗ ∃ W', owes (c : Thread nD τ) 0 W') -∗ Q ⟨⟩))
      ⊢ wp frame (wpE (defs₀ (F := F)) Variants.none (c : Thread nD τ) none) Set.univ (bodyAt0 t) Q := by
  rw [← wins_eq, ← block_7]
  exact step_all c (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8))
    (blocks m c) (XA m c) (grid0.coords t) t.val (by rw [coord0, coord1]; omega) W Q

set_option backward.isDefEq.respectTransparency.types false in
theorem body_obligation (c : Dev nD) : BodyObligation (dats (F := F) m 0 c) (defs₀ (F := F)) Variants.none () Set.univ := fun t => by
  rw [bigSep_W0, bigSep_W0]
  dsimp only
  simp only [before_w0, before_w1, before_w2, before_w3, before_w4, before_w5, before_w6, before_w7, after_w0, after_w1, after_w2, after_w3, after_w4, after_w5, after_w6, after_w7, after_w8]
  rw [show (dats m 0 c).Φ t.castSucc = Pk c (blocks m c) (XA m c) t.val from rfl,
    show (dats m 0 c).Φ t.succ = Pk c (blocks m c) (XA m c) (t.val + 1) from rfl]
  unfold Dat.owesAt Pipeline.owesWithin
  rw [show (dats m 0 c).owed t.castSucc = 0 from rfl, show (dats m 0 c).owed t.succ = 0 from rfl]
  unfold owns
  iintro ⟨HP, ⟨%W, -, HW⟩, ⟨%d0, %g0, %hg0, H0⟩, ⟨%d1, %g1, %hg1, H1⟩, ⟨%d2, %g2, %hg2, H2⟩, ⟨%d3, %g3, %hg3, H3⟩, ⟨%d4, %g4, %hg4, H4⟩, ⟨%d5, %g5, %hg5, H5⟩, ⟨%d6, %g6, %hg6, H6⟩, ⟨%d7, %g7, %hg7, H7⟩, ⟨%d8, %g8, %hg8, H8⟩⟩
  ihave H0' := (pointsTo_rep_of_read (c : Thread nD τ) (st0_0 t) g0 fullShare _ hg0) $$ H0
  ihave H1' := (pointsTo_rep_of_read (c : Thread nD τ) (st0_1 t) g1 fullShare _ hg1) $$ H1
  ihave H2' := (pointsTo_rep_of_read (c : Thread nD τ) (st0_2 t) g2 fullShare _ hg2) $$ H2
  ihave H3' := (pointsTo_rep_of_read (c : Thread nD τ) (st0_3 t) g3 fullShare _ hg3) $$ H3
  ihave H4' := (pointsTo_rep_of_read (c : Thread nD τ) (st0_4 t) g4 fullShare _ hg4) $$ H4
  ihave H5' := (pointsTo_rep_of_read (c : Thread nD τ) (st0_5 t) g5 fullShare _ hg5) $$ H5
  ihave H6' := (pointsTo_rep_of_read (c : Thread nD τ) (st0_6 t) g6 fullShare _ hg6) $$ H6
  ihave H7' := (pointsTo_rep_of_read (c : Thread nD τ) (st0_7 t) g7 fullShare _ hg7) $$ H7
  sl_rw [prog_eq t]
  iapply (step_at m c t W _)
  isplitl [HP HW H0' H1' H2' H3' H4' H5' H6' H7' H8]
  · isplitl [H0' H1' H2' H3' H4' H5' H6' H7']
    · isplitl [H0']; · iexact H0'
      isplitl [H1']; · iexact H1'
      isplitl [H2']; · iexact H2'
      isplitl [H3']; · iexact H3'
      isplitl [H4']; · iexact H4'
      isplitl [H5']; · iexact H5'
      isplitl [H6']; · iexact H6'
      iexact H7'
    isplitl [H8]
    · iexists g8; iexact H8
    isplitl [HP]
    · iexact HP
    iexact HW
  · iintro ⟨⟨H0, H1, H2, H3, H4, H5, H6, H7⟩, H8, HP, ⟨%W', HW⟩⟩
    isplitl [HP]
    · iexact HP
    isplitl [HW]
    · iexists W'
      isplitr
      · ipureintro; exact fun _ _ => Or.inl trivial
      iexact HW
    isplitl [H0]
    · iexists _
      isplitr
      · ipureintro; exact View.read_rep _ _
      iexact H0
    isplitl [H1]
    · iexists _
      isplitr
      · ipureintro; exact View.read_rep _ _
      iexact H1
    isplitl [H2]
    · iexists _
      isplitr
      · ipureintro; exact View.read_rep _ _
      iexact H2
    isplitl [H3]
    · iexists _
      isplitr
      · ipureintro; exact View.read_rep _ _
      iexact H3
    isplitl [H4]
    · iexists _
      isplitr
      · ipureintro; exact View.read_rep _ _
      iexact H4
    isplitl [H5]
    · iexists _
      isplitr
      · ipureintro; exact View.read_rep _ _
      iexact H5
    isplitl [H6]
    · iexists _
      isplitr
      · ipureintro; exact View.read_rep _ _
      iexact H6
    isplitl [H7]
    · iexists _
      isplitr
      · ipureintro; exact View.read_rep _ _
      iexact H7
    rw [show idle0 8 (grid0.coords t) = false from cast_idle t]
    unfold castIs owns
    iexact H8

end Cert.Proof.Ffn2
-- ==== Proof.Run2.lean ====
/-
  The launch: what the arguments and the scratch buffers bring to the body, what it leaves, and the run of the program.
-/
module

public import proofs.«01_k».proof.Proof.Oblig2
public import Idealize.ShloMosaic.Lib.Pipeline.Quiescent
public import Idealize.ShloMosaic.Lib.Pipeline.FrameSuffix
public import Idealize.ShloMosaic.Lib.Pipeline.ValueKit.Geometry

@[expose] public section

noncomputable section

namespace Cert.Proof.Ffn2

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (Pipeline.UD sig nD τ) ℕ

open Idealize.ShloMosaic.ValueIdx
open Idealize.ShloMosaic.Pipeline (Dat BodyObligation cells launchToks)

variable (m : (ℓ : Loc nD τ sig) → Buf (Elt F) ℓ) (ρ : Dev nD → PrngReg)

/-- The kernel's own semaphores: the cells of the two fetches and of the two write-backs. -/
abbrev osem : Fin 4 → SemLoc sig := ![.dma (inC 0).sem, .dma (inC 1).sem, .dma (outC 0).sem, .dma (outC 1).sem]
theorem ownSemFacts : Pipeline.OwnSemFacts spec0 osem := by decide

theorem bigSep_fin4 (Φ : Fin 4 → sProp 𝕄) : bigSep Finset.univ Φ = iprop(Φ 0 ∗ Φ 1 ∗ Φ 2 ∗ Φ 3) :=
  bigSep_univ_eq_bigSepL [(0 : Fin 4), (1 : Fin 4), (2 : Fin 4), (3 : Fin 4)] (by decide) (by decide) Φ
theorem bigSep_fin2 (Φ : Fin 2 → sProp 𝕄) : bigSep Finset.univ Φ = iprop(Φ 0 ∗ Φ 1) :=
  bigSep_univ_eq_bigSepL [(0 : Fin 2), (1 : Fin 2)] (by decide) (by decide) Φ

theorem ownSems0_eq (c : Dev nD) : (Pipeline.ownSems0 (Ix := Unit) (Name := ℕ) (U := Pipeline.UD sig nD τ) (Lvl := ℕ) (Val := Elt F) (τ := τ) osem c : sProp 𝕄)
    = iprop(cellI c 0 ∗ cellI c 1 ∗ cellO c 0 ∗ cellO c 1) := by
  unfold Pipeline.ownSems0; rw [bigSep_fin4]; rfl

/-- `h` whole is its row blocks. -/
theorem h_eq (c : Dev nD) (XH : Buf (Elt F) (hM.view.loc (c : Thread nD τ))) :
    (((c : Thread nD τ).loc main_arg0) ↦{fullShare} XH : sProp 𝕄) = hAll c XH := by
  rw [Ring.pointsTo_blocks (ℓ := (c : Thread nD τ).loc main_arg0) _ rows_disjoint rows_cover]
  exact bigSep_congr fun b _ => by rw [← set_hB]; rfl
/-- The result whole is its row blocks. -/
theorem o_eq (c : Dev nD) (G : Buf (Elt F) (outM.view.loc (c : Thread nD τ))) :
    (((c : Thread nD τ).loc main_v4_0) ↦{fullShare} G : sProp 𝕄) = bigSep Finset.univ (fun b : Fin 16 => at_ c (oB b) G) := by
  rw [Ring.pointsTo_blocks (ℓ := (c : Thread nD τ).loc main_v4_0) _ rows_disjoint rows_cover]
  exact bigSep_congr fun b _ => by rw [← set_oB]; rfl

/-- The result, row block by row block. -/
def finalOut (c : Dev nD) : S16384x2048.Idx → Elt F .f32 := fun y =>
  outV c (blocks m c) (XA m c) ((y 0).val / 1024) (ix2 (⟨(y 0).val % 1024, Nat.mod_lt _ (by decide)⟩ : Fin 1024) (y 1 : Fin 2048))

theorem read_finalOut (c : Dev nD) (b : Fin 16) :
    (oB b).view.read (Elt F) (show Buf (Elt F) ((oB b).view.loc (c : Thread nD τ)) from finalOut m c) = outV c (blocks m c) (XA m c) b.val := by
  funext y
  obtain ⟨p, q, rfl⟩ : ∃ (p : Fin 1024) (q : Fin 2048), y = ix2 p q := ⟨y 0, y 1, eq_ix2 y⟩
  have h0 : (1024 * b.val + 1 * p.val) / 1024 = b.val := by have := p.isLt; omega
  have h1 : (1024 * b.val + 1 * p.val) % 1024 = p.val := by have := p.isLt; omega
  show outV c (blocks m c) (XA m c) ((1024 * b.val + 1 * p.val) / 1024)
    (ix2 (⟨(1024 * b.val + 1 * p.val) % 1024, Nat.mod_lt _ (by decide)⟩ : Fin 1024) (⟨0 + 1 * q.val, _⟩ : Fin 2048)) = _
  rw [h0]
  refine congrArg _ ?_
  congr 1
  · exact Fin.ext h1
  · exact Fin.ext (by show 0 + 1 * q.val = q.val; omega)

theorem out_is (c : Dev nD) (b : Fin 16) :
    (outIs c b (outV c (blocks m c) (XA m c) b.val) : sProp 𝕄) ⊢ at_ c (oB b) (show Buf (Elt F) ((oB b).view.loc (c : Thread nD τ)) from finalOut m c) := by
  iintro ⟨%f, %hf, H⟩
  ihave H := (pointsTo_rep_of_read (c : Thread nD τ) (oB b) f fullShare _ hf) $$ H
  iapply (Entails.of_eq (pointsTo_rep (c : Thread nD τ) (oB b) (show Buf (Elt F) ((oB b).view.loc (c : Thread nD τ)) from finalOut m c) fullShare).symm)
  rw [read_finalOut]
  iexact H

/-- All row blocks written are the result. -/
theorem outs_join (c : Dev nD) :
    (outsB c (blocks m c) (XA m c) 0 16 : sProp 𝕄) ⊢ ((c : Thread nD τ).loc main_v4_0) ↦{fullShare} finalOut m c := by
  have e : Ring.behindSet (NB := 16) 0 16 = Finset.univ := by
    ext u; rw [Ring.mem_behindSet]; have := u.isLt; simp only [Finset.mem_univ, iff_true]; omega
  unfold outsB
  rw [o_eq, e]
  exact bigSep_mono fun b _ => out_is m c b
/-- The result's buffer at some contents is its row blocks at some contents. -/
theorem outs_split (c : Dev nD) (G : Buf (Elt F) (outM.view.loc (c : Thread nD τ))) :
    (((c : Thread nD τ).loc main_v4_0) ↦{fullShare} G : sProp 𝕄) ⊢ outsA c 0 := by
  unfold outsA
  rw [o_eq, Ring.aheadSet_zero]
  exact bigSep_mono fun b _ => (show at_ c (oB b) G ⊢ (outAny c b : sProp 𝕄) from by iintro H; iexists G; iexact H)

theorem slot_eq (c : Dev nD) (s : Fin 2) (f : Buf (Elt F) (accM.view.loc (c : Thread nD τ))) : (at_ c (accS s) f : sProp 𝕄)
    = ((c : Thread nD τ).loc cc0_scratch0) ↦[(Rect.unit (s := S2x1024x2048) (slotOff s) S1x1024x2048.size (slotOff_inb s)).set]{fullShare} f :=
  congrArg (fun S => (_ ↦[S]{fullShare} f : sProp 𝕄)) (set_accS s)
/-- The accumulator whole is its two slots, and back. -/
theorem acc_split (c : Dev nD) :
    iprop(∃ f : Buf (Elt F) ((c : Thread nD τ).loc cc0_scratch0), ((c : Thread nD τ).loc cc0_scratch0) ↦{fullShare} f)
      ⊢ (iprop(slotAny c 0 ∗ slotAny c 1) : sProp 𝕄) := by
  iintro ⟨%f, H⟩
  ihave H2 := (Entails.of_eq ((Ring.pointsTo_blocks (Ix := Unit) (Name := ℕ) (U := Pipeline.UD sig nD τ) (Lvl := ℕ) (q := fullShare) (ℓ := (c : Thread nD τ).loc cc0_scratch0) _ slots_disjoint slots_cover f).trans (bigSep_fin2 _))) $$ H
  icases H2 with ⟨H0, H1⟩
  isplitl [H0]
  · iexists f; iapply (Entails.of_eq (slot_eq c 0 f).symm); iexact H0
  · iexists f; iapply (Entails.of_eq (slot_eq c 1 f).symm); iexact H1
theorem acc_join (c : Dev nD) :
    (iprop(slotAny c 0 ∗ slotAny c 1) : sProp 𝕄)
      ⊢ iprop(∃ f : Buf (Elt F) ((c : Thread nD τ).loc cc0_scratch0), ((c : Thread nD τ).loc cc0_scratch0) ↦{fullShare} f) := by
  iintro ⟨⟨%f0, H0⟩, ⟨%f1, H1⟩⟩
  iapply (Ring.pointsTo_blocks_join_exists (ℓ := (c : Thread nD τ).loc cc0_scratch0) _ slots_disjoint slots_cover f0)
  irw [bigSep_fin2]
  isplitl [H0]
  · iexists f0; iapply (Entails.of_eq (slot_eq c 0 f0)); iexact H0
  · iexists f1; iapply (Entails.of_eq (slot_eq c 1 f1)); iexact H1
theorem n_eq (c : Dev nD) (f : Buf (Elt F) (nM.view.loc (c : Thread nD τ))) : (at_ c nM f : sProp 𝕄) = ((c : Thread nD τ).loc cc0_scratch1) ↦{fullShare} f :=
  congrArg (fun S => (_ ↦[S]{fullShare} f : sProp 𝕄)) (View.set_whole _)

/-- The arguments the region is not handed. -/
abbrev restArgs (c : Dev nD) : sProp 𝕄 := iprop((((c : Thread nD τ).loc main_arg1) ↦{fullShare} V m c main_arg1) ∗ (((c : Thread nD τ).loc main_arg2) ↦{fullShare} V m c main_arg2)
  ∗ (((c : Thread nD τ).loc main_arg3) ↦{fullShare} V m c main_arg3) ∗ (((c : Thread nD τ).loc main_arg4) ↦{fullShare} V m c main_arg4))
def intoP (c : Dev nD) : sProp 𝕄 := iprop(hAll c (XA m c) ∗ outsA c 0 ∗ Pipeline.ownSems0 osem c)
def outOfP (c : Dev nD) : sProp 𝕄 := iprop((((c : Thread nD τ).loc main_arg0) ↦{fullShare} XA m c) ∗ ((c : Thread nD τ).loc main_v4_0) ↦{fullShare} finalOut m c)
def u₀ : Pipeline.UD sig nD τ := (initOf (cells cfgs cellOf_inj) (launchToks cfgs cellOf_inj), 1)
def QY (c : Dev nD) (s : MemSt nD τ sig (Elt F)) : Prop :=
  s.mem ((c : Thread nD τ).loc main_v4_0) = finalOut m c ∧ s.mem ((c : Thread nD τ).loc main_arg0) = V m c main_arg0 ∧ s.mem ((c : Thread nD τ).loc main_arg1) = V m c main_arg1
  ∧ s.mem ((c : Thread nD τ).loc main_arg2) = V m c main_arg2 ∧ s.mem ((c : Thread nD τ).loc main_arg3) = V m c main_arg3
  ∧ s.mem ((c : Thread nD τ).loc main_arg4) = V m c main_arg4

theorem into_start (c : Dev nD) : iprop(intoP m c ∗ Pipeline.scopedRest spec0 c) ⊢ (dats m 0 c).Φ 0 := by
  rw [scopedRest0_eq, show (dats m 0 c).Φ 0 = Pk c (blocks m c) (XA m c) 0 from rfl, Pk_start]
  unfold intoP
  rw [ownSems0_eq]
  iintro ⟨⟨Hh, Ho, Hc0, Hc1, Hc2, Hc3⟩, Ha, ⟨%f, Hn⟩⟩
  ihave Hs := (acc_split c) $$ Ha
  icases Hs with ⟨Hs0, Hs1⟩
  isplitl [Hh]; · iexact Hh
  isplitl [Hs0]; · iexact Hs0
  isplitl [Hs1]; · iexact Hs1
  isplitl [Hc0]; · iexact Hc0
  isplitl [Hc1]; · iexact Hc1
  isplitl [Hc2]; · iexact Hc2
  isplitl [Hc3]; · iexact Hc3
  isplitl [Hn]
  · iexists f; iapply (Entails.of_eq (n_eq c f).symm); iexact Hn
  iexact Ho

theorem out_end (c : Dev nD) : (dats m 0 c).Φ (Fin.last cfg0.N) ⊢ iprop(outOfP m c ∗ Pipeline.ownSems0 osem c ∗ Pipeline.scopedRest spec0 c) := by
  rw [scopedRest0_eq, show (dats m 0 c).Φ (Fin.last cfg0.N) = Pk c (blocks m c) (XA m c) 96 from rfl, Pk_end, ownSems0_eq]
  unfold outOfP
  rw [h_eq]
  iintro ⟨Hh, Hs0, Hs1, Hc0, Hc1, Hc2, Hc3, ⟨%f, Hn⟩, Ho⟩
  isplitl [Hh Ho]
  · isplitl [Hh]; · iexact Hh
    iapply (outs_join m c)
    iexact Ho
  isplitl [Hc0 Hc1 Hc2 Hc3]
  · isplitl [Hc0]; · iexact Hc0
    isplitl [Hc1]; · iexact Hc1
    isplitl [Hc2]; · iexact Hc2
    iexact Hc3
  isplitl [Hs0 Hs1]
  · iapply (acc_join c)
    isplitl [Hs0]; · iexact Hs0
    iexact Hs1
  · iexists f; iapply (Entails.of_eq (n_eq c f)); iexact Hn

theorem read_end (c : Dev nD) (s' : Phys nD τ sig (Elt F)) : iprop(outOfP m c ∗ restArgs m c ∗ SI s') ⊢ (|={Set.univ}=> iprop(⌜QY m c s'.mem⌝ ∗ SI s') : sProp 𝕄) := by
  unfold outOfP
  iintro ⟨⟨H0, HO⟩, ⟨H1, H2, H3, H4⟩, HSI⟩
  icombine HSI H0 gives %h0
  icombine HSI HO gives %hO
  icombine HSI H1 gives %h1
  icombine HSI H2 gives %h2
  icombine HSI H3 gives %h3
  icombine HSI H4 gives %h4
  imodintro
  isplitr
  · ipureintro
    exact ⟨Buf.eq_of_forall_mem_univ hO, Buf.eq_of_forall_mem_univ h0, Buf.eq_of_forall_mem_univ h1, Buf.eq_of_forall_mem_univ h2,
      Buf.eq_of_forall_mem_univ h3, Buf.eq_of_forall_mem_univ h4⟩
  iexact HSI

/-- The second result: the last argument rounded. -/
def finalCast (c : Dev nD) : S2048x4096.Idx → Elt F .bf16 :=
  (truncf .bf16 · bitsLt_bf16_f32 : (⟨S2048x4096, .f32⟩ : BufTy).Contents (Elt F) → (⟨S2048x4096, .bf16⟩ : BufTy).Contents (Elt F)) (V m c main_arg5)

/-- The blocks written back are the second result: block `min t 63` of 32 rows at point `t`. -/
theorem arr_cast (c : Dev nD) : (dats m 0 c).arrAt 8 cfg0.N = finalCast m c := by
  refine (dats m 0 c).arrAt_eq_of_covers 8 _ (by decide +kernel) fun t hf y => ?_
  rfl
theorem arr_arg5 (c : Dev nD) : (dats m 0 c).arrAt 7 cfg0.N = V m c main_arg5 := (dats m 0 c).arrAt_in 7 rfl cfg0.N

set_option backward.isDefEq.respectTransparency.types false in
/-- From any memory with zero counters: every weakly fair execution terminates, the results at `finalOut` and `finalCast`, the arguments
    unchanged, every counter at zero. -/
theorem run_main : θ_run defs (onTc (τ := τ) (main (F := F))) ⟨m, fun _ => 0, ρ⟩ (fun r => (∀ c : Dev nD, QY m c r.2
    ∧ r.2.mem ((c : Thread nD τ).loc main_v4_1) = finalCast m c ∧ r.2.mem ((c : Thread nD τ).loc main_arg5) = V m c main_arg5) ∧ r.2.sem = fun _ => 0) :=
  Pipeline.θ_run_region_pf_quiescent (fun p => (cfgs p).toPCfg) (fun p => (cfgs p).toPCfg_adm) (dats m) () cellOf_inj (0 : Fin 1) winFacts₀0 ownSemFacts
    (Pipeline.PreFacts.none _) embL defs₀ Variants.none m ρ main
    (fun c => (body_obligation m c).loose) block_pos0 arr_whole0 stage_whole0 (fun _ _ => rfl) (G := fun _ => iprop(emp)) u₀
    (by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (V m) (Pipeline.hmain_prefix cfgs 0 defs₀ Variants.none m main hostOps0 hostOps0_sub hostOps0_fresh main_chain)
    (fun c => (dats m 0 c).arrays_split_shared sharedIn0 arr_whole0 (fun _ _ => rfl) (V m c) _ (fun _ => rfl))
    (fun _ k => k.elim0) (intoP m) (outOfP m) (restArgs m)
    (fun c => by
      rw [Pipeline.unscopedRestP_none]
      rw [unscopedRest0_eq, h_eq]
      unfold intoP
      iintro ⟨⟨H0, H1, H2, H3, H4, HO⟩, HS, -, -, -⟩
      imodintro
      isplitl [H0 HO HS]
      · isplitl [H0]; · iexact H0
        isplitl [HO]
        · iapply (outs_split c _); iexact HO
        iexact HS
      isplitl [H1]; · iexact H1
      isplitl [H2]; · iexact H2
      isplitl [H3]; · iexact H3
      iexact H4)
    (fun c => (show _ ⊢ iprop(intoP m c ∗ Pipeline.scopedRest spec0 c) from by
      iintro ⟨HX, -, HR⟩; isplitl [HX] <;> iassumption).trans (into_start m c))
    (out_end m) (QY m) (read_end m) fun s h hz => ⟨fun c => ⟨(h c).2.2, ((h c).1 8).trans (arr_cast m c), ((h c).1 7).trans (arr_arg5 m c)⟩, hz⟩

end Cert.Proof.Ffn2
-- ==== Proof.Blocks2.lean ====
/-
  What each staged block holds of the arguments, at the extended reals: a weight block the columns (or rows) from
  the offset its element-indexed window names, a gain the whole gain, a row block the rows of `h`.
-/
module

public import proofs.«01_k».proof.Proof.Run2
public import proofs.«01_k».proof.Proof.Blocks
public import Idealize.ShloMosaic.Lib.Pointwise

@[expose] public section

set_option maxRecDepth 16384

noncomputable section

namespace Cert.Proof.Ffn2

open Cert.Kernel2Ideal Cert.Kernel2Ideal.Gen
open Idealize.ShloMosaic
open Cert.Proof.Ffn (start start_le lane)
open Idealize.ShloMosaic.TcCoe

variable (m : (ℓ : Loc nD τ sig) → Buf (Elt Ideal) ℓ) (c : Dev nD)

/-- The arguments at launch. -/
abbrev aH : S16384x2048.Idx → EReal := m ((c.tc : Thread nD τ).loc main_arg0)
abbrev aG : S2048.Idx → EReal := m ((c.tc : Thread nD τ).loc main_arg1)
abbrev aWg : S2048x5504.Idx → EReal := m ((c.tc : Thread nD τ).loc main_arg2)
abbrev aWu : S2048x5504.Idx → EReal := m ((c.tc : Thread nD τ).loc main_arg3)
abbrev aWd : S5504x2048.Idx → EReal := m ((c.tc : Thread nD τ).loc main_arg4)
abbrev aW : S2048x4096.Idx → EReal := m ((c.tc : Thread nD τ).loc main_arg5)

theorem V_v0 : (V m c main_v0 : S2048x5504.Idx → EReal) = aWg m c := by
  dsimp only [V, hostOps0]; after_results; rfl
theorem V_v1 : (V m c main_v1 : S2048x5504.Idx → EReal) = aWu m c := by
  dsimp only [V, hostOps0]; after_results; rfl
theorem V_v2 : (V m c main_v2 : S5504x2048.Idx → EReal) = aWd m c := by
  dsimp only [V, hostOps0]; after_results; rfl
theorem V_v3 (f : Fin 2048) : (V m c main_v3 : S1x2048.Idx → EReal) (ix2 (0 : Fin 1) f) = aG m c (ix1 f) := by
  dsimp only [V, hostOps0]; after_results; pointwise
theorem off_2 : ∀ t : Fin cfg0.N, cc0_transform_2 (cfg0.grid.coords t) = ![0, start (2 * (t.val % 6))] := by decide +kernel
theorem off_3 : ∀ t : Fin cfg0.N, cc0_transform_3 (cfg0.grid.coords t) = ![0, start (2 * (t.val % 6))] := by decide +kernel
theorem off_4 : ∀ t : Fin cfg0.N, cc0_transform_4 (cfg0.grid.coords t) = ![start (2 * (t.val % 6)), 0] := by decide +kernel
theorem off_5 : ∀ t : Fin cfg0.N, cc0_transform_5 (cfg0.grid.coords t) = ![0, start (min (2 * (t.val % 6) + 1) 9)] := by decide +kernel
theorem off_6 : ∀ t : Fin cfg0.N, cc0_transform_6 (cfg0.grid.coords t) = ![0, start (min (2 * (t.val % 6) + 1) 9)] := by decide +kernel
theorem off_7 : ∀ t : Fin cfg0.N, cc0_transform_7 (cfg0.grid.coords t) = ![start (min (2 * (t.val % 6) + 1) 9), 0] := by decide +kernel

theorem blk_a (t : Fin cfg0.N) (f : Fin 2048) (l : Fin 512) :
    (iblk m c 1 t : S2048x512.Idx → EReal) (ix2 f l) = aWg m c (ix2 f (lane (2 * (t.val % 6)) l)) := by
  rw [← V_v0]
  show V m c main_v0 _ = V m c main_v0 _
  refine congrArg (V m c main_v0) (funext fun a => ?_)
  have h := off_2 t
  fin_cases a <;> refine Fin.ext ?_
  · show cc0_transform_2 (cfg0.grid.coords t) 0 + 1 * f.val = f.val
    rw [h]; show 0 + 1 * f.val = _; omega
  · show cc0_transform_2 (cfg0.grid.coords t) 1 + 1 * l.val = _
    rw [h]; show start _ + 1 * l.val = start _ + l.val; omega

theorem blk_b (t : Fin cfg0.N) (f : Fin 2048) (l : Fin 512) :
    (iblk m c 2 t : S2048x512.Idx → EReal) (ix2 f l) = aWu m c (ix2 f (lane (2 * (t.val % 6)) l)) := by
  rw [← V_v1]
  show V m c main_v1 _ = V m c main_v1 _
  refine congrArg (V m c main_v1) (funext fun a => ?_)
  have h := off_3 t
  fin_cases a <;> refine Fin.ext ?_
  · show cc0_transform_3 (cfg0.grid.coords t) 0 + 1 * f.val = f.val
    rw [h]; show 0 + 1 * f.val = _; omega
  · show cc0_transform_3 (cfg0.grid.coords t) 1 + 1 * l.val = _
    rw [h]; show start _ + 1 * l.val = start _ + l.val; omega

theorem blk_d (t : Fin cfg0.N) (l : Fin 512) (q : Fin 2048) :
    (iblk m c 3 t : S512x2048.Idx → EReal) (ix2 l q) = aWd m c (ix2 (lane (2 * (t.val % 6)) l) q) := by
  rw [← V_v2]
  show V m c main_v2 _ = V m c main_v2 _
  refine congrArg (V m c main_v2) (funext fun a => ?_)
  have h := off_4 t
  fin_cases a <;> refine Fin.ext ?_
  · show cc0_transform_4 (cfg0.grid.coords t) 0 + 1 * l.val = _
    rw [h]; show start _ + 1 * l.val = start _ + l.val; omega
  · show cc0_transform_4 (cfg0.grid.coords t) 1 + 1 * q.val = q.val
    rw [h]; show 0 + 1 * q.val = _; omega

theorem blk_a' (t : Fin cfg0.N) (f : Fin 2048) (l : Fin 512) :
    (iblk m c 4 t : S2048x512.Idx → EReal) (ix2 f l) = aWg m c (ix2 f (lane (min (2 * (t.val % 6) + 1) 9) l)) := by
  rw [← V_v0]
  show V m c main_v0 _ = V m c main_v0 _
  refine congrArg (V m c main_v0) (funext fun a => ?_)
  have h := off_5 t
  fin_cases a <;> refine Fin.ext ?_
  · show cc0_transform_5 (cfg0.grid.coords t) 0 + 1 * f.val = f.val
    rw [h]; show 0 + 1 * f.val = _; omega
  · show cc0_transform_5 (cfg0.grid.coords t) 1 + 1 * l.val = _
    rw [h]; show start _ + 1 * l.val = start _ + l.val; omega

theorem blk_b' (t : Fin cfg0.N) (f : Fin 2048) (l : Fin 512) :
    (iblk m c 5 t : S2048x512.Idx → EReal) (ix2 f l) = aWu m c (ix2 f (lane (min (2 * (t.val % 6) + 1) 9) l)) := by
  rw [← V_v1]
  show V m c main_v1 _ = V m c main_v1 _
  refine congrArg (V m c main_v1) (funext fun a => ?_)
  have h := off_6 t
  fin_cases a <;> refine Fin.ext ?_
  · show cc0_transform_6 (cfg0.grid.coords t) 0 + 1 * f.val = f.val
    rw [h]; show 0 + 1 * f.val = _; omega
  · show cc0_transform_6 (cfg0.grid.coords t) 1 + 1 * l.val = _
    rw [h]; show start _ + 1 * l.val = start _ + l.val; omega

theorem blk_d' (t : Fin cfg0.N) (l : Fin 512) (q : Fin 2048) :
    (iblk m c 6 t : S512x2048.Idx → EReal) (ix2 l q) = aWd m c (ix2 (lane (min (2 * (t.val % 6) + 1) 9) l) q) := by
  rw [← V_v2]
  show V m c main_v2 _ = V m c main_v2 _
  refine congrArg (V m c main_v2) (funext fun a => ?_)
  have h := off_7 t
  fin_cases a <;> refine Fin.ext ?_
  · show cc0_transform_7 (cfg0.grid.coords t) 0 + 1 * l.val = _
    rw [h]; show start _ + 1 * l.val = start _ + l.val; omega
  · show cc0_transform_7 (cfg0.grid.coords t) 1 + 1 * q.val = q.val
    rw [h]; show 0 + 1 * q.val = _; omega

theorem blk_g (t : Fin cfg0.N) (f : Fin 2048) : (iblk m c 0 t : S1x2048.Idx → EReal) (ix2 (0 : Fin 1) f) = aG m c (ix1 f) := by
  rw [← V_v3]
  show V m c main_v3 _ = V m c main_v3 _
  refine congrArg (V m c main_v3) (funext fun a => ?_)
  fin_cases a <;> refine Fin.ext ?_
  · show 0 * 1 + 1 * 0 = 0; omega
  · show 0 * 2048 + 1 * f.val = f.val; omega

/-- Row block `I` of `h`. -/
theorem hV_apply (I : ℕ) (hI : I < 16) (p : Fin 1024) (q : Fin 2048) :
    (hV c (XA m c) I : S1024x2048.Idx → EReal) (ix2 p q) = aH m c (ix2 (⟨I * 1024 + p.val, by omega⟩ : Fin 16384) q) := by
  rw [show aH m c = V m c main_arg0 from (V_main_arg0 m c).symm]
  show V m c main_arg0 _ = V m c main_arg0 _
  refine congrArg (V m c main_arg0) (funext fun a => ?_)
  have e : (bk I).val = I := Nat.mod_eq_of_lt hI
  fin_cases a <;> refine Fin.ext ?_
  · show rowOff (bk I) 0 + 1 * p.val = I * 1024 + p.val
    unfold rowOff
    show _ + 1 * p.val = _
    simp only [e, Matrix.cons_val_zero]; omega
  · show 0 + 1 * q.val = q.val; omega

end Cert.Proof.Ffn2
-- ==== Proof.Payload2.lean ====
/-
  The body's computed vectors at the extended reals, each read at one element.
-/
module

public import proofs.«01_k».proof.Proof.Gen.Kernel2Ideal.Skeleton
public import proofs.«01_k».proof.Proof.Payload
public import Idealize.ShloMosaic.Lib.Pointwise

@[expose] public section

set_option maxRecDepth 16384

noncomputable section

namespace Cert.Proof.Ffn2

open Cert.Kernel2Ideal Cert.Kernel2Ideal.Gen
open Idealize.ShloMosaic
open Cert.Proof.Ffn (half cols eps half_mul_sum)

theorem pay2_apply (act : S1024x512.Idx → Elt Ideal .bf16) (x : S1x1024x512.Idx → Elt Ideal .f32) (d : S512x512.Idx → Elt Ideal .bf16)
    (p : Fin 1024) (q : Fin 512) :
    k0_pay2 (F := Ideal) act x d (ix3 (0 : Fin 1) p q) = x (ix3 (0 : Fin 1) p q) + ∑ l : Fin 512, act (ix2 p l) * d (ix2 l q) := by
  pointwise [k0_pay2]

theorem pay19_apply (n : S1024x2048.Idx → Elt Ideal .bf16) (a b : S2048x512.Idx → Elt Ideal .bf16) (p : Fin 1024) (l : Fin 512) :
    k0_pay19 (F := Ideal) n a b (ix2 p l)
      = half * ((∑ f : Fin 2048, n (ix2 p f) * a (ix2 f l)) * Ideal.logistic (∑ f : Fin 2048, n (ix2 p f) * a (ix2 f l)))
        * (∑ f : Fin 2048, n (ix2 p f) * b (ix2 f l)) := by
  pointwise [k0_pay19]

theorem pay28_apply (n : S1024x2048.Idx → Elt Ideal .bf16) (a b : S2048x512.Idx → Elt Ideal .bf16) (p : Fin 1024) (l : Fin 512) :
    k0_pay28 (F := Ideal) n a b (ix2 p l) = if 128 ≤ l.val then k0_pay19 (F := Ideal) n a b (ix2 p l) else 0 := by
  have h : ∀ l : Fin 512, IntOp.cmpi .sge (BitVec.ofNat 32 l.val) 128#32 = if 128 ≤ l.val then 1#1 else 0#1 := by decide +kernel
  pointwise [k0_pay28, k0_pay19]
  rw [h l]
  split
  · rfl
  · rfl

theorem pay4_apply (x : S1x1024x2048.Idx → Elt Ideal .f32) (g : S1x2048.Idx → Elt Ideal .f32) (p : Fin 1024) (f : Fin 2048) :
    k0_pay4 (F := Ideal) x g (ix2 p f)
      = x (ix3 (0 : Fin 1) p f) * Ideal.rsqrt (Ideal.div (∑ k : Fin 2048, x (ix3 (0 : Fin 1) p k) * x (ix3 (0 : Fin 1) p k)) cols + eps)
        * g (ix2 (0 : Fin 1) f) := by
  pointwise [k0_pay4]

end Cert.Proof.Ffn2
-- ==== Proof.Reference2.lean ====
/-
  The reference's stages at the extended reals, each read at one element.
-/
module

public import proofs.«01_k».proof.Proof.Gen.Reference2Ideal.Read
public import Idealize.ShloMosaic.Lib.Pointwise
public import proofs.«01_k».proof.Proof.Payload2

@[expose] public section

set_option maxRecDepth 16384

noncomputable section

namespace Cert.Proof.Ffn2

open Cert.Reference2Ideal Cert.Reference2Ideal.Read
open Idealize.ShloMosaic
open Cert.Proof.Ffn (half cols eps)

variable (x0 : S16384x2048.Idx → Elt Ideal .f32) (x1 : S2048.Idx → Elt Ideal .f32) (x2 x3 : S2048x5504.Idx → Elt Ideal .f32)
  (x4 : S5504x2048.Idx → Elt Ideal .f32)

theorem ref_norm (r : Fin 16384) (f : Fin 2048) :
    val_main_v12 (F := Ideal) x0 x1 (ix2 r f)
      = x0 (ix2 r f) * Ideal.rsqrt (Ideal.div (∑ k : Fin 2048, x0 (ix2 r k) * x0 (ix2 r k)) cols + eps) * x1 (ix1 f) := by
  pointwise [val_main_v12, val_main_v11, val_main_v10, val_main_v9, val_main_v8, val_main_v7, val_main_v6, val_main_v5, val_main_v4, val_main_v3,
    val_main_v2, val_main_v1, val_main_v0, val_main_cst, val_main_cst_0, val_main_cst_1]

theorem ref_hidden (r : Fin 16384) (j : Fin 5504) :
    val_main_v16 (F := Ideal) x0 x1 x2 x3 (ix2 r j)
      = (∑ f : Fin 2048, val_main_v12 (F := Ideal) x0 x1 (ix2 r f) * x2 (ix2 f j))
          * Ideal.logistic (∑ f : Fin 2048, val_main_v12 (F := Ideal) x0 x1 (ix2 r f) * x2 (ix2 f j))
        * (∑ f : Fin 2048, val_main_v12 (F := Ideal) x0 x1 (ix2 r f) * x3 (ix2 f j)) := by
  pointwise [val_main_v16, val_main_v15, val_main_v14, val_main_call0_v5, val_main_call0_v4, val_main_call0_v3, val_main_call0_v2, val_main_call0_v1,
    val_main_call0_v0, val_main_call0_cst, val_main_call0_cst_0, val_main_v13]
  rfl

theorem ref_sum (r : Fin 16384) (q : Fin 2048) :
    val_main_v20 (F := Ideal) x0 x1 x2 x3 x4 (ix2 r q)
      = x0 (ix2 r q) + half * ∑ j : Fin 5504, val_main_v16 (F := Ideal) x0 x1 x2 x3 (ix2 r j) * x4 (ix2 j q) := by
  pointwise [val_main_v20, val_main_v19, val_main_v18, val_main_cst_2, val_main_v17]

end Cert.Proof.Ffn2
-- ==== Proof.Value2.lean ====
/-
  The results of the other call are the reference's: the hidden blocks the six steps add, put end to end, are the hidden columns
  once each, and the half the kernel multiplies into each of them is the half the reference multiplies into their sum.
-/
module

public import proofs.«01_k».proof.Proof.Blocks2
public import proofs.«01_k».proof.Proof.Payload2
public import proofs.«01_k».proof.Proof.Reference2

@[expose] public section

noncomputable section

namespace Cert.Proof.Ffn2

open Cert.Kernel2Ideal Cert.Kernel2Ideal.Gen
open Idealize.ShloMosaic
open Cert.Proof.Ffn (half cols eps half_mul_sum start start_le lane)
open Idealize.ShloMosaic.TcCoe
open Cert.Reference2Ideal.Read (val_main_v12 val_main_v16 val_main_v20 val_main_v21)

/-! ## One hidden block added -/

theorem addChunk_apply (k : Fin 4) (act : S1024x512.Idx → EReal) (d : S512x2048.Idx → EReal) (x : S1024x2048.Idx → EReal) (p : Fin 1024) (q : Fin 2048) :
    (addChunk (F := Ideal) k act d x : S1024x2048.Idx → EReal) (ix2 p q)
      = if q.val / 512 = k.val then x (ix2 p q) + ∑ l : Fin 512, act (ix2 p l) * d (ix2 l q) else x (ix2 p q) := by
  unfold addChunk putChunk
  by_cases h : q.val / 512 = k.val
  · rw [if_pos h]
    refine (if_pos h).trans ((pay2_apply act (chunkOf k x) (wdChunk k d) p ⟨q.val % 512, Nat.mod_lt _ (by decide)⟩).trans ?_)
    have e : (⟨512 * k.val + q.val % 512, by have := q.isLt; omega⟩ : Fin 2048) = q := Fin.ext (by show 512 * k.val + q.val % 512 = q.val; omega)
    show x (ix2 p ⟨512 * k.val + q.val % 512, _⟩) + ∑ l : Fin 512, act (ix2 p l) * d (ix2 l ⟨512 * k.val + q.val % 512, _⟩) = _
    simp only [e]
  · rw [if_neg h]; exact if_neg h

theorem accStep_apply (act : S1024x512.Idx → EReal) (d : S512x2048.Idx → EReal) (x : S1024x2048.Idx → EReal) (p : Fin 1024) (q : Fin 2048) :
    (accStep (F := Ideal) act d x : S1024x2048.Idx → EReal) (ix2 p q) = x (ix2 p q) + ∑ l : Fin 512, act (ix2 p l) * d (ix2 l q) := by
  unfold accStep
  rw [addChunk_apply, addChunk_apply, addChunk_apply, addChunk_apply]
  have h3 : (3 : Fin 4).val = 3 := rfl
  have h2 : (2 : Fin 4).val = 2 := rfl
  have h1 : (1 : Fin 4).val = 1 := rfl
  have h0 : (0 : Fin 4).val = 0 := rfl
  rw [h3, h2, h1, h0]
  have hq : q.val < 2048 := q.isLt
  have : q.val / 512 = 0 ∨ q.val / 512 = 1 ∨ q.val / 512 = 2 ∨ q.val / 512 = 3 := by omega
  rcases this with h | h | h | h <;> rw [h] <;> simp

variable (m : (ℓ : Loc nD τ sig) → Buf (Elt Ideal) ℓ) (c : Dev nD)

/-- Row `p` of row block `I`. -/
abbrev row (I : Fin 16) (p : Fin 1024) : Fin 16384 := ⟨I.val * 1024 + p.val, by omega⟩

/-- Hidden column `j` of row `r`, as the reference has it. -/
def hid (r : Fin 16384) (j : Fin 5504) : EReal := val_main_v16 (F := Ideal) (aH m c) (aG m c) (aWg m c) (aWu m c) (ix2 r j)

/-- What hidden column `i` adds to column `q` of row `r`. -/
def term (r : Fin 16384) (q : Fin 2048) (i : ℕ) : EReal :=
  if h : i < 5504 then half * hid m c r ⟨i, h⟩ * aWd m c (ix2 (⟨i, h⟩ : Fin 5504) q) else 0

theorem tk_mod (I : Fin 16) (J : ℕ) (hJ : J < 6) : (tk (6 * I.val + J)).val % 6 = J := by
  show (6 * I.val + J) % 96 % 6 = J; have := I.isLt; omega

theorem normed_apply (k : ℕ) (I : Fin 16) (p : Fin 1024) (f : Fin 2048) :
    (normed (F := Ideal) ((blocks m c).g k) (hV c (XA m c) I.val) : S1024x2048.Idx → EReal) (ix2 p f)
      = val_main_v12 (F := Ideal) (aH m c) (aG m c) (ix2 (row I p) f) := by
  unfold normed
  refine (pay4_apply _ _ p f).trans ?_
  rw [ref_norm]
  have hx : ∀ k : Fin 2048, (slotOf (F := Ideal) (hV c (XA m c) I.val) : S1x1024x2048.Idx → EReal) (ix3 (0 : Fin 1) p k) = aH m c (ix2 (row I p) k) :=
    fun k => hV_apply m c I.val I.isLt p k
  have hg : ((blocks m c).g k : S1x2048.Idx → EReal) (ix2 (0 : Fin 1) f) = aG m c (ix1 f) := blk_g m c (tk k) f
  simp only [hx]
  rw [hg]

theorem nV_apply (I : Fin 16) (p : Fin 1024) (f : Fin 2048) :
    (nV c (blocks m c) (XA m c) I.val : S1024x2048.Idx → EReal) (ix2 p f) = val_main_v12 (F := Ideal) (aH m c) (aG m c) (ix2 (row I p) f) :=
  normed_apply m c _ I p f

/-- One hidden lane of the kernel is half the reference's hidden column. -/
theorem act_apply (I : Fin 16) (n : S1024x2048.Idx → EReal) (a b : S2048x512.Idx → EReal) (p : Fin 1024) (l : Fin 512) (j : Fin 5504)
    (hn : ∀ f : Fin 2048, n (ix2 p f) = val_main_v12 (F := Ideal) (aH m c) (aG m c) (ix2 (row I p) f))
    (ha : ∀ f : Fin 2048, a (ix2 f l) = aWg m c (ix2 f j)) (hb : ∀ f : Fin 2048, b (ix2 f l) = aWu m c (ix2 f j)) :
    (k0_pay19 (F := Ideal) n a b : S1024x512.Idx → EReal) (ix2 p l) = half * hid m c (row I p) j := by
  refine (pay19_apply n a b p l).trans ?_
  unfold hid
  rw [ref_hidden]
  simp only [hn, ha, hb]
  rw [mul_assoc]

/-- A whole hidden block added: the columns `512 b …`. -/
theorem block_sum (b : ℕ) (hb : b ≤ 9) (I : Fin 16) (act : S1024x512.Idx → EReal) (d : S512x2048.Idx → EReal) (p : Fin 1024) (q : Fin 2048)
    (hact : ∀ l : Fin 512, act (ix2 p l) = half * hid m c (row I p) (lane b l)) (hd : ∀ l : Fin 512, d (ix2 l q) = aWd m c (ix2 (lane b l) q)) :
    ∑ l : Fin 512, act (ix2 p l) * d (ix2 l q) = ∑ i ∈ Finset.range 512, term m c (row I p) q (512 * b + i) := by
  rw [Finset.sum_range]
  refine Finset.sum_congr rfl fun l _ => ?_
  rw [hact, hd]
  have e : 512 * b + l.val = start b + l.val := by unfold start; omega
  have h : start b + l.val < 5504 := (lane b l).isLt
  rw [e]
  unfold term
  rw [dif_pos h]

theorem even_block (I : Fin 16) (J : ℕ) (hJ : J ≤ 4) (n : S1024x2048.Idx → EReal) (p : Fin 1024) (q : Fin 2048)
    (hn : ∀ f : Fin 2048, n (ix2 p f) = val_main_v12 (F := Ideal) (aH m c) (aG m c) (ix2 (row I p) f)) :
    ∑ l : Fin 512, (k0_pay19 (F := Ideal) n ((blocks m c).a (6 * I.val + J)) ((blocks m c).b (6 * I.val + J)) : S1024x512.Idx → EReal) (ix2 p l)
        * ((blocks m c).d (6 * I.val + J) : S512x2048.Idx → EReal) (ix2 l q)
      = ∑ i ∈ Finset.range 512, term m c (row I p) q (512 * (2 * J) + i) := by
  have e := tk_mod I J (by omega)
  refine block_sum m c (2 * J) (by omega) I _ _ p q (fun l => act_apply m c I n _ _ p l _ hn (fun f => ?_) (fun f => ?_)) (fun l => ?_)
  · have := blk_a m c (tk (6 * I.val + J)) f l; rw [e] at this; exact this
  · have := blk_b m c (tk (6 * I.val + J)) f l; rw [e] at this; exact this
  · have := blk_d m c (tk (6 * I.val + J)) l q; rw [e] at this; exact this

theorem odd_block (I : Fin 16) (J : ℕ) (hJ : J ≤ 4) (n : S1024x2048.Idx → EReal) (p : Fin 1024) (q : Fin 2048)
    (hn : ∀ f : Fin 2048, n (ix2 p f) = val_main_v12 (F := Ideal) (aH m c) (aG m c) (ix2 (row I p) f)) :
    ∑ l : Fin 512, (k0_pay19 (F := Ideal) n ((blocks m c).a' (6 * I.val + J)) ((blocks m c).b' (6 * I.val + J)) : S1024x512.Idx → EReal) (ix2 p l)
        * ((blocks m c).d' (6 * I.val + J) : S512x2048.Idx → EReal) (ix2 l q)
      = ∑ i ∈ Finset.range 512, term m c (row I p) q (512 * (2 * J + 1) + i) := by
  have e := tk_mod I J (by omega)
  have e' : min (2 * J + 1) 9 = 2 * J + 1 := by omega
  refine block_sum m c (2 * J + 1) (by omega) I _ _ p q (fun l => act_apply m c I n _ _ p l _ hn (fun f => ?_) (fun f => ?_)) (fun l => ?_)
  · have := blk_a' m c (tk (6 * I.val + J)) f l; rw [e, e'] at this; exact this
  · have := blk_b' m c (tk (6 * I.val + J)) f l; rw [e, e'] at this; exact this
  · have := blk_d' m c (tk (6 * I.val + J)) l q; rw [e, e'] at this; exact this

/-- The last block, its first lanes masked: the columns `5120 …`. -/
theorem last_block (I : Fin 16) (n : S1024x2048.Idx → EReal) (p : Fin 1024) (q : Fin 2048)
    (hn : ∀ f : Fin 2048, n (ix2 p f) = val_main_v12 (F := Ideal) (aH m c) (aG m c) (ix2 (row I p) f)) :
    ∑ l : Fin 512, (k0_pay28 (F := Ideal) n ((blocks m c).a (6 * I.val + 5)) ((blocks m c).b (6 * I.val + 5)) : S1024x512.Idx → EReal) (ix2 p l)
        * ((blocks m c).d (6 * I.val + 5) : S512x2048.Idx → EReal) (ix2 l q)
      = ∑ i ∈ Finset.range 384, term m c (row I p) q (5120 + i) := by
  have e := tk_mod I 5 (by omega)
  have key : ∀ l : Fin 512, (k0_pay28 (F := Ideal) n ((blocks m c).a (6 * I.val + 5)) ((blocks m c).b (6 * I.val + 5)) : S1024x512.Idx → EReal) (ix2 p l)
        * ((blocks m c).d (6 * I.val + 5) : S512x2048.Idx → EReal) (ix2 l q) = if 128 ≤ l.val then term m c (row I p) q (4992 + l.val) else 0 := by
    intro l
    have h27 : (k0_pay28 (F := Ideal) n ((blocks m c).a (6 * I.val + 5)) ((blocks m c).b (6 * I.val + 5)) : S1024x512.Idx → EReal) (ix2 p l) = _ :=
      pay28_apply n ((blocks m c).a (6 * I.val + 5)) ((blocks m c).b (6 * I.val + 5)) p l
    rw [h27]
    by_cases h : 128 ≤ l.val
    · rw [if_pos h, if_pos h]
      have h18 := act_apply m c I n ((blocks m c).a (6 * I.val + 5)) ((blocks m c).b (6 * I.val + 5)) p l (lane 10 l) hn
        (fun f => by have := blk_a m c (tk (6 * I.val + 5)) f l; rw [e] at this; exact this)
        (fun f => by have := blk_b m c (tk (6 * I.val + 5)) f l; rw [e] at this; exact this)
      have hd : ((blocks m c).d (6 * I.val + 5) : S512x2048.Idx → EReal) (ix2 l q) = aWd m c (ix2 (lane 10 l) q) := by
        have := blk_d m c (tk (6 * I.val + 5)) l q; rw [e] at this; exact this
      rw [h18, hd]
      have hs : start 10 = 4992 := by decide
      have hl : 4992 + l.val < 5504 := by have := l.isLt; omega
      unfold term
      rw [dif_pos hl]
      have : lane 10 l = (⟨4992 + l.val, hl⟩ : Fin 5504) := Fin.ext (by show start 10 + l.val = _; rw [hs])
      rw [this]
    · rw [if_neg h, if_neg h, zero_mul]
  rw [Finset.sum_congr rfl fun l _ => key l, ← Finset.sum_range (fun l => if 128 ≤ l then term m c (row I p) q (4992 + l) else 0),
    show (512 : ℕ) = 128 + 384 from rfl, Finset.sum_range_add]
  rw [Finset.sum_eq_zero (fun i hi => if_neg (by have := Finset.mem_range.mp hi; omega)), zero_add]
  refine Finset.sum_congr rfl fun i _ => ?_
  rw [if_pos (by omega), show 4992 + (128 + i) = 5120 + i by omega]

/-! ## The six steps -/

theorem accV_apply (I : Fin 16) (p : Fin 1024) (q : Fin 2048) : ∀ J : ℕ, J ≤ 4 →
    (accV c (blocks m c) (XA m c) I.val J : S1024x2048.Idx → EReal) (ix2 p q)
      = aH m c (ix2 (row I p) q) + ∑ i ∈ Finset.range (512 * (2 * J + 2)), term m c (row I p) q i := by
  have split : ∀ J : ℕ, ∑ i ∈ Finset.range (512 * (2 * J + 2)), term m c (row I p) q i
      = (∑ i ∈ Finset.range (512 * (2 * J)), term m c (row I p) q i + ∑ i ∈ Finset.range 512, term m c (row I p) q (512 * (2 * J) + i))
        + ∑ i ∈ Finset.range 512, term m c (row I p) q (512 * (2 * J + 1) + i) := by
    intro J
    rw [← Finset.sum_range_add, show 512 * (2 * J) + 512 = 512 * (2 * J + 1) by omega, ← Finset.sum_range_add,
      show 512 * (2 * J + 1) + 512 = 512 * (2 * J + 2) by omega]
  intro J
  induction J with
  | zero =>
    intro _
    have he := even_block m c I 0 (by omega) (normed (F := Ideal) ((blocks m c).g (6 * I.val)) (hV c (XA m c) I.val)) p q (normed_apply m c _ I p)
    have ho := odd_block m c I 0 (by omega) (normed (F := Ideal) ((blocks m c).g (6 * I.val)) (hV c (XA m c) I.val)) p q (normed_apply m c _ I p)
    rw [Nat.add_zero] at he ho
    unfold accV firstStep
    rw [accStep_apply, accStep_apply, he, ho, hV_apply m c I.val I.isLt, split 0, show 512 * (2 * 0) = 0 from rfl, Finset.range_zero, Finset.sum_empty]
    simp only [zero_add, add_assoc]
  | succ J ih =>
    intro hJ
    have he := even_block m c I (J + 1) hJ (nV c (blocks m c) (XA m c) I.val) p q (nV_apply m c I p)
    have ho := odd_block m c I (J + 1) hJ (nV c (blocks m c) (XA m c) I.val) p q (nV_apply m c I p)
    unfold accV
    rw [accStep_apply, accStep_apply, he, ho, ih (by omega), split (J + 1), show 512 * (2 * (J + 1)) = 512 * (2 * J + 2) by omega]
    simp only [add_assoc]

/-- The row block after all its hidden columns: the reference's sum. -/
theorem total_apply (I : Fin 16) (p : Fin 1024) (q : Fin 2048) :
    (accStep (F := Ideal) (k0_pay28 (nV c (blocks m c) (XA m c) I.val) ((blocks m c).a (6 * I.val + 5)) ((blocks m c).b (6 * I.val + 5)))
        ((blocks m c).d (6 * I.val + 5)) (accV c (blocks m c) (XA m c) I.val 4) : S1024x2048.Idx → EReal) (ix2 p q)
      = val_main_v20 (F := Ideal) (aH m c) (aG m c) (aWg m c) (aWu m c) (aWd m c) (ix2 (row I p) q) := by
  rw [accStep_apply, last_block m c I _ p q (nV_apply m c I p), accV_apply m c I p q 4 le_rfl, ref_sum, add_assoc,
    show 512 * (2 * 4 + 2) = 5120 from rfl, ← Finset.sum_range_add, ← half_mul_sum, show 5120 + 384 = 5504 from rfl, Finset.sum_range]
  refine congrArg (aH m c (ix2 (row I p) q) + ·) (Finset.sum_congr rfl fun j _ => ?_)
  unfold term
  rw [dif_pos j.isLt, mul_assoc]
  rfl

theorem outV_apply (I : Fin 16) (p : Fin 1024) (q : Fin 2048) :
    (outV c (blocks m c) (XA m c) I.val : S1024x2048.Idx → EReal) (ix2 p q)
      = val_main_v20 (F := Ideal) (aH m c) (aG m c) (aWg m c) (aWu m c) (aWd m c) (ix2 (row I p) q) := total_apply m c I p q

/-- The whole first result. -/
theorem finalOut_eq : (finalOut m c : S16384x2048.Idx → EReal)
    = val_main_v20 (F := Ideal) (aH m c) (aG m c) (aWg m c) (aWu m c) (aWd m c) := by
  funext y
  obtain ⟨r, q, rfl⟩ : ∃ (r : Fin 16384) (q : Fin 2048), y = ix2 r q := ⟨y 0, y 1, eq_ix2 y⟩
  have hr := r.isLt
  have := outV_apply m c ⟨r.val / 1024, by omega⟩ ⟨r.val % 1024, Nat.mod_lt _ (by decide)⟩ q
  refine Eq.trans this (congrArg (fun r => val_main_v20 (F := Ideal) (aH m c) (aG m c) (aWg m c) (aWu m c) (aWd m c) (ix2 r q)) (Fin.ext ?_))
  show r.val / 1024 * 1024 + r.val % 1024 = r.val
  omega

/-- The second result: the last argument, whose rounding keeps an extended real as it is. -/
theorem finalCast_eq : (finalCast m c : S2048x4096.Idx → EReal) = val_main_v21 (F := Ideal) (aW m c) := by
  unfold finalCast
  rw [V_main_arg5]
  rfl

end Cert.Proof.Ffn2
-- ==== Proof.Same2.lean ====
/-
  The kernel as compiled and the kernel read at the extended reals have one text: their body tables are equal, so a
  run of the one over any float values is a run of the other.
-/
module

public import proofs.«01_k».proof.Proof.Gen.Kernel2
public import proofs.«01_k».proof.Proof.Gen.Kernel2Ideal

@[expose] public section

set_option maxRecDepth 16384

noncomputable section

namespace Cert.Proof.Ffn2

open Idealize.ShloMosaic Idealize.SL.Sem

variable {F : FTy → Type} [FloatOps F]

theorem body_eq : @Cert.Kernel2.cc0_ffn F _ Cert.Kernel2.Gen.facts = @Cert.Kernel2Ideal.cc0_ffn F _ Cert.Kernel2Ideal.Gen.facts := rfl

theorem bodies_eq : @Cert.Kernel2.defs₀ F _ Cert.Kernel2.Gen.facts = @Cert.Kernel2Ideal.defs₀ F _ Cert.Kernel2Ideal.Gen.facts := by
  unfold Cert.Kernel2.defs₀ Cert.Kernel2Ideal.defs₀
  refine congrArg Defs.onTc (funext fun l => funext fun a => ?_)
  match l, a with
  | ⟨0, _⟩, (t, s) => rfl
  | ⟨_ + 1, h⟩, _ => exact absurd h (Nat.not_lt.2 (Nat.le_add_left _ _))

theorem defs_eq : @Cert.Kernel2.defs F _ Cert.Kernel2.Gen.facts = @Cert.Kernel2Ideal.defs F _ Cert.Kernel2Ideal.Gen.facts :=
  congrArg (Pipeline.defs (@Cert.Kernel2Ideal.pcfgs F Cert.Kernel2Ideal.Gen.facts)) bodies_eq

end Cert.Proof.Ffn2
-- ==== Proof.InprojSame.lean ====
/-
  The input projection as compiled and the one read at the extended reals have one text: their body tables are equal, so a
  run of the one over any float values is a run of the other.
-/
module

public import proofs.«01_k».proof.Proof.Gen.Kernel4
public import proofs.«01_k».proof.Proof.Gen.Kernel4Ideal

@[expose] public section

set_option maxRecDepth 16384

noncomputable section

namespace Cert.Proof.Inproj

open Idealize.ShloMosaic Idealize.SL.Sem

variable {F : FTy → Type} [FloatOps F]

theorem body_eq : @Cert.Kernel4.cc0_inproj F _ Cert.Kernel4.Gen.facts = @Cert.Kernel4Ideal.cc0_inproj F _ Cert.Kernel4Ideal.Gen.facts := rfl

set_option maxHeartbeats 2000000 in
theorem bodies_eq : @Cert.Kernel4.defs₀ F _ Cert.Kernel4.Gen.facts = @Cert.Kernel4Ideal.defs₀ F _ Cert.Kernel4Ideal.Gen.facts := by
  unfold Cert.Kernel4.defs₀ Cert.Kernel4Ideal.defs₀
  refine congrArg Defs.onTc (funext fun l => funext fun a => ?_)
  match l, a with
  | ⟨0, _⟩, (t, s) => rfl
  | ⟨_ + 1, h⟩, _ => exact absurd h (Nat.not_lt.2 (Nat.le_add_left _ _))

theorem defs_eq : @Cert.Kernel4.defs F _ Cert.Kernel4.Gen.facts = @Cert.Kernel4Ideal.defs F _ Cert.Kernel4Ideal.Gen.facts :=
  congrArg (Pipeline.defs (@Cert.Kernel4Ideal.pcfgs F Cert.Kernel4Ideal.Gen.facts)) bodies_eq

end Cert.Proof.Inproj
-- ==== Proof.InprojBody.lean ====
/-
  The body of the input projection at a grid point `(i, j)`: at `j = 0` it normalises a row block into its scratch and
  multiplies it by the first column block of the weights, at `j = 1, 2` it multiplies the scratch by the next, at `j = 3`
  by the last, in f32; at every point it rounds one block of each of five weights to bf16.
-/
module

public import proofs.«01_k».proof.Proof.Gen.Kernel4Ideal.Frame
public import proofs.«01_k».proof.Proof.Gen.Kernel4Ideal.Skeleton
public import proofs.«01_k».proof.Proof.Gen.Kernel4Ideal.Points
public import Idealize.ShloMosaic.Lib.VecWindow
public import Idealize.ShloMosaic.Lib.Pipeline.Value
public import Idealize.ShloMosaic.Lib.Tactic

@[expose] public section

noncomputable section

namespace Cert.Proof.Inproj

open Cert.Kernel4Ideal Cert.Kernel4Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UR sig nD τ) ℕ

theorem cond1_iff : ∀ i : grid0.Coords, k0_cond1 i = 1#1 ↔ (i 1).val = 0 := by decide +kernel
theorem cond2_iff : ∀ i : grid0.Coords, k0_cond2 i = 1#1 ↔ (0 < (i 1).val ∧ (i 1).val < 3) := by decide +kernel
theorem cond3_iff : ∀ i : grid0.Coords, k0_cond3 i = 1#1 ↔ (i 1).val = 3 := by decide +kernel

variable (c : Dev nD)

/-- A window held whole, reading as `x`. -/
abbrev is {S : Shape} {e : EltTy} (M : Memref sig .tc .vmem S e) (x : S.Idx → Elt F e) : sProp 𝕄 := owns (c : Thread nD τ) M fullShare x
/-- A window held whole, at anything. -/
abbrev any {S : Shape} {e : EltTy} (M : Memref sig .tc .vmem S e) : sProp 𝕄 := iprop(∃ x : S.Idx → Elt F e, owns (c : Thread nD τ) M fullShare x)

/-- A whole store read back. -/
theorem stored {S : Shape} {e : EltTy} (M : Memref sig .tc .vmem S e) (f : Buf (Elt F) (M.view.loc (c : Thread nD τ))) {off : Fin S.rank → ℕ}
    (inb : ∀ a, off a + S.size a ≤ S.size a) (w x : S.Idx → Elt F e) (h : w = x) :
    M.view.read (Elt F) (M.view.writes (Elt F) f [⟨Rect.unit off S.size inb, w⟩]) = x :=
  (View.read_writes_full _ _ _ _ _).trans h

/-- The scratch takes the normalised rows as they are. -/
theorem scratch_eq (h : Vec F S1024x2048 .f32) (g : Vec F S1x2048 .f32) : k0_pay16 h g = k0_pay15 h g := by
  unfold k0_pay16
  exact shapeCast_self _ _

variable (arg2 : Memref sig .tc .vmem S1024x2048 .f32) (harg2 : arg2.IsWhole)
  (arg3 : Memref sig .tc .vmem S1x2048 .f32) (harg3 : arg3.IsWhole)
  (arg4 : Memref sig .tc .vmem S2048x1024 .bf16) (harg4 : arg4.IsWhole)
  (arg5 : Memref sig .tc .vmem S16x1024 .f32) (harg5 : arg5.IsWhole)
  (arg6 : Memref sig .tc .vmem S32x2048 .f32) (harg6 : arg6.IsWhole)
  (arg7 : Memref sig .tc .vmem S32x5504 .f32) (harg7 : arg7.IsWhole)
  (arg8 : Memref sig .tc .vmem S32x5504 .f32) (harg8 : arg8.IsWhole)
  (arg9 : Memref sig .tc .vmem S128x2048 .f32) (harg9 : arg9.IsWhole)
  (arg10 : Memref sig .tc .vmem S1024x1024 .bf16) (harg10 : arg10.IsWhole)
  (arg11 : Memref sig .tc .vmem S1024x1024 .f32) (harg11 : arg11.IsWhole)
  (arg12 : Memref sig .tc .vmem S16x1024 .bf16) (harg12 : arg12.IsWhole)
  (arg13 : Memref sig .tc .vmem S32x2048 .bf16) (harg13 : arg13.IsWhole)
  (arg14 : Memref sig .tc .vmem S32x5504 .bf16) (harg14 : arg14.IsWhole)
  (arg15 : Memref sig .tc .vmem S32x5504 .bf16) (harg15 : arg15.IsWhole)
  (arg16 : Memref sig .tc .vmem S128x2048 .bf16) (harg16 : arg16.IsWhole)
  (arg17 : Memref sig .tc .vmem S1024x2048 .bf16) (harg17 : arg17.IsWhole)

/-- The blocks of the five weights rounded at a point. -/
structure Five (F : FTy → Type) where
  a : S16x1024.Idx → Elt F .f32
  b : S32x2048.Idx → Elt F .f32
  p : S32x5504.Idx → Elt F .f32
  q : S32x5504.Idx → Elt F .f32
  d : S128x2048.Idx → Elt F .f32

/-- They are held in their windows, -/
abbrev fiveIn (x : Five F) : sProp 𝕄 := iprop(is c arg5 x.a ∗ is c arg6 x.b ∗ is c arg7 x.p ∗ is c arg8 x.q ∗ is c arg9 x.d)
/-- the windows for their roundings are held, -/
abbrev fiveAny : sProp 𝕄 := iprop(any c arg12 ∗ any c arg13 ∗ any c arg14 ∗ any c arg15 ∗ any c arg16)
/-- and hold these. -/
abbrev fiveOut (x : Five F) : sProp 𝕄 :=
  iprop(is c arg12 (k0_pay4 x.a) ∗ is c arg13 (k0_pay5 x.b) ∗ is c arg14 (k0_pay6 x.p) ∗ is c arg15 (k0_pay7 x.q) ∗ is c arg16 (k0_pay8 x.d))

/-- The body on these windows. -/
abbrev bodyOf (i : grid0.Coords) : Prog (TpuEff nD τ sig (Elt F) Λ₀ .tc) PUnit :=
  cc0_inproj i arg2 harg2 arg3 harg3 arg4 harg4 arg5 harg5 arg6 harg6 arg7 harg7 arg8 harg8 arg9 harg9 arg10 harg10 arg11 harg11
    arg12 harg12 arg13 harg13 arg14 harg14 arg15 harg15 arg16 harg16 arg17 harg17

set_option maxHeartbeats 1000000 in
set_option backward.proofsInPublic true in
/-- The first point of a row block. -/
theorem firstRun (i : grid0.Coords) (hj : (i 1).val = 0) (h : S1024x2048.Idx → Elt F .f32) (g : S1x2048.Idx → Elt F .f32)
    (w : S2048x1024.Idx → Elt F .bf16) (x : Five F) (K : PUnit → sProp 𝕄) :
    iprop(is c arg2 h ∗ is c arg3 g ∗ is c arg4 w ∗ fiveIn c arg5 arg6 arg7 arg8 arg9 x ∗ any c arg10 ∗ fiveAny c arg12 arg13 arg14 arg15 arg16 ∗ any c arg17
      ∗ (iprop(is c arg2 h ∗ is c arg3 g ∗ is c arg4 w ∗ fiveIn c arg5 arg6 arg7 arg8 arg9 x ∗ is c arg10 (k0_pay3 (k0_pay15 h g) w)
          ∗ fiveOut c arg12 arg13 arg14 arg15 arg16 x ∗ is c arg17 (k0_pay15 h g)) -∗ K ⟨⟩))
      ⊢ wp frame (wpE (defs₀ (F := F)) Variants.none c none) Set.univ
        (bodyOf arg2 harg2 arg3 harg3 arg4 harg4 arg5 harg5 arg6 harg6 arg7 harg7 arg8 harg8 arg9 harg9 arg10 harg10 arg11 harg11
          arg12 harg12 arg13 harg13 arg14 harg14 arg15 harg15 arg16 harg16 arg17 harg17 i) K := by
  have k1 : k0_cond1 i = 1#1 := by rw [cond1_iff]; omega
  have k2 : ¬ k0_cond2 i = 1#1 := by rw [cond2_iff]; omega
  have k3 : ¬ k0_cond3 i = 1#1 := by rw [cond3_iff]; omega
  unfold bodyOf
  simp only [cc0_inproj_eq_skeleton]; unfold cc0_inproj_skel
  simp only [k0_part1_eq_skeleton]
  unfold fiveIn fiveAny fiveOut is any owns
  obtain ⟨xa, xb, xp, xq, xd⟩ := x
  dsimp only
  iintro ⟨⟨%f2, %e2, H2⟩, ⟨%f3, %e3, H3⟩, ⟨%f4, %e4, H4⟩, ⟨⟨%f5, %e5, H5⟩, ⟨%f6, %e6, H6⟩, ⟨%f7, %e7, H7⟩, ⟨%f8, %e8, H8⟩, ⟨%f9, %e9, H9⟩⟩, ⟨%d10, %f10, -, H10⟩, ⟨⟨%d12, %f12, -, H12⟩, ⟨%d13, %f13, -, H13⟩, ⟨%d14, %f14, -, H14⟩, ⟨%d15, %f15, -, H15⟩, ⟨%d16, %f16, -, H16⟩⟩, ⟨%d17, %f17, -, H17⟩, Hk⟩
  subst e2 e3 e4 e5 e6 e7 e8 e9
  sl_exec
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5 H6 H7 H8 H9]
  · isplitl [H5]
    · iexists f5; isplitr; · ipureintro; rfl
      iexact H5
    isplitl [H6]
    · iexists f6; isplitr; · ipureintro; rfl
      iexact H6
    isplitl [H7]
    · iexists f7; isplitr; · ipureintro; rfl
      iexact H7
    isplitl [H8]
    · iexists f8; isplitr; · ipureintro; rfl
      iexact H8
    iexists f9; isplitr; · ipureintro; rfl
    iexact H9
  isplitl [H10]
  · iexists _; isplitr
    swap; · iexact H10
    ipureintro
    refine stored c _ _ _ _ _ ?_
    rw [View.readAt_full, View.readAt_full, View.readAt_full]
    rfl
  isplitl [H12 H13 H14 H15 H16]
  · isplitl [H12]
    · iexists _; isplitr
      swap; · iexact H12
      ipureintro
      exact stored c _ _ _ _ _ (congrArg k0_pay4 (View.readAt_full _ _ _))
    isplitl [H13]
    · iexists _; isplitr
      swap; · iexact H13
      ipureintro
      exact stored c _ _ _ _ _ (congrArg k0_pay5 (View.readAt_full _ _ _))
    isplitl [H14]
    · iexists _; isplitr
      swap; · iexact H14
      ipureintro
      exact stored c _ _ _ _ _ (congrArg k0_pay6 (View.readAt_full _ _ _))
    isplitl [H15]
    · iexists _; isplitr
      swap; · iexact H15
      ipureintro
      exact stored c _ _ _ _ _ (congrArg k0_pay7 (View.readAt_full _ _ _))
    iexists _; isplitr
    swap; · iexact H16
    ipureintro
    exact stored c _ _ _ _ _ (congrArg k0_pay8 (View.readAt_full _ _ _))
  iexists _; isplitr
  swap; · iexact H17
  ipureintro
  refine stored c _ _ _ _ _ ((scratch_eq _ _).trans ?_)
  rw [View.readAt_full, View.readAt_full]

set_option maxHeartbeats 1000000 in
set_option backward.proofsInPublic true in
/-- The second and the third point of a row block. -/
theorem midRun (i : grid0.Coords) (hj : 0 < (i 1).val ∧ (i 1).val < 3) (n : S1024x2048.Idx → Elt F .bf16)
    (w : S2048x1024.Idx → Elt F .bf16) (x : Five F) (K : PUnit → sProp 𝕄) :
    iprop(is c arg4 w ∗ fiveIn c arg5 arg6 arg7 arg8 arg9 x ∗ any c arg10 ∗ fiveAny c arg12 arg13 arg14 arg15 arg16 ∗ is c arg17 n
      ∗ (iprop(is c arg4 w ∗ fiveIn c arg5 arg6 arg7 arg8 arg9 x ∗ is c arg10 (k0_pay3 n w)
          ∗ fiveOut c arg12 arg13 arg14 arg15 arg16 x ∗ is c arg17 n) -∗ K ⟨⟩))
      ⊢ wp frame (wpE (defs₀ (F := F)) Variants.none c none) Set.univ
        (bodyOf arg2 harg2 arg3 harg3 arg4 harg4 arg5 harg5 arg6 harg6 arg7 harg7 arg8 harg8 arg9 harg9 arg10 harg10 arg11 harg11
          arg12 harg12 arg13 harg13 arg14 harg14 arg15 harg15 arg16 harg16 arg17 harg17 i) K := by
  have k1 : ¬ k0_cond1 i = 1#1 := by rw [cond1_iff]; omega
  have k2 : k0_cond2 i = 1#1 := by rw [cond2_iff]; omega
  have k3 : ¬ k0_cond3 i = 1#1 := by rw [cond3_iff]; omega
  unfold bodyOf
  simp only [cc0_inproj_eq_skeleton]; unfold cc0_inproj_skel
  unfold fiveIn fiveAny fiveOut is any owns
  obtain ⟨xa, xb, xp, xq, xd⟩ := x
  dsimp only
  iintro ⟨⟨%f4, %e4, H4⟩, ⟨⟨%f5, %e5, H5⟩, ⟨%f6, %e6, H6⟩, ⟨%f7, %e7, H7⟩, ⟨%f8, %e8, H8⟩, ⟨%f9, %e9, H9⟩⟩, ⟨%d10, %f10, -, H10⟩, ⟨⟨%d12, %f12, -, H12⟩, ⟨%d13, %f13, -, H13⟩, ⟨%d14, %f14, -, H14⟩, ⟨%d15, %f15, -, H15⟩, ⟨%d16, %f16, -, H16⟩⟩, ⟨%f17, %e17, H17⟩, Hk⟩
  subst e4 e5 e6 e7 e8 e9 e17
  sl_exec
  sl_step
  iapply Hk
  isplitl [H4]
  · iexists f4; isplitr; · ipureintro; rfl
    iexact H4
  isplitl [H5 H6 H7 H8 H9]
  · isplitl [H5]
    · iexists f5; isplitr; · ipureintro; rfl
      iexact H5
    isplitl [H6]
    · iexists f6; isplitr; · ipureintro; rfl
      iexact H6
    isplitl [H7]
    · iexists f7; isplitr; · ipureintro; rfl
      iexact H7
    isplitl [H8]
    · iexists f8; isplitr; · ipureintro; rfl
      iexact H8
    iexists f9; isplitr; · ipureintro; rfl
    iexact H9
  isplitl [H10]
  · iexists _; isplitr
    swap; · iexact H10
    ipureintro
    refine stored c _ _ _ _ _ ?_
    rw [View.readAt_full, View.readAt_full]
  isplitl [H12 H13 H14 H15 H16]
  · isplitl [H12]
    · iexists _; isplitr
      swap; · iexact H12
      ipureintro
      exact stored c _ _ _ _ _ (congrArg k0_pay4 (View.readAt_full _ _ _))
    isplitl [H13]
    · iexists _; isplitr
      swap; · iexact H13
      ipureintro
      exact stored c _ _ _ _ _ (congrArg k0_pay5 (View.readAt_full _ _ _))
    isplitl [H14]
    · iexists _; isplitr
      swap; · iexact H14
      ipureintro
      exact stored c _ _ _ _ _ (congrArg k0_pay6 (View.readAt_full _ _ _))
    isplitl [H15]
    · iexists _; isplitr
      swap; · iexact H15
      ipureintro
      exact stored c _ _ _ _ _ (congrArg k0_pay7 (View.readAt_full _ _ _))
    iexists _; isplitr
    swap; · iexact H16
    ipureintro
    exact stored c _ _ _ _ _ (congrArg k0_pay8 (View.readAt_full _ _ _))
  iexists f17; isplitr; · ipureintro; rfl
  iexact H17

set_option maxHeartbeats 1000000 in
set_option backward.proofsInPublic true in
/-- The last point of a row block. -/
theorem lastRun (i : grid0.Coords) (hj : (i 1).val = 3) (n : S1024x2048.Idx → Elt F .bf16)
    (w : S2048x1024.Idx → Elt F .bf16) (x : Five F) (K : PUnit → sProp 𝕄) :
    iprop(is c arg4 w ∗ fiveIn c arg5 arg6 arg7 arg8 arg9 x ∗ any c arg11 ∗ fiveAny c arg12 arg13 arg14 arg15 arg16 ∗ is c arg17 n
      ∗ (iprop(is c arg4 w ∗ fiveIn c arg5 arg6 arg7 arg8 arg9 x ∗ is c arg11 (k0_pay9 n w)
          ∗ fiveOut c arg12 arg13 arg14 arg15 arg16 x ∗ is c arg17 n) -∗ K ⟨⟩))
      ⊢ wp frame (wpE (defs₀ (F := F)) Variants.none c none) Set.univ
        (bodyOf arg2 harg2 arg3 harg3 arg4 harg4 arg5 harg5 arg6 harg6 arg7 harg7 arg8 harg8 arg9 harg9 arg10 harg10 arg11 harg11
          arg12 harg12 arg13 harg13 arg14 harg14 arg15 harg15 arg16 harg16 arg17 harg17 i) K := by
  have k1 : ¬ k0_cond1 i = 1#1 := by rw [cond1_iff]; omega
  have k2 : ¬ k0_cond2 i = 1#1 := by rw [cond2_iff]; omega
  have k3 : k0_cond3 i = 1#1 := by rw [cond3_iff]; omega
  unfold bodyOf
  simp only [cc0_inproj_eq_skeleton]; unfold cc0_inproj_skel
  unfold fiveIn fiveAny fiveOut is any owns
  obtain ⟨xa, xb, xp, xq, xd⟩ := x
  dsimp only
  iintro ⟨⟨%f4, %e4, H4⟩, ⟨⟨%f5, %e5, H5⟩, ⟨%f6, %e6, H6⟩, ⟨%f7, %e7, H7⟩, ⟨%f8, %e8, H8⟩, ⟨%f9, %e9, H9⟩⟩, ⟨%d11, %f11, -, H11⟩, ⟨⟨%d12, %f12, -, H12⟩, ⟨%d13, %f13, -, H13⟩, ⟨%d14, %f14, -, H14⟩, ⟨%d15, %f15, -, H15⟩, ⟨%d16, %f16, -, H16⟩⟩, ⟨%f17, %e17, H17⟩, Hk⟩
  subst e4 e5 e6 e7 e8 e9 e17
  sl_exec
  sl_step
  iapply Hk
  isplitl [H4]
  · iexists f4; isplitr; · ipureintro; rfl
    iexact H4
  isplitl [H5 H6 H7 H8 H9]
  · isplitl [H5]
    · iexists f5; isplitr; · ipureintro; rfl
      iexact H5
    isplitl [H6]
    · iexists f6; isplitr; · ipureintro; rfl
      iexact H6
    isplitl [H7]
    · iexists f7; isplitr; · ipureintro; rfl
      iexact H7
    isplitl [H8]
    · iexists f8; isplitr; · ipureintro; rfl
      iexact H8
    iexists f9; isplitr; · ipureintro; rfl
    iexact H9
  isplitl [H11]
  · iexists _; isplitr
    swap; · iexact H11
    ipureintro
    refine stored c _ _ _ _ _ ?_
    rw [View.readAt_full, View.readAt_full]
  isplitl [H12 H13 H14 H15 H16]
  · isplitl [H12]
    · iexists _; isplitr
      swap; · iexact H12
      ipureintro
      exact stored c _ _ _ _ _ (congrArg k0_pay4 (View.readAt_full _ _ _))
    isplitl [H13]
    · iexists _; isplitr
      swap; · iexact H13
      ipureintro
      exact stored c _ _ _ _ _ (congrArg k0_pay5 (View.readAt_full _ _ _))
    isplitl [H14]
    · iexists _; isplitr
      swap; · iexact H14
      ipureintro
      exact stored c _ _ _ _ _ (congrArg k0_pay6 (View.readAt_full _ _ _))
    isplitl [H15]
    · iexists _; isplitr
      swap; · iexact H15
      ipureintro
      exact stored c _ _ _ _ _ (congrArg k0_pay7 (View.readAt_full _ _ _))
    iexists _; isplitr
    swap; · iexact H16
    ipureintro
    exact stored c _ _ _ _ _ (congrArg k0_pay8 (View.readAt_full _ _ _))
  iexists f17; isplitr; · ipureintro; rfl
  iexact H17

end Cert.Proof.Inproj
-- ==== Proof.InprojOblig.lean ====
/-
  What the pipeline hands the body of the input projection at a grid point, and that the body meets it at every point:
  between the points of a row block the scratch holds its normalised rows.
-/
module

public import proofs.«01_k».proof.Proof.InprojBody

@[expose] public section

noncomputable section

namespace Cert.Proof.Inproj

open Cert.Kernel4Ideal Cert.Kernel4Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]
local notation "𝕄" => MT nD τ sig Unit (Elt F) ℕ (UR sig nD τ) ℕ

variable (m : (ℓ : Loc nD τ sig) → Buf (Elt F) ℓ) (ρ : Dev nD → PrngReg)

/-- Grid point `k`. -/
def tk (k : ℕ) : Fin cfg0.N := ⟨k % 64, Nat.mod_lt _ (by decide)⟩
theorem tk_of (t : Fin cfg0.N) (k : ℕ) (h : k = t.val) : tk k = t := by
  subst h; exact Fin.ext (Nat.mod_eq_of_lt t.isLt)

theorem coord0 : ∀ t : Fin cfg0.N, (grid0.coords t 0).val = t.val / 4 := by decide +kernel
theorem coord1 : ∀ t : Fin cfg0.N, (grid0.coords t 1).val = t.val % 4 := by decide +kernel

/-- The normalised rows of row block `I`. -/
def nV (c : Dev nD) (I : ℕ) : S1024x2048.Idx → Elt F .bf16 := k0_pay15 (iblk m c 0 (tk (4 * I))) (iblk m c 1 (tk (4 * I)))
/-- The last point up to `t` at which the first result's block is stored. -/
def lastQ (t : Fin cfg0.N) : Fin cfg0.N := tk (min t.val (4 * (t.val / 4) + 2))
/-- The blocks of the five weights at point `t`. -/
def five (c : Dev nD) (t : Fin cfg0.N) : Five F := ⟨iblk m c 3 t, iblk m c 4 t, iblk m c 5 t, iblk m c 6 t, iblk m c 7 t⟩
/-- The first result's block at point `t`. -/
def qV (c : Dev nD) (t : Fin cfg0.N) : S1024x1024.Idx → Elt F .bf16 := k0_pay3 (nV m c (t.val / 4)) (iblk m c 2 (lastQ t))
/-- The second result's block at point `t`. -/
def uV (c : Dev nD) (t : Fin cfg0.N) : S1024x1024.Idx → Elt F .f32 := k0_pay9 (nV m c (t.val / 4)) (iblk m c 2 t)

theorem lastQ_of (t : Fin cfg0.N) (h : t.val % 4 ≠ 3) : lastQ t = t := tk_of t _ (by omega)
theorem nV_first (c : Dev nD) (t : Fin cfg0.N) (h : t.val % 4 = 0) : nV m c (t.val / 4) = k0_pay15 (iblk m c 0 t) (iblk m c 1 t) := by
  unfold nV; rw [tk_of t _ (by omega)]

/-- The scratch. -/
abbrev nM : Memref sig .tc .vmem S1024x2048 .bf16 := Memref.whole cc0_scratch0
/-- Held between the points of row block `I`. -/
def ΦN (c : Dev nD) (I : ℕ) : sProp 𝕄 := iprop(is c nM (nV m c I) ∗ ∃ r, prngReg c r)
/-- Held before point `k`. -/
def Φat (c : Dev nD) (k : ℕ) : sProp 𝕄 := if k % 4 = 0 then Pipeline.ΦA spec0 c else ΦN m c (k / 4)

/-- The proof data: arrays as the region finds them, each input's buffer at its block, each output's at what is stored. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => qV m c t
    | ⟨9, _⟩ => uV m c t
    | ⟨10, _⟩ => k0_pay4 (iblk m c 3 t)
    | ⟨11, _⟩ => k0_pay5 (iblk m c 4 t)
    | ⟨12, _⟩ => k0_pay6 (iblk m c 5 t)
    | ⟨13, _⟩ => k0_pay7 (iblk m c 6 t)
    | ⟨14, _⟩ => k0_pay8 (iblk m c 7 t)
  Φ t := Φat m c t.val
  q _ := fullShare
  owed _ := 0

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = qV m c t := by dsimp only [dats]
theorem after_9 (c : Dev nD) (t : Fin cfg0.N) : (dats m 0 c).after 9 t = uV m c t := by dsimp only [dats]
theorem after_10 (c : Dev nD) (t : Fin cfg0.N) : (dats m 0 c).after 10 t = k0_pay4 (iblk m c 3 t) := by dsimp only [dats]
theorem after_11 (c : Dev nD) (t : Fin cfg0.N) : (dats m 0 c).after 11 t = k0_pay5 (iblk m c 4 t) := by dsimp only [dats]
theorem after_12 (c : Dev nD) (t : Fin cfg0.N) : (dats m 0 c).after 12 t = k0_pay6 (iblk m c 5 t) := by dsimp only [dats]
theorem after_13 (c : Dev nD) (t : Fin cfg0.N) : (dats m 0 c).after 13 t = k0_pay7 (iblk m c 6 t) := by dsimp only [dats]
theorem after_14 (c : Dev nD) (t : Fin cfg0.N) : (dats m 0 c).after 14 t = k0_pay8 (iblk m c 7 t) := by dsimp only [dats]

theorem before_0 (c : Dev nD) (t : Fin cfg0.N) (d) : (dats m 0 c).before 0 t d = iblk m c 0 t := before0_0_of m (dats m 0 c) (A_eq m c 0) (after_0 m c) t d
theorem before_1 (c : Dev nD) (t : Fin cfg0.N) (d) : (dats m 0 c).before 1 t d = iblk m c 1 t := before0_1_of m (dats m 0 c) (A_eq m c 1) (after_1 m c) t d
theorem before_2 (c : Dev nD) (t : Fin cfg0.N) (d) : (dats m 0 c).before 2 t d = iblk m c 2 t := before0_2_of m (dats m 0 c) (A_eq m c 2) (after_2 m c) t d
theorem before_3 (c : Dev nD) (t : Fin cfg0.N) (d) : (dats m 0 c).before 3 t d = iblk m c 3 t := before0_3_of m (dats m 0 c) (A_eq m c 3) (after_3 m c) t d
theorem before_4 (c : Dev nD) (t : Fin cfg0.N) (d) : (dats m 0 c).before 4 t d = iblk m c 4 t := before0_4_of m (dats m 0 c) (A_eq m c 4) (after_4 m c) t d
theorem before_5 (c : Dev nD) (t : Fin cfg0.N) (d) : (dats m 0 c).before 5 t d = iblk m c 5 t := before0_5_of m (dats m 0 c) (A_eq m c 5) (after_5 m c) t d
theorem before_6 (c : Dev nD) (t : Fin cfg0.N) (d) : (dats m 0 c).before 6 t d = iblk m c 6 t := before0_6_of m (dats m 0 c) (A_eq m c 6) (after_6 m c) t d
theorem before_7 (c : Dev nD) (t : Fin cfg0.N) (d) : (dats m 0 c).before 7 t d = iblk m c 7 t := before0_7_of m (dats m 0 c) (A_eq m c 7) (after_7 m c) t d

/-! ## The points at which the first two results are stored and written back -/

theorem idle_8 : ∀ t : Fin cfg0.N, cfg0.idle 8 (cfg0.grid.coords t) = decide (t.val % 4 = 3) := by decide +kernel
theorem flush_8 : ∀ t : Fin cfg0.N, (cfg0.win 8).flush t = decide (t.val % 4 ≠ 2) := by decide +kernel
theorem idle_9 : ∀ t : Fin cfg0.N, cfg0.idle 9 (cfg0.grid.coords t) = decide (t.val % 4 ≠ 3) := by decide +kernel
theorem flush_9 : ∀ t : Fin cfg0.N, (cfg0.win 9).flush t = decide (t.val % 4 = 3) := by decide +kernel
theorem idle_10 : ∀ t : Fin cfg0.N, cfg0.idle 10 (cfg0.grid.coords t) = false := by decide +kernel
theorem idle_11 : ∀ t : Fin cfg0.N, cfg0.idle 11 (cfg0.grid.coords t) = false := by decide +kernel
theorem idle_12 : ∀ t : Fin cfg0.N, cfg0.idle 12 (cfg0.grid.coords t) = false := by decide +kernel
theorem idle_13 : ∀ t : Fin cfg0.N, cfg0.idle 13 (cfg0.grid.coords t) = false := by decide +kernel
theorem idle_14 : ∀ t : Fin cfg0.N, cfg0.idle 14 (cfg0.grid.coords t) = false := by decide +kernel

/-- At a point that stores a window's block, or writes it back, its buffer is left at what the proof data says. -/
theorem leaves_live (c : Dev nD) (w : Fin cfg0.W) (t : Fin cfg0.N)
    (h : cfg0.idle w (cfg0.grid.coords t) = false ∨ (cfg0.win w).flush t = true) :
    (dats m 0 c).leavesExact w t = owns (c : Thread nD τ) ((cfg0.win w).stage (cfg0.slots t w)) fullShare ((dats m 0 c).after w t) := by
  unfold Dat.leavesExact
  rcases h with h | h
  · rw [h]
  · cases cfg0.idle w (cfg0.grid.coords t) <;> simp only [h]

theorem leaves_8 (c : Dev nD) (t : Fin cfg0.N) :
    (dats m 0 c).leavesExact 8 t = owns (c : Thread nD τ) (st0_8 t) fullShare (qV m c t) := by
  rw [leaves_live m c 8 t ?_, after_8]
  rw [idle_8, flush_8]
  by_cases h : t.val % 4 = 3
  · right; simp [h]
  · left; simp [h]
theorem leaves_9_last (c : Dev nD) (t : Fin cfg0.N) (h : t.val % 4 = 3) :
    (dats m 0 c).leavesExact 9 t = owns (c : Thread nD τ) (st0_9 t) fullShare (uV m c t) := by
  rw [leaves_live m c 9 t ?_, after_9]
  right; rw [flush_9]; simp [h]
theorem leaves_9_else (c : Dev nD) (t : Fin cfg0.N) (h : t.val % 4 ≠ 3) :
    (dats m 0 c).leavesExact 9 t = iprop(∃ d, owns (c : Thread nD τ) (st0_9 t) fullShare ((dats m 0 c).before 9 t d)) :=
  (dats m 0 c).leavesExact_idle 9 t (by rw [idle_9]; simp [h]) (by rw [flush_9]; simp [h])
theorem leaves_10 (c : Dev nD) (t : Fin cfg0.N) :
    (dats m 0 c).leavesExact 10 t = owns (c : Thread nD τ) (st0_10 t) fullShare (k0_pay4 (five m c t).a) :=
  (leaves_live m c 10 t (.inl (idle_10 t))).trans (by rw [after_10]; rfl)
theorem leaves_11 (c : Dev nD) (t : Fin cfg0.N) :
    (dats m 0 c).leavesExact 11 t = owns (c : Thread nD τ) (st0_11 t) fullShare (k0_pay5 (five m c t).b) :=
  (leaves_live m c 11 t (.inl (idle_11 t))).trans (by rw [after_11]; rfl)
theorem leaves_12 (c : Dev nD) (t : Fin cfg0.N) :
    (dats m 0 c).leavesExact 12 t = owns (c : Thread nD τ) (st0_12 t) fullShare (k0_pay6 (five m c t).p) :=
  (leaves_live m c 12 t (.inl (idle_12 t))).trans (by rw [after_12]; rfl)
theorem leaves_13 (c : Dev nD) (t : Fin cfg0.N) :
    (dats m 0 c).leavesExact 13 t = owns (c : Thread nD τ) (st0_13 t) fullShare (k0_pay7 (five m c t).q) :=
  (leaves_live m c 13 t (.inl (idle_13 t))).trans (by rw [after_13]; rfl)
theorem leaves_14 (c : Dev nD) (t : Fin cfg0.N) :
    (dats m 0 c).leavesExact 14 t = owns (c : Thread nD τ) (st0_14 t) fullShare (k0_pay8 (five m c t).d) :=
  (leaves_live m c 14 t (.inl (idle_14 t))).trans (by rw [after_14]; rfl)

/-- At the last point of a row block the first result's buffer still holds what the point before it stored. -/
theorem before_8_last (c : Dev nD) (t : Fin cfg0.N) (h : t.val % 4 = 3) (d) : (dats m 0 c).before 8 t d = qV m c t := by
  have e : (⟨t.val - 1, Nat.lt_of_le_of_lt (Nat.sub_le _ _) t.isLt⟩ : Fin cfg0.N).val = t.val - 1 := rfl
  rw [(dats m 0 c).before_of_pos 8 t (by omega) rfl d, flush_8, if_neg (by simp only [e, decide_eq_true_eq]; omega)]
  unfold Dat.left
  have hi : cfg0.idle 8 (cfg0.grid.coords (⟨t.val - 1, Nat.lt_of_le_of_lt (Nat.sub_le _ _) t.isLt⟩ : Fin cfg0.N)) = false := by
    rw [idle_8]; simp only [e, decide_eq_false_iff_not]; omega
  rw [hi]
  show (dats m 0 c).after 8 _ = _
  rw [after_8]
  have h1 : (t.val - 1) / 4 = t.val / 4 := by omega
  have hq : lastQ (⟨t.val - 1, Nat.lt_of_le_of_lt (Nat.sub_le _ _) t.isLt⟩ : Fin cfg0.N) = lastQ t := by
    unfold lastQ; exact congrArg tk (by simp only [e]; omega)
  unfold qV
  rw [hq]
  simp only [e, h1]

/-! ## The scratch -/

theorem n_eq (c : Dev nD) (f : Buf (Elt F) (nM.view.loc (c : Thread nD τ))) :
    (nM.view.loc (c : Thread nD τ) ↦[nM.view.set]{fullShare} f : sProp 𝕄) = ((c : Thread nD τ).loc cc0_scratch0) ↦{fullShare} f :=
  congrArg (fun S => (_ ↦[S]{fullShare} f : sProp 𝕄)) (View.set_whole _)
theorem ΦA_open (c : Dev nD) : (Pipeline.ΦA spec0 c : sProp 𝕄) ⊢ iprop(any c nM ∗ ∃ r, prngReg c r) := by
  unfold Pipeline.ΦA
  rw [scopedRest0_eq]
  unfold any owns
  iintro ⟨⟨%f, H⟩, Hr⟩
  isplitl [H]
  · iexists _; iexists f; isplitr; · ipureintro; rfl
    iapply (Entails.of_eq (n_eq c f).symm); iexact H
  iexact Hr
theorem ΦA_close (c : Dev nD) (x : S1024x2048.Idx → Elt F .bf16) : iprop(is c nM x ∗ ∃ r, prngReg c r) ⊢ (Pipeline.ΦA spec0 c : sProp 𝕄) := by
  unfold Pipeline.ΦA
  rw [scopedRest0_eq]
  unfold is owns
  iintro ⟨⟨%f, -, H⟩, Hr⟩
  isplitl [H]
  · iexists f
    iapply (Entails.of_eq (n_eq c f)); iexact H
  iexact Hr
theorem Φat_first (c : Dev nD) (k : ℕ) (h : k % 4 = 0) : Φat m c k = Pipeline.ΦA spec0 c := if_pos h
theorem Φat_else (c : Dev nD) (k : ℕ) (h : k % 4 ≠ 0) : Φat m c k = ΦN m c (k / 4) := if_neg h

/-! ## The body at each point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d)))
/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ (dats m 0 c).leavesExact 8 t ∗ (dats m 0 c).leavesExact 9 t ∗ (dats m 0 c).leavesExact 10 t ∗ (dats m 0 c).leavesExact 11 t
    ∗ (dats m 0 c).leavesExact 12 t ∗ (dats m 0 c).leavesExact 13 t ∗ (dats m 0 c).leavesExact 14 t)

/-- The same with the scratch and the windows gathered as the runs take them: `N` the invariant, `Q` the first result's window,
    `U` the second's. -/
def held (c : Dev nD) (t : Fin cfg0.N) (N Q U : sProp 𝕄) (D : sProp 𝕄) : sProp 𝕄 :=
  iprop(N ∗ (dats m 0 c).owesAt () t.castSucc ∗ is c (st0_0 t) (iblk m c 0 t) ∗ is c (st0_1 t) (iblk m c 1 t) ∗ is c (st0_2 t) (iblk m c 2 t)
    ∗ fiveIn c (st0_3 t) (st0_4 t) (st0_5 t) (st0_6 t) (st0_7 t) (five m c t) ∗ Q ∗ U ∗ D)

theorem pre_held (c : Dev nD) (t : Fin cfg0.N) :
    bodyPre m c t ⊢ held m c t (Φat m c t.val) (iprop(∃ d, owns (c : Thread nD τ) (st0_8 t) fullShare ((dats m 0 c).before 8 t d)))
      (iprop(∃ d, owns (c : Thread nD τ) (st0_9 t) fullShare ((dats m 0 c).before 9 t d)))
      (fiveAny c (st0_10 t) (st0_11 t) (st0_12 t) (st0_13 t) (st0_14 t)) := by
  unfold bodyPre held fiveAny any
  simp only [before_0, before_1, before_2, before_3, before_4, before_5, before_6, before_7]
  rw [show (dats m 0 c).Φ t.castSucc = Φat m c t.val from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, H8, H9, ⟨%d10, H10⟩, ⟨%d11, H11⟩, ⟨%d12, H12⟩, ⟨%d13, H13⟩, ⟨%d14, H14⟩⟩
  isplitl [HΦ]; · iexact HΦ
  isplitl [Ho]; · iexact Ho
  isplitl [H0]; · iexact H0
  isplitl [H1]; · iexact H1
  isplitl [H2]; · iexact H2
  isplitl [H3 H4 H5 H6 H7]
  · isplitl [H3]; · iexact H3
    isplitl [H4]; · iexact H4
    isplitl [H5]; · iexact H5
    isplitl [H6]; · iexact H6
    iexact H7
  isplitl [H8]; · iexact H8
  isplitl [H9]; · iexact H9
  isplitl [H10]; · iexists _; iexact H10
  isplitl [H11]; · iexists _; iexact H11
  isplitl [H12]; · iexists _; iexact H12
  isplitl [H13]; · iexists _; iexact H13
  iexists _; iexact H14

theorem held_post (c : Dev nD) (t : Fin cfg0.N) :
    held m c t (Φat m c (t.val + 1)) (is c (st0_8 t) (qV m c t)) ((dats m 0 c).leavesExact 9 t)
      (fiveOut c (st0_10 t) (st0_11 t) (st0_12 t) (st0_13 t) (st0_14 t) (five m c t)) ⊢ bodyPost m c t := by
  unfold bodyPost held fiveOut
  rw [leaves_8, leaves_10, leaves_11, leaves_12, leaves_13, leaves_14, after_0, after_1, after_2, after_3, after_4, after_5, after_6, after_7,
    show (dats m 0 c).Φ t.succ = Φat m c (t.val + 1) from rfl]
  iintro ⟨HΦ, Ho, H0, H1, H2, ⟨H3, H4, H5, H6, H7⟩, H8, H9, H10, H11, H12, H13, H14⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

theorem sound_first (c : Dev nD) (t : Fin cfg0.N) (h : t.val % 4 = 0) :
    bodyPre m c t ⊢ wp frame (wpE (defs₀ (F := F)) Variants.none c none) Set.univ (bodyAt0 t) (fun _ => bodyPost m c t) := by
  refine (pre_held m c t).trans ?_
  unfold held bodyAt0
  rw [Φat_first m c _ h]
  iintro ⟨HΦ, Ho, H0, H1, H2, H5, ⟨%d8, H8⟩, H9, HD⟩
  ihave HN := (ΦA_open c) $$ HΦ
  icases HN with ⟨HN, Hr⟩
  iapply (firstRun c _ _ _ _ _ _ _ _ _ _ _ _ _ _ _ _ _ _ _ _ _ _ _ _ _ _ _ _ _ _ _ _ (grid0.coords t) (by rw [coord1]; exact h)
    (iblk m c 0 t) (iblk m c 1 t) (iblk m c 2 t) (five m c t) _)
  isplitl [H0]; · iexact H0
  isplitl [H1]; · iexact H1
  isplitl [H2]; · iexact H2
  isplitl [H5]; · iexact H5
  isplitl [H8]; · iexists _; iexact H8
  isplitl [HD]; · iexact HD
  isplitl [HN]; · iexact HN
  iintro ⟨H0, H1, H2, H5, H8, HD, HN⟩
  iapply (held_post m c t)
  unfold held
  rw [Φat_else m c _ (by omega), leaves_9_else m c t (by omega), show (t.val + 1) / 4 = t.val / 4 by omega]
  unfold ΦN qV
  rw [lastQ_of t (by omega), nV_first m c t h]
  isplitl [HN Hr]
  · isplitl [HN]; · iexact HN
    iexact Hr
  isplitl [Ho]; · iexact Ho
  isplitl [H0]; · iexact H0
  isplitl [H1]; · iexact H1
  isplitl [H2]; · iexact H2
  isplitl [H5]; · iexact H5
  isplitl [H8]; · iexact H8
  isplitl [H9]; · iexact H9
  iexact HD

theorem sound_mid (c : Dev nD) (t : Fin cfg0.N) (h : 0 < t.val % 4 ∧ t.val % 4 < 3) :
    bodyPre m c t ⊢ wp frame (wpE (defs₀ (F := F)) Variants.none c none) Set.univ (bodyAt0 t) (fun _ => bodyPost m c t) := by
  refine (pre_held m c t).trans ?_
  unfold held bodyAt0
  rw [Φat_else m c _ (by omega)]
  unfold ΦN
  iintro ⟨⟨HN, Hr⟩, Ho, H0, H1, H2, H5, ⟨%d8, H8⟩, H9, HD⟩
  iapply (midRun c _ _ _ _ _ _ _ _ _ _ _ _ _ _ _ _ _ _ _ _ _ _ _ _ _ _ _ _ _ _ _ _ (grid0.coords t) (by rw [coord1]; exact h)
    (nV m c (t.val / 4)) (iblk m c 2 t) (five m c t) _)
  isplitl [H2]; · iexact H2
  isplitl [H5]; · iexact H5
  isplitl [H8]; · iexists _; iexact H8
  isplitl [HD]; · iexact HD
  isplitl [HN]; · iexact HN
  iintro ⟨H2, H5, H8, HD, HN⟩
  iapply (held_post m c t)
  unfold held
  rw [Φat_else m c _ (by omega), leaves_9_else m c t (by omega), show (t.val + 1) / 4 = t.val / 4 by omega]
  unfold ΦN qV
  rw [lastQ_of t (by omega)]
  isplitl [HN Hr]
  · isplitl [HN]; · iexact HN
    iexact Hr
  isplitl [Ho]; · iexact Ho
  isplitl [H0]; · iexact H0
  isplitl [H1]; · iexact H1
  isplitl [H2]; · iexact H2
  isplitl [H5]; · iexact H5
  isplitl [H8]; · iexact H8
  isplitl [H9]; · iexact H9
  iexact HD

theorem sound_last (c : Dev nD) (t : Fin cfg0.N) (h : t.val % 4 = 3) :
    bodyPre m c t ⊢ wp frame (wpE (defs₀ (F := F)) Variants.none c none) Set.univ (bodyAt0 t) (fun _ => bodyPost m c t) := by
  refine (pre_held m c t).trans ?_
  unfold held bodyAt0
  rw [Φat_else m c _ (by omega)]
  simp only [before_8_last m c t h]
  unfold ΦN
  iintro ⟨⟨HN, Hr⟩, Ho, H0, H1, H2, H5, ⟨%d8, H8⟩, ⟨%d9, H9⟩, HD⟩
  iapply (lastRun c _ _ _ _ _ _ _ _ _ _ _ _ _ _ _ _ _ _ _ _ _ _ _ _ _ _ _ _ _ _ _ _ (grid0.coords t) (by rw [coord1]; exact h)
    (nV m c (t.val / 4)) (iblk m c 2 t) (five m c t) _)
  isplitl [H2]; · iexact H2
  isplitl [H5]; · iexact H5
  isplitl [H9]; · iexists _; iexact H9
  isplitl [HD]; · iexact HD
  isplitl [HN]; · iexact HN
  iintro ⟨H2, H5, H9, HD, HN⟩
  iapply (held_post m c t)
  unfold held
  rw [Φat_first m c _ (by omega), leaves_9_last m c t h]
  isplitl [HN Hr]
  · iapply (ΦA_close c (nV m c (t.val / 4)))
    isplitl [HN]; · iexact HN
    iexact Hr
  isplitl [Ho]; · iexact Ho
  isplitl [H0]; · iexact H0
  isplitl [H1]; · iexact H1
  isplitl [H2]; · iexact H2
  isplitl [H5]; · iexact H5
  isplitl [H8]; · iexact H8
  isplitl [H9]; · iexact H9
  iexact HD

theorem sound_body (c : Dev nD) (t : Fin cfg0.N) :
    bodyPre m c t ⊢ wp frame (wpE (defs₀ (F := F)) Variants.none c none) Set.univ (bodyAt0 t) (fun _ => bodyPost m c t) := by
  by_cases h0 : t.val % 4 = 0
  · exact sound_first m c t h0
  by_cases h3 : t.val % 4 = 3
  · exact sound_last m c t h3
  exact sound_mid m c t (by omega)

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

end Cert.Proof.Inproj
-- ==== Proof.InprojRun.lean ====
/-
  The run of the input projection: every array ends at what the grid points leave in it, the arguments end as they were,
  and every counter ends at zero.
-/
module

public import proofs.«01_k».proof.Proof.InprojOblig
public import Idealize.ShloMosaic.Lib.Claim

@[expose] public section

noncomputable section

namespace Cert.Proof.Inproj

open Cert.Kernel4Ideal Cert.Kernel4Ideal.Gen
open Idealize.ShloMosaic
open Idealize.ShloMosaic.TcCoe Idealize.ShloMosaic.Tactic
open Idealize.SL Idealize.SL.RA Idealize.SL.BI
open Idealize.SL.BI.BIBase Idealize.SL.BI.Laws Idealize.SL.ProofMode Idealize.SL.Sem
open Idealize.ShloMosaic.Pipeline

variable {F : FTy → Type} [FloatOps F]

variable (m : (ℓ : Loc nD τ sig) → Buf (Elt F) ℓ) (ρ : Dev nD → PrngReg)

theorem Φ_in (c : Dev nD) : Pipeline.ΦA (cfgs (0 : Fin 1)).spec c ⊢ (dats m 0 c).Φ 0 := by
  have h : (dats m 0 c).Φ 0 = Pipeline.ΦA spec0 c := Φat_first m c 0 rfl
  rw [h]

theorem Φ_out (c : Dev nD) : (dats m 0 c).Φ (Fin.last cfg0.N) ⊢ Pipeline.ΦA (cfgs (0 : Fin 1)).spec c := by
  have h : (dats m 0 c).Φ (Fin.last cfg0.N) = Pipeline.ΦA spec0 c := Φat_first m c 64 rfl
  rw [h]

set_option backward.isDefEq.respectTransparency.types false in
set_option maxHeartbeats 800000 in
theorem run_main : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := Φ_in m) (hout := Φ_out m)

/-- The run's results, its arguments read as they were at launch. -/
theorem run : θ_run defs (onTc (τ := τ) (main (F := F))) ⟨m, fun _ => 0, ρ⟩ fun r =>
    (∀ c : Dev nD, (∀ w, r.2.mem ((c.tc : Thread nD τ).loc (Pipeline.arrRef spec0 w)) = (dats m 0 c).arrAt w cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
    ∧ r.2.sem = fun _ => 0 :=
  have h := run_main m ρ
  (θ_run defs _ _).mono (fun _ h => ⟨fun c => ⟨(h.1.1 c).1, h.2 c⟩, h.1.2⟩)
    (θ_run_and h (frame_of m ρ (dats m) (A_eq m) ((θ_run defs _ _).mono (fun _ h => h.1) h)))

end Cert.Proof.Inproj
-- ==== Proof.InprojValue.lean ====
/-
  The input projection's results are the reference's: the norm, the two column ranges of the product, and the five
  weights read element for element.
-/
module

public import proofs.«01_k».proof.Proof.InprojOblig
public import proofs.«01_k».proof.Proof.Gen.Reference4Ideal.Read
public import Idealize.ShloMosaic.Lib.Pipeline.ValueKit
public import Idealize.ShloMosaic.Lib.Pointwise

@[expose] public section

set_option maxRecDepth 16384

noncomputable section

namespace Cert.Proof.Inproj

open Cert.Kernel4Ideal Cert.Kernel4Ideal.Gen
open Idealize.ShloMosaic Idealize.ShloMosaic.Pipeline
open Idealize.ShloMosaic.TcCoe
open Cert.Reference4Ideal.Read

/-- One column of a normed row. -/
def norm (x g : Fin 2048 → EReal) (q : Fin 2048) : EReal :=
  x q * Ideal.rsqrt (Ideal.div (∑ k : Fin 2048, x k * x k) (Ideal.ofBits .f32 0x45000000#32) + Ideal.ofBits .f32 0x358637BD#32) * g q

/-! ## The computed vectors -/

theorem pay15_apply (x : S1024x2048.Idx → EReal) (g : S1x2048.Idx → EReal) (p : Fin 1024) (q : Fin 2048) :
    k0_pay15 (F := Ideal) x g (ix2 p q) = norm (fun k => x (ix2 p k)) (fun k => g (ix2 (0 : Fin 1) k)) q := by
  unfold norm
  pointwise [k0_pay15]

theorem pay3_apply (n : S1024x2048.Idx → EReal) (w : S2048x1024.Idx → EReal) (p q : Fin 1024) :
    k0_pay3 (F := Ideal) n w (ix2 p q) = ∑ k : Fin 2048, n (ix2 p k) * w (ix2 k q) := by
  pointwise [k0_pay3]

theorem pay9_apply (n : S1024x2048.Idx → EReal) (w : S2048x1024.Idx → EReal) (p q : Fin 1024) :
    k0_pay9 (F := Ideal) n w (ix2 p q) = ∑ k : Fin 2048, n (ix2 p k) * w (ix2 k q) := by
  pointwise [k0_pay9]

/-! ## The reference's stages -/

section
variable (x0 : S16384x2048.Idx → EReal) (x1 : S2048.Idx → EReal) (x2 : S2048x4096.Idx → EReal)

theorem ref_norm (r : Fin 16384) (q : Fin 2048) :
    val_main_v12 (F := Ideal) x0 x1 (ix2 r q) = norm (fun k => x0 (ix2 r k)) (fun k => x1 (ix1 k)) q := by
  unfold norm
  pointwise [val_main_v12, val_main_v11, val_main_v10, val_main_v9, val_main_v8, val_main_v7, val_main_v6, val_main_v5, val_main_v4,
    val_main_v3, val_main_v2, val_main_v1, val_main_v0, val_main_cst, val_main_cst_0, val_main_cst_1]

theorem ref_proj (r : Fin 16384) (q : Fin 4096) :
    val_main_v13 (F := Ideal) x0 x1 x2 (ix2 r q) = ∑ k : Fin 2048, norm (fun k => x0 (ix2 r k)) (fun k => x1 (ix1 k)) k * x2 (ix2 k q) := by
  simp only [← ref_norm]
  pointwise [val_main_v13]

theorem ref_qkv (r : Fin 16384) (q : Fin 3072) :
    val_main_v15 (F := Ideal) x0 x1 x2 (ix2 r q) = val_main_v13 (F := Ideal) x0 x1 x2 (ix2 r (⟨q.val, by omega⟩ : Fin 4096)) := by
  pointwise [val_main_v15, val_main_v14]

theorem ref_u (r : Fin 16384) (q : Fin 1024) :
    val_main_v16 (F := Ideal) x0 x1 x2 (ix2 r q) = val_main_v13 (F := Ideal) x0 x1 x2 (ix2 r (⟨3072 + q.val, by omega⟩ : Fin 4096)) := by
  pointwise [val_main_v16]
end

/-! ## The blocks -/

variable (m : (ℓ : Loc nD τ sig) → Buf (Elt Ideal) ℓ) (c : Dev nD)

/-- The arguments at launch. -/
abbrev aH : S16384x2048.Idx → EReal := m ((c.tc : Thread nD τ).loc main_arg0)
abbrev aG : S2048.Idx → EReal := m ((c.tc : Thread nD τ).loc main_arg1)
abbrev aW : S2048x4096.Idx → EReal := m ((c.tc : Thread nD τ).loc main_arg2)

theorem V_v0 : (V m c main_v0 : S2048x4096.Idx → EReal) = aW m c := by
  dsimp only [V, hostOps0]; after_results; rfl
theorem V_v1 (k : Fin 2048) : (V m c main_v1 : S1x2048.Idx → EReal) (ix2 (0 : Fin 1) k) = aG m c (ix1 k) := by
  dsimp only [V, hostOps0]; after_results; pointwise

theorem i_at (t : Fin cfg0.N) : (BitVec.ofNat 32 (cfg0.grid.coords t 0).val).toNat = t.val / 4 := by
  rw [show (cfg0.grid.coords t 0).val = t.val / 4 from coord0 t, BitVec.toNat_ofNat]; have := t.isLt; have h : cfg0.N = 64 := N_0; omega
theorem j_at (t : Fin cfg0.N) : (BitVec.ofNat 32 (cfg0.grid.coords t 1).val).toNat = t.val % 4 := by
  rw [show (cfg0.grid.coords t 1).val = t.val % 4 from coord1 t, BitVec.toNat_ofNat]; omega
theorem q_at : ∀ t : Fin cfg0.N, cc0_transform_8 (cfg0.grid.coords t) 1 = min (t.val % 4) 2 := by decide +kernel

/-- Row `p` of row block `I`. -/
abbrev row (I : ℕ) (hI : I < 16) (p : Fin 1024) : Fin 16384 := ⟨1024 * I + p.val, by omega⟩
theorem lt_16 (t : Fin cfg0.N) : t.val / 4 < 16 := by have := t.isLt; have h : cfg0.N = 64 := N_0; omega
/-- Column `q` of the columns at point `t`. -/
abbrev col (t : Fin cfg0.N) (q : Fin 1024) : Fin 4096 := ⟨1024 * (t.val % 4) + q.val, by omega⟩

theorem blk_h (t : Fin cfg0.N) (p : Fin 1024) (k : Fin 2048) :
    (iblk m c 0 t : S1024x2048.Idx → EReal) (ix2 p k) = aH m c (ix2 (row (t.val / 4) (lt_16 t) p) k) := by
  rw [show aH m c = V m c main_arg0 from (V_main_arg0 m c).symm]
  show V m c main_arg0 _ = V m c main_arg0 _
  refine congrArg (V m c main_arg0) (funext fun a => ?_)
  have h := i_at t
  fin_cases a <;> refine Fin.ext ?_
  · show (BitVec.ofNat 32 (cfg0.grid.coords t 0).val).toNat * 1024 + 1 * p.val = 1024 * (t.val / 4) + p.val
    rw [h]; omega
  · show 0 * 2048 + 1 * k.val = k.val; omega

theorem blk_g (t : Fin cfg0.N) (k : Fin 2048) : (iblk m c 1 t : S1x2048.Idx → EReal) (ix2 (0 : Fin 1) k) = aG m c (ix1 k) := by
  rw [← V_v1]
  show V m c main_v1 _ = V m c main_v1 _
  refine congrArg (V m c main_v1) (funext fun a => ?_)
  fin_cases a <;> refine Fin.ext ?_
  · show 0 * 1 + 1 * 0 = 0; omega
  · show 0 * 2048 + 1 * k.val = k.val; omega

theorem blk_w (t : Fin cfg0.N) (k : Fin 2048) (q : Fin 1024) :
    (iblk m c 2 t : S2048x1024.Idx → EReal) (ix2 k q) = aW m c (ix2 k (col t q)) := by
  rw [← V_v0]
  show V m c main_v0 _ = V m c main_v0 _
  refine congrArg (V m c main_v0) (funext fun a => ?_)
  have h := j_at t
  fin_cases a <;> refine Fin.ext ?_
  · show 0 * 2048 + 1 * k.val = k.val; omega
  · show (BitVec.ofNat 32 (cfg0.grid.coords t 1).val).toNat * 1024 + 1 * q.val = 1024 * (t.val % 4) + q.val
    rw [h]; omega

/-- The normalised rows the scratch holds are the reference's. -/
theorem nV_apply (I : ℕ) (hI : I < 16) (p : Fin 1024) (k : Fin 2048) :
    nV m c I (ix2 p k) = norm (fun k => aH m c (ix2 (row I hI p) k)) (fun k => aG m c (ix1 k)) k := by
  have hr : (row ((tk (4 * I)).val / 4) (lt_16 _) p) = row I hI p :=
    Fin.ext (by show 1024 * ((4 * I) % 64 / 4) + p.val = 1024 * I + p.val; omega)
  refine (pay15_apply (iblk m c 0 (tk (4 * I))) (iblk m c 1 (tk (4 * I))) p k).trans ?_
  simp only [blk_h, blk_g, hr]

/-- A product of the scratch's rows and one point's columns. -/
theorem prod_apply (I : ℕ) (hI : I < 16) (t : Fin cfg0.N) (p q : Fin 1024) :
    (∑ k : Fin 2048, nV m c I (ix2 p k) * (iblk m c 2 t : S2048x1024.Idx → EReal) (ix2 k q) : EReal)
      = val_main_v13 (F := Ideal) (aH m c) (aG m c) (aW m c) (ix2 (row I hI p) (col t q)) := by
  rw [ref_proj]
  simp only [nV_apply m c I hI, blk_w]

/-! ## The results -/

abbrev refQkv : S16384x3072.Idx → EReal := val_main_v15 (F := Ideal) (aH m c) (aG m c) (aW m c)
abbrev refU : S16384x1024.Idx → EReal := val_main_v16 (F := Ideal) (aH m c) (aG m c) (aW m c)

theorem lastQ_mod (t : Fin cfg0.N) : (lastQ t).val % 4 = min (t.val % 4) 2 := by
  have := t.isLt; have h : cfg0.N = 64 := N_0
  show (min t.val (4 * (t.val / 4) + 2)) % 64 % 4 = _
  omega

theorem arr_qkv : (dats m 0 c).arrAt 8 cfg0.N = refQkv m c := by
  refine (dats m 0 c).arrAt_eq_of_covers 8 _ (by decide +kernel) fun t hf y => ?_
  blk_simp
  rw [after_8]
  obtain ⟨p, q, rfl⟩ : ∃ (p : Fin 1024) (q : Fin 1024), y = ix2 p q := ⟨y 0, y 1, funext fun a => by fin_cases a <;> rfl⟩
  have hm := lastQ_mod t
  refine (pay3_apply (nV m c (t.val / 4)) (iblk m c 2 (lastQ t)) p q).trans ((prod_apply m c _ (lt_16 t) (lastQ t) p q).trans ?_)
  refine Eq.trans ?_ ((ref_qkv (aH m c) (aG m c) (aW m c) (row _ (lt_16 t) p) (⟨1024 * min (t.val % 4) 2 + q.val, by omega⟩ : Fin 3072)).symm.trans ?_)
  · exact congrArg (fun j => val_main_v13 (F := Ideal) (aH m c) (aG m c) (aW m c) (ix2 _ j)) (Fin.ext (by show 1024 * ((lastQ t).val % 4) + q.val = _; rw [hm]))
  · show refQkv m c _ = refQkv m c _
    refine congrArg (refQkv m c) (funext fun a => ?_)
    have h := i_at t
    have h' := q_at t
    fin_cases a <;> refine Fin.ext ?_
    · show 1024 * (t.val / 4) + p.val = (BitVec.ofNat 32 (cfg0.grid.coords t 0).val).toNat * 1024 + 1 * p.val
      rw [h]; omega
    · show 1024 * min (t.val % 4) 2 + q.val = cc0_transform_8 (cfg0.grid.coords t) 1 * 1024 + 1 * q.val
      rw [h']; omega

theorem arr_u : (dats m 0 c).arrAt 9 cfg0.N = refU m c := by
  refine (dats m 0 c).arrAt_eq_of_covers 9 _ (by decide +kernel) fun t hf y => ?_
  blk_simp
  rw [after_9]
  obtain ⟨p, q, rfl⟩ : ∃ (p : Fin 1024) (q : Fin 1024), y = ix2 p q := ⟨y 0, y 1, funext fun a => by fin_cases a <;> rfl⟩
  have h3 : t.val % 4 = 3 := of_decide_eq_true ((flush_9 t).symm.trans hf)
  refine (pay9_apply (nV m c (t.val / 4)) (iblk m c 2 t) p q).trans ((prod_apply m c _ (lt_16 t) t p q).trans ?_)
  refine Eq.trans ?_ ((ref_u (aH m c) (aG m c) (aW m c) (row _ (lt_16 t) p) q).symm.trans ?_)
  · exact congrArg (fun j => val_main_v13 (F := Ideal) (aH m c) (aG m c) (aW m c) (ix2 _ j)) (Fin.ext (by show 1024 * (t.val % 4) + q.val = 3072 + q.val; rw [h3]))
  · show refU m c _ = refU m c _
    refine congrArg (refU m c) (funext fun a => ?_)
    have h := i_at t
    fin_cases a <;> refine Fin.ext ?_
    · show 1024 * (t.val / 4) + p.val = (BitVec.ofNat 32 (cfg0.grid.coords t 0).val).toNat * 1024 + 1 * p.val
      rw [h]; omega
    · show q.val = 0 * 1024 + 1 * q.val; omega

/-! The five weights, read element for element. -/

theorem arr_glu : (dats m 0 c).arrAt 10 cfg0.N = V m c main_arg3 := by
  refine (dats m 0 c).arrAt_eq_of_covers 10 _ (by decide +kernel) fun t hf y => ?_
  rfl
theorem arr_out : (dats m 0 c).arrAt 11 cfg0.N = V m c main_arg4 := by
  refine (dats m 0 c).arrAt_eq_of_covers 11 _ (by decide +kernel) fun t hf y => ?_
  rfl
theorem arr_gate : (dats m 0 c).arrAt 12 cfg0.N = V m c main_arg5 := by
  refine (dats m 0 c).arrAt_eq_of_covers 12 _ (by decide +kernel) fun t hf y => ?_
  rfl
theorem arr_up : (dats m 0 c).arrAt 13 cfg0.N = V m c main_arg6 := by
  refine (dats m 0 c).arrAt_eq_of_covers 13 _ (by decide +kernel) fun t hf y => ?_
  rfl
theorem arr_down : (dats m 0 c).arrAt 14 cfg0.N = V m c main_arg7 := by
  refine (dats m 0 c).arrAt_eq_of_covers 14 _ (by decide +kernel) fun t hf y => ?_
  rfl

end Cert.Proof.Inproj
-- ==== Proof.PostPayload.lean ====
/-
  The output projection's computed vectors at the extended reals, each read at one element.
-/
module

public import proofs.«01_k».proof.Proof.Gen.Kernel3Ideal.Skeleton
public import proofs.«01_k».proof.Proof.Payload
public import Idealize.ShloMosaic.Lib.Pointwise

@[expose] public section

set_option maxRecDepth 16384

noncomputable section

namespace Cert.Proof.Post

open Cert.Kernel3Ideal Cert.Kernel3Ideal.Gen
open Idealize.ShloMosaic
open Cert.Proof.Ffn (half eps)

/-- The number of columns of one half of the mixer. -/
abbrev cols : EReal := Ideal.ofBits .f32 0x44800000#32
abbrev one : EReal := Ideal.ofBits .f32 0x3F800000#32

/-- The gelu in its form with a hyperbolic tangent. -/
def gelu (x : EReal) : EReal :=
  x * (half * (one + Ideal.tanh (Ideal.ofBits .f32 0x3F4C422A#32 * (x + Ideal.ofBits .f32 0x3D372713#32 * (x * (x * x))))))

/-- One column of the gated state-space half, from its row. -/
def gated (x : Fin 1024 → EReal) (w : Fin 1024 → Fin 1024 → EReal) (b : Fin 1024 → EReal) (q : Fin 1024) : EReal :=
  gelu (x q) * Ideal.logistic ((∑ k : Fin 1024, gelu (x k) * w k q) + b q)

/-- One column of a normed row. -/
def norm (x g : Fin 1024 → EReal) (q : Fin 1024) : EReal :=
  x q * Ideal.rsqrt (Ideal.div (∑ k : Fin 1024, x k * x k) cols + eps) * g q

theorem pay2_apply (yc : S512x1024.Idx → EReal) (d : S1x1024.Idx → EReal) (u : S512x1024.Idx → EReal) (w : S1024x1024.Idx → EReal)
    (b : S1x1024.Idx → EReal) (p : Fin 512) (q : Fin 1024) :
    k0_pay2 (F := Ideal) yc d u w b (ix2 p q)
      = gated (fun k => yc (ix2 p k) + d (ix2 (0 : Fin 1) k) * u (ix2 p k)) (fun k q => w (ix2 k q)) (fun q => b (ix2 (0 : Fin 1) q)) q := by
  unfold gated gelu
  pointwise [k0_pay2]

theorem pay4_apply (yc : S512x1024.Idx → EReal) (d : S1x1024.Idx → EReal) (u : S512x1024.Idx → EReal) (w : S1024x1024.Idx → EReal)
    (b : S1x1024.Idx → EReal) (p : Fin 512) :
    k0_pay4 (F := Ideal) yc d u w b (ix2 p (0 : Fin 1))
      = Ideal.div (∑ k : Fin 1024, k0_pay2 (F := Ideal) yc d u w b (ix2 p k) * k0_pay2 (F := Ideal) yc d u w b (ix2 p k)) cols + eps := by
  pointwise [k0_pay4]

theorem pay1_apply (y : S512x1024.Idx → EReal) (gs : S1x1024.Idx → EReal) (s : S512x1.Idx → EReal) (att : S512x1024.Idx → EReal)
    (ga : S1x1024.Idx → EReal) (h : S512x2048.Idx → EReal) (w w' : S1024x2048.Idx → EReal) (p : Fin 512) (q : Fin 2048) :
    k0_pay1 (F := Ideal) y gs s att ga h w w' (ix2 p q)
      = h (ix2 p q) + (∑ k : Fin 1024, y (ix2 p k) * Ideal.rsqrt (s (ix2 p (0 : Fin 1))) * gs (ix2 (0 : Fin 1) k) * w (ix2 k q))
        + ∑ k : Fin 1024, norm (fun k => att (ix2 p k)) (fun k => ga (ix2 (0 : Fin 1) k)) k * w' (ix2 k q) := by
  unfold norm
  pointwise [k0_pay1]

end Cert.Proof.Post
-- ==== Proof.PostReference.lean ====
/-
  The output projection's reference at the extended reals, each stage read at one element.
-/
module

public import proofs.«01_k».proof.Proof.Gen.Reference3Ideal.Read
public import Idealize.ShloMosaic.Lib.Pointwise
public import proofs.«01_k».proof.Proof.PostPayload

@[expose] public section

set_option maxRecDepth 16384

noncomputable section

namespace Cert.Proof.Post

open Cert.Reference3Ideal Cert.Reference3Ideal.Read
open Idealize.ShloMosaic
open Cert.Proof.Ffn (half eps)

variable (x0 x1 x2 : S16384x1024.Idx → Elt Ideal .f32) (x3 : S16384x2048.Idx → Elt Ideal .f32) (x4 : S64x16.Idx → Elt Ideal .f32)
  (x5 : S1024x1024.Idx → Elt Ideal .f32) (x6 x7 x8 : S1024.Idx → Elt Ideal .f32) (x9 : S2048x2048.Idx → Elt Ideal .f32)

/-- Column `q` of the state-space half is channel `q % 16` of group `q / 16`. -/
abbrev chan (q : Fin 1024) : S64x16.Idx := ix2 (⟨q.val / 16, by omega⟩ : Fin 64) (⟨q.val % 16, Nat.mod_lt _ (by decide)⟩ : Fin 16)

theorem ref_gelu (r : Fin 16384) (q : Fin 1024) :
    val_main_v19 (F := Ideal) x0 x1 x4 (ix2 r q) = gelu (x0 (ix2 r q) + x4 (chan q) * x1 (ix2 r q)) := by
  unfold gelu
  pointwise [val_main_v19, val_main_v18, val_main_v17, val_main_v16, val_main_v15, val_main_v14, val_main_v13, val_main_v12, val_main_v11,
    val_main_v10, val_main_v9, val_main_v8, val_main_v7, val_main_v6, val_main_v5, val_main_v4, val_main_v3, val_main_v2, val_main_v1, val_main_v0,
    val_main_cst, val_main_cst_0, val_main_cst_1, val_main_cst_2]
  rw [mul_assoc]

theorem ref_gated (r : Fin 16384) (q : Fin 1024) :
    val_main_v30 (F := Ideal) x0 x1 x4 x5 x6 (ix2 r q)
      = gated (fun k => x0 (ix2 r k) + x4 (chan k) * x1 (ix2 r k)) (fun k q => x5 (ix2 k q)) (fun q => x6 (ix1 q)) q := by
  unfold gated
  pointwise [val_main_v30, val_main_v29, val_main_v28, val_main_v27, val_main_v26, val_main_v25, val_main_v24, val_main_v23, val_main_v22,
    val_main_v21, val_main_v20, val_main_cst_3, val_main_cst_4]
  simp only [ref_gelu]
  rfl

theorem ref_ssm (r : Fin 16384) (q : Fin 1024) :
    val_main_v43 (F := Ideal) x0 x1 x4 x5 x6 x7 (ix2 r q)
      = norm (fun k => val_main_v30 (F := Ideal) x0 x1 x4 x5 x6 (ix2 r k)) (fun k => x7 (ix1 k)) q := by
  unfold norm
  pointwise [val_main_v43, val_main_v42, val_main_v41, val_main_v40, val_main_v39, val_main_v38, val_main_v37, val_main_v36, val_main_v35,
    val_main_v34, val_main_v33, val_main_v32, val_main_v31, val_main_cst_5, val_main_cst_6, val_main_cst_7]

theorem ref_att (r : Fin 16384) (q : Fin 1024) :
    val_main_v56 (F := Ideal) x2 x8 (ix2 r q) = norm (fun k => x2 (ix2 r k)) (fun k => x8 (ix1 k)) q := by
  unfold norm
  pointwise [val_main_v56, val_main_v55, val_main_v54, val_main_v53, val_main_v52, val_main_v51, val_main_v50, val_main_v49, val_main_v48,
    val_main_v47, val_main_v46, val_main_v45, val_main_v44, val_main_cst_8, val_main_cst_9, val_main_cst_10]

theorem ref_out (r : Fin 16384) (q : Fin 2048) :
    val_main_v59 (F := Ideal) x0 x1 x2 x3 x4 x5 x6 x7 x8 x9 (ix2 r q)
      = x3 (ix2 r q) + ∑ k : Fin 2048, val_main_v57 (F := Ideal) x0 x1 x2 x4 x5 x6 x7 x8 (ix2 r k) * x9 (ix2 k q) := by
  pointwise [val_main_v59, val_main_v58]

/-- The first 1024 columns of the joined rows are the state-space half, -/
theorem ref_left (r : Fin 16384) (k : Fin 1024) :
    val_main_v57 (F := Ideal) x0 x1 x2 x4 x5 x6 x7 x8 (ix2 r (⟨k.val, by omega⟩ : Fin 2048)) = val_main_v43 (F := Ideal) x0 x1 x4 x5 x6 x7 (ix2 r k) := by
  pointwise [val_main_v57]

/-- the others the attention half. -/
theorem ref_right (r : Fin 16384) (k : Fin 1024) :
    val_main_v57 (F := Ideal) x0 x1 x2 x4 x5 x6 x7 x8 (ix2 r (⟨1024 + k.val, by omega⟩ : Fin 2048)) = val_main_v56 (F := Ideal) x2 x8 (ix2 r k) := by
  pointwise [val_main_v57]

end Cert.Proof.Post
-- ==== Proof.PostValue.lean ====
/-
  The output projection's result is the reference's: each grid point's 512 rows, with the product of the joined halves added as
  two products, one per half of the weight's rows.
-/
module

public import proofs.«01_k».proof.Proof.Gen.Kernel3Ideal.Frame
public import proofs.«01_k».proof.Proof.PostPayload
public import proofs.«01_k».proof.Proof.PostReference
public import Idealize.ShloMosaic.Lib.Pipeline.ValueKit
public import Idealize.ShloMosaic.Lib.Pointwise

@[expose] public section

set_option maxRecDepth 16384

noncomputable section

namespace Cert.Proof.Post

open Cert.Kernel3Ideal Cert.Kernel3Ideal.Gen
open Idealize.ShloMosaic Idealize.ShloMosaic.Pipeline
open Cert.Proof.Ffn (half eps)
open Idealize.ShloMosaic.TcCoe
open Cert.Reference3Ideal.Read (val_main_v30 val_main_v43 val_main_v56 val_main_v57 val_main_v59)

variable (m : (ℓ : Loc nD τ sig) → Buf (Elt Ideal) ℓ) (c : Dev nD)

/-- The arguments at launch. -/
abbrev aYc : S16384x1024.Idx → EReal := m ((c.tc : Thread nD τ).loc main_arg0)
abbrev aU : S16384x1024.Idx → EReal := m ((c.tc : Thread nD τ).loc main_arg1)
abbrev aAtt : S16384x1024.Idx → EReal := m ((c.tc : Thread nD τ).loc main_arg2)
abbrev aH : S16384x2048.Idx → EReal := m ((c.tc : Thread nD τ).loc main_arg3)
abbrev aD : S64x16.Idx → EReal := m ((c.tc : Thread nD τ).loc main_arg4)
abbrev aWg : S1024x1024.Idx → EReal := m ((c.tc : Thread nD τ).loc main_arg5)
abbrev aB : S1024.Idx → EReal := m ((c.tc : Thread nD τ).loc main_arg6)
abbrev aGs : S1024.Idx → EReal := m ((c.tc : Thread nD τ).loc main_arg7)
abbrev aGa : S1024.Idx → EReal := m ((c.tc : Thread nD τ).loc main_arg8)
abbrev aW : S2048x2048.Idx → EReal := m ((c.tc : Thread nD τ).loc main_arg9)

theorem V_v0 : (V m c main_v0 : S16384x1024.Idx → EReal) = aAtt m c := by
  dsimp only [V, hostOps0]; after_results; rfl
theorem V_v1 : (V m c main_v1 : S1024x1024.Idx → EReal) = aWg m c := by
  dsimp only [V, hostOps0]; after_results; rfl
theorem V_v2 : (V m c main_v2 : S2048x2048.Idx → EReal) = aW m c := by
  dsimp only [V, hostOps0]; after_results; rfl
theorem V_v3 (k : Fin 1024) : (V m c main_v3 : S1x1024.Idx → EReal) (ix2 (0 : Fin 1) k) = aD m c (chan k) := by
  dsimp only [V, hostOps0]; after_results; pointwise
theorem V_v4 (k : Fin 1024) : (V m c main_v4 : S1x1024.Idx → EReal) (ix2 (0 : Fin 1) k) = aB m c (ix1 k) := by
  dsimp only [V, hostOps0]; after_results; pointwise
theorem V_v5 (k : Fin 1024) : (V m c main_v5 : S1x1024.Idx → EReal) (ix2 (0 : Fin 1) k) = aGs m c (ix1 k) := by
  dsimp only [V, hostOps0]; after_results; pointwise
theorem V_v6 (k : Fin 1024) : (V m c main_v6 : S1x1024.Idx → EReal) (ix2 (0 : Fin 1) k) = aGa m c (ix1 k) := by
  dsimp only [V, hostOps0]; after_results; pointwise

/-- Row `p` of grid point `t`'s rows. -/
abbrev row (t : Fin cfg0.N) (p : Fin 512) : Fin 16384 := ⟨512 * t.val + p.val, by have := t.isLt; have h : cfg0.N = 32 := N_0; omega⟩

theorem point : ∀ t : Fin cfg0.N, (cfg0.grid.coords t 0).val = t.val := by decide +kernel
theorem at_row (t : Fin cfg0.N) : (BitVec.ofNat 32 (cfg0.grid.coords t 0).val).toNat = t.val := by
  rw [point, BitVec.toNat_ofNat]; have := t.isLt; have h : cfg0.N = 32 := N_0; omega

theorem blk_yc (t : Fin cfg0.N) (p : Fin 512) (k : Fin 1024) :
    (iblk m c 0 t : S512x1024.Idx → EReal) (ix2 p k) = aYc m c (ix2 (row t p) k) := by
  rw [show aYc m c = V m c main_arg0 from (V_main_arg0 m c).symm]
  show V m c main_arg0 _ = V m c main_arg0 _
  refine congrArg (V m c main_arg0) (funext fun a => ?_)
  have h := at_row t
  fin_cases a <;> refine Fin.ext ?_
  · show (BitVec.ofNat 32 (cfg0.grid.coords t 0).val).toNat * 512 + 1 * p.val = 512 * t.val + p.val
    rw [h]; omega
  · show 0 * 1024 + 1 * k.val = k.val; omega

theorem blk_u (t : Fin cfg0.N) (p : Fin 512) (k : Fin 1024) :
    (iblk m c 1 t : S512x1024.Idx → EReal) (ix2 p k) = aU m c (ix2 (row t p) k) := by
  rw [show aU m c = V m c main_arg1 from (V_main_arg1 m c).symm]
  show V m c main_arg1 _ = V m c main_arg1 _
  refine congrArg (V m c main_arg1) (funext fun a => ?_)
  have h := at_row t
  fin_cases a <;> refine Fin.ext ?_
  · show (BitVec.ofNat 32 (cfg0.grid.coords t 0).val).toNat * 512 + 1 * p.val = 512 * t.val + p.val
    rw [h]; omega
  · show 0 * 1024 + 1 * k.val = k.val; omega

theorem blk_att (t : Fin cfg0.N) (p : Fin 512) (k : Fin 1024) :
    (iblk m c 2 t : S512x1024.Idx → EReal) (ix2 p k) = aAtt m c (ix2 (row t p) k) := by
  rw [← V_v0]
  show V m c main_v0 _ = V m c main_v0 _
  refine congrArg (V m c main_v0) (funext fun a => ?_)
  have h := at_row t
  fin_cases a <;> refine Fin.ext ?_
  · show (BitVec.ofNat 32 (cfg0.grid.coords t 0).val).toNat * 512 + 1 * p.val = 512 * t.val + p.val
    rw [h]; omega
  · show 0 * 1024 + 1 * k.val = k.val; omega

theorem blk_h (t : Fin cfg0.N) (p : Fin 512) (k : Fin 2048) :
    (iblk m c 3 t : S512x2048.Idx → EReal) (ix2 p k) = aH m c (ix2 (row t p) k) := by
  rw [show aH m c = V m c main_arg3 from (V_main_arg3 m c).symm]
  show V m c main_arg3 _ = V m c main_arg3 _
  refine congrArg (V m c main_arg3) (funext fun a => ?_)
  have h := at_row t
  fin_cases a <;> refine Fin.ext ?_
  · show (BitVec.ofNat 32 (cfg0.grid.coords t 0).val).toNat * 512 + 1 * p.val = 512 * t.val + p.val
    rw [h]; omega
  · show 0 * 2048 + 1 * k.val = k.val; omega

theorem blk_d (t : Fin cfg0.N) (k : Fin 1024) : (iblk m c 4 t : S1x1024.Idx → EReal) (ix2 (0 : Fin 1) k) = aD m c (chan k) := by
  rw [← V_v3]
  show V m c main_v3 _ = V m c main_v3 _
  refine congrArg (V m c main_v3) (funext fun a => ?_)
  fin_cases a <;> refine Fin.ext ?_
  · show 0 * 1 + 1 * 0 = 0; omega
  · show 0 * 1024 + 1 * k.val = k.val; omega

theorem blk_b (t : Fin cfg0.N) (k : Fin 1024) : (iblk m c 6 t : S1x1024.Idx → EReal) (ix2 (0 : Fin 1) k) = aB m c (ix1 k) := by
  rw [← V_v4]
  show V m c main_v4 _ = V m c main_v4 _
  refine congrArg (V m c main_v4) (funext fun a => ?_)
  fin_cases a <;> refine Fin.ext ?_
  · show 0 * 1 + 1 * 0 = 0; omega
  · show 0 * 1024 + 1 * k.val = k.val; omega

theorem blk_gs (t : Fin cfg0.N) (k : Fin 1024) : (iblk m c 7 t : S1x1024.Idx → EReal) (ix2 (0 : Fin 1) k) = aGs m c (ix1 k) := by
  rw [← V_v5]
  show V m c main_v5 _ = V m c main_v5 _
  refine congrArg (V m c main_v5) (funext fun a => ?_)
  fin_cases a <;> refine Fin.ext ?_
  · show 0 * 1 + 1 * 0 = 0; omega
  · show 0 * 1024 + 1 * k.val = k.val; omega

theorem blk_ga (t : Fin cfg0.N) (k : Fin 1024) : (iblk m c 8 t : S1x1024.Idx → EReal) (ix2 (0 : Fin 1) k) = aGa m c (ix1 k) := by
  rw [← V_v6]
  show V m c main_v6 _ = V m c main_v6 _
  refine congrArg (V m c main_v6) (funext fun a => ?_)
  fin_cases a <;> refine Fin.ext ?_
  · show 0 * 1 + 1 * 0 = 0; omega
  · show 0 * 1024 + 1 * k.val = k.val; omega

theorem blk_wg (t : Fin cfg0.N) (k q : Fin 1024) : (iblk m c 5 t : S1024x1024.Idx → EReal) (ix2 k q) = aWg m c (ix2 k q) := by
  rw [← V_v1]
  show V m c main_v1 _ = V m c main_v1 _
  refine congrArg (V m c main_v1) (funext fun a => ?_)
  fin_cases a <;> refine Fin.ext ?_
  · show 0 * 1024 + 1 * k.val = k.val; omega
  · show 0 * 1024 + 1 * q.val = q.val; omega

theorem blk_w (t : Fin cfg0.N) (k q : Fin 2048) : (iblk m c 9 t : S2048x2048.Idx → EReal) (ix2 k q) = aW m c (ix2 k q) := by
  rw [← V_v2]
  show V m c main_v2 _ = V m c main_v2 _
  refine congrArg (V m c main_v2) (funext fun a => ?_)
  fin_cases a <;> refine Fin.ext ?_
  · show 0 * 2048 + 1 * k.val = k.val; omega
  · show 0 * 2048 + 1 * q.val = q.val; omega

/-- A sum over the joined columns is the sum over the one half and the sum over the other. -/
theorem sum_joined (f : Fin 2048 → EReal) :
    ∑ k : Fin 2048, f k = ∑ k : Fin 1024, f ⟨k.val, by omega⟩ + ∑ k : Fin 1024, f ⟨1024 + k.val, by omega⟩ :=
  Fin.sum_univ_add (a := 1024) (b := 1024) f

/-- The reference's result, of the arguments at launch. -/
abbrev refOut : S16384x2048.Idx → EReal :=
  val_main_v59 (F := Ideal) (aYc m c) (aU m c) (aAtt m c) (aH m c) (aD m c) (aWg m c) (aB m c) (aGs m c) (aGa m c) (aW m c)

/-- What the body leaves, its loads and its store read. -/
theorem out_open (x0 x1 : Vec Ideal S512x1024 .f32) (x2 : Vec Ideal S512x1024 .bf16) (x3 : Vec Ideal S512x2048 .f32) (x4 : Vec Ideal S1x1024 .f32)
    (x5 : Vec Ideal S1024x1024 .bf16) (x6 x7 x8 : Vec Ideal S1x1024 .f32) (x9 : Vec Ideal S2048x2048 .bf16) :
    out0_10 (F := Ideal) x0 x1 x2 x3 x4 x5 x6 x7 x8 x9
      = k0_pay1 (F := Ideal) (k0_pay2 (F := Ideal) x0 x4 x1 x5 x6) (k0_pay3 (F := Ideal) x7) (k0_pay4 (F := Ideal) x0 x4 x1 x5 x6) x2 x8 x3
        (View.ld x9 r0_4) (View.ld x9 r0_5) := by
  unfold out0_10
  frame_out

theorem ld_top (X : Vec Ideal S2048x2048 .bf16) (k : Fin 1024) (q : Fin 2048) :
    (View.ld X r0_4 : Vec Ideal S1024x2048 .bf16) (ix2 k q) = X (ix2 (⟨k.val, by omega⟩ : Fin 2048) q) := by
  show X _ = X _
  refine congrArg X (funext fun a => ?_)
  fin_cases a <;> refine Fin.ext ?_
  · show 0 + 1 * k.val = k.val; omega
  · show 0 + 1 * q.val = q.val; omega

theorem ld_low (X : Vec Ideal S2048x2048 .bf16) (k : Fin 1024) (q : Fin 2048) :
    (View.ld X r0_5 : Vec Ideal S1024x2048 .bf16) (ix2 k q) = X (ix2 (⟨1024 + k.val, by omega⟩ : Fin 2048) q) := by
  show X _ = X _
  refine congrArg X (funext fun a => ?_)
  fin_cases a <;> refine Fin.ext ?_
  · show 1024 + 1 * k.val = 1024 + k.val; omega
  · show 0 + 1 * q.val = q.val; omega

/-- The gated half of the kernel is the reference's. -/
theorem gated_eq (t : Fin cfg0.N) (p : Fin 512) (q : Fin 1024) :
    k0_pay2 (F := Ideal) (iblk m c 0 t) (iblk m c 4 t) (iblk m c 1 t) (iblk m c 5 t) (iblk m c 6 t) (ix2 p q)
      = val_main_v30 (F := Ideal) (aYc m c) (aU m c) (aD m c) (aWg m c) (aB m c) (ix2 (row t p) q) := by
  refine (pay2_apply (iblk m c 0 t) (iblk m c 4 t) (iblk m c 1 t) (iblk m c 5 t) (iblk m c 6 t) p q).trans ?_
  rw [ref_gated]
  simp only [blk_yc, blk_u, blk_d, blk_wg, blk_b]

theorem out_apply (t : Fin cfg0.N) (p : Fin 512) (q : Fin 2048) :
    (out0_10 (F := Ideal) (iblk m c 0 t) (iblk m c 1 t) (iblk m c 2 t) (iblk m c 3 t) (iblk m c 4 t) (iblk m c 5 t) (iblk m c 6 t)
      (iblk m c 7 t) (iblk m c 8 t) (iblk m c 9 t) : S512x2048.Idx → EReal) (ix2 p q) = refOut m c (ix2 (row t p) q) := by
  rw [out_open]
  refine (pay1_apply _ _ _ (iblk m c 2 t) (iblk m c 8 t) (iblk m c 3 t) _ _ p q).trans ?_
  refine Eq.trans ?_ (ref_out _ _ _ _ _ _ _ _ _ _ _ _).symm
  rw [sum_joined, ← add_assoc]
  refine congrArg₂ (· + ·) (congrArg₂ (· + ·) (blk_h m c t p q) (Finset.sum_congr rfl fun k _ => ?_)) (Finset.sum_congr rfl fun k _ => ?_)
  · rw [ref_left, ref_ssm, ld_top, blk_w]
    refine congrArg (· * _) ?_
    unfold norm
    have hs := pay4_apply (iblk m c 0 t) (iblk m c 4 t) (iblk m c 1 t) (iblk m c 5 t) (iblk m c 6 t) p
    have hg : k0_pay3 (F := Ideal) (iblk m c 7 t) (ix2 (0 : Fin 1) k) = aGs m c (ix1 k) := by
      refine Eq.trans ?_ (blk_gs m c t k)
      unfold k0_pay3
      pointwise
    rw [hs, hg]
    simp only [gated_eq]
  · rw [ref_right, ref_att, ld_low, blk_w]
    refine congrArg (· * _) ?_
    simp only [blk_att, blk_ga]

/-- The array after the run is the reference's result. -/
theorem arr_out : (dats m 0 c).arrAt 10 cfg0.N = refOut m c := by
  refine (dats m 0 c).arrAt_eq_of_covers 10 _ (by decide +kernel) fun t hf y => ?_
  blk_simp
  rw [after0_10]
  obtain ⟨p, q, rfl⟩ : ∃ (p : Fin 512) (q : Fin 2048), y = ix2 p q := ⟨y 0, y 1, funext fun a => by fin_cases a <;> rfl⟩
  refine (out_apply m c t p q).trans ?_
  show refOut m c _ = refOut m c _
  refine congrArg (refOut m c) (funext fun a => ?_)
  have h := at_row t
  fin_cases a <;> refine Fin.ext ?_
  · show 512 * t.val + p.val = (BitVec.ofNat 32 (cfg0.grid.coords t 0).val).toNat * 512 + 1 * p.val
    rw [h]; omega
  · show q.val = 0 * 2048 + 1 * q.val; omega

end Cert.Proof.Post
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Reference4Ideal.Read
public import proofs.«01_k».proof.Proof.Value
public import proofs.«01_k».proof.Proof.Same
public import proofs.«01_k».proof.Proof.Value2
public import proofs.«01_k».proof.Proof.Same2
public import proofs.«01_k».proof.Proof.InprojSame
public import proofs.«01_k».proof.Proof.InprojRun
public import proofs.«01_k».proof.Proof.InprojValue
public import proofs.«01_k».proof.Proof.PostValue
public import Idealize.ShloMosaic.Adequacy
public import Idealize.ShloMosaic.Init

@[expose] public section

noncomputable section

namespace Cert.Proof

open Idealize.ShloMosaic Idealize.SL.Sem Cert.Kernel

/-- The run, its arguments read as they were at launch: what every claim about the kernel takes of it. -/
theorem kernel_run {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run Cert.KernelIdeal.defs (onTc (τ := Cert.KernelIdeal.τ) (Cert.KernelIdeal.main (F := F))) ⟨m, fun _ => 0, ρ⟩ fun r =>
      (∀ c : Dev Cert.KernelIdeal.nD, r.2.mem ((c.tc : Thread Cert.KernelIdeal.nD Cert.KernelIdeal.τ).loc Cert.KernelIdeal.main_v5) = Ffn.finalOut m c
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
        ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0 :=
  (θ_run Cert.KernelIdeal.defs _ _).mono (fun _ h => ⟨fun c => ⟨(h.1 c).1,
      (h.1 c).2.1.trans (Cert.KernelIdeal.Gen.V_main_arg0 m c), (h.1 c).2.2.1.trans (Cert.KernelIdeal.Gen.V_main_arg1 m c),
      (h.1 c).2.2.2.1.trans (Cert.KernelIdeal.Gen.V_main_arg2 m c), (h.1 c).2.2.2.2.1.trans (Cert.KernelIdeal.Gen.V_main_arg3 m c),
      (h.1 c).2.2.2.2.2.1.trans (Cert.KernelIdeal.Gen.V_main_arg4 m c), (h.1 c).2.2.2.2.2.2.trans (Cert.KernelIdeal.Gen.V_main_arg5 m c)⟩, h.2⟩)
    (Ffn.run_main m ρ)

/-- The kernel ends with its arguments kept and every counter at zero, -/
theorem frame_kernel : Cert.quiescent_Kernel (hKernel := Cert.Kernel.Gen.facts) := by
  intro m ρ _
  rw [Ffn.defs_eq]
  have h := (θ_run (Cert.KernelIdeal.defs (F := Bits)) _ _).mono (fun _ h => And.intro (fun c => (h.1 c).2) h.2) (kernel_run (F := Bits) m ρ)
  exact h

/-- at the extended reals too; -/
theorem frame_ideal : Cert.quiescent_KernelIdeal (hKernelIdeal := Cert.KernelIdeal.Gen.facts) := fun m ρ _ =>
  (θ_run Cert.KernelIdeal.defs _ _).mono (fun _ h => ⟨fun c => (h.1 c).2, h.2⟩) (kernel_run (F := Ideal) m ρ)

/-- and so does the reference, which declares no counter. -/
theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- On equal arguments both end with the same result. -/
theorem value : Cert.algebraic_KernelIdeal_ReferenceIdeal (hKernelIdeal := Cert.KernelIdeal.Gen.facts) (hReferenceIdeal := Cert.ReferenceIdeal.Gen.facts) := by
  intro m ρ m' ρ' _ hagree
  refine ⟨fun c => Ffn.finalOut (F := Ideal) m c, ?_, ?_⟩
  · exact (θ_run Cert.KernelIdeal.defs _ _).mono (fun _ h => h.1) (kernel_run (F := Ideal) m ρ)
  · refine (θ_run Cert.ReferenceIdeal.defs _ _).mono (fun r h c => ⟨(h c).1.trans ?_, (h c).2⟩) (Cert.ReferenceIdeal.Value.run (F := Ideal) m' ρ')
    obtain ⟨h0, h1, h2, h3, h4, h5⟩ := hagree c
    rw [Cert.ReferenceIdeal.Read.val_main_v33_eq, h0, h1, h2, h3, h4, h5]
    exact (Ffn.finalOut_eq m c).symm

/-! ## The other call -/

/-- Its run, its arguments read as they were at launch. -/
theorem kernel_run2 {F : FTy → Type} [FloatOps F] (m : (ℓ : Loc Cert.Kernel2Ideal.nD Cert.Kernel2Ideal.τ Cert.Kernel2Ideal.sig) → Buf (Elt F) ℓ)
    (ρ : Dev Cert.Kernel2Ideal.nD → PrngReg) :
    θ_run Cert.Kernel2Ideal.defs (onTc (τ := Cert.Kernel2Ideal.τ) (Cert.Kernel2Ideal.main (F := F))) ⟨m, fun _ => 0, ρ⟩ fun r =>
      (∀ c : Dev Cert.Kernel2Ideal.nD, r.2.mem ((c.tc : Thread Cert.Kernel2Ideal.nD Cert.Kernel2Ideal.τ).loc Cert.Kernel2Ideal.main_v4_0) = Ffn2.finalOut m c
        ∧ r.2.mem ((c.tc : Thread Cert.Kernel2Ideal.nD Cert.Kernel2Ideal.τ).loc Cert.Kernel2Ideal.main_v4_1) = Ffn2.finalCast m c
        ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
        ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
        ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
        ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
        ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
        ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0 :=
  (θ_run Cert.Kernel2Ideal.defs _ _).mono (fun _ h => ⟨fun c => ⟨(h.1 c).1.1, (h.1 c).2.1,
      (h.1 c).1.2.1.trans (Cert.Kernel2Ideal.Gen.V_main_arg0 m c), (h.1 c).1.2.2.1.trans (Cert.Kernel2Ideal.Gen.V_main_arg1 m c),
      (h.1 c).1.2.2.2.1.trans (Cert.Kernel2Ideal.Gen.V_main_arg2 m c), (h.1 c).1.2.2.2.2.1.trans (Cert.Kernel2Ideal.Gen.V_main_arg3 m c),
      (h.1 c).1.2.2.2.2.2.trans (Cert.Kernel2Ideal.Gen.V_main_arg4 m c), (h.1 c).2.2.trans (Cert.Kernel2Ideal.Gen.V_main_arg5 m c)⟩, h.2⟩)
    (Ffn2.run_main m ρ)

/-- It too ends with its arguments kept and every counter at zero, -/
theorem frame_kernel2 : Cert.quiescent_Kernel2 (hKernel2 := Cert.Kernel2.Gen.facts) := by
  intro m ρ _
  rw [Ffn2.defs_eq]
  have h := (θ_run (Cert.Kernel2Ideal.defs (F := Bits)) _ _).mono (fun _ h => And.intro (fun c => (h.1 c).2.2) h.2) (kernel_run2 (F := Bits) m ρ)
  exact h

/-- at the extended reals too; -/
theorem frame_ideal2 : Cert.quiescent_Kernel2Ideal (hKernel2Ideal := Cert.Kernel2Ideal.Gen.facts) := fun m ρ _ =>
  (θ_run Cert.Kernel2Ideal.defs _ _).mono (fun _ h => ⟨fun c => (h.1 c).2.2, h.2⟩) (kernel_run2 (F := Ideal) m ρ)

/-- and so does its reference. -/
theorem frame_reference2 : Cert.quiescent_Reference2Ideal (hReference2Ideal := Cert.Reference2Ideal.Gen.facts) := fun m ρ _ =>
  (θ_run Cert.Reference2Ideal.defs _ _).mono (fun r h => ⟨fun c => (h c).2.2, sem_eq_zero_of_no_sems (by decide) r.2⟩)
    (Cert.Reference2Ideal.Value.run (F := Ideal) m ρ)

/-- On equal arguments both end with the same two results. -/
theorem value2 : Cert.algebraic_Kernel2Ideal_Reference2Ideal (hKernel2Ideal := Cert.Kernel2Ideal.Gen.facts) (hReference2Ideal := Cert.Reference2Ideal.Gen.facts) := by
  intro m ρ m' ρ' _ hagree
  refine ⟨fun c => Ffn2.finalOut (F := Ideal) m c, fun c => Ffn2.finalCast (F := Ideal) m c, ?_, ?_⟩
  · exact (θ_run Cert.Kernel2Ideal.defs _ _).mono (fun _ h => h.1) (kernel_run2 (F := Ideal) m ρ)
  · refine (θ_run Cert.Reference2Ideal.defs _ _).mono (fun r h c => ⟨(h c).1.trans ?_, (h c).2.1.trans ?_, (h c).2.2⟩) (Cert.Reference2Ideal.Value.run (F := Ideal) m' ρ')
    · obtain ⟨h0, h1, h2, h3, h4, h5⟩ := hagree c
      rw [Cert.Reference2Ideal.Read.val_main_v20_eq, h0, h1, h2, h3, h4]
      exact (Ffn2.finalOut_eq m c).symm
    · obtain ⟨h0, h1, h2, h3, h4, h5⟩ := hagree c
      rw [Cert.Reference2Ideal.Read.val_main_v21_eq, h5]
      exact (Ffn2.finalCast_eq m c).symm

/-! ## The output projection -/

/-- The run at the extended reals: the result the reference's, the arguments as they were at launch. -/
theorem kernel_run3 (m : (ℓ : Loc Cert.Kernel3Ideal.nD Cert.Kernel3Ideal.τ Cert.Kernel3Ideal.sig) → Buf (Elt Ideal) ℓ) (ρ : Dev Cert.Kernel3Ideal.nD → PrngReg) :
    θ_run Cert.Kernel3Ideal.defs (onTc (τ := Cert.Kernel3Ideal.τ) (Cert.Kernel3Ideal.main (F := Ideal))) ⟨m, fun _ => 0, ρ⟩ fun r =>
      ∀ c : Dev Cert.Kernel3Ideal.nD, r.2.mem ((c.tc : Thread Cert.Kernel3Ideal.nD Cert.Kernel3Ideal.τ).loc Cert.Kernel3Ideal.main_v7) = Post.refOut m c
        ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
        ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
        ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
        ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
        ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
        ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
        ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
        ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
        ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
        ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9) :=
  (θ_run Cert.Kernel3Ideal.defs _ _).mono (fun r h c => ⟨((h.1 c).1 10).trans (Post.arr_out m c), h.2.1 c⟩)
    (θ_run_and (Cert.Kernel3Ideal.Gen.run_main m ρ) (Cert.Kernel3Ideal.Gen.frame m ρ))

/-- The kernel ends with its arguments kept and every counter at zero, -/
theorem frame_kernel3 : Cert.quiescent_Kernel3 (hKernel3 := Cert.Kernel3.Gen.facts) := fun m ρ _ => Cert.Kernel3.Gen.frame m ρ

/-- at the extended reals too; -/
theorem frame_ideal3 : Cert.quiescent_Kernel3Ideal (hKernel3Ideal := Cert.Kernel3Ideal.Gen.facts) := fun m ρ _ => Cert.Kernel3Ideal.Gen.frame m ρ

/-- and so does its reference. -/
theorem frame_reference3 : Cert.quiescent_Reference3Ideal (hReference3Ideal := Cert.Reference3Ideal.Gen.facts) := fun m ρ _ =>
  (θ_run Cert.Reference3Ideal.defs _ _).mono (fun r h => ⟨fun c => (h c).2, sem_eq_zero_of_no_sems (by decide) r.2⟩)
    (Cert.Reference3Ideal.Value.run (F := Ideal) m ρ)

/-- On equal arguments both end with the same result. -/
theorem value3 : Cert.algebraic_Kernel3Ideal_Reference3Ideal (hKernel3Ideal := Cert.Kernel3Ideal.Gen.facts) (hReference3Ideal := Cert.Reference3Ideal.Gen.facts) := by
  intro m ρ m' ρ' _ hagree
  refine ⟨fun c => Post.refOut m c, kernel_run3 m ρ, ?_⟩
  refine (θ_run Cert.Reference3Ideal.defs _ _).mono (fun r h c => ⟨(h c).1.trans ?_, (h c).2⟩) (Cert.Reference3Ideal.Value.run (F := Ideal) m' ρ')
  obtain ⟨h0, h1, h2, h3, h4, h5, h6, h7, h8, h9⟩ := hagree c
  rw [Cert.Reference3Ideal.Read.val_main_v59_eq, h0, h1, h2, h3, h4, h5, h6, h7, h8, h9]

/-! ## The input projection -/

/-- The run at the extended reals: the seven results the reference's, the arguments as they were at launch. -/
theorem kernel_run4 (m : (ℓ : Loc Cert.Kernel4Ideal.nD Cert.Kernel4Ideal.τ Cert.Kernel4Ideal.sig) → Buf (Elt Ideal) ℓ) (ρ : Dev Cert.Kernel4Ideal.nD → PrngReg) :
    θ_run Cert.Kernel4Ideal.defs (onTc (τ := Cert.Kernel4Ideal.τ) (Cert.Kernel4Ideal.main (F := Ideal))) ⟨m, fun _ => 0, ρ⟩ fun r =>
      ∀ c : Dev Cert.Kernel4Ideal.nD, r.2.mem ((c.tc : Thread Cert.Kernel4Ideal.nD Cert.Kernel4Ideal.τ).loc Cert.Kernel4Ideal.main_v2_0) = Inproj.refQkv m c
        ∧ r.2.mem ((c.tc : Thread Cert.Kernel4Ideal.nD Cert.Kernel4Ideal.τ).loc Cert.Kernel4Ideal.main_v2_1) = Inproj.refU m c
        ∧ r.2.mem ((c.tc : Thread Cert.Kernel4Ideal.nD Cert.Kernel4Ideal.τ).loc Cert.Kernel4Ideal.main_v2_2) = Cert.Reference4Ideal.Read.val_main_v17 (F := Ideal) (m ((c.tc : Thread Cert.Kernel4Ideal.nD Cert.Kernel4Ideal.τ).loc Cert.Kernel4Ideal.main_arg3))
        ∧ r.2.mem ((c.tc : Thread Cert.Kernel4Ideal.nD Cert.Kernel4Ideal.τ).loc Cert.Kernel4Ideal.main_v2_3) = Cert.Reference4Ideal.Read.val_main_v18 (F := Ideal) (m ((c.tc : Thread Cert.Kernel4Ideal.nD Cert.Kernel4Ideal.τ).loc Cert.Kernel4Ideal.main_arg4))
        ∧ r.2.mem ((c.tc : Thread Cert.Kernel4Ideal.nD Cert.Kernel4Ideal.τ).loc Cert.Kernel4Ideal.main_v2_4) = Cert.Reference4Ideal.Read.val_main_v19 (F := Ideal) (m ((c.tc : Thread Cert.Kernel4Ideal.nD Cert.Kernel4Ideal.τ).loc Cert.Kernel4Ideal.main_arg5))
        ∧ r.2.mem ((c.tc : Thread Cert.Kernel4Ideal.nD Cert.Kernel4Ideal.τ).loc Cert.Kernel4Ideal.main_v2_5) = Cert.Reference4Ideal.Read.val_main_v20 (F := Ideal) (m ((c.tc : Thread Cert.Kernel4Ideal.nD Cert.Kernel4Ideal.τ).loc Cert.Kernel4Ideal.main_arg6))
        ∧ r.2.mem ((c.tc : Thread Cert.Kernel4Ideal.nD Cert.Kernel4Ideal.τ).loc Cert.Kernel4Ideal.main_v2_6) = Cert.Reference4Ideal.Read.val_main_v21 (F := Ideal) (m ((c.tc : Thread Cert.Kernel4Ideal.nD Cert.Kernel4Ideal.τ).loc Cert.Kernel4Ideal.main_arg7))
        ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
        ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
        ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
        ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
        ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
        ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
        ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
        ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7) :=
  (θ_run Cert.Kernel4Ideal.defs _ _).mono (fun r h c => ⟨((h.1 c).1 8).trans (Inproj.arr_qkv m c), ((h.1 c).1 9).trans (Inproj.arr_u m c),
      ((h.1 c).1 10).trans ((Inproj.arr_glu m c).trans (Cert.Kernel4Ideal.Gen.V_main_arg3 m c)),
      ((h.1 c).1 11).trans ((Inproj.arr_out m c).trans (Cert.Kernel4Ideal.Gen.V_main_arg4 m c)),
      ((h.1 c).1 12).trans ((Inproj.arr_gate m c).trans (Cert.Kernel4Ideal.Gen.V_main_arg5 m c)),
      ((h.1 c).1 13).trans ((Inproj.arr_up m c).trans (Cert.Kernel4Ideal.Gen.V_main_arg6 m c)),
      ((h.1 c).1 14).trans ((Inproj.arr_down m c).trans (Cert.Kernel4Ideal.Gen.V_main_arg7 m c)), (h.1 c).2⟩)
    (Inproj.run m ρ)

/-- The kernel ends with its arguments kept and every counter at zero, -/
theorem frame_kernel4 : Cert.quiescent_Kernel4 (hKernel4 := Cert.Kernel4.Gen.facts) := by
  intro m ρ _
  rw [Inproj.defs_eq]
  have h := (θ_run (Cert.Kernel4Ideal.defs (F := Bits)) _ _).mono (fun _ h => And.intro (fun c => (h.1 c).2) h.2) (Inproj.run (F := Bits) m ρ)
  exact h

/-- at the extended reals too; -/
theorem frame_ideal4 : Cert.quiescent_Kernel4Ideal (hKernel4Ideal := Cert.Kernel4Ideal.Gen.facts) := fun m ρ _ =>
  (θ_run Cert.Kernel4Ideal.defs _ _).mono (fun _ h => ⟨fun c => (h.1 c).2, h.2⟩) (Inproj.run (F := Ideal) m ρ)

/-- and so does its reference. -/
theorem frame_reference4 : Cert.quiescent_Reference4Ideal (hReference4Ideal := Cert.Reference4Ideal.Gen.facts) := fun m ρ _ =>
  (θ_run Cert.Reference4Ideal.defs _ _).mono (fun r h => ⟨fun c => (h c).2.2.2.2.2.2.2, sem_eq_zero_of_no_sems (by decide) r.2⟩)
    (Cert.Reference4Ideal.Value.run (F := Ideal) m ρ)

/-- On equal arguments both end with the same seven results. -/
theorem value4 : Cert.algebraic_Kernel4Ideal_Reference4Ideal (hKernel4Ideal := Cert.Kernel4Ideal.Gen.facts) (hReference4Ideal := Cert.Reference4Ideal.Gen.facts) := by
  intro m ρ m' ρ' _ hagree
  refine ⟨_, _, _, _, _, _, _, kernel_run4 m ρ, ?_⟩
  refine (θ_run Cert.Reference4Ideal.defs _ _).mono (fun r h c => ?_) (Cert.Reference4Ideal.Value.run (F := Ideal) m' ρ')
  obtain ⟨h0, h1, h2, h3, h4, h5, h6, h7⟩ := hagree c
  obtain ⟨r0, r1, r2, r3, r4, r5, r6, hr⟩ := h c
  refine ⟨r0.trans ?_, r1.trans ?_, r2.trans ?_, r3.trans ?_, r4.trans ?_, r5.trans ?_, r6.trans ?_, hr⟩
  · rw [Cert.Reference4Ideal.Read.val_main_v15_eq, h0, h1, h2]
  · rw [Cert.Reference4Ideal.Read.val_main_v16_eq, h0, h1, h2]
  · rw [Cert.Reference4Ideal.Read.val_main_v17_eq, h3]
  · rw [Cert.Reference4Ideal.Read.val_main_v18_eq, h4]
  · rw [Cert.Reference4Ideal.Read.val_main_v19_eq, h5]
  · rw [Cert.Reference4Ideal.Read.val_main_v20_eq, h6]
  · rw [Cert.Reference4Ideal.Read.val_main_v21_eq, h7]

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  frame_kernel, frame_ideal, frame_reference, frame_kernel2, frame_ideal2, frame_reference2, frame_kernel3, frame_ideal3, frame_reference3,
  frame_kernel4, frame_ideal4, frame_reference4,
  trivial, value, trivial, value2, trivial, value3, trivial, value4⟩

end Cert.Proof

end
